-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys_sinks [hPre_finite_queries_keys_sinks : Cert.Pre_finite_queries_keys_sinks.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys_sinks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_queries_keys_sinks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_queries_keys_sinks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys_sinks [hPre_finite_queries_keys_sinks : Cert.Pre_finite_queries_keys_sinks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys_sinks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_queries_keys_sinks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_queries_keys_sinks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_keys_sinks [hKernelIdeal : Cert.KernelIdeal.Facts] [hPre_finite_queries_keys_sinks : Cert.Pre_finite_queries_keys_sinks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys_sinks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_keys_sinks [hReferenceIdeal : Cert.ReferenceIdeal.Facts] [hPre_finite_queries_keys_sinks : Cert.Pre_finite_queries_keys_sinks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys_sinks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def preserves_Kernel_KernelIdeal : Prop :=
  True

def algebraic_KernelIdeal_ReferenceIdeal_pre_finite_queries_keys_sinks [hKernelIdeal : Cert.KernelIdeal.Facts] [hReferenceIdeal : Cert.ReferenceIdeal.Facts] [hPre_finite_queries_keys_sinks : Cert.Pre_finite_queries_keys_sinks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys_sinks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)) (v2 : (c : Dev Cert.KernelIdeal.nD) → Buf (Elt Ideal) ((c.tc : Thread Cert.KernelIdeal.nD Cert.KernelIdeal.τ).loc Cert.KernelIdeal.main_v25_2)) (v3 : (c : Dev Cert.KernelIdeal.nD) → Buf (Elt Ideal) ((c.tc : Thread Cert.KernelIdeal.nD Cert.KernelIdeal.τ).loc Cert.KernelIdeal.main_v25_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_v25_2) = v2 c
          ∧ r.2.mem ((c.tc : Thread Cert.KernelIdeal.nD Cert.KernelIdeal.τ).loc Cert.KernelIdeal.main_v25_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_v150) = v2 c
          ∧ r.2.mem ((c.tc : Thread Cert.ReferenceIdeal.nD Cert.ReferenceIdeal.τ).loc Cert.ReferenceIdeal.main_v156) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v13)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v13) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v17) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v13)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v13) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v17) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_v13) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v14) = v0 c
          ∧ r.2.mem ((c.tc : Thread Cert.Reference16Ideal.nD Cert.Reference16Ideal.τ).loc Cert.Reference16Ideal.main_v15) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_v15) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2_0)) (v1 : (c : Dev Cert.Kernel18Ideal.nD) → Buf (Elt Ideal) ((c.tc : Thread Cert.Kernel18Ideal.nD Cert.Kernel18Ideal.τ).loc Cert.Kernel18Ideal.main_v2_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2_0) = v0 c
          ∧ r.2.mem ((c.tc : Thread Cert.Kernel18Ideal.nD Cert.Kernel18Ideal.τ).loc Cert.Kernel18Ideal.main_v2_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v13) = v0 c
          ∧ r.2.mem ((c.tc : Thread Cert.Reference18Ideal.nD Cert.Reference18Ideal.τ).loc Cert.Reference18Ideal.main_v14) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v44) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v42) = v0 c
          ∧ r.2.mem ((c.tc : Thread Cert.Reference19Ideal.nD Cert.Reference19Ideal.τ).loc Cert.Reference19Ideal.main_v25) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel7 : Cert.Kernel7.Facts) (hKernel7Ideal : Cert.Kernel7Ideal.Facts) (hReference7Ideal : Cert.Reference7Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel2 : Cert.Kernel2.Facts) (hKernel2Ideal : Cert.Kernel2Ideal.Facts) (hReference2Ideal : Cert.Reference2Ideal.Facts) (hKernel19 : Cert.Kernel19.Facts) (hKernel19Ideal : Cert.Kernel19Ideal.Facts) (hReference19Ideal : Cert.Reference19Ideal.Facts) (hPre_finite_queries_keys_sinks : Cert.Pre_finite_queries_keys_sinks.Facts),
    quiescent_Kernel (hKernel := hKernel)
    ∧ quiescent_KernelIdeal (hKernelIdeal := hKernelIdeal)
    ∧ quiescent_KernelIdeal_pre_finite_queries_keys_sinks (hKernelIdeal := hKernelIdeal) (hPre_finite_queries_keys_sinks := hPre_finite_queries_keys_sinks)
    ∧ quiescent_ReferenceIdeal (hReferenceIdeal := hReferenceIdeal)
    ∧ quiescent_ReferenceIdeal_pre_finite_queries_keys_sinks (hReferenceIdeal := hReferenceIdeal) (hPre_finite_queries_keys_sinks := hPre_finite_queries_keys_sinks)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite_queries_keys_sinks (hKernelIdeal := hKernelIdeal) (hReferenceIdeal := hReferenceIdeal) (hPre_finite_queries_keys_sinks := hPre_finite_queries_keys_sinks)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel7_Kernel7Ideal
    ∧ algebraic_Kernel7Ideal_Reference7Ideal (hKernel7Ideal := hKernel7Ideal) (hReference7Ideal := hReference7Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel2_Kernel2Ideal
    ∧ algebraic_Kernel2Ideal_Reference2Ideal (hKernel2Ideal := hKernel2Ideal) (hReference2Ideal := hReference2Ideal)
    ∧ preserves_Kernel19_Kernel19Ideal
    ∧ algebraic_Kernel19Ideal_Reference19Ideal (hKernel19Ideal := hKernel19Ideal) (hReference19Ideal := hReference19Ideal)
-- ==== Pre_finite_queries_keys_sinks.lean ====
abbrev S4x4x2048x64 : Shape := ⟨4, ![4, 4, 2048, 64]⟩
abbrev S4x2048x64 : Shape := ⟨3, ![4, 2048, 64]⟩
abbrev S16 : Shape := ⟨1, ![16]⟩
abbrev S2048x1024 : Shape := ⟨2, ![2048, 1024]⟩
abbrev S_ : Shape := ⟨0, ![]⟩

class Facts : Prop where
  bitsLt_bf16_f32 : FTy.bits .bf16 < FTy.bits .f32
  bcast_S_S4x4x2048x64 : S_.BroadcastsInDim S4x4x2048x64 (![] : Fin 0 → Fin S4x4x2048x64.rank)
  bcast_S_S4x2048x64 : S_.BroadcastsInDim S4x2048x64 (![] : Fin 0 → Fin S4x2048x64.rank)
  bcast_S_S16 : S_.BroadcastsInDim S16 (![] : Fin 0 → Fin S16.rank)

variable [Facts]

def fn {F : FTy → Type} [FloatOps F] (main_arg0 : FVec F S4x4x2048x64 .bf16) (main_arg1 : FVec F S4x2048x64 .bf16) (main_arg2 : FVec F S4x2048x64 .bf16) (main_arg3 : FVec F S16 .f32) (main_arg4 : FVec F S2048x1024 .bf16) : IVec S4x4x2048x64 1 × IVec S4x2048x64 1 × IVec S16 1 :=
  let main_v0 : FVec F S4x4x2048x64 .f32 := (extf .f32 · bitsLt_bf16_f32) main_arg0
  let main_v1 : FVec F S4x4x2048x64 .f32 := Host.absf main_v0
  let main_cst : FVec F S_ .f32 := constant S_ .f32 0x7F800000#32
  let main_v2 : FVec F S4x4x2048x64 .f32 := broadcastInDim S4x4x2048x64 ![] bcast_S_S4x4x2048x64 main_cst
  let main_v3 : IVec S4x4x2048x64 1 := cmpf .olt main_v1 main_v2
  let main_v4 : FVec F S4x2048x64 .f32 := (extf .f32 · bitsLt_bf16_f32) main_arg1
  let main_v5 : FVec F S4x2048x64 .f32 := Host.absf main_v4
  let main_cst_0 : FVec F S_ .f32 := constant S_ .f32 0x7F800000#32
  let main_v6 : FVec F S4x2048x64 .f32 := broadcastInDim S4x2048x64 ![] bcast_S_S4x2048x64 main_cst_0
  let main_v7 : IVec S4x2048x64 1 := cmpf .olt main_v5 main_v6
  let main_v8 : FVec F S16 .f32 := Host.absf main_arg3
  let main_cst_1 : FVec F S_ .f32 := constant S_ .f32 0x7F800000#32
  let main_v9 : FVec F S16 .f32 := broadcastInDim S16 ![] bcast_S_S16 main_cst_1
  let main_v10 : IVec S16 1 := cmpf .olt main_v8 main_v9
  (main_v3, main_v7, main_v10)
-- ==== Kernel.lean ====
abbrev S4x4x2048x64 : Shape := ⟨4, ![4, 4, 2048, 64]⟩
abbrev S4x2048x64 : Shape := ⟨3, ![4, 2048, 64]⟩
abbrev S16 : Shape := ⟨1, ![16]⟩
abbrev S2048x1024 : Shape := ⟨2, ![2048, 1024]⟩
abbrev S512 : Shape := ⟨1, ![512]⟩
abbrev S512x1 : Shape := ⟨2, ![512, 1]⟩
abbrev S_ : Shape := ⟨0, ![]⟩
abbrev S256 : Shape := ⟨1, ![256]⟩
abbrev S1x256 : Shape := ⟨2, ![1, 256]⟩
abbrev S512x256 : Shape := ⟨2, ![512, 256]⟩
abbrev S1x512x256 : Shape := ⟨3, ![1, 512, 256]⟩
abbrev S2x512x256 : Shape := ⟨3, ![2, 512, 256]⟩
abbrev S4x8x128 : Shape := ⟨3, ![4, 8, 128]⟩
abbrev S4x4x128x64 : Shape := ⟨4, ![4, 4, 128, 64]⟩
abbrev S4x128x64 : Shape := ⟨3, ![4, 128, 64]⟩
abbrev S128x1024 : Shape := ⟨2, ![128, 1024]⟩
abbrev S8x128 : Shape := ⟨2, ![8, 128]⟩
abbrev S1x4x128x64 : Shape := ⟨4, ![1, 4, 128, 64]⟩
abbrev S512x64 : Shape := ⟨2, ![512, 64]⟩
abbrev S128x64 : Shape := ⟨2, ![128, 64]⟩
abbrev S1x128x64 : Shape := ⟨3, ![1, 128, 64]⟩
abbrev S256x64 : Shape := ⟨2, ![256, 64]⟩
abbrev S1 : Shape := ⟨1, ![1]⟩
abbrev S128x1 : Shape := ⟨2, ![128, 1]⟩
abbrev S1x1 : Shape := ⟨2, ![1, 1]⟩
abbrev S1x8x128 : Shape := ⟨3, ![1, 8, 128]⟩

abbrev nBuf : Space → Nat
  | .hbm => 67
  | .vmem => 18
  | .smem => 1
  | _ => 0

abbrev bufTy : (tb : Table) → Fin (tcTables nBuf tb) → BufTy
  | .hbm, ⟨0, _⟩ => ⟨S4x4x2048x64, .bf16⟩
  | .hbm, ⟨1, _⟩ => ⟨S4x2048x64, .bf16⟩
  | .hbm, ⟨2, _⟩ => ⟨S4x2048x64, .bf16⟩
  | .hbm, ⟨3, _⟩ => ⟨S16, .f32⟩
  | .hbm, ⟨4, _⟩ => ⟨S2048x1024, .bf16⟩
  | .hbm, ⟨5, _⟩ => ⟨S512, .i32⟩
  | .hbm, ⟨6, _⟩ => ⟨S512x1, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S512x1, .i32⟩
  | .hbm, ⟨14, _⟩ => ⟨S512x1, .i32⟩
  | .hbm, ⟨15, _⟩ => ⟨S_, .i32⟩
  | .hbm, ⟨16, _⟩ => ⟨S512x1, .i32⟩
  | .hbm, ⟨17, _⟩ => ⟨S512x1, .i1⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S_, .i32⟩
  | .hbm, ⟨22, _⟩ => ⟨S_, .i1⟩
  | .hbm, ⟨23, _⟩ => ⟨S512x1, .i1⟩
  | .hbm, ⟨24, _⟩ => ⟨S512x1, .i1⟩
  | .hbm, ⟨25, _⟩ => ⟨S512x1, .i1⟩
  | .hbm, ⟨26, _⟩ => ⟨S512x1, .i32⟩
  | .hbm, ⟨27, _⟩ => ⟨S512x1, .i32⟩
  | .hbm, ⟨28, _⟩ => ⟨S512x1, .i32⟩
  | .hbm, ⟨29, _⟩ => ⟨S256, .i32⟩
  | .hbm, ⟨30, _⟩ => ⟨S1x256, .i32⟩
  | .hbm, ⟨31, _⟩ => ⟨S_, .i32⟩
  | .hbm, ⟨32, _⟩ => ⟨S512x1, .i32⟩
  | .hbm, ⟨33, _⟩ => ⟨S512x1, .i32⟩
  | .hbm, ⟨34, _⟩ => ⟨S512x256, .i32⟩
  | .hbm, ⟨35, _⟩ => ⟨S512x256, .i32⟩
  | .hbm, ⟨36, _⟩ => ⟨S512x256, .i32⟩
  | .hbm, ⟨37, _⟩ => ⟨S_, .i32⟩
  | .hbm, ⟨38, _⟩ => ⟨S512x256, .i32⟩
  | .hbm, ⟨39, _⟩ => ⟨S512x256, .i1⟩
  | .hbm, ⟨40, _⟩ => ⟨S_, .i32⟩
  | .hbm, ⟨41, _⟩ => ⟨S512x256, .i32⟩
  | .hbm, ⟨42, _⟩ => ⟨S512x256, .i1⟩
  | .hbm, ⟨43, _⟩ => ⟨S512x256, .i1⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S512x256, .i1⟩
  | .hbm, ⟨48, _⟩ => ⟨S512x256, .i1⟩
  | .hbm, ⟨49, _⟩ => ⟨S_, .f32⟩
  | .hbm, ⟨50, _⟩ => ⟨S_, .f32⟩
  | .hbm, ⟨51, _⟩ => ⟨S512x256, .f32⟩
  | .hbm, ⟨52, _⟩ => ⟨S512x256, .f32⟩
  | .hbm, ⟨53, _⟩ => ⟨S512x256, .f32⟩
  | .hbm, ⟨54, _⟩ => ⟨S_, .f32⟩
  | .hbm, ⟨55, _⟩ => ⟨S_, .f32⟩
  | .hbm, ⟨56, _⟩ => ⟨S512x256, .f32⟩
  | .hbm, ⟨57, _⟩ => ⟨S512x256, .f32⟩
  | .hbm, ⟨58, _⟩ => ⟨S512x256, .f32⟩
  | .hbm, ⟨59, _⟩ => ⟨S1x512x256, .f32⟩
  | .hbm, ⟨60, _⟩ => ⟨S1x512x256, .f32⟩
  | .hbm, ⟨61, _⟩ => ⟨S2x512x256, .f32⟩
  | .hbm, ⟨62, _⟩ => ⟨S2x512x256, .f32⟩
  | .hbm, ⟨63, _⟩ => ⟨S4x4x2048x64, .f32⟩
  | .hbm, ⟨64, _⟩ => ⟨S4x2048x64, .f32⟩
  | .hbm, ⟨65, _⟩ => ⟨S4x2048x64, .f32⟩
  | .hbm, ⟨66, _⟩ => ⟨S4x8x128, .f32⟩
  | .local _ .vmem, ⟨0, _⟩ => ⟨S2x512x256, .f32⟩
  | .local _ .vmem, ⟨1, _⟩ => ⟨S4x4x128x64, .bf16⟩
  | .local _ .vmem, ⟨2, _⟩ => ⟨S4x4x128x64, .bf16⟩
  | .local _ .vmem, ⟨3, _⟩ => ⟨S4x128x64, .bf16⟩
  | .local _ .vmem, ⟨4, _⟩ => ⟨S4x128x64, .bf16⟩
  | .local _ .vmem, ⟨5, _⟩ => ⟨S4x128x64, .bf16⟩
  | .local _ .vmem, ⟨6, _⟩ => ⟨S4x128x64, .bf16⟩
  | .local _ .vmem, ⟨7, _⟩ => ⟨S4x128x64, .bf16⟩
  | .local _ .vmem, ⟨8, _⟩ => ⟨S4x128x64, .bf16⟩
  | .local _ .vmem, ⟨9, _⟩ => ⟨S4x128x64, .bf16⟩
  | .local _ .vmem, ⟨10, _⟩ => ⟨S4x128x64, .bf16⟩
  | .local _ .vmem, ⟨11, _⟩ => ⟨S128x1024, .bf16⟩
  | .local _ .vmem, ⟨12, _⟩ => ⟨S128x1024, .bf16⟩
  | .local _ .vmem, ⟨13, _⟩ => ⟨S4x4x128x64, .f32⟩
  | .local _ .vmem, ⟨14, _⟩ => ⟨S4x4x128x64, .f32⟩
  | .local _ .vmem, ⟨15, _⟩ => ⟨S4x2048x64, .f32⟩
  | .local _ .vmem, ⟨16, _⟩ => ⟨S4x2048x64, .f32⟩
  | .local _ .vmem, ⟨17, _⟩ => ⟨S4x8x128, .f32⟩
  | .local _ .smem, ⟨0, _⟩ => ⟨S16, .f32⟩
  | _, _ => ⟨S4x4x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_1 : Ref sig .tc := ⟨.hbm, 15, rfl⟩
abbrev main_call0_v5 : Ref sig .tc := ⟨.hbm, 16, rfl⟩
abbrev main_call0_v6 : Ref sig .tc := ⟨.hbm, 17, rfl⟩
abbrev main_call0_c_2 : Ref sig .tc := ⟨.hbm, 18, rfl⟩
abbrev main_call0_v7 : Ref sig .tc := ⟨.hbm, 19, rfl⟩
abbrev main_call0_v8 : Ref sig .tc := ⟨.hbm, 20, rfl⟩
abbrev main_call0_c_3 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_1 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_v19 : Ref sig .tc := ⟨.hbm, 53, rfl⟩
abbrev main_cst_5 : Ref sig .tc := ⟨.hbm, 54, rfl⟩
abbrev main_cst_6 : Ref sig .tc := ⟨.hbm, 55, rfl⟩
abbrev main_call2_v0 : Ref sig .tc := ⟨.hbm, 56, rfl⟩
abbrev main_call2_v1 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25_0 : Ref sig .tc := ⟨.hbm, 63, rfl⟩
abbrev main_v25_1 : Ref sig .tc := ⟨.hbm, 64, rfl⟩
abbrev main_v25_2 : Ref sig .tc := ⟨.hbm, 65, rfl⟩
abbrev main_v25_3 : Ref sig .tc := ⟨.hbm, 66, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let arg1 : BitVec 32 := BitVec.ofNat 32 (i 1).val
  let c128_i32 : BitVec 32 := 128#32
  let v4 : BitVec 32 := Scalar.muli arg1 c128_i32
  v4
def k0_off1 (i : grid0.Coords) : Fin 3 → Nat :=
  let arg1 : BitVec 32 := BitVec.ofNat 32 (i 1).val
  let c1_i32 : BitVec 32 := 1#32
  let v31 : BitVec 32 := Scalar.minsi arg1 c1_i32
  let v32 : Index := Scalar.indexCast v31
  let c0_20 : Index := 0#32
  let c0_21 : Index := 0#32
  ![v32.toNat, 0, 0]
def k0_off2 (i : grid0.Coords) (c0_i32_18 : BitVec 32) : Fin 1 → Nat :=
  let c4_i32_23 : BitVec 32 := 4#32
  let c4_i32 : BitVec 32 := 4#32
  let arg0 : BitVec 32 := BitVec.ofNat 32 (i 0).val
  let v26 : BitVec 32 := Scalar.muli c4_i32 arg0
  let v27 : BitVec 32 := Scalar.addi v26 c0_i32_18
  let v39 : BitVec 32 := Scalar.muli c4_i32_23 v27
  let v40 : Index := Scalar.indexCast v39
  ![v40.toNat]
def k0_off3 (i : grid0.Coords) (c0_i32_18 : BitVec 32) (c1_i32_25 : BitVec 32) : Fin 1 → Nat :=
  let c4_i32_24 : BitVec 32 := 4#32
  let c4_i32 : BitVec 32 := 4#32
  let arg0 : BitVec 32 := BitVec.ofNat 32 (i 0).val
  let v26 : BitVec 32 := Scalar.muli c4_i32 arg0
  let v27 : BitVec 32 := Scalar.addi v26 c0_i32_18
  let v44 : BitVec 32 := Scalar.muli c4_i32_24 v27
  let v45 : BitVec 32 := Scalar.addi v44 c1_i32_25
  let v46 : Index := Scalar.indexCast v45
  ![v46.toNat]
def k0_off4 (i : grid0.Coords) : Fin 3 → Nat :=
  let c0_42 : Index := 0#32
  let arg1 : BitVec 32 := BitVec.ofNat 32 (i 1).val
  let c128_i32 : BitVec 32 := 128#32
  let v4 : BitVec 32 := Scalar.muli arg1 c128_i32
  let v5 : BitVec 32 := v4
  let v101 : Index := Scalar.indexCast v5
  let c0_43 : Index := 0#32
  ![0, v101.toNat, 0]
def k0_mult2 (i : grid0.Coords) : BitVec 32 :=
  let arg1 : BitVec 32 := BitVec.ofNat 32 (i 1).val
  let c1_i32_50 : BitVec 32 := 1#32
  let v119 : BitVec 32 := Scalar.subi arg1 c1_i32_50
  let c0_i32_51 : BitVec 32 := 0#32
  let v120 : BitVec 32 := Scalar.maxsi v119 c0_i32_51
  let c128_i32_52 : BitVec 32 := 128#32
  let v121 : BitVec 32 := Scalar.muli v120 c128_i32_52
  v121
def k0_off5 (i : grid0.Coords) : Fin 3 → Nat :=
  let c0_53 : Index := 0#32
  let arg1 : BitVec 32 := BitVec.ofNat 32 (i 1).val
  let c1_i32_50 : BitVec 32 := 1#32
  let v119 : BitVec 32 := Scalar.subi arg1 c1_i32_50
  let c0_i32_51 : BitVec 32 := 0#32
  let v120 : BitVec 32 := Scalar.maxsi v119 c0_i32_51
  let c128_i32_52 : BitVec 32 := 128#32
  let v121 : BitVec 32 := Scalar.muli v120 c128_i32_52
  let v122 : BitVec 32 := v121
  let v123 : Index := Scalar.indexCast v122
  let c0_54 : Index := 0#32
  ![0, v123.toNat, 0]
def k0_off6 (i : grid0.Coords) : Fin 3 → Nat :=
  let c1_127 : Index := 1#32
  let arg1 : BitVec 32 := BitVec.ofNat 32 (i 1).val
  let c128_i32 : BitVec 32 := 128#32
  let v4 : BitVec 32 := Scalar.muli arg1 c128_i32
  let v5 : BitVec 32 := v4
  let v288 : Index := Scalar.indexCast v5
  let c0_128 : Index := 0#32
  ![1, v288.toNat, 0]
def k0_mult3 (i : grid0.Coords) : BitVec 32 :=
  let arg1 : BitVec 32 := BitVec.ofNat 32 (i 1).val
  let c1_i32_135 : BitVec 32 := 1#32
  let v306 : BitVec 32 := Scalar.subi arg1 c1_i32_135
  let c0_i32_136 : BitVec 32 := 0#32
  let v307 : BitVec 32 := Scalar.maxsi v306 c0_i32_136
  let c128_i32_137 : BitVec 32 := 128#32
  let v308 : BitVec 32 := Scalar.muli v307 c128_i32_137
  v308
def k0_off7 (i : grid0.Coords) : Fin 3 → Nat :=
  let c1_138 : Index := 1#32
  let arg1 : BitVec 32 := BitVec.ofNat 32 (i 1).val
  let c1_i32_135 : BitVec 32 := 1#32
  let v306 : BitVec 32 := Scalar.subi arg1 c1_i32_135
  let c0_i32_136 : BitVec 32 := 0#32
  let v307 : BitVec 32 := Scalar.maxsi v306 c0_i32_136
  let c128_i32_137 : BitVec 32 := 128#32
  let v308 : BitVec 32 := Scalar.muli v307 c128_i32_137
  let v309 : BitVec 32 := v308
  let v310 : Index := Scalar.indexCast v309
  let c0_139 : Index := 0#32
  ![1, v310.toNat, 0]
def k0_off8 (i : grid0.Coords) : Fin 3 → Nat :=
  let c2_212 : Index := 2#32
  let arg1 : BitVec 32 := BitVec.ofNat 32 (i 1).val
  let c128_i32 : BitVec 32 := 128#32
  let v4 : BitVec 32 := Scalar.muli arg1 c128_i32
  let v5 : BitVec 32 := v4
  let v475 : Index := Scalar.indexCast v5
  let c0_213 : Index := 0#32
  ![2, v475.toNat, 0]
def k0_mult4 (i : grid0.Coords) : BitVec 32 :=
  let arg1 : BitVec 32 := BitVec.ofNat 32 (i 1).val
  let c1_i32_220 : BitVec 32 := 1#32
  let v493 : BitVec 32 := Scalar.subi arg1 c1_i32_220
  let c0_i32_221 : BitVec 32 := 0#32
  let v494 : BitVec 32 := Scalar.maxsi v493 c0_i32_221
  let c128_i32_222 : BitVec 32 := 128#32
  let v495 : BitVec 32 := Scalar.muli v494 c128_i32_222
  v495
def k0_off9 (i : grid0.Coords) : Fin 3 → Nat :=
  let c2_223 : Index := 2#32
  let arg1 : BitVec 32 := BitVec.ofNat 32 (i 1).val
  let c1_i32_220 : BitVec 32 := 1#32
  let v493 : BitVec 32 := Scalar.subi arg1 c1_i32_220
  let c0_i32_221 : BitVec 32 := 0#32
  let v494 : BitVec 32 := Scalar.maxsi v493 c0_i32_221
  let c128_i32_222 : BitVec 32 := 128#32
  let v495 : BitVec 32 := Scalar.muli v494 c128_i32_222
  let v496 : BitVec 32 := v495
  let v497 : Index := Scalar.indexCast v496
  let c0_224 : Index := 0#32
  ![2, v497.toNat, 0]
def k0_off10 (i : grid0.Coords) : Fin 3 → Nat :=
  let c3_297 : Index := 3#32
  let arg1 : BitVec 32 := BitVec.ofNat 32 (i 1).val
  let c128_i32 : BitVec 32 := 128#32
  let v4 : BitVec 32 := Scalar.muli arg1 c128_i32
  let v5 : BitVec 32 := v4
  let v662 : Index := Scalar.indexCast v5
  let c0_298 : Index := 0#32
  ![3, v662.toNat, 0]
def k0_mult5 (i : grid0.Coords) : BitVec 32 :=
  let arg1 : BitVec 32 := BitVec.ofNat 32 (i 1).val
  let c1_i32_305 : BitVec 32 := 1#32
  let v680 : BitVec 32 := Scalar.subi arg1 c1_i32_305
  let c0_i32_306 : BitVec 32 := 0#32
  let v681 : BitVec 32 := Scalar.maxsi v680 c0_i32_306
  let c128_i32_307 : BitVec 32 := 128#32
  let v682 : BitVec 32 := Scalar.muli v681 c128_i32_307
  v682
def k0_off11 (i : grid0.Coords) : Fin 3 → Nat :=
  let c3_308 : Index := 3#32
  let arg1 : BitVec 32 := BitVec.ofNat 32 (i 1).val
  let c1_i32_305 : BitVec 32 := 1#32
  let v680 : BitVec 32 := Scalar.subi arg1 c1_i32_305
  let c0_i32_306 : BitVec 32 := 0#32
  let v681 : BitVec 32 := Scalar.maxsi v680 c0_i32_306
  let c128_i32_307 : BitVec 32 := 128#32
  let v682 : BitVec 32 := Scalar.muli v681 c128_i32_307
  let v683 : BitVec 32 := v682
  let v684 : Index := Scalar.indexCast v683
  let c0_309 : Index := 0#32
  ![3, v684.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x4x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x128x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x4x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x2048x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S4x2048x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S4x8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== ReferenceIdeal.lean ====
abbrev S4x4x2048x64 : Shape := ⟨4, ![4, 4, 2048, 64]⟩
abbrev S4x2048x64 : Shape := ⟨3, ![4, 2048, 64]⟩
abbrev S16 : Shape := ⟨1, ![16]⟩
abbrev S2048x1024 : Shape := ⟨2, ![2048, 1024]⟩
abbrev S2048x4x4x64 : Shape := ⟨4, ![2048, 4, 4, 64]⟩
abbrev S1x2048x16x64 : Shape := ⟨4, ![1, 2048, 16, 64]⟩
abbrev S2048x4x64 : Shape := ⟨3, ![2048, 4, 64]⟩
abbrev S1x2048x4x64 : Shape := ⟨4, ![1, 2048, 4, 64]⟩
abbrev S1x16x128x4x4x64 : Shape := ⟨6, ![1, 16, 128, 4, 4, 64]⟩
abbrev S1x16x128x4x64 : Shape := ⟨5, ![1, 16, 128, 4, 64]⟩
abbrev S_ : Shape := ⟨0, ![]⟩
abbrev S1x128x4x64 : Shape := ⟨4, ![1, 128, 4, 64]⟩
abbrev S1x1920x4x64 : Shape := ⟨4, ![1, 1920, 4, 64]⟩
abbrev S1x16x256x4x64 : Shape := ⟨5, ![1, 16, 256, 4, 64]⟩
abbrev S1x16x4x256x128x4 : Shape := ⟨6, ![1, 16, 4, 256, 128, 4]⟩
abbrev S1x16x4x4x128x256 : Shape := ⟨6, ![1, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S4x4 : Shape := ⟨2, ![4, 4]⟩
abbrev S1x1x4x4x1x1 : Shape := ⟨6, ![1, 1, 4, 4, 1, 1]⟩
abbrev S1x16x4x4x128x1 : Shape := ⟨6, ![1, 16, 4, 4, 128, 1]⟩
abbrev S1x16x4x4x128x257 : Shape := ⟨6, ![1, 16, 4, 4, 128, 257]⟩
abbrev S1x16x4x4x128 : Shape := ⟨5, ![1, 16, 4, 4, 128]⟩
abbrev S1x16x4x64x4x128 : Shape := ⟨6, ![1, 16, 4, 64, 4, 128]⟩
abbrev S1x2048x1024 : Shape := ⟨3, ![1, 2048, 1024]⟩
abbrev S1x16x4x64x256 : Shape := ⟨5, ![1, 16, 4, 64, 256]⟩
abbrev S16x4x4x128 : Shape := ⟨4, ![16, 4, 4, 128]⟩
abbrev S1x16x4x128x4x64 : Shape := ⟨6, ![1, 16, 4, 128, 4, 64]⟩
abbrev S1x16x4x256x64 : Shape := ⟨5, ![1, 16, 4, 256, 64]⟩
abbrev S4x1x4 : Shape := ⟨3, ![4, 1, 4]⟩
abbrev S4x8x128 : Shape := ⟨3, ![4, 8, 128]⟩

abbrev nBuf : Space → Nat
  | .hbm => 202
  | .vmem => 0
  | .smem => 0
  | _ => 0

abbrev hbmTy0_0 (i : Nat) : BufTy := match i % 128 with
  | 0 => ⟨S4x4x2048x64, .bf16⟩
  | 1 => ⟨S4x2048x64, .bf16⟩
  | 2 => ⟨S4x2048x64, .bf16⟩
  | 3 => ⟨S16, .f32⟩
  | 4 => ⟨S2048x1024, .bf16⟩
  | 5 => ⟨S4x4x2048x64, .f32⟩
  | 6 => ⟨S4x2048x64, .f32⟩
  | 7 => ⟨S4x2048x64, .f32⟩
  | 8 => ⟨S2048x4x4x64, .f32⟩
  | 9 => ⟨S1x2048x16x64, .f32⟩
  | 10 => ⟨S2048x4x64, .f32⟩
  | 11 => ⟨S1x2048x4x64, .f32⟩
  | 12 => ⟨S2048x4x64, .f32⟩
  | 13 => ⟨S1x2048x4x64, .f32⟩
  | 14 => ⟨S1x16x128x4x4x64, .f32⟩
  | 15 => ⟨S1x16x128x4x64, .f32⟩
  | 16 => ⟨S1x16x128x4x64, .f32⟩
  | 17 => ⟨S_, .f32⟩
  | 18 => ⟨S1x128x4x64, .f32⟩
  | 19 => ⟨S1x1920x4x64, .f32⟩
  | 20 => ⟨S1x2048x4x64, .f32⟩
  | 21 => ⟨S_, .f32⟩
  | 22 => ⟨S1x128x4x64, .f32⟩
  | 23 => ⟨S1x16x128x4x64, .f32⟩
  | 24 => ⟨S1x1920x4x64, .f32⟩
  | 25 => ⟨S1x2048x4x64, .f32⟩
  | 26 => ⟨S_, .f32⟩
  | 27 => ⟨S1x128x4x64, .f32⟩
  | 28 => ⟨S1x16x128x4x64, .f32⟩
  | 29 => ⟨S1x16x256x4x64, .f32⟩
  | 30 => ⟨S1x16x256x4x64, .f32⟩
  | 31 => ⟨S1x16x4x256x128x4, .f32⟩
  | 32 => ⟨S1x16x4x4x128x256, .f32⟩
  | 33 => ⟨S_, .f32⟩
  | 34 => ⟨S1x16x4x4x128x256, .f32⟩
  | 35 => ⟨S1x16x4x4x128x256, .f32⟩
  | 36 => ⟨S128, .i32⟩
  | 37 => ⟨S128x1, .i32⟩
  | 38 => ⟨S256, .i32⟩
  | 39 => ⟨S1x256, .i32⟩
  | 40 => ⟨S_, .i32⟩
  | 41 => ⟨S128x1, .i32⟩
  | 42 => ⟨S128x1, .i32⟩
  | 43 => ⟨S128x256, .i32⟩
  | 44 => ⟨S128x256, .i32⟩
  | 45 => ⟨S128x256, .i32⟩
  | 46 => ⟨S16, .i32⟩
  | 47 => ⟨S16x1x1, .i32⟩
  | 48 => ⟨S_, .i32⟩
  | 49 => ⟨S16x1x1, .i32⟩
  | 50 => ⟨S16x1x1, .i32⟩
  | 51 => ⟨S1x1x256, .i32⟩
  | 52 => ⟨S16x1x256, .i32⟩
  | 53 => ⟨S16x1x256, .i32⟩
  | 54 => ⟨S16x1x256, .i32⟩
  | 55 => ⟨S_, .i32⟩
  | 56 => ⟨S16x1x256, .i32⟩
  | 57 => ⟨S16x1x256, .i32⟩
  | 58 => ⟨S_, .i32⟩
  | 59 => ⟨S128x256, .i32⟩
  | 60 => ⟨S128x256, .i1⟩
  | 61 => ⟨S1x128x256, .i1⟩
  | 62 => ⟨S_, .i32⟩
  | 63 => ⟨S128x256, .i32⟩
  | 64 => ⟨S128x256, .i1⟩
  | 65 => ⟨S1x128x256, .i1⟩
  | 66 => ⟨S1x128x256, .i1⟩
  | 67 => ⟨S_, .i32⟩
  | 68 => ⟨S16x1x256, .i32⟩
  | 69 => ⟨S16x1x256, .i1⟩
  | 70 => ⟨S16x128x256, .i1⟩
  | 71 => ⟨S16x128x256, .i1⟩
  | 72 => ⟨S16x128x256, .i1⟩
  | 73 => ⟨S1x16x1x1x128x256, .i1⟩
  | 74 => ⟨S_, .f32⟩
  | 75 => ⟨S_, .f32⟩
  | 76 => ⟨S1x16x4x4x128x256, .i1⟩
  | 77 => ⟨S1x16x4x4x128x256, .f32⟩
  | 78 => ⟨S1x16x4x4x128x256, .f32⟩
  | 79 => ⟨S_, .f32⟩
  | 80 => ⟨S1x16x4x4x128x256, .f32⟩
  | 81 => ⟨S4x4, .f32⟩
  | 82 => ⟨S1x1x4x4x1x1, .f32⟩
  | 83 => ⟨S1x16x4x4x128x1, .f32⟩
  | 84 => ⟨S1x16x4x4x128x257, .f32⟩
  | 85 => ⟨S_, .f32⟩
  | 86 => ⟨S1x16x4x4x128, .f32⟩
  | 87 => ⟨S1x16x4x4x128x1, .f32⟩
  | 88 => ⟨S1x16x4x4x128x257, .f32⟩
  | 89 => ⟨S1x16x4x4x128x257, .i1⟩
  | 90 => ⟨S1x16x4x4x128x257, .f32⟩
  | 91 => ⟨S_, .f32⟩
  | 92 => ⟨S1x16x4x4x128, .f32⟩
  | 93 => ⟨S_, .f32⟩
  | 94 => ⟨S1x16x4x4x128, .f32⟩
  | 95 => ⟨S1x16x4x4x128, .f32⟩
  | 96 => ⟨S_, .f32⟩
  | 97 => ⟨S1x16x4x4x128, .f32⟩
  | 98 => ⟨S1x16x4x4x128, .i1⟩
  | 99 => ⟨S_, .f32⟩
  | 100 => ⟨S1x16x4x4x128, .f32⟩
  | 101 => ⟨S1x16x4x4x128, .i1⟩
  | 102 => ⟨S_, .f32⟩
  | 103 => ⟨S1x16x4x4x128, .f32⟩
  | 104 => ⟨S_, .f32⟩
  | 105 => ⟨S1x16x4x4x128, .f32⟩
  | 106 => ⟨S_, .f32⟩
  | 107 => ⟨S1x16x4x4x128, .f32⟩
  | 108 => ⟨S1x16x4x4x128, .f32⟩
  | 109 => ⟨S1x16x4x4x128, .f32⟩
  | 110 => ⟨S1x16x4x4x128x1, .f32⟩
  | 111 => ⟨S1x16x4x4x128x257, .f32⟩
  | 112 => ⟨S1x16x4x4x128x257, .f32⟩
  | 113 => ⟨S1x16x4x4x128x257, .f32⟩
  | 114 => ⟨S_, .f32⟩
  | 115 => ⟨S1x16x4x4x128, .f32⟩
  | 116 => ⟨S1x16x4x4x128x1, .f32⟩
  | 117 => ⟨S1x16x4x4x128x257, .f32⟩
  | 118 => ⟨S1x16x4x4x128x257, .f32⟩
  | 119 => ⟨S1x16x4x4x128x1, .f32⟩
  | 120 => ⟨S_, .f32⟩
  | 121 => ⟨S1x16x4x4x128x1, .f32⟩
  | 122 => ⟨S1x16x4x4x128x1, .f32⟩
  | 123 => ⟨S1x16x4x4x128x256, .f32⟩
  | 124 => ⟨S1x16x4x64x4x128, .f32⟩
  | 125 => ⟨S1x16x128x4x4x64, .f32⟩
  | 126 => ⟨S1x2048x1024, .f32⟩
  | 127 => ⟨S2048x1024, .f32⟩
  | _ => ⟨S4x4x2048x64, .bf16⟩

abbrev hbmTy0_1 (i : Nat) : BufTy := match i % 128 with
  | 0 => ⟨S2048x1024, .f32⟩
  | 1 => ⟨S1x2048x1024, .f32⟩
  | 2 => ⟨S1x16x128x4x4x64, .f32⟩
  | 3 => ⟨S1x16x4x64x4x128, .f32⟩
  | 4 => ⟨S1x16x4x4x128x256, .f32⟩
  | 5 => ⟨S1x16x4x64x256, .f32⟩
  | 6 => ⟨S1x16x256x4x64, .f32⟩
  | 7 => ⟨S_, .f32⟩
  | 8 => ⟨S1x16x4x4x128x257, .f32⟩
  | 9 => ⟨S1x16x4x4x128x257, .f32⟩
  | 10 => ⟨S1x16x4x4x128x257, .f32⟩
  | 11 => ⟨S1x16x4x4x128x257, .f32⟩
  | 12 => ⟨S_, .f32⟩
  | 13 => ⟨S1x16x4x4x128, .f32⟩
  | 14 => ⟨S1x16x4x4x128x1, .f32⟩
  | 15 => ⟨S1x16x4x4x128x1, .f32⟩
  | 16 => ⟨S1x16x4x4x128x257, .f32⟩
  | 17 => ⟨S1x16x4x4x128x257, .f32⟩
  | 18 => ⟨S_, .f32⟩
  | 19 => ⟨S16x4x4x128, .f32⟩
  | 20 => ⟨S1x16x4x4x128, .f32⟩
  | 21 => ⟨S1x16x4x4x128x257, .f32⟩
  | 22 => ⟨S1x16x4x4x128x257, .f32⟩
  | 23 => ⟨S1x16x4x4x128x257, .f32⟩
  | 24 => ⟨S1x16x4x4x128x256, .f32⟩
  | 25 => ⟨S1x16x4x4x128x1, .f32⟩
  | 26 => ⟨S_, .f32⟩
  | 27 => ⟨S4x4, .f32⟩
  | 28 => ⟨S1x1x4x4x1x1, .f32⟩
  | 29 => ⟨S_, .f32⟩
  | 30 => ⟨S4x4, .f32⟩
  | 31 => ⟨S16, .f32⟩
  | 32 => ⟨S_, .f32⟩
  | 33 => ⟨S1x16x4x4x128x256, .f32⟩
  | 34 => ⟨S1x16x4x4x128x256, .f32⟩
  | 35 => ⟨S_, .f32⟩
  | 36 => ⟨S1x16x4x4x128x256, .f32⟩
  | 37 => ⟨S1x16x4x4x128x256, .f32⟩
  | 38 => ⟨S1x16x4x256x128x4, .f32⟩
  | 39 => ⟨S1x16x4x128x4x64, .f32⟩
  | 40 => ⟨S1x16x128x4x4x64, .f32⟩
  | 41 => ⟨S1x16x4x256x64, .f32⟩
  | 42 => ⟨S1x16x256x4x64, .f32⟩
  | 43 => ⟨S1x16x128x4x64, .f32⟩
  | 44 => ⟨S1x16x128x4x64, .f32⟩
  | 45 => ⟨S1x16x128x4x64, .f32⟩
  | 46 => ⟨S1x16x128x4x64, .f32⟩
  | 47 => ⟨S1x2048x4x64, .f32⟩
  | 48 => ⟨S1x128x4x64, .f32⟩
  | 49 => ⟨S1x1920x4x64, .f32⟩
  | 50 => ⟨S_, .f32⟩
  | 51 => ⟨S1x2048x4x64, .f32⟩
  | 52 => ⟨S1x2048x4x64, .f32⟩
  | 53 => ⟨S1x128x4x64, .f32⟩
  | 54 => ⟨S1x1920x4x64, .f32⟩
  | 55 => ⟨S_, .f32⟩
  | 56 => ⟨S1x2048x4x64, .f32⟩
  | 57 => ⟨S1x2048x4x64, .f32⟩
  | 58 => ⟨S1x2048x4x64, .f32⟩
  | 59 => ⟨S1x2048x4x64, .f32⟩
  | 60 => ⟨S1x2048x4x64, .f32⟩
  | 61 => ⟨S1x2048x16x64, .f32⟩
  | 62 => ⟨S_, .f32⟩
  | 63 => ⟨S2048x4x64, .f32⟩
  | 64 => ⟨S4x2048x64, .f32⟩
  | 65 => ⟨S_, .f32⟩
  | 66 => ⟨S2048x4x64, .f32⟩
  | 67 => ⟨S4x2048x64, .f32⟩
  | 68 => ⟨S2048x4x4x64, .f32⟩
  | 69 => ⟨S4x4x2048x64, .f32⟩
  | 70 => ⟨S4x1x4, .f32⟩
  | 71 => ⟨S_, .i32⟩
  | 72 => ⟨S_, .f32⟩
  | 73 => ⟨S4x8x128, .f32⟩
  | _ => ⟨S4x4x2048x64, .bf16⟩

abbrev hbmTy (i : Nat) : BufTy := match i / 128 with
  | 0 => hbmTy0_0 i
  | 1 => hbmTy0_1 i
  | _ => ⟨S4x4x2048x64, .bf16⟩

abbrev bufTy : (tb : Table) → Fin (tcTables nBuf tb) → BufTy
  | .hbm, ⟨i, _⟩ => hbmTy i
  | _, _ => ⟨S4x4x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_4 : Ref sig .tc := ⟨.hbm, 55, rfl⟩
abbrev main_v44 : Ref sig .tc := ⟨.hbm, 56, rfl⟩
abbrev main_v45 : Ref sig .tc := ⟨.hbm, 57, rfl⟩
abbrev main_c_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_call0_v0 : Ref sig .tc := ⟨.hbm, 75, rfl⟩
abbrev main_v59_1 : Ref sig .tc := ⟨.hbm, 76, rfl⟩
abbrev main_call0_v2 : Ref sig .tc := ⟨.hbm, 77, rfl⟩
abbrev main_v59_0 : Ref sig .tc := ⟨.hbm, 78, rfl⟩
abbrev main_call0_cst : Ref sig .tc := ⟨.hbm, 79, rfl⟩
abbrev main_v59_2 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_9 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_cst_11 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_cst_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_18 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_19 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_20 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_21 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_22 : Ref sig .tc := ⟨.hbm, 154, rfl⟩
abbrev main_v120 : Ref sig .tc := ⟨.hbm, 155, rfl⟩
abbrev main_v121 : Ref sig .tc := ⟨.hbm, 156, rfl⟩
abbrev main_cst_23 : Ref sig .tc := ⟨.hbm, 157, rfl⟩
abbrev main_v122 : Ref sig .tc := ⟨.hbm, 158, rfl⟩
abbrev main_v123 : Ref sig .tc := ⟨.hbm, 159, rfl⟩
abbrev main_call1_cst : Ref sig .tc := ⟨.hbm, 160, rfl⟩
abbrev main_call1_v0 : Ref sig .tc := ⟨.hbm, 161, rfl⟩
abbrev main_v124 : Ref sig .tc := ⟨.hbm, 162, rfl⟩
abbrev main_cst_24 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_25 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_26 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_cst_27 : Ref sig .tc := ⟨.hbm, 190, rfl⟩
abbrev main_v149 : Ref sig .tc := ⟨.hbm, 191, rfl⟩
abbrev main_v150 : Ref sig .tc := ⟨.hbm, 192, rfl⟩
abbrev main_cst_28 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_c_29 : Ref sig .tc := ⟨.hbm, 199, rfl⟩
abbrev main_call2_v0 : Ref sig .tc := ⟨.hbm, 200, rfl⟩
abbrev main_v156 : Ref sig .tc := ⟨.hbm, 201, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S2x2048x2816 : Shape := ⟨3, ![2, 2048, 2816]⟩
abbrev S_ : Shape := ⟨0, ![]⟩
abbrev S2048 : Shape := ⟨1, ![2048]⟩
abbrev S2048x1 : Shape := ⟨2, ![2048, 1]⟩
abbrev S4x1024x1408 : Shape := ⟨3, ![4, 1024, 1408]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 20
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2x2048x2816, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S4x1024x1408, .bf16⟩
  | .local _ .vmem, ⟨0, _⟩ => ⟨S2048x1024, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1x1024x1408, .bf16⟩
  | .local _ .vmem, ⟨4, _⟩ => ⟨S1x1024x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x1024 : Shape := ⟨2, ![2048, 1024]⟩
abbrev S1x1024 : Shape := ⟨2, ![1, 1024]⟩
abbrev S2x2048x2816 : Shape := ⟨3, ![2, 2048, 2816]⟩
abbrev S1x2048x2816 : Shape := ⟨3, ![1, 2048, 2816]⟩
abbrev S2048x2816 : Shape := ⟨2, ![2048, 2816]⟩
abbrev S2048x5632 : Shape := ⟨2, ![2048, 5632]⟩
abbrev S_ : Shape := ⟨0, ![]⟩
abbrev S1024x5632 : Shape := ⟨2, ![1024, 5632]⟩
abbrev S2048 : Shape := ⟨1, ![2048]⟩
abbrev S2048x1 : Shape := ⟨2, ![2048, 1]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2x2048x2816, .bf16⟩
  | .hbm, ⟨3, _⟩ => ⟨S1x2048x2816, .bf16⟩
  | .hbm, ⟨4, _⟩ => ⟨S2048x2816, .bf16⟩
  | .hbm, ⟨5, _⟩ => ⟨S1x2048x2816, .bf16⟩
  | .hbm, ⟨6, _⟩ => ⟨S2048x2816, .bf16⟩
  | .hbm, ⟨7, _⟩ => ⟨S2048x5632, .bf16⟩
  | .hbm, ⟨8, _⟩ => ⟨S2048x5632, .f32⟩
  | .hbm, ⟨9, _⟩ => ⟨S_, .f32⟩
  | .hbm, ⟨10, _⟩ => ⟨S1024x5632, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x5632, .f32⟩
  | .hbm, ⟨27, _⟩ => ⟨S5632x1024, .f32⟩
  | .hbm, ⟨28, _⟩ => ⟨S1024x5632, .f32⟩
  | .hbm, ⟨29, _⟩ => ⟨S1024x4x1408, .f32⟩
  | .hbm, ⟨30, _⟩ => ⟨S4x1024x1408, .f32⟩
  | .hbm, ⟨31, _⟩ => ⟨S4x1024x1408, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel4.lean ====
abbrev S2816x1024 : Shape := ⟨2, ![2816, 1024]⟩
abbrev S2048x1024 : Shape := ⟨2, ![2048, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2816x1024, .f32⟩
  | .hbm, ⟨1, _⟩ => ⟨S2048x1024, .f32⟩
  | .hbm, ⟨2, _⟩ => ⟨S2816x1024, .bf16⟩
  | .hbm, ⟨3, _⟩ => ⟨S2048x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2816x1024 : Shape := ⟨2, ![2816, 1024]⟩
abbrev S2048x1024 : Shape := ⟨2, ![2048, 1024]⟩
abbrev S_ : Shape := ⟨0, ![]⟩
abbrev S2048x2816 : Shape := ⟨2, ![2048, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2048x1024, .f32⟩
  | .hbm, ⟨2, _⟩ => ⟨S_, .f32⟩
  | .hbm, ⟨3, _⟩ => ⟨S2048x2816, .f32⟩
  | .hbm, ⟨4, _⟩ => ⟨S2048x1024, .f32⟩
  | .hbm, ⟨5, _⟩ => ⟨S2048x2816, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1408x512, .bf16⟩
  | .local _ .vmem, ⟨5, _⟩ => ⟨S1408x512, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2816x1024, .bf16⟩
  | .hbm, ⟨4, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .f32⟩
  | .hbm, ⟨2, _⟩ => ⟨S2048x1024, .f32⟩
  | .hbm, ⟨3, _⟩ => ⟨S2048x2816, .f32⟩
  | .hbm, ⟨4, _⟩ => ⟨S2048x1024, .f32⟩
  | .hbm, ⟨5, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S2048x2048 : Shape := ⟨2, ![2048, 2048]⟩
abbrev S2048x1024 : Shape := ⟨2, ![2048, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x1024, .f32⟩
  | .hbm, ⟨3, _⟩ => ⟨S2048x1024, .bf16⟩
  | .hbm, ⟨4, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S2048x2048 : Shape := ⟨2, ![2048, 2048]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x1024, .f32⟩
  | .hbm, ⟨3, _⟩ => ⟨S2048x2048, .f32⟩
  | .hbm, ⟨4, _⟩ => ⟨S2048x1024, .f32⟩
  | .hbm, ⟨5, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S2048x2048 : Shape := ⟨2, ![2048, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .bf16⟩
  | .local _ .vmem, ⟨5, _⟩ => ⟨S1024x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x1024 : Shape := ⟨2, ![2048, 1024]⟩
abbrev S_ : Shape := ⟨0, ![]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S2048x1024 : Shape := ⟨2, ![2048, 1024]⟩
abbrev S2048x2048 : Shape := ⟨2, ![2048, 2048]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x2048, .f32⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x1024 : Shape := ⟨2, ![2048, 1024]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S2048x2048, .f32⟩
  | .hbm, ⟨4, _⟩ => ⟨S2048x1024, .f32⟩
  | .hbm, ⟨5, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S2048x1024 : Shape := ⟨2, ![2048, 1024]⟩
abbrev S1024x1024 : Shape := ⟨2, ![1024, 1024]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S1x1024, .f32⟩
  | .hbm, ⟨3, _⟩ => ⟨S2048x1024, .f32⟩
  | .hbm, ⟨4, _⟩ => ⟨S1024x1024, .bf16⟩
  | .hbm, ⟨5, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference11Ideal.lean ====
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S2048x1024 : Shape := ⟨2, ![2048, 1024]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S2048x1024, .bf16⟩
  | .local _ .vmem, ⟨1, _⟩ => ⟨S2048x512, .f32⟩
  | .local _ .vmem, ⟨2, _⟩ => ⟨S2048x512, .f32⟩
  | .local _ .vmem, ⟨3, _⟩ => ⟨S1024x512, .bf16⟩
  | .local _ .vmem, ⟨4, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S1024x1024 : Shape := ⟨2, ![1024, 1024]⟩
abbrev S2048x1024 : Shape := ⟨2, ![2048, 1024]⟩
abbrev S512x1024 : Shape := ⟨2, ![512, 1024]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S1024x1024, .bf16⟩
  | .hbm, ⟨3, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x1024 : Shape := ⟨2, ![1024, 1024]⟩
abbrev S2048x512 : Shape := ⟨2, ![2048, 512]⟩
abbrev S1024x512 : Shape := ⟨2, ![1024, 512]⟩

abbrev nBuf : Space → Nat
  | .hbm => 20
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S1024x1024, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S1x1024 : Shape := ⟨2, ![1, 1024]⟩
abbrev S_ : Shape := ⟨0, ![]⟩
abbrev S1024x1024 : Shape := ⟨2, ![1024, 1024]⟩
abbrev S2048 : Shape := ⟨1, ![2048]⟩
abbrev S2048x1 : Shape := ⟨2, ![2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1024x1024, .f32⟩
  | .hbm, ⟨23, _⟩ => ⟨S1024x1024, .f32⟩
  | .hbm, ⟨24, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel15.lean ====
abbrev S2048x1024 : Shape := ⟨2, ![2048, 1024]⟩
abbrev S1x1024 : Shape := ⟨2, ![1, 1024]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1024x512 : Shape := ⟨2, ![1024, 512]⟩

abbrev nBuf : Space → Nat
  | .hbm => 20
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x512, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | .hbm, ⟨19, _⟩ => ⟨S1024x512, .bf16⟩
  | .local _ .vmem, ⟨0, _⟩ => ⟨S2048x1024, .bf16⟩
  | .local _ .vmem, ⟨1, _⟩ => ⟨S2048x512, .bf16⟩
  | .local _ .vmem, ⟨2, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S1x1024 : Shape := ⟨2, ![1, 1024]⟩
abbrev S2048x512 : Shape := ⟨2, ![2048, 512]⟩
abbrev S_ : Shape := ⟨0, ![]⟩
abbrev S1024x512 : Shape := ⟨2, ![1024, 512]⟩
abbrev S2048 : Shape := ⟨1, ![2048]⟩
abbrev S2048x1 : Shape := ⟨2, ![2048, 1]⟩
abbrev S512x1024 : Shape := ⟨2, ![512, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x512, .bf16⟩
  | .hbm, ⟨3, _⟩ => ⟨S_, .f32⟩
  | .hbm, ⟨4, _⟩ => ⟨S1024x512, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x512, .f32⟩
  | .hbm, ⟨21, _⟩ => ⟨S2048x512, .f32⟩
  | .hbm, ⟨22, _⟩ => ⟨S512x1024, .f32⟩
  | .hbm, ⟨23, _⟩ => ⟨S1024x512, .f32⟩
  | .hbm, ⟨24, _⟩ => ⟨S1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel7.lean ====
abbrev S2048x1024 : Shape := ⟨2, ![2048, 1024]⟩
abbrev S1x1024 : Shape := ⟨2, ![1, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S1024x1024 : Shape := ⟨2, ![1024, 1024]⟩
abbrev S1x1024x1408 : Shape := ⟨3, ![1, 1024, 1408]⟩
abbrev S1024x1408 : Shape := ⟨2, ![1024, 1408]⟩
abbrev S1024 : Shape := ⟨1, ![1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S1024x4x1408, .f32⟩
  | .hbm, ⟨4, _⟩ => ⟨S4x1024x1408, .f32⟩
  | .hbm, ⟨5, _⟩ => ⟨S4x1024x1408, .bf16⟩
  | .hbm, ⟨6, _⟩ => ⟨S2048x5632, .f32⟩
  | .hbm, ⟨7, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1024x1408, .f32⟩
  | .local _ .vmem, ⟨6, _⟩ => ⟨S1024x1408, .f32⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S2048x1024 : Shape := ⟨2, ![2048, 1024]⟩
abbrev S1x1024 : Shape := ⟨2, ![1, 1024]⟩
abbrev S1024x5632 : Shape := ⟨2, ![1024, 5632]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x5632, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel16.lean ====
abbrev S2048x1024 : Shape := ⟨2, ![2048, 1024]⟩
abbrev S1x1024 : Shape := ⟨2, ![1, 1024]⟩
abbrev S1024x1024 : Shape := ⟨2, ![1024, 1024]⟩
abbrev S1024x512 : Shape := ⟨2, ![1024, 512]⟩
abbrev S1x512 : Shape := ⟨2, ![1, 512]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S2048x1024, .f32⟩
  | .hbm, ⟨6, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x1024, .bf16⟩
  | .local _ .vmem, ⟨10, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference16Ideal.lean ====
abbrev S2048x1024 : Shape := ⟨2, ![2048, 1024]⟩
abbrev S1x1024 : Shape := ⟨2, ![1, 1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1024, .f32⟩
  | .hbm, ⟨3, _⟩ => ⟨S1x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel17.lean ====
abbrev S2048x1024 : Shape := ⟨2, ![2048, 1024]⟩
abbrev S1x1024 : Shape := ⟨2, ![1, 1024]⟩
abbrev S1024x512 : Shape := ⟨2, ![1024, 512]⟩
abbrev S1x512 : Shape := ⟨2, ![1, 512]⟩
abbrev S2048x512 : Shape := ⟨2, ![2048, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x512, .f32⟩
  | .hbm, ⟨3, _⟩ => ⟨S1x512, .f32⟩
  | .hbm, ⟨4, _⟩ => ⟨S1024x512, .bf16⟩
  | .hbm, ⟨5, _⟩ => ⟨S2048x512, .f32⟩
  | .hbm, ⟨6, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference17Ideal.lean ====
abbrev S2048x1024 : Shape := ⟨2, ![2048, 1024]⟩
abbrev S1x1024 : Shape := ⟨2, ![1, 1024]⟩
abbrev S1024x512 : Shape := ⟨2, ![1024, 512]⟩
abbrev S1x512 : Shape := ⟨2, ![1, 512]⟩
abbrev S_ : Shape := ⟨0, ![]⟩
abbrev S2048 : Shape := ⟨1, ![2048]⟩
abbrev S2048x1 : Shape := ⟨2, ![2048, 1]⟩
abbrev S2048x512 : Shape := ⟨2, ![2048, 512]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x512, .f32⟩
  | .hbm, ⟨3, _⟩ => ⟨S1x512, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel18.lean ====
abbrev S2048x1024 : Shape := ⟨2, ![2048, 1024]⟩
abbrev S1x1024 : Shape := ⟨2, ![1, 1024]⟩
abbrev S1024x6176 : Shape := ⟨2, ![1024, 6176]⟩
abbrev S1024x6144 : Shape := ⟨2, ![1024, 6144]⟩
abbrev S2048x6144 : Shape := ⟨2, ![2048, 6144]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x6176, .f32⟩
  | .hbm, ⟨3, _⟩ => ⟨S1024x6144, .f32⟩
  | .hbm, ⟨4, _⟩ => ⟨S1024x6144, .bf16⟩
  | .hbm, ⟨5, _⟩ => ⟨S2048x6144, .f32⟩
  | .hbm, ⟨6, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | .local _ .vmem, ⟨8, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference18Ideal.lean ====
abbrev S2048x1024 : Shape := ⟨2, ![2048, 1024]⟩
abbrev S1x1024 : Shape := ⟨2, ![1, 1024]⟩
abbrev S1024x6176 : Shape := ⟨2, ![1024, 6176]⟩
abbrev S_ : Shape := ⟨0, ![]⟩
abbrev S2048 : Shape := ⟨1, ![2048]⟩
abbrev S2048x1 : Shape := ⟨2, ![2048, 1]⟩
abbrev S2048x6176 : Shape := ⟨2, ![2048, 6176]⟩
abbrev S2048x6144 : Shape := ⟨2, ![2048, 6144]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x6176, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x6176, .f32⟩
  | .hbm, ⟨19, _⟩ => ⟨S2048x6144, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S1024x5632 : Shape := ⟨2, ![1024, 5632]⟩
abbrev S2x2048x2816 : Shape := ⟨3, ![2, 2048, 2816]⟩
abbrev S1024x4x1408 : Shape := ⟨3, ![1024, 4, 1408]⟩
abbrev S4x1024x1408 : Shape := ⟨3, ![4, 1024, 1408]⟩
abbrev S1x512x1408 : Shape := ⟨3, ![1, 512, 1408]⟩
abbrev S1x1024x1408 : Shape := ⟨3, ![1, 1024, 1408]⟩
abbrev S512x1024 : Shape := ⟨2, ![512, 1024]⟩
abbrev S512x1408 : Shape := ⟨2, ![512, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 11
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2x2048x2816, .bf16⟩
  | .hbm, ⟨4, _⟩ => ⟨S2048x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S2048x1024, .f32⟩
  | .hbm, ⟨9, _⟩ => ⟨S1x1024, .f32⟩
  | .hbm, ⟨10, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x1024x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x1024x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x1024x1408, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_39 : BitVec 32 := 0#32
  let v56 : BitVec 1 := Scalar.cmpi .ne v55 c0_i32_39
  v56

def k0_cond2 (i : grid0.Coords) : BitVec 1 :=
  let arg0 : BitVec 32 := BitVec.ofNat 32 (i 0).val
  let c0_i32 : BitVec 32 := 0#32
  let v54 : BitVec 1 := Scalar.cmpi .eq arg0 c0_i32
  let v_true : BitVec 1 := 1#1
  let v57 : BitVec 1 := Scalar.xori v54 v_true
  let v58 : BitVec 32 := Scalar.extui v57
  let c0_i32_40 : BitVec 32 := 0#32
  let v59 : BitVec 1 := Scalar.cmpi .ne v58 c0_i32_40
  v59

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c1_i32_0 : BitVec 32 := 1#32
  let c0_i32 : BitVec 32 := 0#32
  ![c1_i32.toNat, arg0.toNat, c1_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]
-- ==== Reference2Ideal.lean ====
abbrev S2048x1024 : Shape := ⟨2, ![2048, 1024]⟩
abbrev S1x1024 : Shape := ⟨2, ![1, 1024]⟩
abbrev S1024x5632 : Shape := ⟨2, ![1024, 5632]⟩
abbrev S2x2048x2816 : Shape := ⟨3, ![2, 2048, 2816]⟩
abbrev S1x2048x2816 : Shape := ⟨3, ![1, 2048, 2816]⟩
abbrev S2048x2816 : Shape := ⟨2, ![2048, 2816]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2x2048x2816, .bf16⟩
  | .hbm, ⟨4, _⟩ => ⟨S2048x1024, .f32⟩
  | .hbm, ⟨5, _⟩ => ⟨S1x2048x2816, .bf16⟩
  | .hbm, ⟨6, _⟩ => ⟨S2048x2816, .bf16⟩
  | .hbm, ⟨7, _⟩ => ⟨S1x2048x2816, .bf16⟩
  | .hbm, ⟨8, _⟩ => ⟨S2048x2816, .bf16⟩
  | .hbm, ⟨9, _⟩ => ⟨S2048x5632, .bf16⟩
  | .hbm, ⟨10, _⟩ => ⟨S2048x5632, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x5632, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel19.lean ====
abbrev S2048x1024 : Shape := ⟨2, ![2048, 1024]⟩
abbrev S1x1024 : Shape := ⟨2, ![1, 1024]⟩
abbrev S1024x5632 : Shape := ⟨2, ![1024, 5632]⟩
abbrev S2x2048x2816 : Shape := ⟨3, ![2, 2048, 2816]⟩
abbrev S1024x4x1408 : Shape := ⟨3, ![1024, 4, 1408]⟩
abbrev S4x1024x1408 : Shape := ⟨3, ![4, 1024, 1408]⟩
abbrev S1x512x1408 : Shape := ⟨3, ![1, 512, 1408]⟩
abbrev S1x1024x1408 : Shape := ⟨3, ![1, 1024, 1408]⟩
abbrev S512x1024 : Shape := ⟨2, ![512, 1024]⟩
abbrev S512x1408 : Shape := ⟨2, ![512, 1408]⟩
abbrev S1024x1408 : Shape := ⟨2, ![1024, 1408]⟩
abbrev S512 : Shape := ⟨1, ![512]⟩
abbrev S512x1 : Shape := ⟨2, ![512, 1]⟩
abbrev S1024 : Shape := ⟨1, ![1024]⟩

abbrev nBuf : Space → Nat
  | .hbm => 10
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2x2048x2816, .bf16⟩
  | .hbm, ⟨4, _⟩ => ⟨S2048x1024, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S2048x1024, .f32⟩
  | .hbm, ⟨9, _⟩ => ⟨S1x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x1024x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x1024x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x1024x1408, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_38 : BitVec 32 := 0#32
  let v54 : BitVec 1 := Scalar.cmpi .ne v53 c0_i32_38
  v54

def k0_cond2 (i : grid0.Coords) : BitVec 1 :=
  let arg0 : BitVec 32 := BitVec.ofNat 32 (i 0).val
  let c0_i32 : BitVec 32 := 0#32
  let v52 : BitVec 1 := Scalar.cmpi .eq arg0 c0_i32
  let v_true : BitVec 1 := 1#1
  let v55 : BitVec 1 := Scalar.xori v52 v_true
  let v56 : BitVec 32 := Scalar.extui v55
  let c0_i32_39 : BitVec 32 := 0#32
  let v57 : BitVec 1 := Scalar.cmpi .ne v56 c0_i32_39
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c1_i32_0 : BitVec 32 := 1#32
  let c0_i32 : BitVec 32 := 0#32
  ![c1_i32.toNat, arg0.toNat, c1_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]
-- ==== Reference19Ideal.lean ====
abbrev S2048x1024 : Shape := ⟨2, ![2048, 1024]⟩
abbrev S1x1024 : Shape := ⟨2, ![1, 1024]⟩
abbrev S1024x5632 : Shape := ⟨2, ![1024, 5632]⟩
abbrev S2x2048x2816 : Shape := ⟨3, ![2, 2048, 2816]⟩
abbrev S1x2048x2816 : Shape := ⟨3, ![1, 2048, 2816]⟩
abbrev S2048x2816 : Shape := ⟨2, ![2048, 2816]⟩
abbrev S2048x5632 : Shape := ⟨2, ![2048, 5632]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S2x2048x2816, .bf16⟩
  | .hbm, ⟨4, _⟩ => ⟨S2048x1024, .f32⟩
  | .hbm, ⟨5, _⟩ => ⟨S1x2048x2816, .bf16⟩
  | .hbm, ⟨6, _⟩ => ⟨S2048x2816, .bf16⟩
  | .hbm, ⟨7, _⟩ => ⟨S1x2048x2816, .bf16⟩
  | .hbm, ⟨8, _⟩ => ⟨S2048x2816, .bf16⟩
  | .hbm, ⟨9, _⟩ => ⟨S2048x5632, .bf16⟩
  | .hbm, ⟨10, _⟩ => ⟨S2048x5632, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x5632, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Proof.Points.lean ====
module

public import proofs.«01_k».proof.Proof.Gen.KernelIdeal.Frame
public import proofs.«01_k».proof.Proof.Gen.KernelIdeal.Skeleton

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body's one condition: the point is the first of the row of points. -/
abbrev first (i : grid0.Coords) : Prop := (Scalar.cmpi .ne (Scalar.extui (Scalar.cmpi .eq (BitVec.ofNat 32 (i 1).val) 0#32)) 0#32) = 1#1

/-- The offsets of head 0's rows of the block before (the first block's own, at the first point), in closed form. -/
instance priorOff0 (i : grid0.Coords) : ClosedOff (k0_off5 i) :=
  ⟨![0, ((i 1).val - 1) * 128, 0], (by decide +kernel : ∀ i : grid0.Coords, k0_off5 i = ![0, ((i 1).val - 1) * 128, 0]) i⟩
/-- The offsets of head 1's rows of the block before (the first block's own, at the first point), in closed form. -/
instance priorOff1 (i : grid0.Coords) : ClosedOff (k0_off7 i) :=
  ⟨![1, ((i 1).val - 1) * 128, 0], (by decide +kernel : ∀ i : grid0.Coords, k0_off7 i = ![1, ((i 1).val - 1) * 128, 0]) i⟩
/-- The offsets of head 2's rows of the block before (the first block's own, at the first point), in closed form. -/
instance priorOff2 (i : grid0.Coords) : ClosedOff (k0_off9 i) :=
  ⟨![2, ((i 1).val - 1) * 128, 0], (by decide +kernel : ∀ i : grid0.Coords, k0_off9 i = ![2, ((i 1).val - 1) * 128, 0]) i⟩
/-- The offsets of head 3's rows of the block before (the first block's own, at the first point), in closed form. -/
instance priorOff3 (i : grid0.Coords) : ClosedOff (k0_off11 i) :=
  ⟨![3, ((i 1).val - 1) * 128, 0], (by decide +kernel : ∀ i : grid0.Coords, k0_off11 i = ![3, ((i 1).val - 1) * 128, 0]) i⟩
end Cert.KernelIdeal.Grad

end
-- ==== Proof.Start.lean ====
module

public import proofs.«01_k».proof.Proof.Points

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def startRun (c : Dev nD) (i : grid0.Coords) (arg2 : Memref sig .tc .smem S16 .f32) (harg2 : arg2.IsWhole) (arg3 : Memref sig .tc .vmem S2x512x256 .f32) (harg3 : arg3.IsWhole) (arg4 : Memref sig .tc .vmem S4x4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S4x128x64 .bf16) (harg7 : arg7.IsWhole) (arg8 : Memref sig .tc .vmem S4x128x64 .bf16) (harg8 : arg8.IsWhole) (arg9 : Memref sig .tc .vmem S128x1024 .bf16) (harg9 : arg9.IsWhole) (arg10 : Memref sig .tc .vmem S4x4x128x64 .f32) (harg10 : arg10.IsWhole) (arg11 : Memref sig .tc .vmem S4x2048x64 .f32) (harg11 : arg11.IsWhole) (arg12 : Memref sig .tc .vmem S4x2048x64 .f32) (harg12 : arg12.IsWhole) (arg13 : Memref sig .tc .vmem S4x8x128 .f32) (harg13 : arg13.IsWhole) (hc0 : first i) (hi : (i 1).val = 0)
    (x0 : Vec F S16 .f32) (x1 : Vec F S2x512x256 .f32) (x2 : Vec F S4x4x128x64 .bf16) (x3 : Vec F S4x128x64 .bf16) (x4 : Vec F S4x128x64 .bf16) (x5 : Vec F S4x128x64 .bf16) (x6 : Vec F S4x128x64 .bf16) (x7 : Vec F S128x1024 .bf16) :
    Σ' (L8 : List (View.Piece (Elt F) S4x4x128x64 .f32)), Σ' (L9 : List (View.Piece (Elt F) S4x2048x64 .f32)), Σ' (L10 : List (View.Piece (Elt F) S4x2048x64 .f32)), { L11 : List (View.Piece (Elt F) S4x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    iexists _; iexact H11

end Cert.KernelIdeal.Grad

end
-- ==== Proof.Head.lean ====
module

public import proofs.«01_k».proof.Proof.Gen.KernelIdeal.Skeleton
public import Idealize.ShloMosaic.Lib.Pointwise

@[expose] public section

set_option maxRecDepth 16384

noncomputable section

namespace Cert.KernelIdeal.Grad

open Cert.KernelIdeal Cert.KernelIdeal.Gen
open Idealize.ShloMosaic Idealize.ShloMosaic.TcCoe

variable {F : FTy → Type} [FloatOps F]

/-! # One head's work at one point

The kernel does the same work for each of the four key heads: `q`, `k`, `v` and the output's gradient of the head's band
go in; the gradients of `q` (the point's rows), of `k` and `v` (the two blocks of the band) and of the sinks come out.
Here that work is written once, over any head. -/

/-! ## A head's rows of the point's blocks -/

/-- Which of the head's four query heads row `r` of the 512 belongs to. -/
abbrev grp (r : Fin 512) : Fin 4 := ⟨r.val / 128, by omega⟩
/-- The position of row `r` of the 512 within its query head's 128 rows. -/
abbrev pos (r : Fin 512) : Fin 128 := ⟨r.val % 128, by omega⟩
/-- Row `a` of query head `g`, among the 512. -/
abbrev row (g : Fin 4) (a : Fin 128) : Fin 512 := ⟨g.val * 128 + a.val, by omega⟩

/-- Head `h`'s query rows: its four query heads one under the other. -/
def qRows (x : Vec F S4x4x128x64 .bf16) (h : Fin 4) : FVec F S512x64 .bf16 :=
  fun y => x (ix4 h (grp (y 0)) (pos (y 0)) (y 1))
/-- Head `h`'s rows of the output's gradient: its four query heads' 64 lanes one under the other. -/
def doRows (x : Vec F S128x1024 .bf16) (h : Fin 4) : FVec F S512x64 .bf16 :=
  fun y => x (ix2 (pos (y 0)) ⟨h.val * 256 + (grp (y 0)).val * 64 + (y 1).val, by have := h.isLt; have := (grp (y 0)).isLt; have : (y 1).val < 64 := (y 1).isLt; omega⟩)
/-- Head `h`'s band of keys (or values): the block before, then the point's own. -/
def bandRows (cur prior : Vec F S4x128x64 .bf16) (h : Fin 4) : FVec F S256x64 .bf16 :=
  fun y => if hy : (y 0).val < 128 then prior (ix3 h ⟨(y 0).val, hy⟩ (y 1)) else cur (ix3 h ⟨(y 0).val - 128, by have : (y 0).val < 256 := (y 0).isLt; omega⟩ (y 1))
/-- The additive mask of a point: table 0 at the first point, table 1 at every later one. -/
def maskRows (x : Vec F S2x512x256 .f32) (b : Fin 2) : FVec F S512x256 .f32 :=
  fun y => x (ix3 b (y 0) (y 1))
/-- Head `h`'s sinks, one to a row. -/
def sinkRows (x : Vec F S16 .f32) (h : Fin 4) : FVec F S512x1 .f32 :=
  fun y => x (ix1 ⟨h.val * 4 + (grp (y 0)).val, by have := h.isLt; have := (grp (y 0)).isLt; omega⟩)

/-! ## The head's work -/

/-- The masked scores: queries against keys, scaled, plus the mask. -/
def score (Q : FVec F S512x64 .bf16) (K : FVec F S256x64 .bf16) (B : FVec F S512x256 .f32) : FVec F S512x256 .f32 :=
  addf (mulf (matmul dot_S512x64_S256x64_S512x256_1_1_0_0_n_n none Q K (constant S512x256 .f32 0x00000000#32)) (broadcast S512x256 (Scalar.ofBits .f32 0x3E000000#32))) B
/-- The greatest of a row's scores and its sink. -/
def top (S : FVec F S512x256 .f32) (s : FVec F S512x1 .f32) : FVec F S512x1 .f32 :=
  maximumf (shapeCast S512x1 (multiReduction .maximumf [1] S512 S 0xFF800000#32 reduces_S512x256_S512 (.inl rfl) rfl) shapeCasts_S512_S512x1) s
/-- The exponential of each score less the row's greatest. -/
def weight (S : FVec F S512x256 .f32) (s : FVec F S512x1 .f32) : FVec F S512x256 .f32 :=
  exp (subf S (broadcastTo S512x256 (top S s) broadcasts_S512x1_S512x256))
/-- The exponential of each sink less the row's greatest. -/
def sinkWeight (S : FVec F S512x256 .f32) (s : FVec F S512x1 .f32) : FVec F S512x1 .f32 :=
  exp (subf s (top S s))
/-- One over the row's sum of weights, the sink's among them. -/
def recip (S : FVec F S512x256 .f32) (s : FVec F S512x1 .f32) : FVec F S512x1 .f32 :=
  divf (broadcast S512x1 (Scalar.ofBits .f32 0x3F800000#32))
    (addf (shapeCast S512x1 (multiReduction .add [1] S512 (weight S s) 0x00000000#32 reduces_S512x256_S512 (.inl rfl) rfl) shapeCasts_S512_S512x1) (sinkWeight S s))
/-- The attention's probabilities. -/
def prob (S : FVec F S512x256 .f32) (s : FVec F S512x1 .f32) : FVec F S512x256 .f32 :=
  mulf (weight S s) (broadcastTo S512x256 (recip S s) broadcasts_S512x1_S512x256)
/-- The sink's probability. -/
def sinkProb (S : FVec F S512x256 .f32) (s : FVec F S512x1 .f32) : FVec F S512x1 .f32 :=
  mulf (sinkWeight S s) (recip S s)
/-- The probabilities' gradient: the output's gradient against the values. -/
def probGrad (D : FVec F S512x64 .bf16) (V : FVec F S256x64 .bf16) : FVec F S512x256 .f32 :=
  matmul dot_S512x64_S256x64_S512x256_1_1_0_0_n_n none D V (constant S512x256 .f32 0x00000000#32)
/-- A row's sum of probability times gradient. -/
def delta (p g : FVec F S512x256 .f32) : FVec F S512x1 .f32 :=
  shapeCast S512x1 (multiReduction .add [1] S512 (mulf p g) 0x00000000#32 reduces_S512x256_S512 (.inl rfl) rfl) shapeCasts_S512_S512x1
/-- The scores' gradient, rounded to bf16. -/
def scoreGrad (p g : FVec F S512x256 .f32) : FVec F S512x256 .bf16 :=
  truncf .bf16 (mulf p (subf g (broadcastTo S512x256 (delta p g) broadcasts_S512x1_S512x256))) bitsLt_bf16_f32
/-- The queries' gradient. -/
def queryGrad (G : FVec F S512x256 .bf16) (K : FVec F S256x64 .bf16) : FVec F S512x64 .f32 :=
  mulf (matmul dot_S512x256_S256x64_S512x64_1_0_0_1_n_n none G K (constant S512x64 .f32 0x00000000#32)) (broadcast S512x64 (Scalar.ofBits .f32 0x3E000000#32))
/-- The band's gradient of the keys. -/
def keyGrad (G : FVec F S512x256 .bf16) (Q : FVec F S512x64 .bf16) : FVec F S256x64 .f32 :=
  mulf (matmul dot_S512x256_S512x64_S256x64_0_0_1_1_n_n none G Q (constant S256x64 .f32 0x00000000#32)) (broadcast S256x64 (Scalar.ofBits .f32 0x3E000000#32))
/-- The band's gradient of the values. -/
def valueGrad (p : FVec F S512x256 .f32) (D : FVec F S512x64 .bf16) : FVec F S256x64 .f32 :=
  matmul dot_S512x256_S512x64_S256x64_0_0_1_1_n_n none (truncf .bf16 p bitsLt_bf16_f32) D (constant S256x64 .f32 0x00000000#32)
/-- Each row's part of its sink's gradient. -/
def sinkPart (ps d : FVec F S512x1 .f32) : FVec F S512x1 .f32 :=
  mulf (subf (broadcast S512x1 (Scalar.ofBits .f32 0x00000000#32)) ps) d
/-- The gradient of one query head's sink (the sum over its 128 rows, rows `o` to `o + 127`), in every place of the tile. -/
def sinkSum (o : ℕ) (hs : S512x1.Slices ![o, 0] S128x1) (x : FVec F S512x1 .f32) : FVec F S8x128 .f32 :=
  broadcastTo S8x128 (shapeCast S1x1 (shapeCast S1x1 (multiReduction .add [0] S1 (extractStridedSlice S128x1 ![o, 0] x hs) 0x00000000#32 reduces_S128x1_S1 (.inl rfl) rfl) shapeCasts_S1_S1x1) shapeCasts_S1x1_S1x1) broadcasts_S1x1_S8x128
/-- The places of row 0 and lane `l`. -/
def lane0 (l : BitVec 32) : IVec S8x128 1 :=
  andi (cmpi .eq (iota .tc S8x128 32 [1] iota_S8x128_d1_w32) (broadcast S8x128 l)) (cmpi .eq (iota .tc S8x128 32 [0] iota_S8x128_d0_w32) (broadcast S8x128 0#32))
/-- The four sinks' gradients in lanes 0 to 3 of row 0, zero elsewhere. -/
def sinkTile (x : FVec F S512x1 .f32) : FVec F S8x128 .f32 :=
  select (lane0 3#32) (sinkSum 384 slices_S512x1_o384_0_S128x1 x)
    (select (lane0 2#32) (sinkSum 256 slices_S512x1_o256_0_S128x1 x)
      (select (lane0 1#32) (sinkSum 128 slices_S512x1_o128_0_S128x1 x)
        (select (lane0 0#32) (sinkSum 0 slices_S512x1_o0_0_S128x1 x) (broadcast S8x128 (Scalar.ofBits .f32 0x00000000#32)))))

end Cert.KernelIdeal.Grad

end
-- ==== Proof.Rows.lean ====
module

public import proofs.«01_k».proof.Proof.Head
public import Idealize.ShloMosaic.Lib.VecWindow
public import Idealize.ShloMosaic.Lib.WordCmp

@[expose] public section

set_option maxRecDepth 16384

noncomputable section

namespace Cert.KernelIdeal.Grad

open Cert.KernelIdeal Cert.KernelIdeal.Gen
open Idealize.ShloMosaic Idealize.ShloMosaic.TcCoe

variable {F : FTy → Type} [FloatOps F]

/-! # What the four heads of a point read -/

/-- The operands of the four heads at one point. -/
structure Heads (F : FTy → Type) where
  /-- The query rows of each head. -/
  q : Fin 4 → FVec F S512x64 .bf16
  /-- The band's keys of each head. -/
  k : Fin 4 → FVec F S256x64 .bf16
  /-- The band's values of each head. -/
  v : Fin 4 → FVec F S256x64 .bf16
  /-- The rows of the output's gradient of each head. -/
  d : Fin 4 → FVec F S512x64 .bf16
  /-- The additive mask. -/
  mask : FVec F S512x256 .f32
  /-- The sinks of each head's rows. -/
  sink : Fin 4 → FVec F S512x1 .f32

namespace Heads
variable (H : Heads F) (h : Fin 4)

/-- Head `h`'s scores. -/
def s : FVec F S512x256 .f32 := score (H.q h) (H.k h) H.mask
/-- Head `h`'s probabilities. -/
def p : FVec F S512x256 .f32 := prob (H.s h) (H.sink h)
/-- Head `h`'s gradient of the probabilities. -/
def dp : FVec F S512x256 .f32 := probGrad (H.d h) (H.v h)
/-- Head `h`'s gradient of the scores. -/
def ds : FVec F S512x256 .bf16 := scoreGrad (H.p h) (H.dp h)
/-- Head `h`'s gradient of the queries. -/
def dq : FVec F S512x64 .f32 := queryGrad (H.ds h) (H.k h)
/-- Head `h`'s gradient of the band's keys. -/
def dk : FVec F S256x64 .f32 := keyGrad (H.ds h) (H.q h)
/-- Head `h`'s gradient of the band's values. -/
def dv : FVec F S256x64 .f32 := valueGrad (H.p h) (H.d h)
/-- Head `h`'s rows' parts of the gradient of the sinks. -/
def dsink : FVec F S512x1 .f32 := sinkPart (sinkProb (H.s h) (H.sink h)) (delta (H.p h) (H.dp h))

end Heads

/-! ## The loads -/

theorem qInb : ∀ h : Fin 4, ∀ a, ![h.val, 0, 0, 0] a + S1x4x128x64.size a ≤ S4x4x128x64.size a := by decide +kernel
theorem kvInb : ∀ h : Fin 4, ∀ a, ![h.val, 0, 0] a + S1x128x64.size a ≤ S4x128x64.size a := by decide +kernel
theorem doSlices : ∀ h g : Fin 4, S128x1024.Slices ![0, 256 * h.val + 64 * g.val] S128x64 := by decide +kernel

/-- Head `h`'s query rows as the body loads them. -/
def qLoad (m : Memref sig .tc .vmem S4x4x128x64 .bf16) (hm : m.IsWhole) (x : Vec F S4x4x128x64 .bf16) (h : Fin 4) : FVec F S512x64 .bf16 :=
  shapeCast S512x64 (shapeCast S4x128x64 (m.view.readAt (Elt F) (Rect.unit (s := S4x4x128x64) ![h.val, 0, 0, 0] S1x4x128x64.size (qInb h)).toLoadRect (hm.unread x)) shapeCasts_S1x4x128x64_S4x128x64) shapeCasts_S4x128x64_S512x64

/-- Head `h`'s rows of the output's gradient as the body cuts them out. -/
def doLoad (m : Memref sig .tc .vmem S128x1024 .bf16) (hm : m.IsWhole) (x : Vec F S128x1024 .bf16) (h : Fin 4) : FVec F S512x64 .bf16 :=
  let y : Vec F S128x1024 .bf16 := m.view.readAt (Elt F) (Rect.unit ![0, 0] S128x1024.size inb_S128x1024_S128x1024_0_0).toLoadRect (hm.unread x)
  concatenate S512x64 0 [⟨S128x64, extractStridedSlice S128x64 ![0, 256 * h.val + 64 * (0 : Fin 4).val] y (doSlices h 0)⟩, ⟨S128x64, extractStridedSlice S128x64 ![0, 256 * h.val + 64 * (1 : Fin 4).val] y (doSlices h 1)⟩,
    ⟨S128x64, extractStridedSlice S128x64 ![0, 256 * h.val + 64 * (2 : Fin 4).val] y (doSlices h 2)⟩, ⟨S128x64, extractStridedSlice S128x64 ![0, 256 * h.val + 64 * (3 : Fin 4).val] y (doSlices h 3)⟩]
    concatenates_S128x64_S128x64_S128x64_S128x64_S512x64_d0

/-- Head `h`'s band of keys or values as the body loads it. -/
def bandLoad (m m' : Memref sig .tc .vmem S4x128x64 .bf16) (hm : m.IsWhole) (hm' : m'.IsWhole) (x x' : Vec F S4x128x64 .bf16) (h : Fin 4) : FVec F S256x64 .bf16 :=
  concatenate S256x64 0
    [⟨S128x64, shapeCast S128x64 (m'.view.readAt (Elt F) (Rect.unit (s := S4x128x64) ![h.val, 0, 0] S1x128x64.size (kvInb h)).toLoadRect (hm'.unread x')) shapeCasts_S1x128x64_S128x64⟩,
     ⟨S128x64, shapeCast S128x64 (m.view.readAt (Elt F) (Rect.unit (s := S4x128x64) ![h.val, 0, 0] S1x128x64.size (kvInb h)).toLoadRect (hm.unread x)) shapeCasts_S1x128x64_S128x64⟩]
    concatenates_S128x64_S128x64_S256x64_d0

/-- The mask as the body loads it. -/
def maskLoad (i : grid0.Coords) (m : Memref sig .tc .vmem S2x512x256 .f32) (hm : m.IsWhole) (x : Vec F S2x512x256 .f32) : FVec F S512x256 .f32 :=
  shapeCast S512x256 (m.view.readAt (Elt F) (Rect.unit (s := S2x512x256) (k0_off1 i) S1x512x256.size (k0_off1_inb i)).toLoadRect (hm.unread x)) shapeCasts_S1x512x256_S512x256

/-- Head `h`'s sinks as the body picks them. -/
def sinkLoad (i : grid0.Coords) (m : Memref sig .tc .smem S16 .f32) (hm : m.IsWhole) (x : Vec F S16 .f32) (h : Fin 4) : FVec F S512x1 .f32 :=
  let z (off : Fin S16.rank → ℕ) (inb : ∀ a, off a + S1.size a ≤ S16.size a) : Elt F .f32 := m.view.readAt (Elt F) (Rect.unit (s := S16) off S1.size inb).toLoadRect (hm.unread x) (Shape.Idx.first (s := S1) (by decide))
  select (cmpi .slt (iota .tc S512x1 32 [0] iota_S512x1_d0_w32) (broadcast S512x1 128#32)) (broadcast S512x1 (z (k0_off2 i (BitVec.ofNat 32 h.val)) (k0_off2_inb i h)))
    (select (cmpi .slt (iota .tc S512x1 32 [0] iota_S512x1_d0_w32) (broadcast S512x1 256#32)) (broadcast S512x1 (z (k0_off3 i (BitVec.ofNat 32 h.val) 1#32) (k0_off3_inb i h 0)))
      (select (cmpi .slt (iota .tc S512x1 32 [0] iota_S512x1_d0_w32) (broadcast S512x1 384#32)) (broadcast S512x1 (z (k0_off3 i (BitVec.ofNat 32 h.val) 2#32) (k0_off3_inb i h 1)))
        (broadcast S512x1 (z (k0_off3 i (BitVec.ofNat 32 h.val) 3#32) (k0_off3_inb i h 2)))))

section loads
variable (i : grid0.Coords) (arg2 : Memref sig .tc .smem S16 .f32) (harg2 : arg2.IsWhole) (arg3 : Memref sig .tc .vmem S2x512x256 .f32) (harg3 : arg3.IsWhole) (arg4 : Memref sig .tc .vmem S4x4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S4x128x64 .bf16) (harg7 : arg7.IsWhole) (arg8 : Memref sig .tc .vmem S4x128x64 .bf16) (harg8 : arg8.IsWhole) (arg9 : Memref sig .tc .vmem S128x1024 .bf16) (harg9 : arg9.IsWhole)
    (x0 : Vec F S16 .f32) (x1 : Vec F S2x512x256 .f32) (x2 : Vec F S4x4x128x64 .bf16) (x3 : Vec F S4x128x64 .bf16) (x4 : Vec F S4x128x64 .bf16) (x5 : Vec F S4x128x64 .bf16) (x6 : Vec F S4x128x64 .bf16) (x7 : Vec F S128x1024 .bf16)

/-- The four heads' operands as the body loads them. -/
def loads : Heads F where
  q := qLoad arg4 harg4 x2
  k := bandLoad arg5 arg6 harg5 harg6 x3 x4
  v := bandLoad arg7 arg8 harg7 harg8 x5 x6
  d := doLoad arg9 harg9 x7
  mask := maskLoad i arg3 harg3 x1
  sink := sinkLoad i arg2 harg2 x0

end loads

/-- The four heads' operands, read off the point's blocks. -/
def heads (b : Fin 2) (x0 : Vec F S16 .f32) (x1 : Vec F S2x512x256 .f32) (x2 : Vec F S4x4x128x64 .bf16) (x3 : Vec F S4x128x64 .bf16) (x4 : Vec F S4x128x64 .bf16) (x5 : Vec F S4x128x64 .bf16) (x6 : Vec F S4x128x64 .bf16) (x7 : Vec F S128x1024 .bf16) : Heads F where
  q := qRows x2
  k := bandRows x3 x4
  v := bandRows x5 x6
  d := doRows x7
  mask := maskRows x1 b
  sink := sinkRows x0

/-- The mask table a point reads: the first point its own, every later one the other. -/
def tableOf (i : grid0.Coords) : Fin 2 := ⟨min (i 1).val 1, by omega⟩

/-- A load of a whole block reads the block at the load's offsets. -/
theorem load_at {sp : Space} {s : Shape} {e : EltTy} (m : Memref sig .tc sp s e) (hm : m.IsWhole) (x : Vec F s e) (off size : Fin s.rank → ℕ) (inb : ∀ a, off a + size a ≤ s.size a)
    (off' : Fin s.rank → ℕ) (ho : off = off') (y : (Rect.unit off size inb).shape.Idx) (z : s.Idx) (h : ∀ a, (z a).val = off' a + (y a).val) :
    m.view.readAt (Elt F) (Rect.unit off size inb).toLoadRect (hm.unread x) y = x z := by
  subst ho
  rw [View.readAt_eq_ld, hm.read_unread]
  exact congrArg x (funext fun a => Fin.ext (by
    have e : ((Rect.unit off size inb).emb y a).val = off a + 1 * (y a).val := rfl
    rw [h a, ← Nat.one_mul (y a).val]; exact e))

theorem qCast_eq (X : Vec F S1x4x128x64 .bf16) (x : Vec F S4x4x128x64 .bf16) (h : Fin 4) (hX : ∀ a b c, X (ix4 0 a b c) = x (ix4 h a b c)) :
    shapeCast S512x64 (shapeCast S4x128x64 X shapeCasts_S1x4x128x64_S4x128x64) shapeCasts_S4x128x64_S512x64 = qRows x h := by
  funext y
  idx_vars y
  unfold qRows
  pointwise
  exact hX _ _ _

theorem qLoad_eq (m : Memref sig .tc .vmem S4x4x128x64 .bf16) (hm : m.IsWhole) (x : Vec F S4x4x128x64 .bf16) (h : Fin 4) : qLoad m hm x h = qRows x h := by
  unfold qLoad
  exact qCast_eq _ x h fun a b c => load_at m hm x _ _ (qInb h) _ rfl (ix4 0 a b c) (ix4 h a b c) fun d => by fin_cases d <;> simp

theorem doLoad_eq (m : Memref sig .tc .vmem S128x1024 .bf16) (hm : m.IsWhole) (x : Vec F S128x1024 .bf16) (h : Fin 4) : doLoad m hm x h = doRows x h := by
  funext y
  idx_vars y
  unfold doLoad doRows
  rw [View.readAt_eq_ld, hm.read_unread]
  pointwise
  split_ifs <;> exact congrArg x (congrArg₂ ix2 (Fin.ext (by simp only [pos]; omega)) (Fin.ext (by simp only; omega)))

theorem bandCast_eq (X X' : Vec F S1x128x64 .bf16) (x x' : Vec F S4x128x64 .bf16) (h : Fin 4) (hX : ∀ a b, X (ix3 0 a b) = x (ix3 h a b)) (hX' : ∀ a b, X' (ix3 0 a b) = x' (ix3 h a b)) :
    concatenate S256x64 0 [⟨S128x64, shapeCast S128x64 X' shapeCasts_S1x128x64_S128x64⟩, ⟨S128x64, shapeCast S128x64 X shapeCasts_S1x128x64_S128x64⟩]
      concatenates_S128x64_S128x64_S256x64_d0 = bandRows x x' h := by
  funext y
  idx_vars y
  unfold bandRows
  pointwise
  split_ifs <;> first | exact hX' _ _ | exact hX _ _

theorem bandLoad_eq (m m' : Memref sig .tc .vmem S4x128x64 .bf16) (hm : m.IsWhole) (hm' : m'.IsWhole) (x x' : Vec F S4x128x64 .bf16) (h : Fin 4) : bandLoad m m' hm hm' x x' h = bandRows x x' h := by
  unfold bandLoad
  exact bandCast_eq _ _ x x' h (fun a b => load_at m hm x _ _ (kvInb h) _ rfl (ix3 0 a b) (ix3 h a b) fun d => by fin_cases d <;> simp)
    (fun a b => load_at m' hm' x' _ _ (kvInb h) _ rfl (ix3 0 a b) (ix3 h a b) fun d => by fin_cases d <;> simp)

theorem maskCast_eq (X : Vec F S1x512x256 .f32) (x : Vec F S2x512x256 .f32) (t : Fin 2) (hX : ∀ a b, X (ix3 0 a b) = x (ix3 t a b)) :
    shapeCast S512x256 X shapeCasts_S1x512x256_S512x256 = maskRows x t := by
  funext y
  idx_vars y
  unfold maskRows
  pointwise
  exact hX _ _

theorem maskLoad_eq (i : grid0.Coords) (m : Memref sig .tc .vmem S2x512x256 .f32) (hm : m.IsWhole) (x : Vec F S2x512x256 .f32) : maskLoad i m hm x = maskRows x (tableOf i) := by
  unfold maskLoad
  exact maskCast_eq _ x _ fun a b => load_at m hm x _ _ (k0_off1_inb i) _ (k0_off1_eq i) (ix3 0 a b) (ix3 (tableOf i) a b) fun d => by
    fin_cases d <;> simp [tableOf]

theorem sinkLoad_eq (i : grid0.Coords) (m : Memref sig .tc .smem S16 .f32) (hm : m.IsWhole) (x : Vec F S16 .f32) (h : Fin 4) : sinkLoad i m hm x h = sinkRows x h := by
  have h0 : (i 0).val = 0 := by have : (i 0).val < 1 := (i 0).isLt; omega
  have e0 := load_at m hm x (k0_off2 i (BitVec.ofNat 32 h.val)) S1.size (k0_off2_inb i h) _ (k0_off2_eq i h) (Shape.Idx.first (s := S1) (by decide)) (ix1 ⟨h.val * 4 + 0, by omega⟩) fun d => by
    fin_cases d; simp [Shape.Idx.first, h0]; omega
  have e1 := load_at m hm x (k0_off3 i (BitVec.ofNat 32 h.val) 1#32) S1.size (k0_off3_inb i h 0) _ (k0_off3_eq i h 0) (Shape.Idx.first (s := S1) (by decide)) (ix1 ⟨h.val * 4 + 1, by omega⟩) fun d => by
    fin_cases d; simp [Shape.Idx.first, h0]; omega
  have e2 := load_at m hm x (k0_off3 i (BitVec.ofNat 32 h.val) 2#32) S1.size (k0_off3_inb i h 1) _ (k0_off3_eq i h 1) (Shape.Idx.first (s := S1) (by decide)) (ix1 ⟨h.val * 4 + 2, by omega⟩) fun d => by
    fin_cases d; simp [Shape.Idx.first, h0]; omega
  have e3 := load_at m hm x (k0_off3 i (BitVec.ofNat 32 h.val) 3#32) S1.size (k0_off3_inb i h 2) _ (k0_off3_eq i h 2) (Shape.Idx.first (s := S1) (by decide)) (ix1 ⟨h.val * 4 + 3, by omega⟩) fun d => by
    fin_cases d; simp [Shape.Idx.first, h0]; omega
  unfold sinkLoad sinkRows
  dsimp only
  rw [e0, e1, e2, e3]
  funext y
  idx_vars y
  pointwise
  have := y0.isLt
  simp (disch := word_cmp_side) only [hlo_ix]
  split_ifs <;> exact congrArg x (congrArg ix1 (Fin.ext (by simp only; omega)))

section loads
variable (i : grid0.Coords) (arg2 : Memref sig .tc .smem S16 .f32) (harg2 : arg2.IsWhole) (arg3 : Memref sig .tc .vmem S2x512x256 .f32) (harg3 : arg3.IsWhole) (arg4 : Memref sig .tc .vmem S4x4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S4x128x64 .bf16) (harg7 : arg7.IsWhole) (arg8 : Memref sig .tc .vmem S4x128x64 .bf16) (harg8 : arg8.IsWhole) (arg9 : Memref sig .tc .vmem S128x1024 .bf16) (harg9 : arg9.IsWhole)
    (x0 : Vec F S16 .f32) (x1 : Vec F S2x512x256 .f32) (x2 : Vec F S4x4x128x64 .bf16) (x3 : Vec F S4x128x64 .bf16) (x4 : Vec F S4x128x64 .bf16) (x5 : Vec F S4x128x64 .bf16) (x6 : Vec F S4x128x64 .bf16) (x7 : Vec F S128x1024 .bf16)

/-- The loads are the blocks' rows. -/
theorem loads_eq : loads i arg2 harg2 arg3 harg3 arg4 harg4 arg5 harg5 arg6 harg6 arg7 harg7 arg8 harg8 arg9 harg9 x0 x1 x2 x3 x4 x5 x6 x7 = heads (tableOf i) x0 x1 x2 x3 x4 x5 x6 x7 := by
  unfold loads heads
  congr 1
  · funext h; exact qLoad_eq arg4 harg4 x2 h
  · funext h; exact bandLoad_eq arg5 arg6 harg5 harg6 x3 x4 h
  · funext h; exact bandLoad_eq arg7 arg8 harg7 harg8 x5 x6 h
  · funext h; exact doLoad_eq arg9 harg9 x7 h
  · exact maskLoad_eq i arg3 harg3 x1
  · funext h; exact sinkLoad_eq i arg2 harg2 x0 h

end loads

end Cert.KernelIdeal.Grad

end
-- ==== Proof.Lists.lean ====
module

public import proofs.«01_k».proof.Proof.Points
public import proofs.«01_k».proof.Proof.Rows

@[expose] public section

set_option maxRecDepth 16384

noncomputable section

namespace Cert.KernelIdeal.Grad

open Cert.KernelIdeal Cert.KernelIdeal.Gen
open Idealize.ShloMosaic Idealize.ShloMosaic.TcCoe

variable {F : FTy → Type} [FloatOps F]

/-! # The stores of one point, as lists (last first), and what they leave -/

/-- The stored form of a head's gradient of the queries. -/
def qPay (x : FVec F S512x64 .f32) : FVec F S1x4x128x64 .f32 :=
  shapeCast S1x4x128x64 (shapeCast S4x128x64 x shapeCasts_S512x64_S4x128x64) shapeCasts_S4x128x64_S1x4x128x64
/-- The rows of a block plus the band's own half. -/
def curPay (C : FVec F S256x64 .f32) (x : Vec F S1x128x64 .f32) : FVec F S1x128x64 .f32 :=
  shapeCast S1x128x64 (addf (shapeCast S128x64 x shapeCasts_S1x128x64_S128x64) (extractStridedSlice S128x64 ![128, 0] C slices_S256x64_o128_0_S128x64)) shapeCasts_S128x64_S1x128x64
/-- The rows of a block plus the band's prior half. -/
def priorPay (C : FVec F S256x64 .f32) (x : Vec F S1x128x64 .f32) : FVec F S1x128x64 .f32 :=
  shapeCast S1x128x64 (addf (shapeCast S128x64 x shapeCasts_S1x128x64_S128x64) (extractStridedSlice S128x64 ![0, 0] C slices_S256x64_o0_0_S128x64)) shapeCasts_S128x64_S1x128x64
/-- A head's tile of sinks plus the point's own. -/
def tilePay (C : FVec F S512x1 .f32) (x : Vec F S1x8x128 .f32) : FVec F S1x8x128 .f32 :=
  shapeCast S1x8x128 (addf (shapeCast S8x128 x shapeCasts_S1x8x128_S8x128) (sinkTile C)) shapeCasts_S8x128_S1x8x128

/-- The four stores of the queries' gradient. -/
def qList (C : Fin 4 → FVec F S512x64 .f32) : List (View.Piece (Elt F) S4x4x128x64 .f32) :=
  [⟨Rect.unit ![3, 0, 0, 0] S1x4x128x64.size inb_S4x4x128x64_S1x4x128x64_3_0_0_0, qPay (C 3)⟩, ⟨Rect.unit ![2, 0, 0, 0] S1x4x128x64.size inb_S4x4x128x64_S1x4x128x64_2_0_0_0, qPay (C 2)⟩,
   ⟨Rect.unit ![1, 0, 0, 0] S1x4x128x64.size inb_S4x4x128x64_S1x4x128x64_1_0_0_0, qPay (C 1)⟩, ⟨Rect.unit ![0, 0, 0, 0] S1x4x128x64.size inb_S4x4x128x64_S1x4x128x64_0_0_0_0, qPay (C 0)⟩]

section band
variable (m : Memref sig .tc .vmem S4x2048x64 .f32) (f : m.view.ty.Contents (Elt F)) (i : grid0.Coords) (C : Fin 4 → FVec F S256x64 .f32)

/-- A store of a block's rows with the band's own half added, after the stores `L`. -/
abbrev curStep (h : Fin 4) (off : Fin S4x2048x64.rank → ℕ) (inb : ∀ a, off a + S1x128x64.size a ≤ S4x2048x64.size a) (g : m.view.ty.Contents (Elt F)) (L : List (View.Piece (Elt F) S4x2048x64 .f32)) :
    List (View.Piece (Elt F) S4x2048x64 .f32) :=
  ⟨Rect.unit off S1x128x64.size inb, curPay (C h) (m.view.readAt (Elt F) (Rect.unit off S1x128x64.size inb).toLoadRect g)⟩ :: L
/-- A store of a block's rows with the band's prior half added, after the stores `L`. -/
abbrev priorStep (h : Fin 4) (off : Fin S4x2048x64.rank → ℕ) (inb : ∀ a, off a + S1x128x64.size a ≤ S4x2048x64.size a) (L : List (View.Piece (Elt F) S4x2048x64 .f32)) :
    List (View.Piece (Elt F) S4x2048x64 .f32) :=
  ⟨Rect.unit off S1x128x64.size inb, priorPay (C h) (m.view.readAt (Elt F) (Rect.unit off S1x128x64.size inb).toLoadRect (m.view.writes (Elt F) f L))⟩ :: L

/-- The eight stores of a later point. -/
def laterList : List (View.Piece (Elt F) S4x2048x64 .f32) :=
  priorStep m f C 3 (k0_off11 i) (k0_off11_inb i) (curStep m C 3 (k0_off10 i) (k0_off10_inb i) f
    (priorStep m f C 2 (k0_off9 i) (k0_off9_inb i) (curStep m C 2 (k0_off8 i) (k0_off8_inb i) f
      (priorStep m f C 1 (k0_off7 i) (k0_off7_inb i) (curStep m C 1 (k0_off6 i) (k0_off6_inb i) f
        (priorStep m f C 0 (k0_off5 i) (k0_off5_inb i) (curStep m C 0 (k0_off4 i) (k0_off4_inb i) f [])))))))

/-- A store like `curStep`'s whose rows are read after the stores before it. -/
abbrev curStep' (h : Fin 4) (off : Fin S4x2048x64.rank → ℕ) (inb : ∀ a, off a + S1x128x64.size a ≤ S4x2048x64.size a) (L : List (View.Piece (Elt F) S4x2048x64 .f32)) :
    List (View.Piece (Elt F) S4x2048x64 .f32) :=
  curStep m C h off inb (m.view.writes (Elt F) f L) L

/-- The nine stores of the first point: zeros, then the eight. -/
def startList : List (View.Piece (Elt F) S4x2048x64 .f32) :=
  priorStep m f C 3 (k0_off11 i) (k0_off11_inb i) (curStep' m f C 3 (k0_off10 i) (k0_off10_inb i)
    (priorStep m f C 2 (k0_off9 i) (k0_off9_inb i) (curStep' m f C 2 (k0_off8 i) (k0_off8_inb i)
      (priorStep m f C 1 (k0_off7 i) (k0_off7_inb i) (curStep' m f C 1 (k0_off6 i) (k0_off6_inb i)
        (priorStep m f C 0 (k0_off5 i) (k0_off5_inb i) (curStep' m f C 0 (k0_off4 i) (k0_off4_inb i)
          [⟨Rect.unit ![0, 0, 0] S4x2048x64.size inb_S4x2048x64_S4x2048x64_0_0_0, broadcast S4x2048x64 (Scalar.ofBits .f32 0x00000000#32)⟩])))))))

end band

section tiles
variable (m : Memref sig .tc .vmem S4x8x128 .f32) (C : Fin 4 → FVec F S512x1 .f32)

/-- A store of a head's tile with the point's sinks added. -/
abbrev tileStep (h : Fin 4) (off : Fin S4x8x128.rank → ℕ) (inb : ∀ a, off a + S1x8x128.size a ≤ S4x8x128.size a) (g : m.view.ty.Contents (Elt F)) (L : List (View.Piece (Elt F) S4x8x128 .f32)) :
    List (View.Piece (Elt F) S4x8x128 .f32) :=
  ⟨Rect.unit off S1x8x128.size inb, tilePay (C h) (m.view.readAt (Elt F) (Rect.unit off S1x8x128.size inb).toLoadRect g)⟩ :: L

/-- The four stores of a later point. -/
def laterTiles (f : m.view.ty.Contents (Elt F)) : List (View.Piece (Elt F) S4x8x128 .f32) :=
  tileStep m C 3 ![3, 0, 0] inb_S4x8x128_S1x8x128_3_0_0 f (tileStep m C 2 ![2, 0, 0] inb_S4x8x128_S1x8x128_2_0_0 f
    (tileStep m C 1 ![1, 0, 0] inb_S4x8x128_S1x8x128_1_0_0 f (tileStep m C 0 ![0, 0, 0] inb_S4x8x128_S1x8x128_0_0_0 f [])))

/-- A store like `tileStep`'s whose tile is read after the stores before it. -/
abbrev tileStep' (h : Fin 4) (off : Fin S4x8x128.rank → ℕ) (inb : ∀ a, off a + S1x8x128.size a ≤ S4x8x128.size a) (L : List (View.Piece (Elt F) S4x8x128 .f32)) :
    List (View.Piece (Elt F) S4x8x128 .f32) :=
  tileStep m C h off inb (m.view.writes (Elt F) m.view.junk L) L

/-- The five stores of the first point: zeros, then the four. -/
def startTiles : List (View.Piece (Elt F) S4x8x128 .f32) :=
  tileStep' m C 3 ![3, 0, 0] inb_S4x8x128_S1x8x128_3_0_0 (tileStep' m C 2 ![2, 0, 0] inb_S4x8x128_S1x8x128_2_0_0
    (tileStep' m C 1 ![1, 0, 0] inb_S4x8x128_S1x8x128_1_0_0 (tileStep' m C 0 ![0, 0, 0] inb_S4x8x128_S1x8x128_0_0_0
      [⟨Rect.unit ![0, 0, 0] S4x8x128.size inb_S4x8x128_S4x8x128_0_0_0, broadcast S4x8x128 (Scalar.ofBits .f32 0x00000000#32)⟩])))

end tiles

end Cert.KernelIdeal.Grad

end
-- ==== Proof.StartLists.lean ====
module

public import proofs.«01_k».proof.Proof.Start
public import proofs.«01_k».proof.Proof.Lists

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic

variable {F : FTy → Type} [FloatOps F]

/-! # The stores of the first point's run are the lists -/

variable (c : Dev nD) (i : grid0.Coords) (arg2 : Memref sig .tc .smem S16 .f32) (harg2 : arg2.IsWhole) (arg3 : Memref sig .tc .vmem S2x512x256 .f32) (harg3 : arg3.IsWhole) (arg4 : Memref sig .tc .vmem S4x4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S4x128x64 .bf16) (harg7 : arg7.IsWhole) (arg8 : Memref sig .tc .vmem S4x128x64 .bf16) (harg8 : arg8.IsWhole) (arg9 : Memref sig .tc .vmem S128x1024 .bf16) (harg9 : arg9.IsWhole) (arg10 : Memref sig .tc .vmem S4x4x128x64 .f32) (harg10 : arg10.IsWhole) (arg11 : Memref sig .tc .vmem S4x2048x64 .f32) (harg11 : arg11.IsWhole) (arg12 : Memref sig .tc .vmem S4x2048x64 .f32) (harg12 : arg12.IsWhole) (arg13 : Memref sig .tc .vmem S4x8x128 .f32) (harg13 : arg13.IsWhole) (hc0 : first i) (hi : (i 1).val = 0)
    (x0 : Vec F S16 .f32) (x1 : Vec F S2x512x256 .f32) (x2 : Vec F S4x4x128x64 .bf16) (x3 : Vec F S4x128x64 .bf16) (x4 : Vec F S4x128x64 .bf16) (x5 : Vec F S4x128x64 .bf16) (x6 : Vec F S4x128x64 .bf16) (x7 : Vec F S128x1024 .bf16)

set_option maxHeartbeats 4000000 in
/-- The stores of the queries' gradient. -/
theorem start_q : (startRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7).1 = qList (loads i arg2 harg2 arg3 harg3 arg4 harg4 arg5 harg5 arg6 harg6 arg7 harg7 arg8 harg8 arg9 harg9 x0 x1 x2 x3 x4 x5 x6 x7).dq := by
  sl_kernel_rfl

set_option maxHeartbeats 4000000 in
/-- The stores of the keys' gradient. -/
theorem start_k : (startRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7).2.1 = startList arg11 arg11.view.junk i (loads i arg2 harg2 arg3 harg3 arg4 harg4 arg5 harg5 arg6 harg6 arg7 harg7 arg8 harg8 arg9 harg9 x0 x1 x2 x3 x4 x5 x6 x7).dk := by
  sl_kernel_rfl

set_option maxHeartbeats 4000000 in
/-- The stores of the values' gradient. -/
theorem start_v : (startRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7).2.2.1 = startList arg12 arg12.view.junk i (loads i arg2 harg2 arg3 harg3 arg4 harg4 arg5 harg5 arg6 harg6 arg7 harg7 arg8 harg8 arg9 harg9 x0 x1 x2 x3 x4 x5 x6 x7).dv := by
  sl_kernel_rfl

set_option maxHeartbeats 4000000 in
/-- The stores of the sinks' gradient. -/
theorem start_tile : (startRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7).2.2.2.1 = startTiles arg13 (loads i arg2 harg2 arg3 harg3 arg4 harg4 arg5 harg5 arg6 harg6 arg7 harg7 arg8 harg8 arg9 harg9 x0 x1 x2 x3 x4 x5 x6 x7).dsink := by
  sl_kernel_rfl

end Cert.KernelIdeal.Grad

end
-- ==== Proof.Later.lean ====
module

public import proofs.«01_k».proof.Proof.Points

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def laterRun (c : Dev nD) (i : grid0.Coords) (arg2 : Memref sig .tc .smem S16 .f32) (harg2 : arg2.IsWhole) (arg3 : Memref sig .tc .vmem S2x512x256 .f32) (harg3 : arg3.IsWhole) (arg4 : Memref sig .tc .vmem S4x4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S4x128x64 .bf16) (harg7 : arg7.IsWhole) (arg8 : Memref sig .tc .vmem S4x128x64 .bf16) (harg8 : arg8.IsWhole) (arg9 : Memref sig .tc .vmem S128x1024 .bf16) (harg9 : arg9.IsWhole) (arg10 : Memref sig .tc .vmem S4x4x128x64 .f32) (harg10 : arg10.IsWhole) (arg11 : Memref sig .tc .vmem S4x2048x64 .f32) (harg11 : arg11.IsWhole) (arg12 : Memref sig .tc .vmem S4x2048x64 .f32) (harg12 : arg12.IsWhole) (arg13 : Memref sig .tc .vmem S4x8x128 .f32) (harg13 : arg13.IsWhole) (hc0 : ¬first i) (hi : 1 ≤ (i 1).val)
    (x0 : Vec F S16 .f32) (x1 : Vec F S2x512x256 .f32) (x2 : Vec F S4x4x128x64 .bf16) (x3 : Vec F S4x128x64 .bf16) (x4 : Vec F S4x128x64 .bf16) (x5 : Vec F S4x128x64 .bf16) (x6 : Vec F S4x128x64 .bf16) (x7 : Vec F S128x1024 .bf16) (xo9 : Vec F S4x2048x64 .f32) (xo10 : Vec F S4x2048x64 .f32) (xo11 : Vec F S4x8x128 .f32) :
    Σ' (L8 : List (View.Piece (Elt F) S4x4x128x64 .f32)), Σ' (L9 : List (View.Piece (Elt F) S4x2048x64 .f32)), Σ' (L10 : List (View.Piece (Elt F) S4x2048x64 .f32)), { L11 : List (View.Piece (Elt F) S4x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xo9 ∗ owns (c : Thread nD τ) arg12 fullShare xo10 ∗ owns (c : Thread nD τ) arg13 fullShare xo11
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (arg11.view.loc (c : Thread nD τ) ↦[arg11.view.set]{fullShare} arg11.view.writes (Elt F) (harg11.unread xo9) L9) ∗ (arg12.view.loc (c : Thread nD τ) ↦[arg12.view.set]{fullShare} arg12.view.writes (Elt F) (harg12.unread xo10) L10) ∗ (∃ f, arg13.view.loc (c : Thread nD τ) ↦[arg13.view.set]{fullShare} arg13.view.writes (Elt F) f L11)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10; obtain rfl := harg13.eq_unread hf11
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexact H9
    isplitl [H10]; · iexact H10
    iexists _; iexact H11

end Cert.KernelIdeal.Grad

end
-- ==== Proof.LaterLists.lean ====
module

public import proofs.«01_k».proof.Proof.Later
public import proofs.«01_k».proof.Proof.Lists

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic

variable {F : FTy → Type} [FloatOps F]

/-! # The stores of the later points' run are the lists -/

variable (c : Dev nD) (i : grid0.Coords) (arg2 : Memref sig .tc .smem S16 .f32) (harg2 : arg2.IsWhole) (arg3 : Memref sig .tc .vmem S2x512x256 .f32) (harg3 : arg3.IsWhole) (arg4 : Memref sig .tc .vmem S4x4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S4x128x64 .bf16) (harg7 : arg7.IsWhole) (arg8 : Memref sig .tc .vmem S4x128x64 .bf16) (harg8 : arg8.IsWhole) (arg9 : Memref sig .tc .vmem S128x1024 .bf16) (harg9 : arg9.IsWhole) (arg10 : Memref sig .tc .vmem S4x4x128x64 .f32) (harg10 : arg10.IsWhole) (arg11 : Memref sig .tc .vmem S4x2048x64 .f32) (harg11 : arg11.IsWhole) (arg12 : Memref sig .tc .vmem S4x2048x64 .f32) (harg12 : arg12.IsWhole) (arg13 : Memref sig .tc .vmem S4x8x128 .f32) (harg13 : arg13.IsWhole) (hc0 : ¬first i) (hi : 1 ≤ (i 1).val)
    (x0 : Vec F S16 .f32) (x1 : Vec F S2x512x256 .f32) (x2 : Vec F S4x4x128x64 .bf16) (x3 : Vec F S4x128x64 .bf16) (x4 : Vec F S4x128x64 .bf16) (x5 : Vec F S4x128x64 .bf16) (x6 : Vec F S4x128x64 .bf16) (x7 : Vec F S128x1024 .bf16) (xo9 : Vec F S4x2048x64 .f32) (xo10 : Vec F S4x2048x64 .f32) (xo11 : Vec F S4x8x128 .f32)

set_option maxHeartbeats 4000000 in
/-- The stores of the queries' gradient. -/
theorem later_q : (laterRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7 xo9 xo10 xo11).1 = qList (loads i arg2 harg2 arg3 harg3 arg4 harg4 arg5 harg5 arg6 harg6 arg7 harg7 arg8 harg8 arg9 harg9 x0 x1 x2 x3 x4 x5 x6 x7).dq := by
  sl_kernel_rfl

set_option maxHeartbeats 4000000 in
/-- The stores of the keys' gradient. -/
theorem later_k : (laterRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7 xo9 xo10 xo11).2.1 = laterList arg11 (harg11.unread xo9) i (loads i arg2 harg2 arg3 harg3 arg4 harg4 arg5 harg5 arg6 harg6 arg7 harg7 arg8 harg8 arg9 harg9 x0 x1 x2 x3 x4 x5 x6 x7).dk := by
  sl_kernel_rfl

set_option maxHeartbeats 4000000 in
/-- The stores of the values' gradient. -/
theorem later_v : (laterRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7 xo9 xo10 xo11).2.2.1 = laterList arg12 (harg12.unread xo10) i (loads i arg2 harg2 arg3 harg3 arg4 harg4 arg5 harg5 arg6 harg6 arg7 harg7 arg8 harg8 arg9 harg9 x0 x1 x2 x3 x4 x5 x6 x7).dv := by
  sl_kernel_rfl

set_option maxHeartbeats 4000000 in
/-- The stores of the sinks' gradient. -/
theorem later_tile : (laterRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7 xo9 xo10 xo11).2.2.2.1 = laterTiles arg13 (loads i arg2 harg2 arg3 harg3 arg4 harg4 arg5 harg5 arg6 harg6 arg7 harg7 arg8 harg8 arg9 harg9 x0 x1 x2 x3 x4 x5 x6 x7).dsink (harg13.unread xo11) := by
  sl_kernel_rfl

end Cert.KernelIdeal.Grad

end
-- ==== Proof.Reads.lean ====
module

public import proofs.«01_k».proof.Proof.Lists

@[expose] public section

set_option maxRecDepth 16384

noncomputable section

namespace Cert.KernelIdeal.Grad

open Cert.KernelIdeal Cert.KernelIdeal.Gen
open Idealize.ShloMosaic Idealize.ShloMosaic.TcCoe

variable {F : FTy → Type} [FloatOps F]

/-! # What the lists of stores leave -/

/-! ## The queries' gradient -/

/-- The point's block of the queries' gradient. -/
def qBlock (C : Fin 4 → FVec F S512x64 .f32) : Vec F S4x4x128x64 .f32 :=
  fun y => C (y 0) (ix2 (row (y 1) (y 2)) (y 3))

theorem qPay_at (x : FVec F S512x64 .f32) (a : Fin 1) (g : Fin 4) (r : Fin 128) (l : Fin 64) : qPay x (ix4 a g r l) = x (ix2 (row g r) l) := by
  unfold qPay
  pointwise

/-- Inside the window the payload stands. -/
theorem put_in {s : Shape} {α : Type} (x : s.Idx → α) (off size : Fin s.rank → ℕ) (w : ((a : Fin s.rank) → Fin (size a)) → α) (y : s.Idx)
    (z : (a : Fin s.rank) → Fin (size a)) (h : ∀ a, (y a).val = off a + (z a).val) : VecWindow.put x off size w y = w z := by
  have hm : ∀ a, off a ≤ (y a).val ∧ (y a).val < off a + size a := fun a => by have := h a; have := (z a).isLt; omega
  unfold VecWindow.put
  rw [dif_pos hm]
  exact congrArg w (funext fun a => Fin.ext (by rw [Rect.unitLocal_val]; have := h a; omega))
/-- Outside it nothing changes. -/
theorem put_out {s : Shape} {α : Type} (x : s.Idx → α) (off size : Fin s.rank → ℕ) (w : ((a : Fin s.rank) → Fin (size a)) → α) (y : s.Idx)
    (a : Fin s.rank) (h : (y a).val < off a ∨ off a + size a ≤ (y a).val) : VecWindow.put x off size w y = x y := by
  unfold VecWindow.put
  exact dif_neg fun hm => by have := hm a; omega

theorem qPut (C : FVec F S512x64 .f32) (h : Fin 4) (A : Vec F S4x4x128x64 .f32) (a g : Fin 4) (r : Fin 128) (l : Fin 64) :
    VecWindow.put (s := S4x4x128x64) A ![h.val, 0, 0, 0] S1x4x128x64.size (qPay C) (ix4 a g r l) = if a = h then C (ix2 (row g r) l) else A (ix4 a g r l) := by
  split
  · rename_i e; subst e
    refine (put_in (s := S4x4x128x64) A _ _ _ _ (ix4 (0 : Fin 1) g r l : S1x4x128x64.Idx) fun d => ?_).trans (qPay_at C 0 g r l)
    fin_cases d <;> simp
  · rename_i e
    refine put_out (s := S4x4x128x64) A _ _ _ _ 0 ?_
    have e' : a.val ≠ h.val := fun h' => e (Fin.ext h')
    show a.val < h.val ∨ h.val + 1 ≤ a.val
    omega

/-- One store of a head's rows. -/
theorem qStep_read (m : Memref sig .tc .vmem S4x4x128x64 .f32) (f : m.view.ty.Contents (Elt F)) (C : FVec F S512x64 .f32) (h : Fin 4) (inb : ∀ a, ![h.val, 0, 0, 0] a + S1x4x128x64.size a ≤ S4x4x128x64.size a)
    (L : List (View.Piece (Elt F) S4x4x128x64 .f32)) (a g : Fin 4) (r : Fin 128) (l : Fin 64) :
    m.view.read (Elt F) (m.view.writes (Elt F) f (⟨Rect.unit (s := S4x4x128x64) ![h.val, 0, 0, 0] S1x4x128x64.size inb, qPay C⟩ :: L)) (ix4 a g r l)
      = if a = h then C (ix2 (row g r) l) else m.view.read (Elt F) (m.view.writes (Elt F) f L) (ix4 a g r l) :=
  (congrFun (View.read_writes_cons_put m.view f inb _ L rfl) _).trans (qPut C h _ a g r l)

/-- The four stores leave the block, whatever was there. -/
theorem qList_read (m : Memref sig .tc .vmem S4x4x128x64 .f32) (f : m.view.ty.Contents (Elt F)) (C : Fin 4 → FVec F S512x64 .f32) :
    m.view.read (Elt F) (m.view.writes (Elt F) f (qList C)) = qBlock C := by
  funext y
  idx_vars y
  refine (qStep_read m f (C 3) 3 _ _ y0 y1 y2 y3).trans ?_
  split
  · rename_i e; subst e; rfl
  refine (qStep_read m f (C 2) 2 _ _ y0 y1 y2 y3).trans ?_
  split
  · rename_i e; subst e; rfl
  refine (qStep_read m f (C 1) 1 _ _ y0 y1 y2 y3).trans ?_
  split
  · rename_i e; subst e; rfl
  refine (qStep_read m f (C 0) 0 _ _ y0 y1 y2 y3).trans ?_
  split
  · rename_i e; subst e; rfl
  · exfalso; omega

/-! ## The keys' and the values' gradient -/

theorem curPay_at (C : FVec F S256x64 .f32) (x : Vec F S1x128x64 .f32) (a : Fin 1) (r : Fin 128) (l : Fin 64) :
    curPay C x (ix3 a r l) = FloatOps.addf (x (ix3 0 r l)) (C (ix2 ⟨128 + r.val, by omega⟩ l)) := by
  unfold curPay
  pointwise

theorem priorPay_at (C : FVec F S256x64 .f32) (x : Vec F S1x128x64 .f32) (a : Fin 1) (r : Fin 128) (l : Fin 64) :
    priorPay C x (ix3 a r l) = FloatOps.addf (x (ix3 0 r l)) (C (ix2 ⟨r.val, by omega⟩ l)) := by
  unfold priorPay
  pointwise

theorem tilePay_at (C : FVec F S512x1 .f32) (x : Vec F S1x8x128 .f32) (a : Fin 1) (r : Fin 8) (l : Fin 128) :
    tilePay C x (ix3 a r l) = FloatOps.addf (x (ix3 0 r l)) (sinkTile C (ix2 r l)) := by
  unfold tilePay
  generalize sinkTile C = T
  pointwise

/-- Rows `r` to `r + 127` of head `h` with `T` added. -/
def addRows (h : Fin 4) (r : ℕ) (T : Fin 128 → Fin 64 → F .f32) (A : Vec F S4x2048x64 .f32) : Vec F S4x2048x64 .f32 :=
  fun y => if hy : (y 0).val = h.val ∧ r ≤ (y 1).val ∧ (y 1).val < r + 128 then FloatOps.addf (A y) (T ⟨(y 1).val - r, by omega⟩ (y 2)) else A y

/-- The band's own half, row by row. -/
abbrev own (C : FVec F S256x64 .f32) : Fin 128 → Fin 64 → F .f32 := fun a b => C (ix2 ⟨128 + a.val, by omega⟩ b)
/-- The band's prior half, row by row. -/
abbrev before (C : FVec F S256x64 .f32) : Fin 128 → Fin 64 → F .f32 := fun a b => C (ix2 ⟨a.val, by omega⟩ b)

/-- A block's rows read out of an array. -/
abbrev rowsAt (A : Vec F S4x2048x64 .f32) (h : Fin 4) (r : ℕ) (inb : ∀ a, ![h.val, r, 0] a + S1x128x64.size a ≤ S4x2048x64.size a) : Vec F S1x128x64 .f32 :=
  VecWindow.window (s := S4x2048x64) A ![h.val, r, 0] S1x128x64.size inb

theorem rowsAt_at (A : Vec F S4x2048x64 .f32) (h : Fin 4) (r : ℕ) (inb : ∀ a, ![h.val, r, 0] a + S1x128x64.size a ≤ S4x2048x64.size a) (a : Fin 1) (b : Fin 128) (l : Fin 64) (hb : r + b.val < 2048) :
    rowsAt A h r inb (ix3 a b l) = A (ix3 h ⟨r + b.val, hb⟩ l) := by
  unfold rowsAt VecWindow.window
  refine congrArg A (funext fun d => Fin.ext ?_)
  have e : ((Rect.unit (s := S4x2048x64) ![h.val, r, 0] S1x128x64.size inb).emb (ix3 a b l) d).val = ![h.val, r, 0] d + 1 * ((ix3 a b l : S1x128x64.Idx) d).val := rfl
  rw [e]
  fin_cases d <;> simp

/-- Storing `T` added to a block's own rows adds `T` on those rows. -/
theorem put_rows (A : Vec F S4x2048x64 .f32) (h : Fin 4) (r : ℕ) (inb : ∀ a, ![h.val, r, 0] a + S1x128x64.size a ≤ S4x2048x64.size a) (T : Fin 128 → Fin 64 → F .f32) (w : Vec F S1x128x64 .f32)
    (hw : ∀ b l, w (ix3 0 b l) = FloatOps.addf (rowsAt A h r inb (ix3 0 b l)) (T b l)) :
    VecWindow.put (s := S4x2048x64) A ![h.val, r, 0] S1x128x64.size w = addRows h r T A := by
  funext y
  idx_vars y
  unfold addRows
  by_cases hy : y0.val = h.val ∧ r ≤ y1.val ∧ y1.val < r + 128
  · obtain ⟨h0, h1, h2⟩ := hy
    obtain rfl : y0 = h := Fin.ext h0
    rw [dif_pos ⟨rfl, h1, h2⟩]
    refine (put_in (s := S4x2048x64) A _ _ _ _ (ix3 (0 : Fin 1) (⟨y1.val - r, by omega⟩ : Fin 128) y2 : S1x128x64.Idx) fun d => ?_).trans ?_
    · fin_cases d
      · simp
      · show y1.val = r + (y1.val - r); omega
      · simp
    · rw [hw, rowsAt_at A y0 r inb 0 ⟨y1.val - r, by omega⟩ y2 (by show r + (y1.val - r) < 2048; omega)]
      have e : (⟨r + (y1.val - r), by omega⟩ : Fin 2048) = y1 := Fin.ext (by show r + (y1.val - r) = y1.val; omega)
      show FloatOps.addf (A (ix3 y0 ⟨r + (y1.val - r), _⟩ y2)) _ = _
      rw [e]
      rfl
  · refine Eq.trans ?_ (dif_neg hy).symm
    by_cases e : y0 = h
    · refine put_out (s := S4x2048x64) A _ _ _ _ 1 ?_
      show y1.val < r ∨ r + 128 ≤ y1.val
      have : ¬ (r ≤ y1.val ∧ y1.val < r + 128) := fun h' => hy ⟨congrArg Fin.val e, h'⟩
      omega
    · refine put_out (s := S4x2048x64) A _ _ _ _ 0 ?_
      have e' : y0.val ≠ h.val := fun h' => e (Fin.ext h')
      show y0.val < h.val ∨ h.val + 1 ≤ y0.val
      omega

/-- A block of one head is not touched by what is added to another. -/
theorem rowsAt_addRows_of_ne (A : Vec F S4x2048x64 .f32) (h h' : Fin 4) (hne : h ≠ h') (r r' : ℕ) (inb : ∀ a, ![h.val, r, 0] a + S1x128x64.size a ≤ S4x2048x64.size a) (T : Fin 128 → Fin 64 → F .f32) :
    rowsAt (addRows h' r' T A) h r inb = rowsAt A h r inb := by
  funext y
  have hr : ∀ b : Fin 128, r + b.val < 2048 := fun b => by have := inb 1; have : r + 128 ≤ 2048 := this; omega
  idx_vars y
  rw [rowsAt_at _ h r inb y0 y1 y2 (hr y1), rowsAt_at _ h r inb y0 y1 y2 (hr y1)]
  exact dif_neg fun hy => hne (Fin.ext hy.1)

section band
variable (m : Memref sig .tc .vmem S4x2048x64 .f32) (f : m.view.ty.Contents (Elt F)) (C : Fin 4 → FVec F S256x64 .f32)
variable (h : Fin 4) (off : Fin S4x2048x64.rank → ℕ) (inb : ∀ a, off a + S1x128x64.size a ≤ S4x2048x64.size a) (r : ℕ) (ho : off = ![h.val, r, 0])
  (L : List (View.Piece (Elt F) S4x2048x64 .f32)) (A : Vec F S4x2048x64 .f32) (hL : m.view.read (Elt F) (m.view.writes (Elt F) f L) = A)

include ho hL

/-- One store of own rows, the rows read from contents `g`. -/
theorem curStep_read (g : m.view.ty.Contents (Elt F)) (hg : rowsAt (m.view.read (Elt F) g) h r (ho ▸ inb) = rowsAt A h r (ho ▸ inb)) :
    m.view.read (Elt F) (m.view.writes (Elt F) f (curStep m C h off inb g L)) = addRows h r (own (C h)) A := by
  subst ho hL
  refine (View.read_writes_cons_put m.view f inb _ L rfl).trans (put_rows _ h r inb _ _ fun b l => ?_)
  rw [← hg]
  exact curPay_at (C h) _ 0 b l

/-- One store of prior rows, the rows read from what the stores before leave over contents `g`. -/
theorem priorStep_read (g : m.view.ty.Contents (Elt F)) (hg : m.view.read (Elt F) (m.view.writes (Elt F) g L) = A) :
    m.view.read (Elt F) (m.view.writes (Elt F) f (priorStep m g C h off inb L)) = addRows h r (before (C h)) A := by
  subst ho hL
  refine (View.read_writes_cons_put m.view f inb _ L rfl).trans (put_rows _ h r inb _ _ fun b l => ?_)
  rw [← hg]
  exact priorPay_at (C h) _ 0 b l

end band

/-- What a point adds to the keys' (or the values') gradient: the band's own half on block `n`'s rows, then its prior half on the rows of the
block before (block 0's own, at point 0). -/
def addBand (n : ℕ) (C : Fin 4 → FVec F S256x64 .f32) (A : Vec F S4x2048x64 .f32) : Vec F S4x2048x64 .f32 := fun y =>
  let a := if (y 1).val / 128 = n then FloatOps.addf (A y) (own (C (y 0)) ⟨(y 1).val % 128, by omega⟩ (y 2)) else A y
  if (y 1).val / 128 = n - 1 then FloatOps.addf a (before (C (y 0)) ⟨(y 1).val % 128, by omega⟩ (y 2)) else a

theorem addRows_at (h : Fin 4) (n : ℕ) (T : Fin 128 → Fin 64 → F .f32) (A : Vec F S4x2048x64 .f32) (a : Fin 4) (b : Fin 2048) (l : Fin 64) :
    addRows h (128 * n) T A (ix3 a b l) = if a = h ∧ b.val / 128 = n then FloatOps.addf (A (ix3 a b l)) (T ⟨b.val % 128, by omega⟩ l) else A (ix3 a b l) := by
  unfold addRows
  by_cases hy : a = h ∧ b.val / 128 = n
  · rw [if_pos hy]
    refine (dif_pos (⟨congrArg Fin.val hy.1, by show 128 * n ≤ b.val; omega, by show b.val < 128 * n + 128; omega⟩)).trans ?_
    refine congrArg (FloatOps.addf _) (congrArg₂ T (Fin.ext ?_) rfl)
    show b.val - 128 * n = b.val % 128
    omega
  · rw [if_neg hy]
    refine dif_neg fun hy' => hy ⟨Fin.ext hy'.1, ?_⟩
    have h1 : 128 * n ≤ b.val := hy'.2.1
    have h2 : b.val < 128 * n + 128 := hy'.2.2
    omega

/-- The eight additions, one after the other, are `addBand`. -/
theorem addBand_eq (n : ℕ) (C : Fin 4 → FVec F S256x64 .f32) (A : Vec F S4x2048x64 .f32) :
    addRows 3 (128 * (n - 1)) (before (C 3)) (addRows 3 (128 * n) (own (C 3)) (addRows 2 (128 * (n - 1)) (before (C 2)) (addRows 2 (128 * n) (own (C 2))
      (addRows 1 (128 * (n - 1)) (before (C 1)) (addRows 1 (128 * n) (own (C 1)) (addRows 0 (128 * (n - 1)) (before (C 0)) (addRows 0 (128 * n) (own (C 0)) A)))))))
    = addBand n C A := by
  funext y
  idx_vars y
  rw [addRows_at, addRows_at, addRows_at, addRows_at, addRows_at, addRows_at, addRows_at, addRows_at]
  show _ = if y1.val / 128 = n - 1 then FloatOps.addf (if y1.val / 128 = n then FloatOps.addf (A (ix3 y0 y1 y2)) (own (C y0) ⟨y1.val % 128, _⟩ y2) else A (ix3 y0 y1 y2)) (before (C y0) ⟨y1.val % 128, _⟩ y2)
    else (if y1.val / 128 = n then FloatOps.addf (A (ix3 y0 y1 y2)) (own (C y0) ⟨y1.val % 128, _⟩ y2) else A (ix3 y0 y1 y2))
  by_cases h1 : y1.val / 128 = n - 1 <;> by_cases h2 : y1.val / 128 = n <;> simp only [h1, h2, and_true, and_false, if_true, if_false] <;> fin_cases y0 <;> simp

theorem off4 (i : grid0.Coords) : k0_off4 i = ![(0 : Fin 4).val, 128 * (i 1).val, 0] := k0_off4_eq i
theorem off6 (i : grid0.Coords) : k0_off6 i = ![(1 : Fin 4).val, 128 * (i 1).val, 0] := k0_off6_eq i
theorem off8 (i : grid0.Coords) : k0_off8 i = ![(2 : Fin 4).val, 128 * (i 1).val, 0] := k0_off8_eq i
theorem off10 (i : grid0.Coords) : k0_off10 i = ![(3 : Fin 4).val, 128 * (i 1).val, 0] := k0_off10_eq i
theorem off5 : ∀ i : grid0.Coords, k0_off5 i = ![(0 : Fin 4).val, 128 * ((i 1).val - 1), 0] := by decide +kernel
theorem off7 : ∀ i : grid0.Coords, k0_off7 i = ![(1 : Fin 4).val, 128 * ((i 1).val - 1), 0] := by decide +kernel
theorem off9 : ∀ i : grid0.Coords, k0_off9 i = ![(2 : Fin 4).val, 128 * ((i 1).val - 1), 0] := by decide +kernel
theorem off11 : ∀ i : grid0.Coords, k0_off11 i = ![(3 : Fin 4).val, 128 * ((i 1).val - 1), 0] := by decide +kernel

section band
variable (m : Memref sig .tc .vmem S4x2048x64 .f32) (f : m.view.ty.Contents (Elt F)) (i : grid0.Coords) (C : Fin 4 → FVec F S256x64 .f32)

/-- A later point's stores add its band. -/
theorem laterList_read : m.view.read (Elt F) (m.view.writes (Elt F) f (laterList m f i C)) = addBand (i 1).val C (m.view.read (Elt F) f) := by
  unfold laterList
  rw [← addBand_eq]
  have h0 := curStep_read m f C 0 _ (k0_off4_inb i) _ (off4 i) [] _ rfl f rfl
  have h1 := priorStep_read m f C 0 _ (k0_off5_inb i) _ (off5 i) _ _ h0 f h0
  have h2 := curStep_read m f C 1 _ (k0_off6_inb i) _ (off6 i) _ _ h1 f (by rw [rowsAt_addRows_of_ne _ _ _ (by decide), rowsAt_addRows_of_ne _ _ _ (by decide)]; rfl)
  have h3 := priorStep_read m f C 1 _ (k0_off7_inb i) _ (off7 i) _ _ h2 f h2
  have h4 := curStep_read m f C 2 _ (k0_off8_inb i) _ (off8 i) _ _ h3 f (by iterate 4 rw [rowsAt_addRows_of_ne _ _ _ (by decide)]
                                                                            rfl)
  have h5 := priorStep_read m f C 2 _ (k0_off9_inb i) _ (off9 i) _ _ h4 f h4
  have h6 := curStep_read m f C 3 _ (k0_off10_inb i) _ (off10 i) _ _ h5 f (by iterate 6 rw [rowsAt_addRows_of_ne _ _ _ (by decide)]
                                                                              rfl)
  exact priorStep_read m f C 3 _ (k0_off11_inb i) _ (off11 i) _ _ h6 f h6

/-- The first point's stores add its band to zeros, whatever was there. -/
theorem startList_read (g : m.view.ty.Contents (Elt F)) : m.view.read (Elt F) (m.view.writes (Elt F) g (startList m f i C)) = addBand (i 1).val C (broadcast S4x2048x64 (Scalar.ofBits .f32 0x00000000#32)) := by
  unfold startList
  rw [← addBand_eq]
  have hz : ∀ g : m.view.ty.Contents (Elt F), m.view.read (Elt F) (m.view.writes (Elt F) g [⟨Rect.unit (s := S4x2048x64) ![0, 0, 0] S4x2048x64.size inb_S4x2048x64_S4x2048x64_0_0_0, broadcast S4x2048x64 (Scalar.ofBits .f32 0x00000000#32)⟩])
      = (broadcast S4x2048x64 (Scalar.ofBits .f32 0x00000000#32) : Vec F S4x2048x64 .f32) := fun g => View.read_writes_full m.view g _ _ []
  have h0 := fun g => curStep_read m g C 0 _ (k0_off4_inb i) _ (off4 i) _ _ (hz g) (m.view.writes (Elt F) f _) (by rw [hz f])
  have h1 := fun g => priorStep_read m g C 0 _ (k0_off5_inb i) _ (off5 i) _ _ (h0 g) f (h0 f)
  have h2 := fun g => curStep_read m g C 1 _ (k0_off6_inb i) _ (off6 i) _ _ (h1 g) (m.view.writes (Elt F) f _) (by rw [h1 f])
  have h3 := fun g => priorStep_read m g C 1 _ (k0_off7_inb i) _ (off7 i) _ _ (h2 g) f (h2 f)
  have h4 := fun g => curStep_read m g C 2 _ (k0_off8_inb i) _ (off8 i) _ _ (h3 g) (m.view.writes (Elt F) f _) (by rw [h3 f])
  have h5 := fun g => priorStep_read m g C 2 _ (k0_off9_inb i) _ (off9 i) _ _ (h4 g) f (h4 f)
  have h6 := fun g => curStep_read m g C 3 _ (k0_off10_inb i) _ (off10 i) _ _ (h5 g) (m.view.writes (Elt F) f _) (by rw [h5 f])
  exact priorStep_read m g C 3 _ (k0_off11_inb i) _ (off11 i) _ _ (h6 g) f (h6 f)

end band

/-! ## The sinks' gradient -/

/-- What a point adds to the four tiles. -/
def addTiles (C : Fin 4 → FVec F S512x1 .f32) (A : Vec F S4x8x128 .f32) : Vec F S4x8x128 .f32 :=
  fun y => FloatOps.addf (A y) (sinkTile (C (y 0)) (ix2 (y 1) (y 2)))

section tiles
variable (m : Memref sig .tc .vmem S4x8x128 .f32) (f : m.view.ty.Contents (Elt F)) (C : Fin 4 → FVec F S512x1 .f32)

/-- One store of a head's tile, the tile read from contents `g` that agree there with what stands. -/
theorem tileStep_read (h : Fin 4) (inb : ∀ a, ![h.val, 0, 0] a + S1x8x128.size a ≤ S4x8x128.size a) (g : m.view.ty.Contents (Elt F)) (L : List (View.Piece (Elt F) S4x8x128 .f32))
    (A : Vec F S4x8x128 .f32) (hg : ∀ b l, m.view.read (Elt F) g (ix3 h b l) = A (ix3 h b l)) (a : Fin 4) (b : Fin 8) (l : Fin 128) :
    m.view.read (Elt F) (m.view.writes (Elt F) f (tileStep m C h ![h.val, 0, 0] inb g L)) (ix3 a b l)
      = if a = h then FloatOps.addf (A (ix3 a b l)) (sinkTile (C a) (ix2 b l)) else m.view.read (Elt F) (m.view.writes (Elt F) f L) (ix3 a b l) := by
  refine (congrFun (View.read_writes_cons_put m.view f inb _ L rfl) _).trans ?_
  split
  · rename_i e; subst e
    refine (put_in (s := S4x8x128) _ _ _ _ _ (ix3 (0 : Fin 1) b l : S1x8x128.Idx) fun d => ?_).trans ((tilePay_at (C a) _ 0 b l).trans ?_)
    · fin_cases d <;> simp
    · rw [← hg]
      refine congrArg (FloatOps.addf · _) (congrArg (m.view.read (Elt F) g) (funext fun d => Fin.ext ?_))
      have e : ((Rect.unit (s := S4x8x128) ![a.val, 0, 0] S1x8x128.size inb).emb (ix3 0 b l) d).val = ![a.val, 0, 0] d + 1 * ((ix3 0 b l : S1x8x128.Idx) d).val := rfl
      refine e.trans ?_
      fin_cases d <;> simp
  · rename_i e
    refine put_out (s := S4x8x128) _ _ _ _ _ 0 ?_
    have e' : a.val ≠ h.val := fun h' => e (Fin.ext h')
    show a.val < h.val ∨ h.val + 1 ≤ a.val
    omega

/-- A later point's stores add its tiles, over any contents `g`. -/
theorem laterTiles_read (g : m.view.ty.Contents (Elt F)) : m.view.read (Elt F) (m.view.writes (Elt F) g (laterTiles m C f)) = addTiles C (m.view.read (Elt F) f) := by
  funext y
  idx_vars y
  refine (tileStep_read m g C 3 _ f _ _ (fun _ _ => rfl) y0 y1 y2).trans ?_
  split
  · rfl
  refine (tileStep_read m g C 2 _ f _ _ (fun _ _ => rfl) y0 y1 y2).trans ?_
  split
  · rfl
  refine (tileStep_read m g C 1 _ f _ _ (fun _ _ => rfl) y0 y1 y2).trans ?_
  split
  · rfl
  refine (tileStep_read m g C 0 _ f _ _ (fun _ _ => rfl) y0 y1 y2).trans ?_
  split
  · rfl
  · exfalso; omega

/-- The first point's stores add its tiles to zeros, whatever was there. -/
theorem startTiles_read (g : m.view.ty.Contents (Elt F)) : m.view.read (Elt F) (m.view.writes (Elt F) g (startTiles m C)) = addTiles C (broadcast S4x8x128 (Scalar.ofBits .f32 0x00000000#32)) := by
  have hz : ∀ g : m.view.ty.Contents (Elt F), m.view.read (Elt F) (m.view.writes (Elt F) g [⟨Rect.unit (s := S4x8x128) ![0, 0, 0] S4x8x128.size inb_S4x8x128_S4x8x128_0_0_0, broadcast S4x8x128 (Scalar.ofBits .f32 0x00000000#32)⟩])
      = (broadcast S4x8x128 (Scalar.ofBits .f32 0x00000000#32) : Vec F S4x8x128 .f32) := fun g => View.read_writes_full m.view g _ _ []
  let L0 : List (View.Piece (Elt F) S4x8x128 .f32) := [⟨Rect.unit (s := S4x8x128) ![0, 0, 0] S4x8x128.size inb_S4x8x128_S4x8x128_0_0_0, broadcast S4x8x128 (Scalar.ofBits .f32 0x00000000#32)⟩]
  let L1 := tileStep' m C 0 ![0, 0, 0] inb_S4x8x128_S1x8x128_0_0_0 L0
  let L2 := tileStep' m C 1 ![1, 0, 0] inb_S4x8x128_S1x8x128_1_0_0 L1
  let L3 := tileStep' m C 2 ![2, 0, 0] inb_S4x8x128_S1x8x128_2_0_0 L2
  have h0 := fun g => tileStep_read m g C 0 inb_S4x8x128_S1x8x128_0_0_0 (m.view.writes (Elt F) m.view.junk L0) L0 (broadcast S4x8x128 (Scalar.ofBits .f32 0x00000000#32)) (fun b l => congrFun (hz _) _)
  have h1 := fun g => tileStep_read m g C 1 inb_S4x8x128_S1x8x128_1_0_0 (m.view.writes (Elt F) m.view.junk L1) L1 (broadcast S4x8x128 (Scalar.ofBits .f32 0x00000000#32)) (fun b l => (h0 _ 1 b l).trans ((if_neg (by decide)).trans (congrFun (hz _) _)))
  have h2 := fun g => tileStep_read m g C 2 inb_S4x8x128_S1x8x128_2_0_0 (m.view.writes (Elt F) m.view.junk L2) L2 (broadcast S4x8x128 (Scalar.ofBits .f32 0x00000000#32)) (fun b l => (h1 _ 2 b l).trans ((if_neg (by decide)).trans ((h0 _ 2 b l).trans ((if_neg (by decide)).trans (congrFun (hz _) _)))))
  have h3 := fun g => tileStep_read m g C 3 inb_S4x8x128_S1x8x128_3_0_0 (m.view.writes (Elt F) m.view.junk L3) L3 (broadcast S4x8x128 (Scalar.ofBits .f32 0x00000000#32)) (fun b l => (h2 _ 3 b l).trans ((if_neg (by decide)).trans ((h1 _ 3 b l).trans ((if_neg (by decide)).trans ((h0 _ 3 b l).trans ((if_neg (by decide)).trans (congrFun (hz _) _)))))))
  funext y
  idx_vars y
  refine (h3 g y0 y1 y2).trans ?_
  split
  · rfl
  refine (h2 g y0 y1 y2).trans ?_
  split
  · rfl
  refine (h1 g y0 y1 y2).trans ?_
  split
  · rfl
  refine (h0 g y0 y1 y2).trans ?_
  split
  · rfl
  · exfalso; omega

end tiles

end Cert.KernelIdeal.Grad

end
-- ==== Proof.Carried.lean ====
module

public import proofs.«01_k».proof.Proof.StartLists
public import proofs.«01_k».proof.Proof.LaterLists
public import proofs.«01_k».proof.Proof.Reads
public import proofs.«01_k».proof.Proof.Gen.KernelIdeal.Frame
public import Idealize.ShloMosaic.Lib.Claim

@[expose] public section

set_option maxRecDepth 16384

noncomputable section

namespace Cert.KernelIdeal.Grad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the sixteen points -/

/-! ## The points -/

theorem first_iff : ∀ t : Fin cfg0.N, first (grid0.coords t) ↔ t.val % 16 = 0 :=
  (by decide +kernel : ∀ t : Fin grid0.N, first (grid0.coords t) ↔ t.val % 16 = 0)
theorem block_of : ∀ t : Fin cfg0.N, ((grid0.coords t) 1).val = t.val :=
  (by decide +kernel : ∀ t : Fin grid0.N, ((grid0.coords t) 1).val = t.val)

/-! ## What is carried from point to point -/

/-- The state after point `n`: `step` at points 0 to `n`, from `z`. -/
def carried {α : Type} (z : α) (step : Fin cfg0.N → α → α) : (n : ℕ) → n < cfg0.N → α
  | 0, h => step ⟨0, h⟩ z
  | n + 1, h => step ⟨n + 1, h⟩ (carried z step n (Nat.lt_of_succ_lt h))

theorem carried_first {α : Type} (z : α) (step : Fin cfg0.N → α → α) (t : Fin cfg0.N) (h : t.val = 0) : carried z step t.val t.isLt = step t z := by
  obtain ⟨n, hn⟩ := t
  cases n with
  | zero => rfl
  | succ n => exact absurd h (Nat.succ_ne_zero n)
theorem carried_later {α : Type} (z : α) (step : Fin cfg0.N → α → α) (t : Fin cfg0.N) (h : t.val ≠ 0) :
    carried z step t.val t.isLt = step t (carried z step (t.val - 1) (Nat.lt_of_le_of_lt (Nat.sub_le _ _) t.isLt)) := by
  obtain ⟨n, hn⟩ := t
  cases n with
  | zero => exact absurd rfl h
  | succ n => rfl

/-- The four heads' operands at point `t`. -/
def headsAt (c : Dev nD) (t : Fin cfg0.N) : Heads F :=
  heads (tableOf (grid0.coords t)) (iblk m c 0 t) (iblk m c 1 t) (iblk m c 2 t) (iblk m c 3 t) (iblk m c 4 t) (iblk m c 5 t) (iblk m c 6 t) (iblk m c 7 t)

/-- The keys' gradient after point `n`. -/
def keysAt (c : Dev nD) : (n : ℕ) → n < cfg0.N → Vec F S4x2048x64 .f32 :=
  carried (broadcast S4x2048x64 (Scalar.ofBits .f32 0x00000000#32)) fun t A => addBand ((grid0.coords t) 1).val (headsAt m c t).dk A
/-- The values' gradient after point `n`. -/
def valuesAt (c : Dev nD) : (n : ℕ) → n < cfg0.N → Vec F S4x2048x64 .f32 :=
  carried (broadcast S4x2048x64 (Scalar.ofBits .f32 0x00000000#32)) fun t A => addBand ((grid0.coords t) 1).val (headsAt m c t).dv A
/-- The sinks' gradient after point `n`. -/
def tilesAt (c : Dev nD) : (n : ℕ) → n < cfg0.N → Vec F S4x8x128 .f32 :=
  carried (broadcast S4x8x128 (Scalar.ofBits .f32 0x00000000#32)) fun t A => addTiles (headsAt m c t).dsink A

/-! ## What the runs leave, as the gradients of the point's heads -/

section

variable (c : Dev nD) (i : grid0.Coords) (arg2 : Memref sig .tc .smem S16 .f32) (harg2 : arg2.IsWhole) (arg3 : Memref sig .tc .vmem S2x512x256 .f32) (harg3 : arg3.IsWhole) (arg4 : Memref sig .tc .vmem S4x4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S4x128x64 .bf16) (harg7 : arg7.IsWhole) (arg8 : Memref sig .tc .vmem S4x128x64 .bf16) (harg8 : arg8.IsWhole) (arg9 : Memref sig .tc .vmem S128x1024 .bf16) (harg9 : arg9.IsWhole) (arg10 : Memref sig .tc .vmem S4x4x128x64 .f32) (harg10 : arg10.IsWhole) (arg11 : Memref sig .tc .vmem S4x2048x64 .f32) (harg11 : arg11.IsWhole) (arg12 : Memref sig .tc .vmem S4x2048x64 .f32) (harg12 : arg12.IsWhole) (arg13 : Memref sig .tc .vmem S4x8x128 .f32) (harg13 : arg13.IsWhole) (hc0 : first i) (hi : (i 1).val = 0)
    (x0 : Vec F S16 .f32) (x1 : Vec F S2x512x256 .f32) (x2 : Vec F S4x4x128x64 .bf16) (x3 : Vec F S4x128x64 .bf16) (x4 : Vec F S4x128x64 .bf16) (x5 : Vec F S4x128x64 .bf16) (x6 : Vec F S4x128x64 .bf16) (x7 : Vec F S128x1024 .bf16)

theorem start_q_read (f : arg10.view.ty.Contents (Elt F)) : arg10.view.read (Elt F) (arg10.view.writes (Elt F) f (startRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7).1) = qBlock (heads (tableOf i) x0 x1 x2 x3 x4 x5 x6 x7).dq := by
  rw [start_q, loads_eq]
  exact qList_read _ _ _
theorem start_k_read (f : arg11.view.ty.Contents (Elt F)) : arg11.view.read (Elt F) (arg11.view.writes (Elt F) f (startRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7).2.1) = addBand (i 1).val (heads (tableOf i) x0 x1 x2 x3 x4 x5 x6 x7).dk (broadcast S4x2048x64 (Scalar.ofBits .f32 0x00000000#32)) := by
  rw [start_k, loads_eq]
  exact startList_read (F := F) _ _ _ _ _
theorem start_v_read (f : arg12.view.ty.Contents (Elt F)) : arg12.view.read (Elt F) (arg12.view.writes (Elt F) f (startRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7).2.2.1) = addBand (i 1).val (heads (tableOf i) x0 x1 x2 x3 x4 x5 x6 x7).dv (broadcast S4x2048x64 (Scalar.ofBits .f32 0x00000000#32)) := by
  rw [start_v, loads_eq]
  exact startList_read (F := F) _ _ _ _ _
theorem start_tile_read (f : arg13.view.ty.Contents (Elt F)) : arg13.view.read (Elt F) (arg13.view.writes (Elt F) f (startRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7).2.2.2.1) = addTiles (heads (tableOf i) x0 x1 x2 x3 x4 x5 x6 x7).dsink (broadcast S4x8x128 (Scalar.ofBits .f32 0x00000000#32)) := by
  rw [start_tile, loads_eq]
  exact startTiles_read (F := F) _ _ _

end

section

variable (c : Dev nD) (i : grid0.Coords) (arg2 : Memref sig .tc .smem S16 .f32) (harg2 : arg2.IsWhole) (arg3 : Memref sig .tc .vmem S2x512x256 .f32) (harg3 : arg3.IsWhole) (arg4 : Memref sig .tc .vmem S4x4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S4x128x64 .bf16) (harg7 : arg7.IsWhole) (arg8 : Memref sig .tc .vmem S4x128x64 .bf16) (harg8 : arg8.IsWhole) (arg9 : Memref sig .tc .vmem S128x1024 .bf16) (harg9 : arg9.IsWhole) (arg10 : Memref sig .tc .vmem S4x4x128x64 .f32) (harg10 : arg10.IsWhole) (arg11 : Memref sig .tc .vmem S4x2048x64 .f32) (harg11 : arg11.IsWhole) (arg12 : Memref sig .tc .vmem S4x2048x64 .f32) (harg12 : arg12.IsWhole) (arg13 : Memref sig .tc .vmem S4x8x128 .f32) (harg13 : arg13.IsWhole) (hc0 : ¬first i) (hi : 1 ≤ (i 1).val)
    (x0 : Vec F S16 .f32) (x1 : Vec F S2x512x256 .f32) (x2 : Vec F S4x4x128x64 .bf16) (x3 : Vec F S4x128x64 .bf16) (x4 : Vec F S4x128x64 .bf16) (x5 : Vec F S4x128x64 .bf16) (x6 : Vec F S4x128x64 .bf16) (x7 : Vec F S128x1024 .bf16) (xo9 : Vec F S4x2048x64 .f32) (xo10 : Vec F S4x2048x64 .f32) (xo11 : Vec F S4x8x128 .f32)

theorem later_q_read (f : arg10.view.ty.Contents (Elt F)) : arg10.view.read (Elt F) (arg10.view.writes (Elt F) f (laterRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7 xo9 xo10 xo11).1) = qBlock (heads (tableOf i) x0 x1 x2 x3 x4 x5 x6 x7).dq := by
  rw [later_q, loads_eq]
  exact qList_read _ _ _
theorem later_k_read : arg11.view.read (Elt F) (arg11.view.writes (Elt F) (harg11.unread xo9) (laterRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7 xo9 xo10 xo11).2.1) = addBand (i 1).val (heads (tableOf i) x0 x1 x2 x3 x4 x5 x6 x7).dk xo9 := by
  rw [later_k, loads_eq]
  exact (laterList_read _ _ _ _).trans (by rw [harg11.read_unread])
theorem later_v_read : arg12.view.read (Elt F) (arg12.view.writes (Elt F) (harg12.unread xo10) (laterRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7 xo9 xo10 xo11).2.2.1) = addBand (i 1).val (heads (tableOf i) x0 x1 x2 x3 x4 x5 x6 x7).dv xo10 := by
  rw [later_v, loads_eq]
  exact (laterList_read _ _ _ _).trans (by rw [harg12.read_unread])
theorem later_tile_read (f : arg13.view.ty.Contents (Elt F)) : arg13.view.read (Elt F) (arg13.view.writes (Elt F) f (laterRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7 xo9 xo10 xo11).2.2.2.1) = addTiles (heads (tableOf i) x0 x1 x2 x3 x4 x5 x6 x7).dsink xo11 := by
  rw [later_tile, loads_eq]
  exact (laterTiles_read _ _ _ _).trans (by rw [harg13.read_unread])

end

/-! ## The proof data -/

/-- The proof data: each input's buffer keeps its block, each output's holds the gradients above. -/
def data : (p : Fin 1) → (c : Dev nD) → Dat τ (Elt F) Unit ℕ (UR sig nD τ) ℕ (cfgs p) c := fun _ c =>
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => iblk m c 3 t
      | ⟨4, _⟩ => iblk m c 4 t
      | ⟨5, _⟩ => iblk m c 5 t
      | ⟨6, _⟩ => iblk m c 6 t
      | ⟨7, _⟩ => iblk m c 7 t
      | ⟨8, _⟩ => qBlock (headsAt m c t).dq
      | ⟨9, _⟩ => keysAt m c t.val t.isLt
      | ⟨10, _⟩ => valuesAt m c t.val t.isLt
      | ⟨11, _⟩ => tilesAt m c t.val t.isLt
    Φ := fun _ => Pipeline.ΦA spec0 c
    q := fun w => Pipeline.shareOf spec0 w
    owed := fun _ => 0 }

theorem data_A (c : Dev nD) (w : Fin cfg0.W) : (data m 0 c).A w = V m c (Pipeline.arrRef spec0 w) := by dsimp only [data]
theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) : (data m 0 c).after 5 t = iblk m c 5 t := by dsimp only [data]
theorem after_6 (c : Dev nD) (t : Fin cfg0.N) : (data m 0 c).after 6 t = iblk m c 6 t := by dsimp only [data]
theorem after_7 (c : Dev nD) (t : Fin cfg0.N) : (data m 0 c).after 7 t = iblk m c 7 t := by dsimp only [data]
theorem after_8 (c : Dev nD) (t : Fin cfg0.N) : (data m 0 c).after 8 t = qBlock (headsAt m c t).dq := by dsimp only [data]
theorem after_9 (c : Dev nD) (t : Fin cfg0.N) : (data m 0 c).after 9 t = keysAt m c t.val t.isLt := by dsimp only [data]
theorem after_10 (c : Dev nD) (t : Fin cfg0.N) : (data m 0 c).after 10 t = valuesAt m c t.val t.isLt := by dsimp only [data]
theorem after_11 (c : Dev nD) (t : Fin cfg0.N) : (data m 0 c).after 11 t = tilesAt m c t.val t.isLt := by dsimp only [data]
theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d
theorem before_4 (c : Dev nD) (t : Fin cfg0.N) (d) : (data m 0 c).before 4 t d = iblk m c 4 t :=
  before0_4_of m (data m 0 c) (data_A m c 4) (after_4 m c) t d
theorem before_5 (c : Dev nD) (t : Fin cfg0.N) (d) : (data m 0 c).before 5 t d = iblk m c 5 t :=
  before0_5_of m (data m 0 c) (data_A m c 5) (after_5 m c) t d
theorem before_6 (c : Dev nD) (t : Fin cfg0.N) (d) : (data m 0 c).before 6 t d = iblk m c 6 t :=
  before0_6_of m (data m 0 c) (data_A m c 6) (after_6 m c) t d
theorem before_7 (c : Dev nD) (t : Fin cfg0.N) (d) : (data m 0 c).before 7 t d = iblk m c 7 t :=
  before0_7_of m (data m 0 c) (data_A m c 7) (after_7 m c) t d
/-- Past the first point the buffer of window 9 holds what the point before left. -/
theorem kept_9 (c : Dev nD) (t : Fin cfg0.N) (h : ¬t.val % 16 = 0) (d) :
    (data m 0 c).before 9 t d = keysAt m c (t.val - 1) (Nat.lt_of_le_of_lt (Nat.sub_le _ _) t.isLt) := by
  have ht : t.val < 16 := lt_of_lt_of_eq t.isLt (show cfg0.N = 16 from N_0)
  rw [Dat.before_out_kept _ 9 rfl t (by omega) (Bool.eq_false_iff.mpr fun e => by have := (flush0_9 _).mp e; dsimp only at this; omega) (fun _ => rfl) (fun _ _ => rfl)]
  dsimp only [data]
/-- Past the first point the buffer of window 10 holds what the point before left. -/
theorem kept_10 (c : Dev nD) (t : Fin cfg0.N) (h : ¬t.val % 16 = 0) (d) :
    (data m 0 c).before 10 t d = valuesAt m c (t.val - 1) (Nat.lt_of_le_of_lt (Nat.sub_le _ _) t.isLt) := by
  have ht : t.val < 16 := lt_of_lt_of_eq t.isLt (show cfg0.N = 16 from N_0)
  rw [Dat.before_out_kept _ 10 rfl t (by omega) (Bool.eq_false_iff.mpr fun e => by have := (flush0_10 _).mp e; dsimp only at this; omega) (fun _ => rfl) (fun _ _ => rfl)]
  dsimp only [data]
/-- Past the first point the buffer of window 11 holds what the point before left. -/
theorem kept_11 (c : Dev nD) (t : Fin cfg0.N) (h : ¬t.val % 16 = 0) (d) :
    (data m 0 c).before 11 t d = tilesAt m c (t.val - 1) (Nat.lt_of_le_of_lt (Nat.sub_le _ _) t.isLt) := by
  have ht : t.val < 16 := lt_of_lt_of_eq t.isLt (show cfg0.N = 16 from N_0)
  rw [Dat.before_out_kept _ 11 rfl t (by omega) (Bool.eq_false_iff.mpr fun e => by have := (flush0_11 _).mp e; dsimp only at this; omega) (fun _ => rfl) (fun _ _ => rfl)]
  dsimp only [data]

/-! ## The body at a point -/

/-- What a point starts from. -/
def pre (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d))
    ∗ (∃ d, owns (c : Thread nD τ) (win0_4.stage (cfg0.slots t 4)) fullShare ((data m 0 c).before 4 t d))
    ∗ (∃ d, owns (c : Thread nD τ) (win0_5.stage (cfg0.slots t 5)) fullShare ((data m 0 c).before 5 t d))
    ∗ (∃ d, owns (c : Thread nD τ) (win0_6.stage (cfg0.slots t 6)) fullShare ((data m 0 c).before 6 t d))
    ∗ (∃ d, owns (c : Thread nD τ) (win0_7.stage (cfg0.slots t 7)) fullShare ((data m 0 c).before 7 t d))
    ∗ (∃ d, owns (c : Thread nD τ) (win0_8.stage (cfg0.slots t 8)) fullShare ((data m 0 c).before 8 t d))
    ∗ (∃ d, owns (c : Thread nD τ) (win0_9.stage (cfg0.slots t 9)) fullShare ((data m 0 c).before 9 t d))
    ∗ (∃ d, owns (c : Thread nD τ) (win0_10.stage (cfg0.slots t 10)) fullShare ((data m 0 c).before 10 t d))
    ∗ (∃ d, owns (c : Thread nD τ) (win0_11.stage (cfg0.slots t 11)) fullShare ((data m 0 c).before 11 t d)))

/-- What a point leaves. -/
def post (c : Dev nD) (t : Fin cfg0.N) : sProp 𝕄 :=
  iprop((data m 0 c).Φ t.succ ∗ (data m 0 c).owesAt () t.succ
    ∗ owns (c : Thread nD τ) (win0_0.stage (cfg0.slots t 0)) fullShare ((data m 0 c).after 0 t)
    ∗ owns (c : Thread nD τ) (win0_1.stage (cfg0.slots t 1)) fullShare ((data m 0 c).after 1 t)
    ∗ owns (c : Thread nD τ) (win0_2.stage (cfg0.slots t 2)) fullShare ((data m 0 c).after 2 t)
    ∗ owns (c : Thread nD τ) (win0_3.stage (cfg0.slots t 3)) fullShare ((data m 0 c).after 3 t)
    ∗ owns (c : Thread nD τ) (win0_4.stage (cfg0.slots t 4)) fullShare ((data m 0 c).after 4 t)
    ∗ owns (c : Thread nD τ) (win0_5.stage (cfg0.slots t 5)) fullShare ((data m 0 c).after 5 t)
    ∗ owns (c : Thread nD τ) (win0_6.stage (cfg0.slots t 6)) fullShare ((data m 0 c).after 6 t)
    ∗ owns (c : Thread nD τ) (win0_7.stage (cfg0.slots t 7)) fullShare ((data m 0 c).after 7 t)
    ∗ owns (c : Thread nD τ) (win0_8.stage (cfg0.slots t 8)) fullShare ((data m 0 c).after 8 t)
    ∗ owns (c : Thread nD τ) (win0_9.stage (cfg0.slots t 9)) fullShare ((data m 0 c).after 9 t)
    ∗ owns (c : Thread nD τ) (win0_10.stage (cfg0.slots t 10)) fullShare ((data m 0 c).after 10 t)
    ∗ owns (c : Thread nD τ) (win0_11.stage (cfg0.slots t 11)) fullShare ((data m 0 c).after 11 t))

set_option maxHeartbeats 4000000 in
/-- The body at a point: the first point starts the sums, every later one adds to what the point before left. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [show (data m 0 c).Φ t.succ = (data m 0 c).Φ t.castSucc from rfl, show (data m 0 c).owesAt () t.succ = (data m 0 c).owesAt () t.castSucc from rfl, after_0, after_1, after_2, after_3, after_4, after_5, after_6, after_7, after_8, after_9, after_10, after_11]
  have ht : t.val < 16 := lt_of_lt_of_eq t.isLt (show cfg0.N = 16 from N_0)
  by_cases h0 : t.val % 16 = 0
  · have hz : t.val = 0 := by omega
    unfold keysAt valuesAt tilesAt
    rw [carried_first _ _ t hz, carried_first _ _ t hz, carried_first _ _ t hz]
    unfold headsAt
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((startRun c (grid0.coords t) _ _ _ _ _ _ _ _ _ _ _ _ _ _ _ _ _ _ _ _ _ _ _ _ ((first_iff t).mpr h0) (by rw [block_of]; omega) (iblk m c 0 t) (iblk m c 1 t) (iblk m c 2 t) (iblk m c 3 t) (iblk m c 4 t) (iblk m c 5 t) (iblk m c 6 t) (iblk m c 7 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact start_q_read _ _ _ _ _ _ _ _ _ _ _ _ _ _ _ _ _ _ _ _ _ _ _ _ _ _ _ _ _ _ _ _ _ _ _ _ _
    isplitl [H9]
    · unfold owns; iexists _; isplitr
      swap; · iexact H9
      ipureintro; exact start_k_read _ _ _ _ _ _ _ _ _ _ _ _ _ _ _ _ _ _ _ _ _ _ _ _ _ _ _ _ _ _ _ _ _ _ _ _ _
    isplitl [H10]
    · unfold owns; iexists _; isplitr
      swap; · iexact H10
      ipureintro; exact start_v_read _ _ _ _ _ _ _ _ _ _ _ _ _ _ _ _ _ _ _ _ _ _ _ _ _ _ _ _ _ _ _ _ _ _ _ _ _
    unfold owns; iexists _; isplitr
    swap; · iexact H11
    ipureintro; exact start_tile_read _ _ _ _ _ _ _ _ _ _ _ _ _ _ _ _ _ _ _ _ _ _ _ _ _ _ _ _ _ _ _ _ _ _ _ _ _
  · have hz : t.val ≠ 0 := by omega
    simp only [kept_9 m c t h0, kept_10 m c t h0, kept_11 m c t h0]
    rw [show keysAt m c t.val t.isLt = addBand ((grid0.coords t) 1).val (headsAt m c t).dk (keysAt m c (t.val - 1) (Nat.lt_of_le_of_lt (Nat.sub_le _ _) t.isLt)) from carried_later _ _ t hz,
      show valuesAt m c t.val t.isLt = addBand ((grid0.coords t) 1).val (headsAt m c t).dv (valuesAt m c (t.val - 1) (Nat.lt_of_le_of_lt (Nat.sub_le _ _) t.isLt)) from carried_later _ _ t hz,
      show tilesAt m c t.val t.isLt = addTiles (headsAt m c t).dsink (tilesAt m c (t.val - 1) (Nat.lt_of_le_of_lt (Nat.sub_le _ _) t.isLt)) from carried_later _ _ t hz]
    unfold headsAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((laterRun c (grid0.coords t) _ _ _ _ _ _ _ _ _ _ _ _ _ _ _ _ _ _ _ _ _ _ _ _ (fun e => h0 ((first_iff t).mp e)) (by rw [block_of]; omega) (iblk m c 0 t) (iblk m c 1 t) (iblk m c 2 t) (iblk m c 3 t) (iblk m c 4 t) (iblk m c 5 t) (iblk m c 6 t) (iblk m c 7 t) _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexact H10
    isplitl [H11]; · iexact H11
    iintro ⟨H0, H1, H2, H3, H4, H5, H6, H7, ⟨%e8, H8⟩, H9, H10, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact later_q_read _ _ _ _ _ _ _ _ _ _ _ _ _ _ _ _ _ _ _ _ _ _ _ _ _ _ _ _ _ _ _ _ _ _ _ _ _ _ _ _
    isplitl [H9]
    · unfold owns; iexists _; isplitr
      swap; · iexact H9
      ipureintro; exact later_k_read _ _ _ _ _ _ _ _ _ _ _ _ _ _ _ _ _ _ _ _ _ _ _ _ _ _ _ _ _ _ _ _ _ _ _ _ _ _ _
    isplitl [H10]
    · unfold owns; iexists _; isplitr
      swap; · iexact H10
      ipureintro; exact later_v_read _ _ _ _ _ _ _ _ _ _ _ _ _ _ _ _ _ _ _ _ _ _ _ _ _ _ _ _ _ _ _ _ _ _ _ _ _ _ _
    unfold owns; iexists _; isplitr
    swap; · iexact H11
    ipureintro; exact later_tile_read _ _ _ _ _ _ _ _ _ _ _ _ _ _ _ _ _ _ _ _ _ _ _ _ _ _ _ _ _ _ _ _ _ _ _ _ _ _ _ _

theorem body_row (t : Fin cfg0.N) : defs₀ (F := F) .tc cfg0.body (cfg0.bodyArgs t (cfg0.slots t)) = bodyAt0 t := by
  unfold defs₀; rw [Defs.onTc_tc]

theorem body_meets (c : Dev nD) : BodyObligation (data (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
/-- Every fair run ends, with the arrays at what the proof data gives and every counter at zero. -/
theorem run_and_counters : θ_run defs (onTc (τ := τ) (main (F := F))) (s₀ m ρ) (fun r => (Pipeline.FramePost cfgs (data m) 0 (V m)) r ∧ r.2.sem = fun _ => 0) :=
  Pipeline.θ_run_frame_shared (Q' := _) cfgs (data m) (0 : Fin 1) launch₀0 defs₀ Variants.none m ρ main
    (hbody := fun c => (body_meets m c).loose) (hq := fun _ _ _ => rfl)
    (howed := fun _ _ => rfl) (V := V m) (hmain := hmain m Variants.none) (hA := data_A m) (hΦ := fun _ _ => rfl)

/-- The same without the counters. -/
theorem run_arrays : θ_run defs (onTc (τ := τ) (main (F := F))) (s₀ m ρ) (Pipeline.FramePost cfgs (data m) 0 (V m)) :=
  (θ_run defs _ _).mono (fun _ h => h.1) (run_and_counters m ρ)

/-- The arguments end as they began and every counter at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (data m) (data_A m) (run_arrays m ρ)) ((θ_run defs _ _).mono (fun _ h => h.2) (run_and_counters m ρ))

end Cert.KernelIdeal.Grad

end
-- ==== Proof.PrintedStartLists.lean ====
module

public import proofs.«01_k».proof.Proof.PrintedStart
public import proofs.«01_k».proof.Proof.PrintedLists

@[expose] public section

set_option maxRecDepth 16384

noncomputable section

namespace Cert.Kernel.Grad

open Cert.Kernel Cert.Kernel.Gen
open Idealize.ShloMosaic Idealize.ShloMosaic.TcCoe Idealize.ShloMosaic.Tactic

variable {F : FTy → Type} [FloatOps F]

/-! # The stores of the first point's run are the lists -/

variable (c : Dev nD) (i : grid0.Coords) (arg2 : Memref sig .tc .smem S16 .f32) (harg2 : arg2.IsWhole) (arg3 : Memref sig .tc .vmem S2x512x256 .f32) (harg3 : arg3.IsWhole) (arg4 : Memref sig .tc .vmem S4x4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S4x128x64 .bf16) (harg7 : arg7.IsWhole) (arg8 : Memref sig .tc .vmem S4x128x64 .bf16) (harg8 : arg8.IsWhole) (arg9 : Memref sig .tc .vmem S128x1024 .bf16) (harg9 : arg9.IsWhole) (arg10 : Memref sig .tc .vmem S4x4x128x64 .f32) (harg10 : arg10.IsWhole) (arg11 : Memref sig .tc .vmem S4x2048x64 .f32) (harg11 : arg11.IsWhole) (arg12 : Memref sig .tc .vmem S4x2048x64 .f32) (harg12 : arg12.IsWhole) (arg13 : Memref sig .tc .vmem S4x8x128 .f32) (harg13 : arg13.IsWhole) (hc0 : first i) (hi : (i 1).val = 0)
    (x0 : Vec F S16 .f32) (x1 : Vec F S2x512x256 .f32) (x2 : Vec F S4x4x128x64 .bf16) (x3 : Vec F S4x128x64 .bf16) (x4 : Vec F S4x128x64 .bf16) (x5 : Vec F S4x128x64 .bf16) (x6 : Vec F S4x128x64 .bf16) (x7 : Vec F S128x1024 .bf16)

set_option maxHeartbeats 4000000 in
/-- The stores of the queries' gradient. -/
theorem start_q : (startRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7).1 = qList (loads i arg2 harg2 arg3 harg3 arg4 harg4 arg5 harg5 arg6 harg6 arg7 harg7 arg8 harg8 arg9 harg9 x0 x1 x2 x3 x4 x5 x6 x7).dq := by
  sl_kernel_rfl

set_option maxHeartbeats 4000000 in
/-- The stores of the keys' gradient. -/
theorem start_k : (startRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7).2.1 = startList arg11 arg11.view.junk i (loads i arg2 harg2 arg3 harg3 arg4 harg4 arg5 harg5 arg6 harg6 arg7 harg7 arg8 harg8 arg9 harg9 x0 x1 x2 x3 x4 x5 x6 x7).dk := by
  sl_kernel_rfl

set_option maxHeartbeats 4000000 in
/-- The stores of the values' gradient. -/
theorem start_v : (startRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7).2.2.1 = startList arg12 arg12.view.junk i (loads i arg2 harg2 arg3 harg3 arg4 harg4 arg5 harg5 arg6 harg6 arg7 harg7 arg8 harg8 arg9 harg9 x0 x1 x2 x3 x4 x5 x6 x7).dv := by
  sl_kernel_rfl

set_option maxHeartbeats 4000000 in
/-- The stores of the sinks' gradient. -/
theorem start_tile : (startRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7).2.2.2.1 = startTiles arg13 (loads i arg2 harg2 arg3 harg3 arg4 harg4 arg5 harg5 arg6 harg6 arg7 harg7 arg8 harg8 arg9 harg9 x0 x1 x2 x3 x4 x5 x6 x7).dsink := by
  sl_kernel_rfl

end Cert.Kernel.Grad

end
-- ==== Proof.PrintedLaterLists.lean ====
module

public import proofs.«01_k».proof.Proof.PrintedLater
public import proofs.«01_k».proof.Proof.PrintedLists

@[expose] public section

set_option maxRecDepth 16384

noncomputable section

namespace Cert.Kernel.Grad

open Cert.Kernel Cert.Kernel.Gen
open Idealize.ShloMosaic Idealize.ShloMosaic.TcCoe Idealize.ShloMosaic.Tactic

variable {F : FTy → Type} [FloatOps F]

/-! # The stores of the later points' run are the lists -/

variable (c : Dev nD) (i : grid0.Coords) (arg2 : Memref sig .tc .smem S16 .f32) (harg2 : arg2.IsWhole) (arg3 : Memref sig .tc .vmem S2x512x256 .f32) (harg3 : arg3.IsWhole) (arg4 : Memref sig .tc .vmem S4x4x128x64 .bf16) (harg4 : arg4.IsWhole) (arg5 : Memref sig .tc .vmem S4x128x64 .bf16) (harg5 : arg5.IsWhole) (arg6 : Memref sig .tc .vmem S4x128x64 .bf16) (harg6 : arg6.IsWhole) (arg7 : Memref sig .tc .vmem S4x128x64 .bf16) (harg7 : arg7.IsWhole) (arg8 : Memref sig .tc .vmem S4x128x64 .bf16) (harg8 : arg8.IsWhole) (arg9 : Memref sig .tc .vmem S128x1024 .bf16) (harg9 : arg9.IsWhole) (arg10 : Memref sig .tc .vmem S4x4x128x64 .f32) (harg10 : arg10.IsWhole) (arg11 : Memref sig .tc .vmem S4x2048x64 .f32) (harg11 : arg11.IsWhole) (arg12 : Memref sig .tc .vmem S4x2048x64 .f32) (harg12 : arg12.IsWhole) (arg13 : Memref sig .tc .vmem S4x8x128 .f32) (harg13 : arg13.IsWhole) (hc0 : ¬first i) (hi : 1 ≤ (i 1).val)
    (x0 : Vec F S16 .f32) (x1 : Vec F S2x512x256 .f32) (x2 : Vec F S4x4x128x64 .bf16) (x3 : Vec F S4x128x64 .bf16) (x4 : Vec F S4x128x64 .bf16) (x5 : Vec F S4x128x64 .bf16) (x6 : Vec F S4x128x64 .bf16) (x7 : Vec F S128x1024 .bf16) (xo9 : Vec F S4x2048x64 .f32) (xo10 : Vec F S4x2048x64 .f32) (xo11 : Vec F S4x8x128 .f32)

set_option maxHeartbeats 4000000 in
/-- The stores of the queries' gradient. -/
theorem later_q : (laterRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7 xo9 xo10 xo11).1 = qList (loads i arg2 harg2 arg3 harg3 arg4 harg4 arg5 harg5 arg6 harg6 arg7 harg7 arg8 harg8 arg9 harg9 x0 x1 x2 x3 x4 x5 x6 x7).dq := by
  sl_kernel_rfl

set_option maxHeartbeats 4000000 in
/-- The stores of the keys' gradient. -/
theorem later_k : (laterRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7 xo9 xo10 xo11).2.1 = laterList arg11 (harg11.unread xo9) i (loads i arg2 harg2 arg3 harg3 arg4 harg4 arg5 harg5 arg6 harg6 arg7 harg7 arg8 harg8 arg9 harg9 x0 x1 x2 x3 x4 x5 x6 x7).dk := by
  sl_kernel_rfl

set_option maxHeartbeats 4000000 in
/-- The stores of the values' gradient. -/
theorem later_v : (laterRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7 xo9 xo10 xo11).2.2.1 = laterList arg12 (harg12.unread xo10) i (loads i arg2 harg2 arg3 harg3 arg4 harg4 arg5 harg5 arg6 harg6 arg7 harg7 arg8 harg8 arg9 harg9 x0 x1 x2 x3 x4 x5 x6 x7).dv := by
  sl_kernel_rfl

set_option maxHeartbeats 4000000 in
/-- The stores of the sinks' gradient. -/
theorem later_tile : (laterRun c i arg2 harg2 arg3 harg3 arg4 harg4 arg5 harg5 arg6 harg6 arg7 harg7 arg8 harg8 arg9 harg9 arg10 harg10 arg11 harg11 arg12 harg12 arg13 harg13 hc0 hi x0 x1 x2 x3 x4 x5 x6 x7 xo9 xo10 xo11).2.2.2.1 = laterTiles arg13 (loads i arg2 harg2 arg3 harg3 arg4 harg4 arg5 harg5 arg6 harg6 arg7 harg7 arg8 harg8 arg9 harg9 x0 x1 x2 x3 x4 x5 x6 x7).dsink (harg13.unread xo11) := by
  sl_kernel_rfl

end Cert.Kernel.Grad

end
-- ==== Proof.Frames.lean ====
module

public import proofs.«01_k».proof.Defs
public import proofs.«01_k».proof.Proof.Gen.ReferenceIdeal.Run
public import proofs.«01_k».proof.Proof.Carried
public import proofs.«01_k».proof.Proof.PrintedCarried

@[expose] public section

noncomputable section

namespace Cert.Proof

open Idealize.ShloMosaic Idealize.SL.Sem

/-! # The frames -/

theorem frame_ideal : Cert.quiescent_KernelIdeal (hKernelIdeal := Cert.KernelIdeal.Gen.facts) := fun m ρ _ =>
  Cert.KernelIdeal.Grad.args_kept (F := Ideal) m ρ

theorem frame_kernel : Cert.quiescent_Kernel (hKernel := Cert.Kernel.Gen.facts) := fun m ρ _ =>
  Cert.Kernel.Grad.args_kept (F := Bits) m ρ

/-- The reference has host operations only, and no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem preserved : Cert.preserves_Kernel_KernelIdeal := trivial

end Cert.Proof

end
-- ==== Proof.InWeight.lean ====
module

public import proofs.«01_k».proof.Defs
public import proofs.«01_k».proof.Proof.Gen.Kernel3Ideal.Value
public import proofs.«01_k».proof.Proof.Gen.Reference3Ideal.Run
public import proofs.«01_k».proof.Proof.Gen.Kernel3.Frame
public import Idealize.ShloMosaic.Lib.Pointwise
public import Idealize.ShloMosaic.Lib.Claim
public import Idealize.ShloMosaic.Lib.Pipeline.ValueKit

@[expose] public section

set_option maxRecDepth 16384

noncomputable section

namespace Cert.Kernel3Ideal.Product

open Cert.Kernel3Ideal Cert.Kernel3Ideal.Gen
open Idealize.ShloMosaic Idealize.ShloMosaic.TcCoe Idealize.SL.Sem
open Idealize.ShloMosaic.Pipeline (Dat)

/-! # The feed-forward's input projection's gradient to its weight: the normed rows transposed times the cotangent -/

/-- The rows normed: each row times the reciprocal root of its mean square, and times the gain. -/
def normed (x : FVec Ideal S2048x1024 .f32) (g : FVec Ideal S1x1024 .f32) : FVec Ideal S2048x1024 .f32 :=
  mulf (mulf x (broadcastInDim S2048x1024 ![0, 1] bcast_S2048x1_S2048x1024_0_1 (Host.rsqrt (addf (Host.divf (broadcastInDim S2048x1 ![0] bcast_S2048_S2048x1_0
      (Host.reduceAdd (mulf x x) (constant S_ .f32 0x00000000#32) reducesTo_S2048x1024_S2048_d1 h_S_)) (broadcastInDim S2048x1 ![] bcast_S_S2048x1 (constant S_ .f32 0x44800000#32)))
      (broadcastInDim S2048x1 ![] bcast_S_S2048x1 (constant S_ .f32 0x3727C5AC#32))))))
    (broadcastInDim S2048x1024 ![0, 1] bcast_S1x1024_S2048x1024_0_1 g)

/-- The product: each of the normed rows' columns against each of the cotangent's, over the tokens; the cotangent's columns lie in four pieces. -/
def product (h : FVec Ideal S2048x1024 .f32) (du : FVec Ideal S2x2048x2816 .bf16) : FVec Ideal S4x1024x1408 .bf16 := fun y =>
  (∑ k : Fin 2048, h (ix2 k (y 1)) * du (ix3 ⟨(y 0).val / 2, by have : (y 0).val < 4 := (y 0).isLt; omega⟩ k
    ⟨1408 * ((y 0).val % 2) + (y 2).val, by have : (y 2).val < 1408 := (y 2).isLt; omega⟩) : EReal)

/-- One block of the product, from the two blocks the body loads. -/
theorem block_product (x : Vec Ideal S2048x1024 .bf16) (w : Vec Ideal S1x2048x1408 .bf16) (z : Fin 1) (a : Fin 1024) (b : Fin 1408) :
    k0_pay1 x w (ix3 z a b) = (∑ k : Fin 2048, x (ix2 k a) * w (ix3 0 k b) : EReal) := by
  pointwise [k0_pay1]

/-- The body loads whole blocks and stores one whole block. -/
theorem out_eq (x : Vec Ideal S2048x1024 .bf16) (w : Vec Ideal S1x2048x1408 .bf16) : out0_2 x w = k0_pay1 x w := by
  have hz : (![0, 0] : Fin 2 → Nat) = fun _ => 0 := funext fun a => by fin_cases a <;> rfl
  have hz' : (![0, 0, 0] : Fin 3 → Nat) = fun _ => 0 := funext fun a => by fin_cases a <;> rfl
  unfold out0_2
  rw [View.canon_unit_zero (S := S1x1024x1408) hz', View.ld_unit_zero (S := S2048x1024) hz, View.ld_unit_zero (S := S1x2048x1408) hz']

variable (m : (ℓ : Loc nD τ sig) → Buf (Elt Ideal) ℓ) (c : Dev nD)

/-! The arguments, as arrays of reals. -/
abbrev arg0 : FVec Ideal S2048x1024 .f32 := m ((c.tc : Thread nD τ).loc main_arg0)
abbrev arg1 : FVec Ideal S1x1024 .f32 := m ((c.tc : Thread nD τ).loc main_arg1)
abbrev arg2 : FVec Ideal S2x2048x2816 .bf16 := m ((c.tc : Thread nD τ).loc main_arg2)

theorem idx : ∀ t : Fin cfg0.N, win0_0.index t = ![0, 0] ∧ win0_1.index t = ![t.val / 2, 0, t.val % 2] ∧ win0_2.index t = ![t.val, 0, 0] :=
  (by decide +kernel : ∀ t : Fin grid0.N, _)

/-- The host's lines leave the normed rows, whose rounding changes no real number. -/
theorem rows_eq (i : S2048x1024.Idx) : V m c main_v12 i = normed (arg0 m c) (arg1 m c) i := by
  have e : (V m c main_v12 : FVec Ideal S2048x1024 .bf16) = truncf .bf16 (normed (arg0 m c) (arg1 m c)) bitsLt_bf16_f32 := by
    unfold V normed
    after_results <;> rfl
  rw [e]
  rfl

theorem points (t : Fin cfg0.N) : t.val < 4 := lt_of_lt_of_eq t.isLt (show cfg0.N = 4 from N_0)

theorem block_0 (t : Fin cfg0.N) (k : Fin 2048) (a : Fin 1024) : iblk m c 0 t (ix2 k a) = V m c main_v12 (ix2 k a) := by
  blk_ext [iblk, (idx t).1]
theorem block_1 (t : Fin cfg0.N) (z : Fin 1) (k : Fin 2048) (b : Fin 1408) :
    iblk m c 1 t (ix3 z k b) = V m c main_arg2 (ix3 ⟨t.val / 2, by have := points t; omega⟩ k ⟨1408 * (t.val % 2) + b.val, by omega⟩) := by
  blk_ext [iblk, (idx t).2.1]

/-- The result array after the run. -/
theorem final : (dats m 0 c).arrAt 2 cfg0.N = product (normed (arg0 m c) (arg1 m c)) (arg2 m c) := by
  refine (dats m 0 c).arrAt_eq_of_covers 2 _ (by decide +kernel) fun t _ y => ?_
  blk_simp
  rw [after0_2, out_eq]
  have hi := (idx t).2.2
  have block : ∀ (y : S1x1024x1408.Idx) (z : S4x1024x1408.Idx), (z 0).val = t.val + (y 0).val → (z 1).val = (y 1).val → (z 2).val = (y 2).val →
      k0_pay1 (iblk m c 0 t) (iblk m c 1 t) y
        = product (normed (arg0 m c) (arg1 m c)) (arg2 m c) z := by
    intro y z h0 h1 h2
    obtain ⟨u, a, b, rfl⟩ : ∃ (u : Fin 1) (a : Fin 1024) (b : Fin 1408), y = ix3 u a b := ⟨y 0, y 1, y 2, (ix3_eta y).symm⟩
    obtain ⟨p, a', b', rfl⟩ : ∃ (u : Fin 4) (a : Fin 1024) (b : Fin 1408), z = ix3 u a b := ⟨z 0, z 1, z 2, (ix3_eta z).symm⟩
    replace h0 : p.val = t.val + u.val := h0
    replace h1 : a'.val = a.val := h1
    replace h2 : b'.val = b.val := h2
    obtain rfl := Fin.ext h1
    obtain rfl := Fin.ext h2
    have h0' : p.val = t.val := by omega
    refine (block_product _ _ u a' b').trans ?_
    show _ = (∑ k : Fin 2048, normed (arg0 m c) (arg1 m c) (ix2 k a')
      * (arg2 m c) (ix3 ⟨p.val / 2, _⟩ k ⟨1408 * (p.val % 2) + b'.val, _⟩) : EReal)
    refine Finset.sum_congr rfl fun k _ => ?_
    rw [block_0, block_1, rows_eq, V_main_arg2]
    simp only [h0']
  refine block y _ ?_ ?_ ?_ <;> simp [hi]

/-- The cotangent's two halves side by side. -/
theorem halves_at (du : FVec Ideal S2x2048x2816 .bf16) (k : Fin 2048) (n : Fin 5632) :
    (concatenate Cert.Reference3Ideal.S2048x5632 1 [⟨Cert.Reference3Ideal.S2048x2816, (shapeCast Cert.Reference3Ideal.S2048x2816 (extractStridedSlice Cert.Reference3Ideal.S1x2048x2816 ![0, 0, 0] du Cert.Reference3Ideal.Facts₀.slices_S2x2048x2816_S1x2048x2816_0_0_0) Cert.Reference3Ideal.Facts₀.shapeCasts_S1x2048x2816_S2048x2816)⟩,
      ⟨Cert.Reference3Ideal.S2048x2816, (shapeCast Cert.Reference3Ideal.S2048x2816 (extractStridedSlice Cert.Reference3Ideal.S1x2048x2816 ![1, 0, 0] du Cert.Reference3Ideal.Facts₀.slices_S2x2048x2816_S1x2048x2816_1_0_0) Cert.Reference3Ideal.Facts₀.shapeCasts_S1x2048x2816_S2048x2816)⟩]
      Cert.Reference3Ideal.Facts₀.concatenates_S2048x2816_S2048x2816_S2048x5632_d1 : FVec Ideal Cert.Reference3Ideal.S2048x5632 .bf16) (ix2 k n)
      = du (ix3 ⟨n.val / 2816, by omega⟩ k ⟨n.val % 2816, by omega⟩) := by
  pointwise
  by_cases hn : n.val < 2816
  · simp [hn, Nat.div_eq_of_lt hn, Nat.mod_eq_of_lt hn]
  · have e1 : n.val / 2816 = 1 := by omega
    have e2 : n.val % 2816 = n.val - 2816 := by omega
    simp [hn, e1, e2]

/-- The reference's product, its result's columns taken apart into four pieces, from any array of the cotangent's columns. -/
theorem pieces_at (D : FVec Ideal Cert.Reference3Ideal.S2048x5632 .bf16) (h : FVec Ideal S2048x1024 .f32) (p : Fin 4) (i : Fin 1024) (j : Fin 1408) :
    (truncf .bf16 (transpose Cert.Reference3Ideal.S4x1024x1408 [1, 0, 2] (shapeCast Cert.Reference3Ideal.S1024x4x1408 (transpose Cert.Reference3Ideal.S1024x5632 [1, 0]
      (Host.dotGeneral Cert.Reference3Ideal.dot_S2048x5632_S2048x1024_S5632x1024_0_0_1_1_n_n none (extf .f32 D Cert.Reference3Ideal.Facts₀.bitsLt_bf16_f32) h)
      Cert.Reference3Ideal.Facts₀.transposes_S5632x1024_S1024x5632_1_0) Cert.Reference3Ideal.Facts₀.shapeCasts_S1024x5632_S1024x4x1408)
      Cert.Reference3Ideal.Facts₀.transposes_S1024x4x1408_S4x1024x1408_1_0_2) Cert.Reference3Ideal.Facts₀.bitsLt_bf16_f32 : FVec Ideal S4x1024x1408 .bf16) (ix3 p i j)
      = (∑ k : Fin 2048, D (ix2 k ⟨1408 * p.val + j.val, by omega⟩) * h (ix2 k i) : EReal) := by
  pointwise
  simp only [Nat.mul_comm]

theorem reference_product (h : FVec Ideal S2048x1024 .f32) (du : FVec Ideal S2x2048x2816 .bf16) (p : Fin 4) (i : Fin 1024) (j : Fin 1408) (D : FVec Ideal Cert.Reference3Ideal.S2048x5632 .bf16)
    (hD : ∀ (k : Fin 2048) (n : Fin 5632), D (ix2 k n) = du (ix3 ⟨n.val / 2816, by omega⟩ k ⟨n.val % 2816, by omega⟩)) :
    (∑ k : Fin 2048, D (ix2 k ⟨1408 * p.val + j.val, by omega⟩) * h (ix2 k i) : EReal) = product h du (ix3 p i j) := by
  show _ = (∑ k : Fin 2048, h (ix2 k i) * du (ix3 ⟨p.val / 2, _⟩ k ⟨1408 * (p.val % 2) + j.val, _⟩) : EReal)
  refine Finset.sum_congr rfl fun k _ => ?_
  have e1 : (1408 * p.val + j.val) / 2816 = p.val / 2 := by omega
  have e2 : (1408 * p.val + j.val) % 2816 = 1408 * (p.val % 2) + j.val := by omega
  rw [hD, mul_comm]
  simp only [e1, e2]

/-! # The claims -/

theorem frame_ideal : Cert.quiescent_Kernel3Ideal (hKernel3Ideal := Cert.Kernel3Ideal.Gen.facts) := fun m ρ _ =>
  Cert.Kernel3Ideal.Gen.frame m ρ
theorem frame_kernel : Cert.quiescent_Kernel3 (hKernel3 := Cert.Kernel3.Gen.facts) := fun m ρ _ =>
  Cert.Kernel3.Gen.frame m ρ
theorem frame_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel's product and the reference's are one array. -/
theorem algebraic : @Cert.algebraic_Kernel3Ideal_Reference3Ideal Cert.Kernel3Ideal.Gen.facts Cert.Reference3Ideal.Gen.facts := by
  intro m g m' g' _ hagree
  refine ⟨fun c => product (normed (arg0 m c) (arg1 m c)) (arg2 m c),
    (θ_run defs _ _).mono (fun r h c => ⟨(h c).1.trans (final m c), (h c).2⟩) (Cert.Kernel3Ideal.Value.run_blocks (F := Ideal) m g),
    (θ_run Cert.Reference3Ideal.defs _ _).mono (fun r h c => ⟨(h c).1.trans ?_, (h c).2⟩) (Cert.Reference3Ideal.Value.run (F := Ideal) m' g')⟩
  obtain ⟨a0, a1, a2⟩ := hagree c
  rw [a0, a1, a2]
  funext y
  obtain ⟨p, i, j, rfl⟩ : ∃ (u : Fin 4) (a : Fin 1024) (b : Fin 1408), y = ix3 u a b := ⟨y 0, y 1, y 2, (ix3_eta y).symm⟩
  exact (pieces_at _ _ p i j).trans (reference_product _ _ p i j _ (halves_at _))

end Cert.Kernel3Ideal.Product

end
-- ==== Proof.DownInput.lean ====
module

public import proofs.«01_k».proof.Defs
public import proofs.«01_k».proof.Proof.Gen.Kernel4Ideal.Value
public import proofs.«01_k».proof.Proof.Gen.Reference4Ideal.Run
public import proofs.«01_k».proof.Proof.Gen.Kernel4.Frame
public import Idealize.ShloMosaic.Lib.Pointwise
public import Idealize.ShloMosaic.Lib.Claim
public import Idealize.ShloMosaic.Lib.Pipeline.ValueKit

@[expose] public section

set_option maxRecDepth 16384

noncomputable section

namespace Cert.Kernel4Ideal.Product

open Cert.Kernel4Ideal Cert.Kernel4Ideal.Gen
open Idealize.ShloMosaic Idealize.ShloMosaic.TcCoe Idealize.SL.Sem
open Idealize.ShloMosaic.Pipeline (Dat)

/-! # The down projection's gradient to its input: the cotangent times the transposed weight -/

/-- The product: each token's cotangent against each row of the weight. -/
def product (w : FVec Ideal S2816x1024 .f32) (dy : FVec Ideal S2048x1024 .f32) : FVec Ideal S2048x2816 .f32 := fun y =>
  (∑ k : Fin 1024, dy (ix2 (y 0) k) * w (ix2 (y 1) k) : EReal)

/-- One block of the product, from the two blocks the body loads. -/
theorem block_product (x : Vec Ideal S1024x1024 .f32) (w : Vec Ideal S1408x1024 .bf16) (a : Fin 1024) (b : Fin 1408) :
    k0_pay1 x w (ix2 a b) = (∑ k : Fin 1024, x (ix2 a k) * w (ix2 b k) : EReal) := by
  pointwise [k0_pay1]

/-- The body loads whole blocks and stores one whole block. -/
theorem out_eq (x : Vec Ideal S1024x1024 .f32) (w : Vec Ideal S1408x1024 .bf16) : out0_2 x w = k0_pay1 x w := by
  have hz : (![0, 0] : Fin 2 → Nat) = fun _ => 0 := funext fun a => by fin_cases a <;> rfl
  unfold out0_2
  rw [View.canon_unit_zero (S := S1024x1408) hz, View.ld_unit_zero (S := S1024x1024) hz, View.ld_unit_zero (S := S1408x1024) hz]

variable (m : (ℓ : Loc nD τ sig) → Buf (Elt Ideal) ℓ) (c : Dev nD)

/-! The arguments, as arrays of reals. -/
abbrev arg0 : FVec Ideal S2816x1024 .f32 := m ((c.tc : Thread nD τ).loc main_arg0)
abbrev arg1 : FVec Ideal S2048x1024 .f32 := m ((c.tc : Thread nD τ).loc main_arg1)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The weight is rounded on the host, which changes no real number. -/
theorem weight_eq (i : S2816x1024.Idx) : V m c main_v0 i = arg0 m c i := by
  have e : (V m c main_v0 : FVec Ideal S2816x1024 .bf16) = truncf .bf16 (arg0 m c) bitsLt_bf16_f32 := by
    unfold V
    after_results
  rw [e]
  rfl

theorem points (t : Fin cfg0.N) : t.val < 4 := lt_of_lt_of_eq t.isLt (show cfg0.N = 4 from N_0)

theorem block_0 (t : Fin cfg0.N) (a k : Fin 1024) :
    iblk m c 0 t (ix2 a k) = V m c main_arg1 (ix2 ⟨1024 * (t.val / 2) + a.val, by have := points t; omega⟩ k) := by
  blk_ext [iblk, (idx t).1]
theorem block_1 (t : Fin cfg0.N) (b : Fin 1408) (k : Fin 1024) :
    iblk m c 1 t (ix2 b k) = V m c main_v0 (ix2 ⟨1408 * (t.val % 2) + b.val, by omega⟩ k) := by
  blk_ext [iblk, (idx t).2.1]

/-- The result array after the run. -/
theorem final : (dats m 0 c).arrAt 2 cfg0.N = product (arg0 m c) (arg1 m c) := by
  refine (dats m 0 c).arrAt_eq_of_covers 2 _ (by decide +kernel) fun t _ y => ?_
  blk_simp
  rw [after0_2, out_eq]
  have hi := (idx t).2.2
  have block : ∀ (y : S1024x1408.Idx) (z : S2048x2816.Idx), (z 0).val = 1024 * (t.val / 2) + (y 0).val → (z 1).val = 1408 * (t.val % 2) + (y 1).val →
      k0_pay1 (iblk m c 0 t) (iblk m c 1 t) y = product (arg0 m c) (arg1 m c) z := by
    intro y z h0 h1
    obtain ⟨a, b, rfl⟩ : ∃ (a : Fin 1024) (b : Fin 1408), y = ix2 a b := ⟨y 0, y 1, (ix2_eta y).symm⟩
    obtain ⟨i, j, rfl⟩ : ∃ (i : Fin 2048) (j : Fin 2816), z = ix2 i j := ⟨z 0, z 1, (ix2_eta z).symm⟩
    replace h0 : i.val = 1024 * (t.val / 2) + a.val := h0
    replace h1 : j.val = 1408 * (t.val % 2) + b.val := h1
    refine (block_product _ _ a b).trans ?_
    show _ = (∑ k : Fin 1024, (arg1 m c) (ix2 i k) * (arg0 m c) (ix2 j k) : EReal)
    refine Finset.sum_congr rfl fun k _ => ?_
    rw [block_0, block_1, weight_eq, V_main_arg1]
    simp only [← h0, ← h1]
  refine block y _ ?_ ?_ <;> simp [hi, Nat.mul_comm]

theorem reference_product (w : FVec Ideal S2816x1024 .f32) (dy : FVec Ideal S2048x1024 .f32) :
    (Host.dotGeneral Cert.Reference4Ideal.dot_S2048x1024_S2816x1024_S2048x2816_1_1_0_0_n_n none dy w : FVec Ideal S2048x2816 .f32) = product w dy := by
  funext y
  obtain ⟨a, b, rfl⟩ : ∃ (a : Fin 2048) (b : Fin 2816), y = ix2 a b := ⟨y 0, y 1, (ix2_eta y).symm⟩
  show _ = (∑ k : Fin 1024, dy (ix2 a k) * w (ix2 b k) : EReal)
  pointwise

/-! # The claims -/

theorem frame_ideal : Cert.quiescent_Kernel4Ideal (hKernel4Ideal := Cert.Kernel4Ideal.Gen.facts) := fun m ρ _ =>
  Cert.Kernel4Ideal.Gen.frame m ρ
theorem frame_kernel : Cert.quiescent_Kernel4 (hKernel4 := Cert.Kernel4.Gen.facts) := fun m ρ _ =>
  Cert.Kernel4.Gen.frame m ρ
theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel's product and the reference's are one array. -/
theorem algebraic : @Cert.algebraic_Kernel4Ideal_Reference4Ideal Cert.Kernel4Ideal.Gen.facts Cert.Reference4Ideal.Gen.facts := by
  intro m g m' g' _ hagree
  refine ⟨fun c => product (arg0 m c) (arg1 m c),
    (θ_run defs _ _).mono (fun r h c => ⟨(h c).1.trans (final m c), (h c).2⟩) (Cert.Kernel4Ideal.Value.run_blocks (F := Ideal) m g),
    (θ_run Cert.Reference4Ideal.defs _ _).mono (fun r h c => ⟨(h c).1.trans ?_, (h c).2⟩) (Cert.Reference4Ideal.Value.run (F := Ideal) m' g')⟩
  obtain ⟨a0, a1⟩ := hagree c
  rw [a0, a1]
  exact reference_product _ _

end Cert.Kernel4Ideal.Product

end
-- ==== Proof.DownWeight.lean ====
module

public import proofs.«01_k».proof.Defs
public import proofs.«01_k».proof.Proof.Gen.Kernel5Ideal.Value
public import proofs.«01_k».proof.Proof.Gen.Reference5Ideal.Run
public import proofs.«01_k».proof.Proof.Gen.Kernel5.Frame
public import Idealize.ShloMosaic.Lib.Pointwise
public import Idealize.ShloMosaic.Lib.Claim
public import Idealize.ShloMosaic.Lib.Pipeline.ValueKit

@[expose] public section

set_option maxRecDepth 16384

noncomputable section

namespace Cert.Kernel5Ideal.Product

open Cert.Kernel5Ideal Cert.Kernel5Ideal.Gen
open Idealize.ShloMosaic Idealize.ShloMosaic.TcCoe Idealize.SL.Sem
open Idealize.ShloMosaic.Pipeline (Dat)

/-! # The down projection's gradient to its weight: the activation transposed times the cotangent -/

/-- The product: each of the activation's columns against each of the cotangent's, over the tokens. -/
def product (a : FVec Ideal S2048x2816 .bf16) (dy : FVec Ideal S2048x1024 .f32) : FVec Ideal S2816x1024 .bf16 := fun y =>
  (∑ k : Fin 2048, a (ix2 k (y 0)) * dy (ix2 k (y 1)) : EReal)

/-- One block of the product, from the two blocks the body loads. -/
theorem block_product (x : Vec Ideal S2048x1408 .bf16) (w : Vec Ideal S2048x512 .f32) (a : Fin 1408) (b : Fin 512) :
    k0_pay1 x w (ix2 a b) = (∑ k : Fin 2048, x (ix2 k a) * w (ix2 k b) : EReal) := by
  pointwise [k0_pay1]

/-- The body loads whole blocks and stores one whole block. -/
theorem out_eq (x : Vec Ideal S2048x1408 .bf16) (w : Vec Ideal S2048x512 .f32) : out0_2 x w = k0_pay1 x w := by
  have hz : (![0, 0] : Fin 2 → Nat) = fun _ => 0 := funext fun a => by fin_cases a <;> rfl
  unfold out0_2
  rw [View.canon_unit_zero (S := S1408x512) hz, View.ld_unit_zero (S := S2048x1408) hz, View.ld_unit_zero (S := S2048x512) hz]

variable (m : (ℓ : Loc nD τ sig) → Buf (Elt Ideal) ℓ) (c : Dev nD)

/-! The arguments, as arrays of reals. -/
abbrev arg0 : FVec Ideal S2048x2816 .bf16 := m ((c.tc : Thread nD τ).loc main_arg0)
abbrev arg1 : FVec Ideal S2048x1024 .f32 := m ((c.tc : Thread nD τ).loc main_arg1)

theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem points (t : Fin cfg0.N) : t.val < 4 := lt_of_lt_of_eq t.isLt (show cfg0.N = 4 from N_0)

theorem block_0 (t : Fin cfg0.N) (k : Fin 2048) (a : Fin 1408) :
    iblk m c 0 t (ix2 k a) = V m c main_arg0 (ix2 k ⟨1408 * (t.val / 2) + a.val, by have := points t; omega⟩) := by
  blk_ext [iblk, (idx t).1]
theorem block_1 (t : Fin cfg0.N) (k : Fin 2048) (b : Fin 512) :
    iblk m c 1 t (ix2 k b) = V m c main_arg1 (ix2 k ⟨512 * (t.val % 2) + b.val, by omega⟩) := by
  blk_ext [iblk, (idx t).2.1]

/-- The result array after the run. -/
theorem final : (dats m 0 c).arrAt 2 cfg0.N = product (arg0 m c) (arg1 m c) := by
  refine (dats m 0 c).arrAt_eq_of_covers 2 _ (by decide +kernel) fun t _ y => ?_
  blk_simp
  rw [after0_2, out_eq]
  have hi := (idx t).2.2
  have block : ∀ (y : S1408x512.Idx) (z : S2816x1024.Idx), (z 0).val = 1408 * (t.val / 2) + (y 0).val → (z 1).val = 512 * (t.val % 2) + (y 1).val →
      k0_pay1 (iblk m c 0 t) (iblk m c 1 t) y = product (arg0 m c) (arg1 m c) z := by
    intro y z h0 h1
    obtain ⟨a, b, rfl⟩ : ∃ (a : Fin 1408) (b : Fin 512), y = ix2 a b := ⟨y 0, y 1, (ix2_eta y).symm⟩
    obtain ⟨i, j, rfl⟩ : ∃ (i : Fin 2816) (j : Fin 1024), z = ix2 i j := ⟨z 0, z 1, (ix2_eta z).symm⟩
    replace h0 : i.val = 1408 * (t.val / 2) + a.val := h0
    replace h1 : j.val = 512 * (t.val % 2) + b.val := h1
    refine (block_product _ _ a b).trans ?_
    show _ = (∑ k : Fin 2048, (arg0 m c) (ix2 k i) * (arg1 m c) (ix2 k j) : EReal)
    refine Finset.sum_congr rfl fun k _ => ?_
    rw [block_0, block_1, V_main_arg0, V_main_arg1]
    simp only [← h0, ← h1]
  refine block y _ ?_ ?_ <;> simp [hi, Nat.mul_comm]

/-- The reference's lines: the product with its factors the other way round, transposed. -/
theorem reference_product (a : FVec Ideal S2048x2816 .bf16) (dy : FVec Ideal S2048x1024 .f32) :
    (truncf .bf16 (transpose Cert.Reference5Ideal.S2816x1024 [1, 0] (Host.dotGeneral Cert.Reference5Ideal.dot_S2048x1024_S2048x2816_S1024x2816_0_0_1_1_n_n none dy
      (extf .f32 a Cert.Reference5Ideal.Facts₀.bitsLt_bf16_f32)) Cert.Reference5Ideal.Facts₀.transposes_S1024x2816_S2816x1024_1_0) Cert.Reference5Ideal.Facts₀.bitsLt_bf16_f32 : FVec Ideal S2816x1024 .bf16) = product a dy := by
  funext y
  obtain ⟨i, j, rfl⟩ : ∃ (i : Fin 2816) (j : Fin 1024), y = ix2 i j := ⟨y 0, y 1, (ix2_eta y).symm⟩
  show _ = (∑ k : Fin 2048, a (ix2 k i) * dy (ix2 k j) : EReal)
  refine Eq.trans (b := (∑ k : Fin 2048, dy (ix2 k j) * a (ix2 k i) : EReal)) (by pointwise) ?_
  exact Finset.sum_congr rfl fun k _ => mul_comm _ _

/-! # The claims -/

theorem frame_ideal : Cert.quiescent_Kernel5Ideal (hKernel5Ideal := Cert.Kernel5Ideal.Gen.facts) := fun m ρ _ =>
  Cert.Kernel5Ideal.Gen.frame m ρ
theorem frame_kernel : Cert.quiescent_Kernel5 (hKernel5 := Cert.Kernel5.Gen.facts) := fun m ρ _ =>
  Cert.Kernel5.Gen.frame m ρ
theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's product and the reference's are one array. -/
theorem algebraic : @Cert.algebraic_Kernel5Ideal_Reference5Ideal Cert.Kernel5Ideal.Gen.facts Cert.Reference5Ideal.Gen.facts := by
  intro m g m' g' _ hagree
  refine ⟨fun c => product (arg0 m c) (arg1 m c),
    (θ_run defs _ _).mono (fun r h c => ⟨(h c).1.trans (final m c), (h c).2⟩) (Cert.Kernel5Ideal.Value.run_blocks (F := Ideal) m g),
    (θ_run Cert.Reference5Ideal.defs _ _).mono (fun r h c => ⟨(h c).1.trans ?_, (h c).2⟩) (Cert.Reference5Ideal.Value.run (F := Ideal) m' g')⟩
  obtain ⟨a0, a1⟩ := hagree c
  rw [a0, a1]
  exact reference_product _ _

end Cert.Kernel5Ideal.Product

end
-- ==== Proof.DownForward.lean ====
module

public import proofs.«01_k».proof.Defs
public import proofs.«01_k».proof.Proof.Gen.Kernel6Ideal.Value
public import proofs.«01_k».proof.Proof.Gen.Reference6Ideal.Run
public import proofs.«01_k».proof.Proof.Gen.Kernel6.Frame
public import Idealize.ShloMosaic.Lib.Pointwise
public import Idealize.ShloMosaic.Lib.Claim
public import Idealize.ShloMosaic.Lib.Pipeline.ValueKit

@[expose] public section

set_option maxRecDepth 16384

noncomputable section

namespace Cert.Kernel6Ideal.Product

open Cert.Kernel6Ideal Cert.Kernel6Ideal.Gen
open Idealize.ShloMosaic Idealize.ShloMosaic.TcCoe Idealize.SL.Sem
open Idealize.ShloMosaic.Pipeline (Dat)

/-! # The feed-forward part's down projection, with the residual added -/

/-- The product of the rows and the weight, and the residual. -/
def product (a : FVec Ideal S2048x2816 .bf16) (w : FVec Ideal S2816x1024 .f32) (x : FVec Ideal S2048x1024 .f32) : FVec Ideal S2048x1024 .f32 := fun y =>
  ((∑ k : Fin 2816, a (ix2 (y 0) k) * w (ix2 k (y 1))) + x (ix2 (y 0) (y 1)) : EReal)

/-- One block of the result, from the blocks the body loads. -/
theorem block_product (x : Vec Ideal S1024x2816 .bf16) (w : Vec Ideal S2816x512 .bf16) (r : Vec Ideal S1024x512 .f32) (a : Fin 1024) (b : Fin 512) :
    k0_pay1 x w r (ix2 a b) = ((∑ k : Fin 2816, x (ix2 a k) * w (ix2 k b)) + r (ix2 a b) : EReal) := by
  pointwise [k0_pay1]

/-- The body loads whole blocks and stores one whole block. -/
theorem out_eq (x : Vec Ideal S1024x2816 .bf16) (w : Vec Ideal S2816x512 .bf16) (r : Vec Ideal S1024x512 .f32) : out0_3 x w r = k0_pay1 x w r := by
  have hz : (![0, 0] : Fin 2 → Nat) = fun _ => 0 := funext fun a => by fin_cases a <;> rfl
  unfold out0_3
  rw [View.canon_unit_zero (S := S1024x512) hz, View.ld_unit_zero (S := S1024x2816) hz, View.ld_unit_zero (S := S2816x512) hz, View.ld_unit_zero (S := S1024x512) hz]

variable (m : (ℓ : Loc nD τ sig) → Buf (Elt Ideal) ℓ) (c : Dev nD)

/-! The arguments, as arrays of reals. -/
abbrev arg0 : FVec Ideal S2048x2816 .bf16 := m ((c.tc : Thread nD τ).loc main_arg0)
abbrev arg1 : FVec Ideal S2816x1024 .f32 := m ((c.tc : Thread nD τ).loc main_arg1)
abbrev arg2 : FVec Ideal S2048x1024 .f32 := m ((c.tc : Thread nD τ).loc main_arg2)

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The weight is rounded on the host, which changes no real number. -/
theorem weight_eq (i : S2816x1024.Idx) : V m c main_v0 i = arg1 m c i := by
  have e : (V m c main_v0 : FVec Ideal S2816x1024 .bf16) = truncf .bf16 (arg1 m c) bitsLt_bf16_f32 := by
    unfold V
    after_results
  rw [e]
  rfl

theorem points (t : Fin cfg0.N) : t.val < 4 := lt_of_lt_of_eq t.isLt (show cfg0.N = 4 from N_0)

theorem block_0 (t : Fin cfg0.N) (a : Fin 1024) (k : Fin 2816) : iblk m c 0 t (ix2 a k) = V m c main_arg0 (ix2 ⟨1024 * (t.val / 2) + a.val, by have := points t; omega⟩ k) := by
  blk_ext [iblk, (idx t).1]
theorem block_1 (t : Fin cfg0.N) (k : Fin 2816) (b : Fin 512) : iblk m c 1 t (ix2 k b) = V m c main_v0 (ix2 k ⟨512 * (t.val % 2) + b.val, by have := points t; omega⟩) := by
  blk_ext [iblk, (idx t).2.1]
theorem block_2 (t : Fin cfg0.N) (a : Fin 1024) (b : Fin 512) : iblk m c 2 t (ix2 a b) = V m c main_arg2 (ix2 ⟨1024 * (t.val / 2) + a.val, by have := points t; omega⟩ ⟨512 * (t.val % 2) + b.val, by have := points t; omega⟩) := by
  blk_ext [iblk, (idx t).2.2.1]

/-- The result array after the run. -/
theorem final : (dats m 0 c).arrAt 3 cfg0.N = product (arg0 m c) (arg1 m c) (arg2 m c) := by
  refine (dats m 0 c).arrAt_eq_of_covers 3 _ (by decide +kernel) fun t _ y => ?_
  blk_simp
  rw [after0_3, out_eq]
  have hi := (idx t).2.2.2
  have block : ∀ (y : S1024x512.Idx) (z : S2048x1024.Idx), (z 0).val = 1024 * (t.val / 2) + (y 0).val → (z 1).val = 512 * (t.val % 2) + (y 1).val →
      k0_pay1 (iblk m c 0 t) (iblk m c 1 t) (iblk m c 2 t) y = product (arg0 m c) (arg1 m c) (arg2 m c) z := by
    intro y z h0 h1
    obtain ⟨a, b, rfl⟩ : ∃ (a : Fin 1024) (b : Fin 512), y = ix2 a b := ⟨y 0, y 1, (ix2_eta y).symm⟩
    obtain ⟨i, j, rfl⟩ : ∃ (i : Fin 2048) (j : Fin 1024), z = ix2 i j := ⟨z 0, z 1, (ix2_eta z).symm⟩
    replace h0 : i.val = 1024 * (t.val / 2) + a.val := h0
    replace h1 : j.val = 512 * (t.val % 2) + b.val := h1
    refine (block_product _ _ _ a b).trans ?_
    show _ = ((∑ k : Fin 2816, (arg0 m c) (ix2 i k) * (arg1 m c) (ix2 k j)) + (arg2 m c) (ix2 i j) : EReal)
    refine congrArg₂ (fun p q : EReal => p + q) (Finset.sum_congr rfl fun k _ => ?_) ?_
    · rw [block_0, block_1, weight_eq, V_main_arg0]
      simp only [← h0, ← h1]
    · rw [block_2, V_main_arg2]
      simp only [← h0, ← h1]
  refine block y _ ?_ ?_ <;> simp [hi, Nat.mul_comm]

/-- The reference's lines: the same two terms, added the other way round. -/
theorem reference_product (a : FVec Ideal S2048x2816 .bf16) (w : FVec Ideal S2816x1024 .f32) (x : FVec Ideal S2048x1024 .f32) :
    (addf x (Host.dotGeneral Cert.Reference6Ideal.dot_S2048x2816_S2816x1024_S2048x1024_1_0_0_1_n_n none (extf .f32 a Cert.Reference6Ideal.Facts₀.bitsLt_bf16_f32) w) : FVec Ideal S2048x1024 .f32) = product a w x := by
  funext y
  obtain ⟨i, j, rfl⟩ : ∃ (i : Fin 2048) (j : Fin 1024), y = ix2 i j := ⟨y 0, y 1, (ix2_eta y).symm⟩
  show _ = ((∑ k : Fin 2816, a (ix2 i k) * w (ix2 k j)) + x (ix2 i j) : EReal)
  refine Eq.trans (b := (x (ix2 i j) + (∑ k : Fin 2816, a (ix2 i k) * w (ix2 k j)) : EReal)) (by pointwise) ?_
  rw [add_comm]

/-! # The claims -/

theorem frame_ideal : Cert.quiescent_Kernel6Ideal (hKernel6Ideal := Cert.Kernel6Ideal.Gen.facts) := fun m ρ _ =>
  Cert.Kernel6Ideal.Gen.frame m ρ
theorem frame_kernel : Cert.quiescent_Kernel6 (hKernel6 := Cert.Kernel6.Gen.facts) := fun m ρ _ =>
  Cert.Kernel6.Gen.frame m ρ
theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel's product and the reference's are one array. -/
theorem algebraic : @Cert.algebraic_Kernel6Ideal_Reference6Ideal Cert.Kernel6Ideal.Gen.facts Cert.Reference6Ideal.Gen.facts := by
  intro m g m' g' _ hagree
  refine ⟨fun c => product (arg0 m c) (arg1 m c) (arg2 m c),
    (θ_run defs _ _).mono (fun r h c => ⟨(h c).1.trans (final m c), (h c).2⟩) (Cert.Kernel6Ideal.Value.run_blocks (F := Ideal) m g),
    (θ_run Cert.Reference6Ideal.defs _ _).mono (fun r h c => ⟨(h c).1.trans ?_, (h c).2⟩) (Cert.Reference6Ideal.Value.run (F := Ideal) m' g')⟩
  obtain ⟨a0, a1, a2⟩ := hagree c
  rw [a0, a1, a2]
  exact reference_product _ _ _

end Cert.Kernel6Ideal.Product

end
-- ==== Proof.OutForward.lean ====
module

public import proofs.«01_k».proof.Defs
public import proofs.«01_k».proof.Proof.Gen.Kernel8Ideal.Value
public import proofs.«01_k».proof.Proof.Gen.Reference8Ideal.Run
public import proofs.«01_k».proof.Proof.Gen.Kernel8.Frame
public import Idealize.ShloMosaic.Lib.Pointwise
public import Idealize.ShloMosaic.Lib.Claim
public import Idealize.ShloMosaic.Lib.Pipeline.ValueKit

@[expose] public section

set_option maxRecDepth 16384

noncomputable section

namespace Cert.Kernel8Ideal.Product

open Cert.Kernel8Ideal Cert.Kernel8Ideal.Gen
open Idealize.ShloMosaic Idealize.ShloMosaic.TcCoe Idealize.SL.Sem
open Idealize.ShloMosaic.Pipeline (Dat)

/-! # The mixer's output projection, with the residual added -/

/-- The product of the rows and the weight, and the residual. -/
def product (a : FVec Ideal S2048x2048 .bf16) (w : FVec Ideal S2048x1024 .f32) (x : FVec Ideal S2048x1024 .f32) : FVec Ideal S2048x1024 .f32 := fun y =>
  ((∑ k : Fin 2048, a (ix2 (y 0) k) * w (ix2 k (y 1))) + x (ix2 (y 0) (y 1)) : EReal)

/-- One block of the result, from the blocks the body loads. -/
theorem block_product (x : Vec Ideal S1024x2048 .bf16) (w : Vec Ideal S2048x512 .bf16) (r : Vec Ideal S1024x512 .f32) (a : Fin 1024) (b : Fin 512) :
    k0_pay1 x w r (ix2 a b) = ((∑ k : Fin 2048, x (ix2 a k) * w (ix2 k b)) + r (ix2 a b) : EReal) := by
  pointwise [k0_pay1]

/-- The body loads whole blocks and stores one whole block. -/
theorem out_eq (x : Vec Ideal S1024x2048 .bf16) (w : Vec Ideal S2048x512 .bf16) (r : Vec Ideal S1024x512 .f32) : out0_3 x w r = k0_pay1 x w r := by
  have hz : (![0, 0] : Fin 2 → Nat) = fun _ => 0 := funext fun a => by fin_cases a <;> rfl
  unfold out0_3
  rw [View.canon_unit_zero (S := S1024x512) hz, View.ld_unit_zero (S := S1024x2048) hz, View.ld_unit_zero (S := S2048x512) hz, View.ld_unit_zero (S := S1024x512) hz]

variable (m : (ℓ : Loc nD τ sig) → Buf (Elt Ideal) ℓ) (c : Dev nD)

/-! The arguments, as arrays of reals. -/
abbrev arg0 : FVec Ideal S2048x2048 .bf16 := m ((c.tc : Thread nD τ).loc main_arg0)
abbrev arg1 : FVec Ideal S2048x1024 .f32 := m ((c.tc : Thread nD τ).loc main_arg1)
abbrev arg2 : FVec Ideal S2048x1024 .f32 := m ((c.tc : Thread nD τ).loc main_arg2)

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The weight is rounded on the host, which changes no real number. -/
theorem weight_eq (i : S2048x1024.Idx) : V m c main_v0 i = arg1 m c i := by
  have e : (V m c main_v0 : FVec Ideal S2048x1024 .bf16) = truncf .bf16 (arg1 m c) bitsLt_bf16_f32 := by
    unfold V
    after_results
  rw [e]
  rfl

theorem points (t : Fin cfg0.N) : t.val < 4 := lt_of_lt_of_eq t.isLt (show cfg0.N = 4 from N_0)

theorem block_0 (t : Fin cfg0.N) (a : Fin 1024) (k : Fin 2048) : iblk m c 0 t (ix2 a k) = V m c main_arg0 (ix2 ⟨1024 * (t.val / 2) + a.val, by have := points t; omega⟩ k) := by
  blk_ext [iblk, (idx t).1]
theorem block_1 (t : Fin cfg0.N) (k : Fin 2048) (b : Fin 512) : iblk m c 1 t (ix2 k b) = V m c main_v0 (ix2 k ⟨512 * (t.val % 2) + b.val, by have := points t; omega⟩) := by
  blk_ext [iblk, (idx t).2.1]
theorem block_2 (t : Fin cfg0.N) (a : Fin 1024) (b : Fin 512) : iblk m c 2 t (ix2 a b) = V m c main_arg2 (ix2 ⟨1024 * (t.val / 2) + a.val, by have := points t; omega⟩ ⟨512 * (t.val % 2) + b.val, by have := points t; omega⟩) := by
  blk_ext [iblk, (idx t).2.2.1]

/-- The result array after the run. -/
theorem final : (dats m 0 c).arrAt 3 cfg0.N = product (arg0 m c) (arg1 m c) (arg2 m c) := by
  refine (dats m 0 c).arrAt_eq_of_covers 3 _ (by decide +kernel) fun t _ y => ?_
  blk_simp
  rw [after0_3, out_eq]
  have hi := (idx t).2.2.2
  have block : ∀ (y : S1024x512.Idx) (z : S2048x1024.Idx), (z 0).val = 1024 * (t.val / 2) + (y 0).val → (z 1).val = 512 * (t.val % 2) + (y 1).val →
      k0_pay1 (iblk m c 0 t) (iblk m c 1 t) (iblk m c 2 t) y = product (arg0 m c) (arg1 m c) (arg2 m c) z := by
    intro y z h0 h1
    obtain ⟨a, b, rfl⟩ : ∃ (a : Fin 1024) (b : Fin 512), y = ix2 a b := ⟨y 0, y 1, (ix2_eta y).symm⟩
    obtain ⟨i, j, rfl⟩ : ∃ (i : Fin 2048) (j : Fin 1024), z = ix2 i j := ⟨z 0, z 1, (ix2_eta z).symm⟩
    replace h0 : i.val = 1024 * (t.val / 2) + a.val := h0
    replace h1 : j.val = 512 * (t.val % 2) + b.val := h1
    refine (block_product _ _ _ a b).trans ?_
    show _ = ((∑ k : Fin 2048, (arg0 m c) (ix2 i k) * (arg1 m c) (ix2 k j)) + (arg2 m c) (ix2 i j) : EReal)
    refine congrArg₂ (fun p q : EReal => p + q) (Finset.sum_congr rfl fun k _ => ?_) ?_
    · rw [block_0, block_1, weight_eq, V_main_arg0]
      simp only [← h0, ← h1]
    · rw [block_2, V_main_arg2]
      simp only [← h0, ← h1]
  refine block y _ ?_ ?_ <;> simp [hi, Nat.mul_comm]

/-- The reference's lines: the same two terms, added the other way round. -/
theorem reference_product (a : FVec Ideal S2048x2048 .bf16) (w : FVec Ideal S2048x1024 .f32) (x : FVec Ideal S2048x1024 .f32) :
    (addf x (Host.dotGeneral Cert.Reference8Ideal.dot_S2048x2048_S2048x1024_S2048x1024_1_0_0_1_n_n none (extf .f32 a Cert.Reference8Ideal.Facts₀.bitsLt_bf16_f32) w) : FVec Ideal S2048x1024 .f32) = product a w x := by
  funext y
  obtain ⟨i, j, rfl⟩ : ∃ (i : Fin 2048) (j : Fin 1024), y = ix2 i j := ⟨y 0, y 1, (ix2_eta y).symm⟩
  show _ = ((∑ k : Fin 2048, a (ix2 i k) * w (ix2 k j)) + x (ix2 i j) : EReal)
  refine Eq.trans (b := (x (ix2 i j) + (∑ k : Fin 2048, a (ix2 i k) * w (ix2 k j)) : EReal)) (by pointwise) ?_
  rw [add_comm]

/-! # The claims -/

theorem frame_ideal : Cert.quiescent_Kernel8Ideal (hKernel8Ideal := Cert.Kernel8Ideal.Gen.facts) := fun m ρ _ =>
  Cert.Kernel8Ideal.Gen.frame m ρ
theorem frame_kernel : Cert.quiescent_Kernel8 (hKernel8 := Cert.Kernel8.Gen.facts) := fun m ρ _ =>
  Cert.Kernel8.Gen.frame m ρ
theorem frame_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel's product and the reference's are one array. -/
theorem algebraic : @Cert.algebraic_Kernel8Ideal_Reference8Ideal Cert.Kernel8Ideal.Gen.facts Cert.Reference8Ideal.Gen.facts := by
  intro m g m' g' _ hagree
  refine ⟨fun c => product (arg0 m c) (arg1 m c) (arg2 m c),
    (θ_run defs _ _).mono (fun r h c => ⟨(h c).1.trans (final m c), (h c).2⟩) (Cert.Kernel8Ideal.Value.run_blocks (F := Ideal) m g),
    (θ_run Cert.Reference8Ideal.defs _ _).mono (fun r h c => ⟨(h c).1.trans ?_, (h c).2⟩) (Cert.Reference8Ideal.Value.run (F := Ideal) m' g')⟩
  obtain ⟨a0, a1, a2⟩ := hagree c
  rw [a0, a1, a2]
  exact reference_product _ _ _

end Cert.Kernel8Ideal.Product

end
-- ==== Proof.OutWeight.lean ====
module

public import proofs.«01_k».proof.Defs
public import proofs.«01_k».proof.Proof.Gen.Kernel9Ideal.Value
public import proofs.«01_k».proof.Proof.Gen.Reference9Ideal.Run
public import proofs.«01_k».proof.Proof.Gen.Kernel9.Frame
public import Idealize.ShloMosaic.Lib.Pointwise
public import Idealize.ShloMosaic.Lib.Claim
public import Idealize.ShloMosaic.Lib.Pipeline.ValueKit

@[expose] public section

set_option maxRecDepth 16384

noncomputable section

namespace Cert.Kernel9Ideal.Product

open Cert.Kernel9Ideal Cert.Kernel9Ideal.Gen
open Idealize.ShloMosaic Idealize.ShloMosaic.TcCoe Idealize.SL.Sem
open Idealize.ShloMosaic.Pipeline (Dat)

/-! # The mixer's output projection's gradient to its weight: the rows transposed times the cotangent -/

/-- The product: each of the rows' columns against each of the cotangent's, over the tokens. -/
def product (a : FVec Ideal S2048x2048 .bf16) (dy : FVec Ideal S2048x1024 .f32) : FVec Ideal S2048x1024 .bf16 := fun y =>
  (∑ k : Fin 2048, a (ix2 k (y 0)) * dy (ix2 k (y 1)) : EReal)

/-- One block of the product, from the two blocks the body loads. -/
theorem block_product (x : Vec Ideal S2048x1024 .bf16) (w : Vec Ideal S2048x512 .f32) (a : Fin 1024) (b : Fin 512) :
    k0_pay1 x w (ix2 a b) = (∑ k : Fin 2048, x (ix2 k a) * w (ix2 k b) : EReal) := by
  pointwise [k0_pay1]

/-- The body loads whole blocks and stores one whole block. -/
theorem out_eq (x : Vec Ideal S2048x1024 .bf16) (w : Vec Ideal S2048x512 .f32) : out0_2 x w = k0_pay1 x w := by
  have hz : (![0, 0] : Fin 2 → Nat) = fun _ => 0 := funext fun a => by fin_cases a <;> rfl
  unfold out0_2
  rw [View.canon_unit_zero (S := S1024x512) hz, View.ld_unit_zero (S := S2048x1024) hz, View.ld_unit_zero (S := S2048x512) hz]

variable (m : (ℓ : Loc nD τ sig) → Buf (Elt Ideal) ℓ) (c : Dev nD)

/-! The arguments, as arrays of reals. -/
abbrev arg0 : FVec Ideal S2048x2048 .bf16 := m ((c.tc : Thread nD τ).loc main_arg0)
abbrev arg1 : FVec Ideal S2048x1024 .f32 := m ((c.tc : Thread nD τ).loc main_arg1)

theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem points (t : Fin cfg0.N) : t.val < 4 := lt_of_lt_of_eq t.isLt (show cfg0.N = 4 from N_0)

theorem block_0 (t : Fin cfg0.N) (k : Fin 2048) (a : Fin 1024) : iblk m c 0 t (ix2 k a) = V m c main_arg0 (ix2 k ⟨1024 * (t.val / 2) + a.val, by have := points t; omega⟩) := by
  blk_ext [iblk, (idx t).1]
theorem block_1 (t : Fin cfg0.N) (k : Fin 2048) (b : Fin 512) : iblk m c 1 t (ix2 k b) = V m c main_arg1 (ix2 k ⟨512 * (t.val % 2) + b.val, by have := points t; omega⟩) := by
  blk_ext [iblk, (idx t).2.1]

/-- The result array after the run. -/
theorem final : (dats m 0 c).arrAt 2 cfg0.N = product (arg0 m c) (arg1 m c) := by
  refine (dats m 0 c).arrAt_eq_of_covers 2 _ (by decide +kernel) fun t _ y => ?_
  blk_simp
  rw [after0_2, out_eq]
  have hi := (idx t).2.2
  have block : ∀ (y : S1024x512.Idx) (z : S2048x1024.Idx), (z 0).val = 1024 * (t.val / 2) + (y 0).val → (z 1).val = 512 * (t.val % 2) + (y 1).val →
      k0_pay1 (iblk m c 0 t) (iblk m c 1 t) y = product (arg0 m c) (arg1 m c) z := by
    intro y z h0 h1
    obtain ⟨a, b, rfl⟩ : ∃ (a : Fin 1024) (b : Fin 512), y = ix2 a b := ⟨y 0, y 1, (ix2_eta y).symm⟩
    obtain ⟨i, j, rfl⟩ : ∃ (i : Fin 2048) (j : Fin 1024), z = ix2 i j := ⟨z 0, z 1, (ix2_eta z).symm⟩
    replace h0 : i.val = 1024 * (t.val / 2) + a.val := h0
    replace h1 : j.val = 512 * (t.val % 2) + b.val := h1
    refine (block_product _ _ a b).trans ?_
    show _ = (∑ k : Fin 2048, (arg0 m c) (ix2 k i) * (arg1 m c) (ix2 k j) : EReal)
    refine Finset.sum_congr rfl fun k _ => ?_
    rw [block_0, block_1, V_main_arg0, V_main_arg1]
    simp only [← h0, ← h1]
  refine block y _ ?_ ?_ <;> simp [hi, Nat.mul_comm]

/-- The reference's lines: the product with its factors the other way round, transposed. -/
theorem reference_product (a : FVec Ideal S2048x2048 .bf16) (dy : FVec Ideal S2048x1024 .f32) :
    (truncf .bf16 (transpose Cert.Reference9Ideal.S2048x1024 [1, 0] (Host.dotGeneral Cert.Reference9Ideal.dot_S2048x1024_S2048x2048_S1024x2048_0_0_1_1_n_n none dy
      (extf .f32 a Cert.Reference9Ideal.Facts₀.bitsLt_bf16_f32)) Cert.Reference9Ideal.Facts₀.transposes_S1024x2048_S2048x1024_1_0) Cert.Reference9Ideal.Facts₀.bitsLt_bf16_f32 : FVec Ideal S2048x1024 .bf16) = product a dy := by
  funext y
  obtain ⟨i, j, rfl⟩ : ∃ (i : Fin 2048) (j : Fin 1024), y = ix2 i j := ⟨y 0, y 1, (ix2_eta y).symm⟩
  show _ = (∑ k : Fin 2048, a (ix2 k i) * dy (ix2 k j) : EReal)
  refine Eq.trans (b := (∑ k : Fin 2048, dy (ix2 k j) * a (ix2 k i) : EReal)) (by pointwise) ?_
  exact Finset.sum_congr rfl fun k _ => mul_comm _ _

/-! # The claims -/

theorem frame_ideal : Cert.quiescent_Kernel9Ideal (hKernel9Ideal := Cert.Kernel9Ideal.Gen.facts) := fun m ρ _ =>
  Cert.Kernel9Ideal.Gen.frame m ρ
theorem frame_kernel : Cert.quiescent_Kernel9 (hKernel9 := Cert.Kernel9.Gen.facts) := fun m ρ _ =>
  Cert.Kernel9.Gen.frame m ρ
theorem frame_reference : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The kernel's product and the reference's are one array. -/
theorem algebraic : @Cert.algebraic_Kernel9Ideal_Reference9Ideal Cert.Kernel9Ideal.Gen.facts Cert.Reference9Ideal.Gen.facts := by
  intro m g m' g' _ hagree
  refine ⟨fun c => product (arg0 m c) (arg1 m c),
    (θ_run defs _ _).mono (fun r h c => ⟨(h c).1.trans (final m c), (h c).2⟩) (Cert.Kernel9Ideal.Value.run_blocks (F := Ideal) m g),
    (θ_run Cert.Reference9Ideal.defs _ _).mono (fun r h c => ⟨(h c).1.trans ?_, (h c).2⟩) (Cert.Reference9Ideal.Value.run (F := Ideal) m' g')⟩
  obtain ⟨a0, a1⟩ := hagree c
  rw [a0, a1]
  exact reference_product _ _

end Cert.Kernel9Ideal.Product

end
-- ==== Proof.OutInput.lean ====
module

public import proofs.«01_k».proof.Defs
public import proofs.«01_k».proof.Proof.Gen.Kernel10Ideal.Value
public import proofs.«01_k».proof.Proof.Gen.Reference10Ideal.Run
public import proofs.«01_k».proof.Proof.Gen.Kernel10.Frame
public import Idealize.ShloMosaic.Lib.Pointwise
public import Idealize.ShloMosaic.Lib.Claim
public import Idealize.ShloMosaic.Lib.Pipeline.ValueKit

@[expose] public section

set_option maxRecDepth 16384

noncomputable section

namespace Cert.Kernel10Ideal.Product

open Cert.Kernel10Ideal Cert.Kernel10Ideal.Gen
open Idealize.ShloMosaic Idealize.ShloMosaic.TcCoe Idealize.SL.Sem
open Idealize.ShloMosaic.Pipeline (Dat)

/-! # The mixer's output projection's gradient to its input: the cotangent times the transposed weight -/

/-- The product: each token's cotangent against each row of the weight. -/
def product (w : FVec Ideal S2048x1024 .f32) (dy : FVec Ideal S2048x1024 .f32) : FVec Ideal S2048x2048 .f32 := fun y =>
  (∑ k : Fin 1024, dy (ix2 (y 0) k) * w (ix2 (y 1) k) : EReal)

/-- One block of the product, from the two blocks the body loads. -/
theorem block_product (x : Vec Ideal S1024x1024 .f32) (w : Vec Ideal S512x1024 .bf16) (a : Fin 1024) (b : Fin 512) :
    k0_pay1 x w (ix2 a b) = (∑ k : Fin 1024, x (ix2 a k) * w (ix2 b k) : EReal) := by
  pointwise [k0_pay1]

/-- The body loads whole blocks and stores one whole block. -/
theorem out_eq (x : Vec Ideal S1024x1024 .f32) (w : Vec Ideal S512x1024 .bf16) : out0_2 x w = k0_pay1 x w := by
  have hz : (![0, 0] : Fin 2 → Nat) = fun _ => 0 := funext fun a => by fin_cases a <;> rfl
  unfold out0_2
  rw [View.canon_unit_zero (S := S1024x512) hz, View.ld_unit_zero (S := S1024x1024) hz, View.ld_unit_zero (S := S512x1024) hz]

variable (m : (ℓ : Loc nD τ sig) → Buf (Elt Ideal) ℓ) (c : Dev nD)

/-! The arguments, as arrays of reals. -/
abbrev arg0 : FVec Ideal S2048x1024 .f32 := m ((c.tc : Thread nD τ).loc main_arg0)
abbrev arg1 : FVec Ideal S2048x1024 .f32 := m ((c.tc : Thread nD τ).loc main_arg1)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The weight is rounded on the host, which changes no real number. -/
theorem weight_eq (i : S2048x1024.Idx) : V m c main_v0 i = arg0 m c i := by
  have e : (V m c main_v0 : FVec Ideal S2048x1024 .bf16) = truncf .bf16 (arg0 m c) bitsLt_bf16_f32 := by
    unfold V
    after_results
  rw [e]
  rfl

theorem points (t : Fin cfg0.N) : t.val < 8 := lt_of_lt_of_eq t.isLt (show cfg0.N = 8 from N_0)

theorem block_0 (t : Fin cfg0.N) (a : Fin 1024) (k : Fin 1024) : iblk m c 0 t (ix2 a k) = V m c main_arg1 (ix2 ⟨1024 * (t.val / 4) + a.val, by have := points t; omega⟩ k) := by
  blk_ext [iblk, (idx t).1]
theorem block_1 (t : Fin cfg0.N) (b : Fin 512) (k : Fin 1024) : iblk m c 1 t (ix2 b k) = V m c main_v0 (ix2 ⟨512 * (t.val % 4) + b.val, by have := points t; omega⟩ k) := by
  blk_ext [iblk, (idx t).2.1]

/-- The result array after the run. -/
theorem final : (dats m 0 c).arrAt 2 cfg0.N = product (arg0 m c) (arg1 m c) := by
  refine (dats m 0 c).arrAt_eq_of_covers 2 _ (by decide +kernel) fun t _ y => ?_
  blk_simp
  rw [after0_2, out_eq]
  have hi := (idx t).2.2
  have block : ∀ (y : S1024x512.Idx) (z : S2048x2048.Idx), (z 0).val = 1024 * (t.val / 4) + (y 0).val → (z 1).val = 512 * (t.val % 4) + (y 1).val →
      k0_pay1 (iblk m c 0 t) (iblk m c 1 t) y = product (arg0 m c) (arg1 m c) z := by
    intro y z h0 h1
    obtain ⟨a, b, rfl⟩ : ∃ (a : Fin 1024) (b : Fin 512), y = ix2 a b := ⟨y 0, y 1, (ix2_eta y).symm⟩
    obtain ⟨i, j, rfl⟩ : ∃ (i : Fin 2048) (j : Fin 2048), z = ix2 i j := ⟨z 0, z 1, (ix2_eta z).symm⟩
    replace h0 : i.val = 1024 * (t.val / 4) + a.val := h0
    replace h1 : j.val = 512 * (t.val % 4) + b.val := h1
    refine (block_product _ _ a b).trans ?_
    show _ = (∑ k : Fin 1024, (arg1 m c) (ix2 i k) * (arg0 m c) (ix2 j k) : EReal)
    refine Finset.sum_congr rfl fun k _ => ?_
    rw [block_0, block_1, weight_eq, V_main_arg1]
    simp only [← h0, ← h1]
  refine block y _ ?_ ?_ <;> simp [hi, Nat.mul_comm]

theorem reference_product (w : FVec Ideal S2048x1024 .f32) (dy : FVec Ideal S2048x1024 .f32) :
    (Host.dotGeneral Cert.Reference10Ideal.dot_S2048x1024_S2048x1024_S2048x2048_1_1_0_0_n_n none dy w : FVec Ideal S2048x2048 .f32) = product w dy := by
  funext y
  obtain ⟨a, b, rfl⟩ : ∃ (a : Fin 2048) (b : Fin 2048), y = ix2 a b := ⟨y 0, y 1, (ix2_eta y).symm⟩
  show _ = (∑ k : Fin 1024, dy (ix2 a k) * w (ix2 b k) : EReal)
  pointwise

/-! # The claims -/

theorem frame_ideal : Cert.quiescent_Kernel10Ideal (hKernel10Ideal := Cert.Kernel10Ideal.Gen.facts) := fun m ρ _ =>
  Cert.Kernel10Ideal.Gen.frame m ρ
theorem frame_kernel : Cert.quiescent_Kernel10 (hKernel10 := Cert.Kernel10.Gen.facts) := fun m ρ _ =>
  Cert.Kernel10.Gen.frame m ρ
theorem frame_reference : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- The kernel's product and the reference's are one array. -/
theorem algebraic : @Cert.algebraic_Kernel10Ideal_Reference10Ideal Cert.Kernel10Ideal.Gen.facts Cert.Reference10Ideal.Gen.facts := by
  intro m g m' g' _ hagree
  refine ⟨fun c => product (arg0 m c) (arg1 m c),
    (θ_run defs _ _).mono (fun r h c => ⟨(h c).1.trans (final m c), (h c).2⟩) (Cert.Kernel10Ideal.Value.run_blocks (F := Ideal) m g),
    (θ_run Cert.Reference10Ideal.defs _ _).mono (fun r h c => ⟨(h c).1.trans ?_, (h c).2⟩) (Cert.Reference10Ideal.Value.run (F := Ideal) m' g')⟩
  obtain ⟨a0, a1⟩ := hagree c
  rw [a0, a1]
  exact reference_product _ _

end Cert.Kernel10Ideal.Product

end
-- ==== Proof.HeadsForward.lean ====
module

public import proofs.«01_k».proof.Defs
public import proofs.«01_k».proof.Proof.Gen.Kernel11Ideal.Value
public import proofs.«01_k».proof.Proof.Gen.Reference11Ideal.Run
public import proofs.«01_k».proof.Proof.Gen.Kernel11.Frame
public import Idealize.ShloMosaic.Lib.Pointwise
public import Idealize.ShloMosaic.Lib.Claim
public import Idealize.ShloMosaic.Lib.Pipeline.ValueKit

@[expose] public section

set_option maxRecDepth 16384

noncomputable section

namespace Cert.Kernel11Ideal.Product

open Cert.Kernel11Ideal Cert.Kernel11Ideal.Gen
open Idealize.ShloMosaic Idealize.ShloMosaic.TcCoe Idealize.SL.Sem
open Idealize.ShloMosaic.Pipeline (Dat)

/-! # The attention's output projection, with its bias and the residual added -/

/-- The product of the rows and the weight, the bias and the residual. -/
def product (a : FVec Ideal S2048x1024 .bf16) (w : FVec Ideal S1024x1024 .f32) (b : FVec Ideal S1x1024 .f32) (x : FVec Ideal S2048x1024 .f32) : FVec Ideal S2048x1024 .f32 := fun y =>
  ((∑ k : Fin 1024, a (ix2 (y 0) k) * w (ix2 k (y 1))) + b (ix2 0 (y 1)) + x (ix2 (y 0) (y 1)) : EReal)

/-- One block of the result, from the blocks the body loads. -/
theorem block_product (x : Vec Ideal S1024x1024 .bf16) (w : Vec Ideal S1024x512 .bf16) (u : Vec Ideal S1x512 .f32) (r : Vec Ideal S1024x512 .f32) (a : Fin 1024) (b : Fin 512) :
    k0_pay1 x w u r (ix2 a b) = ((∑ k : Fin 1024, x (ix2 a k) * w (ix2 k b)) + u (ix2 0 b) + r (ix2 a b) : EReal) := by
  pointwise [k0_pay1]

/-- The body loads whole blocks and stores one whole block. -/
theorem out_eq (x : Vec Ideal S1024x1024 .bf16) (w : Vec Ideal S1024x512 .bf16) (u : Vec Ideal S1x512 .f32) (r : Vec Ideal S1024x512 .f32) : out0_4 x w u r = k0_pay1 x w u r := by
  have hz : (![0, 0] : Fin 2 → Nat) = fun _ => 0 := funext fun a => by fin_cases a <;> rfl
  unfold out0_4
  rw [View.canon_unit_zero (S := S1024x512) hz, View.ld_unit_zero (S := S1024x1024) hz, View.ld_unit_zero (S := S1024x512) hz, View.ld_unit_zero (S := S1x512) hz, View.ld_unit_zero (S := S1024x512) hz]

variable (m : (ℓ : Loc nD τ sig) → Buf (Elt Ideal) ℓ) (c : Dev nD)

/-! The arguments, as arrays of reals. -/
abbrev arg0 : FVec Ideal S2048x1024 .bf16 := m ((c.tc : Thread nD τ).loc main_arg0)
abbrev arg1 : FVec Ideal S1024x1024 .f32 := m ((c.tc : Thread nD τ).loc main_arg1)
abbrev arg2 : FVec Ideal S1x1024 .f32 := m ((c.tc : Thread nD τ).loc main_arg2)
abbrev arg3 : FVec Ideal S2048x1024 .f32 := m ((c.tc : Thread nD τ).loc main_arg3)

theorem idx : ∀ t : Fin cfg0.N, win0_0.index t = ![t.val / 2, 0] ∧ win0_1.index t = ![0, t.val % 2] ∧ win0_2.index t = ![0, t.val % 2] ∧ win0_3.index t = ![t.val / 2, t.val % 2] ∧ win0_4.index t = ![t.val / 2, t.val % 2] :=
  (by decide +kernel : ∀ t : Fin grid0.N, _)

/-- The weight is rounded on the host, which changes no real number. -/
theorem weight_eq (i : S1024x1024.Idx) : V m c main_v0 i = arg1 m c i := by
  have e : (V m c main_v0 : FVec Ideal S1024x1024 .bf16) = truncf .bf16 (arg1 m c) bitsLt_bf16_f32 := by
    unfold V
    after_results
  rw [e]
  rfl

theorem points (t : Fin cfg0.N) : t.val < 4 := lt_of_lt_of_eq t.isLt (show cfg0.N = 4 from N_0)

theorem block_0 (t : Fin cfg0.N) (a : Fin 1024) (k : Fin 1024) : iblk m c 0 t (ix2 a k) = V m c main_arg0 (ix2 ⟨1024 * (t.val / 2) + a.val, by have := points t; omega⟩ k) := by
  blk_ext [iblk, (idx t).1]
theorem block_1 (t : Fin cfg0.N) (k : Fin 1024) (b : Fin 512) : iblk m c 1 t (ix2 k b) = V m c main_v0 (ix2 k ⟨512 * (t.val % 2) + b.val, by have := points t; omega⟩) := by
  blk_ext [iblk, (idx t).2.1]
theorem block_2 (t : Fin cfg0.N) (b : Fin 512) : iblk m c 2 t (ix2 0 b) = V m c main_arg2 (ix2 0 ⟨512 * (t.val % 2) + b.val, by have := points t; omega⟩) := by
  blk_ext [iblk, (idx t).2.2.1]
theorem block_3 (t : Fin cfg0.N) (a : Fin 1024) (b : Fin 512) : iblk m c 3 t (ix2 a b) = V m c main_arg3 (ix2 ⟨1024 * (t.val / 2) + a.val, by have := points t; omega⟩ ⟨512 * (t.val % 2) + b.val, by have := points t; omega⟩) := by
  blk_ext [iblk, (idx t).2.2.2.1]

/-- The result array after the run. -/
theorem final : (dats m 0 c).arrAt 4 cfg0.N = product (arg0 m c) (arg1 m c) (arg2 m c) (arg3 m c) := by
  refine (dats m 0 c).arrAt_eq_of_covers 4 _ (by decide +kernel) fun t _ y => ?_
  blk_simp
  rw [after0_4, out_eq]
  have hi := (idx t).2.2.2.2
  have block : ∀ (y : S1024x512.Idx) (z : S2048x1024.Idx), (z 0).val = 1024 * (t.val / 2) + (y 0).val → (z 1).val = 512 * (t.val % 2) + (y 1).val →
      k0_pay1 (iblk m c 0 t) (iblk m c 1 t) (iblk m c 2 t) (iblk m c 3 t) y = product (arg0 m c) (arg1 m c) (arg2 m c) (arg3 m c) z := by
    intro y z h0 h1
    obtain ⟨a, b, rfl⟩ : ∃ (a : Fin 1024) (b : Fin 512), y = ix2 a b := ⟨y 0, y 1, (ix2_eta y).symm⟩
    obtain ⟨i, j, rfl⟩ : ∃ (i : Fin 2048) (j : Fin 1024), z = ix2 i j := ⟨z 0, z 1, (ix2_eta z).symm⟩
    replace h0 : i.val = 1024 * (t.val / 2) + a.val := h0
    replace h1 : j.val = 512 * (t.val % 2) + b.val := h1
    refine (block_product _ _ _ _ a b).trans ?_
    show _ = ((∑ k : Fin 1024, (arg0 m c) (ix2 i k) * (arg1 m c) (ix2 k j)) + (arg2 m c) (ix2 0 j) + (arg3 m c) (ix2 i j) : EReal)
    refine congrArg₂ (fun p q : EReal => p + q) (congrArg₂ (fun p q : EReal => p + q) (Finset.sum_congr rfl fun k _ => ?_) ?_) ?_
    · rw [block_0, block_1, weight_eq, V_main_arg0]
      simp only [← h0, ← h1]
    · rw [block_2, V_main_arg2]
      simp only [← h1]
    · rw [block_3, V_main_arg3]
      simp only [← h0, ← h1]
  refine block y _ ?_ ?_ <;> simp [hi, Nat.mul_comm]

/-- The reference's lines: the same three terms, added in another order. -/
theorem reference_product (a : FVec Ideal S2048x1024 .bf16) (w : FVec Ideal S1024x1024 .f32) (b : FVec Ideal S1x1024 .f32) (x : FVec Ideal S2048x1024 .f32) :
    (addf (addf x (Host.dotGeneral Cert.Reference11Ideal.dot_S2048x1024_S1024x1024_S2048x1024_1_0_0_1_n_n none (extf .f32 a Cert.Reference11Ideal.Facts₀.bitsLt_bf16_f32) w))
      (broadcastInDim Cert.Reference11Ideal.S2048x1024 ![0, 1] Cert.Reference11Ideal.Facts₀.bcast_S1x1024_S2048x1024_0_1 b) : FVec Ideal S2048x1024 .f32) = product a w b x := by
  funext y
  obtain ⟨i, j, rfl⟩ : ∃ (i : Fin 2048) (j : Fin 1024), y = ix2 i j := ⟨y 0, y 1, (ix2_eta y).symm⟩
  show _ = ((∑ k : Fin 1024, a (ix2 i k) * w (ix2 k j)) + b (ix2 0 j) + x (ix2 i j) : EReal)
  refine Eq.trans (b := (x (ix2 i j) + (∑ k : Fin 1024, a (ix2 i k) * w (ix2 k j)) + b (ix2 0 j) : EReal)) (by pointwise) ?_
  rw [add_assoc, add_comm]

/-! # The claims -/

theorem frame_ideal : Cert.quiescent_Kernel11Ideal (hKernel11Ideal := Cert.Kernel11Ideal.Gen.facts) := fun m ρ _ =>
  Cert.Kernel11Ideal.Gen.frame m ρ
theorem frame_kernel : Cert.quiescent_Kernel11 (hKernel11 := Cert.Kernel11.Gen.facts) := fun m ρ _ =>
  Cert.Kernel11.Gen.frame m ρ
theorem frame_reference : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- The kernel's product and the reference's are one array. -/
theorem algebraic : @Cert.algebraic_Kernel11Ideal_Reference11Ideal Cert.Kernel11Ideal.Gen.facts Cert.Reference11Ideal.Gen.facts := by
  intro m g m' g' _ hagree
  refine ⟨fun c => product (arg0 m c) (arg1 m c) (arg2 m c) (arg3 m c),
    (θ_run defs _ _).mono (fun r h c => ⟨(h c).1.trans (final m c), (h c).2⟩) (Cert.Kernel11Ideal.Value.run_blocks (F := Ideal) m g),
    (θ_run Cert.Reference11Ideal.defs _ _).mono (fun r h c => ⟨(h c).1.trans ?_, (h c).2⟩) (Cert.Reference11Ideal.Value.run (F := Ideal) m' g')⟩
  obtain ⟨a0, a1, a2, a3⟩ := hagree c
  rw [a0, a1, a2, a3]
  exact reference_product _ _ _ _

end Cert.Kernel11Ideal.Product

end
-- ==== Proof.HeadsWeight.lean ====
module

public import proofs.«01_k».proof.Defs
public import proofs.«01_k».proof.Proof.Gen.Kernel12Ideal.Value
public import proofs.«01_k».proof.Proof.Gen.Reference12Ideal.Run
public import proofs.«01_k».proof.Proof.Gen.Kernel12.Frame
public import Idealize.ShloMosaic.Lib.Pointwise
public import Idealize.ShloMosaic.Lib.Claim
public import Idealize.ShloMosaic.Lib.Pipeline.ValueKit

@[expose] public section

set_option maxRecDepth 16384

noncomputable section

namespace Cert.Kernel12Ideal.Product

open Cert.Kernel12Ideal Cert.Kernel12Ideal.Gen
open Idealize.ShloMosaic Idealize.ShloMosaic.TcCoe Idealize.SL.Sem
open Idealize.ShloMosaic.Pipeline (Dat)

/-! # The attention's output projection's gradient to its weight: the rows transposed times the cotangent -/

/-- The product: each of the rows' columns against each of the cotangent's, over the tokens. -/
def product (a : FVec Ideal S2048x1024 .bf16) (dy : FVec Ideal S2048x1024 .f32) : FVec Ideal S1024x1024 .bf16 := fun y =>
  (∑ k : Fin 2048, a (ix2 k (y 0)) * dy (ix2 k (y 1)) : EReal)

/-- One block of the product, from the two blocks the body loads. -/
theorem block_product (x : Vec Ideal S2048x1024 .bf16) (w : Vec Ideal S2048x512 .f32) (a : Fin 1024) (b : Fin 512) :
    k0_pay1 x w (ix2 a b) = (∑ k : Fin 2048, x (ix2 k a) * w (ix2 k b) : EReal) := by
  pointwise [k0_pay1]

/-- The body loads whole blocks and stores one whole block. -/
theorem out_eq (x : Vec Ideal S2048x1024 .bf16) (w : Vec Ideal S2048x512 .f32) : out0_2 x w = k0_pay1 x w := by
  have hz : (![0, 0] : Fin 2 → Nat) = fun _ => 0 := funext fun a => by fin_cases a <;> rfl
  unfold out0_2
  rw [View.canon_unit_zero (S := S1024x512) hz, View.ld_unit_zero (S := S2048x1024) hz, View.ld_unit_zero (S := S2048x512) hz]

variable (m : (ℓ : Loc nD τ sig) → Buf (Elt Ideal) ℓ) (c : Dev nD)

/-! The arguments, as arrays of reals. -/
abbrev arg0 : FVec Ideal S2048x1024 .bf16 := m ((c.tc : Thread nD τ).loc main_arg0)
abbrev arg1 : FVec Ideal S2048x1024 .f32 := m ((c.tc : Thread nD τ).loc main_arg1)

theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem points (t : Fin cfg0.N) : t.val < 2 := lt_of_lt_of_eq t.isLt (show cfg0.N = 2 from N_0)

theorem block_0 (t : Fin cfg0.N) (k : Fin 2048) (a : Fin 1024) : iblk m c 0 t (ix2 k a) = V m c main_arg0 (ix2 k ⟨1024 * (t.val / 2) + a.val, by have := points t; omega⟩) := by
  blk_ext [iblk, (idx t).1]
theorem block_1 (t : Fin cfg0.N) (k : Fin 2048) (b : Fin 512) : iblk m c 1 t (ix2 k b) = V m c main_arg1 (ix2 k ⟨512 * (t.val % 2) + b.val, by have := points t; omega⟩) := by
  blk_ext [iblk, (idx t).2.1]

/-- The result array after the run. -/
theorem final : (dats m 0 c).arrAt 2 cfg0.N = product (arg0 m c) (arg1 m c) := by
  refine (dats m 0 c).arrAt_eq_of_covers 2 _ (by decide +kernel) fun t _ y => ?_
  blk_simp
  rw [after0_2, out_eq]
  have hi := (idx t).2.2
  have block : ∀ (y : S1024x512.Idx) (z : S1024x1024.Idx), (z 0).val = 1024 * (t.val / 2) + (y 0).val → (z 1).val = 512 * (t.val % 2) + (y 1).val →
      k0_pay1 (iblk m c 0 t) (iblk m c 1 t) y = product (arg0 m c) (arg1 m c) z := by
    intro y z h0 h1
    obtain ⟨a, b, rfl⟩ : ∃ (a : Fin 1024) (b : Fin 512), y = ix2 a b := ⟨y 0, y 1, (ix2_eta y).symm⟩
    obtain ⟨i, j, rfl⟩ : ∃ (i : Fin 1024) (j : Fin 1024), z = ix2 i j := ⟨z 0, z 1, (ix2_eta z).symm⟩
    replace h0 : i.val = 1024 * (t.val / 2) + a.val := h0
    replace h1 : j.val = 512 * (t.val % 2) + b.val := h1
    refine (block_product _ _ a b).trans ?_
    show _ = (∑ k : Fin 2048, (arg0 m c) (ix2 k i) * (arg1 m c) (ix2 k j) : EReal)
    refine Finset.sum_congr rfl fun k _ => ?_
    rw [block_0, block_1, V_main_arg0, V_main_arg1]
    simp only [← h0, ← h1]
  refine block y _ ?_ ?_ <;> simp [hi, Nat.mul_comm]

/-- The reference's lines: the product with its factors the other way round, transposed. -/
theorem reference_product (a : FVec Ideal S2048x1024 .bf16) (dy : FVec Ideal S2048x1024 .f32) :
    (truncf .bf16 (transpose Cert.Reference12Ideal.S1024x1024 [1, 0] (Host.dotGeneral Cert.Reference12Ideal.dot_S2048x1024_S2048x1024_S1024x1024_0_0_1_1_n_n none dy
      (extf .f32 a Cert.Reference12Ideal.Facts₀.bitsLt_bf16_f32)) Cert.Reference12Ideal.Facts₀.transposes_S1024x1024_S1024x1024_1_0) Cert.Reference12Ideal.Facts₀.bitsLt_bf16_f32 : FVec Ideal S1024x1024 .bf16) = product a dy := by
  funext y
  obtain ⟨i, j, rfl⟩ : ∃ (i : Fin 1024) (j : Fin 1024), y = ix2 i j := ⟨y 0, y 1, (ix2_eta y).symm⟩
  show _ = (∑ k : Fin 2048, a (ix2 k i) * dy (ix2 k j) : EReal)
  refine Eq.trans (b := (∑ k : Fin 2048, dy (ix2 k j) * a (ix2 k i) : EReal)) (by pointwise) ?_
  exact Finset.sum_congr rfl fun k _ => mul_comm _ _

/-! # The claims -/

theorem frame_ideal : Cert.quiescent_Kernel12Ideal (hKernel12Ideal := Cert.Kernel12Ideal.Gen.facts) := fun m ρ _ =>
  Cert.Kernel12Ideal.Gen.frame m ρ
theorem frame_kernel : Cert.quiescent_Kernel12 (hKernel12 := Cert.Kernel12.Gen.facts) := fun m ρ _ =>
  Cert.Kernel12.Gen.frame m ρ
theorem frame_reference : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

/-- The kernel's product and the reference's are one array. -/
theorem algebraic : @Cert.algebraic_Kernel12Ideal_Reference12Ideal Cert.Kernel12Ideal.Gen.facts Cert.Reference12Ideal.Gen.facts := by
  intro m g m' g' _ hagree
  refine ⟨fun c => product (arg0 m c) (arg1 m c),
    (θ_run defs _ _).mono (fun r h c => ⟨(h c).1.trans (final m c), (h c).2⟩) (Cert.Kernel12Ideal.Value.run_blocks (F := Ideal) m g),
    (θ_run Cert.Reference12Ideal.defs _ _).mono (fun r h c => ⟨(h c).1.trans ?_, (h c).2⟩) (Cert.Reference12Ideal.Value.run (F := Ideal) m' g')⟩
  obtain ⟨a0, a1⟩ := hagree c
  rw [a0, a1]
  exact reference_product _ _

end Cert.Kernel12Ideal.Product

end
-- ==== Proof.HeadsInput.lean ====
module

public import proofs.«01_k».proof.Defs
public import proofs.«01_k».proof.Proof.Gen.Kernel13Ideal.Value
public import proofs.«01_k».proof.Proof.Gen.Reference13Ideal.Run
public import proofs.«01_k».proof.Proof.Gen.Kernel13.Frame
public import Idealize.ShloMosaic.Lib.Pointwise
public import Idealize.ShloMosaic.Lib.Claim
public import Idealize.ShloMosaic.Lib.Pipeline.ValueKit

@[expose] public section

set_option maxRecDepth 16384

noncomputable section

namespace Cert.Kernel13Ideal.Product

open Cert.Kernel13Ideal Cert.Kernel13Ideal.Gen
open Idealize.ShloMosaic Idealize.ShloMosaic.TcCoe Idealize.SL.Sem
open Idealize.ShloMosaic.Pipeline (Dat)

/-! # The attention's output projection's gradient to its input: the cotangent times the transposed weight -/

/-- The product: each token's cotangent against each row of the weight. -/
def product (w : FVec Ideal S1024x1024 .f32) (dy : FVec Ideal S2048x1024 .f32) : FVec Ideal S2048x1024 .bf16 := fun y =>
  (∑ k : Fin 1024, dy (ix2 (y 0) k) * w (ix2 (y 1) k) : EReal)

/-- One block of the product, from the two blocks the body loads. -/
theorem block_product (x : Vec Ideal S1024x1024 .f32) (w : Vec Ideal S512x1024 .bf16) (a : Fin 1024) (b : Fin 512) :
    k0_pay1 x w (ix2 a b) = (∑ k : Fin 1024, x (ix2 a k) * w (ix2 b k) : EReal) := by
  pointwise [k0_pay1]

/-- The body loads whole blocks and stores one whole block. -/
theorem out_eq (x : Vec Ideal S1024x1024 .f32) (w : Vec Ideal S512x1024 .bf16) : out0_2 x w = k0_pay1 x w := by
  have hz : (![0, 0] : Fin 2 → Nat) = fun _ => 0 := funext fun a => by fin_cases a <;> rfl
  unfold out0_2
  rw [View.canon_unit_zero (S := S1024x512) hz, View.ld_unit_zero (S := S1024x1024) hz, View.ld_unit_zero (S := S512x1024) hz]

variable (m : (ℓ : Loc nD τ sig) → Buf (Elt Ideal) ℓ) (c : Dev nD)

/-! The arguments, as arrays of reals. -/
abbrev arg0 : FVec Ideal S1024x1024 .f32 := m ((c.tc : Thread nD τ).loc main_arg0)
abbrev arg1 : FVec Ideal S2048x1024 .f32 := m ((c.tc : Thread nD τ).loc main_arg1)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The weight is rounded on the host, which changes no real number. -/
theorem weight_eq (i : S1024x1024.Idx) : V m c main_v0 i = arg0 m c i := by
  have e : (V m c main_v0 : FVec Ideal S1024x1024 .bf16) = truncf .bf16 (arg0 m c) bitsLt_bf16_f32 := by
    unfold V
    after_results
  rw [e]
  rfl

theorem points (t : Fin cfg0.N) : t.val < 4 := lt_of_lt_of_eq t.isLt (show cfg0.N = 4 from N_0)

theorem block_0 (t : Fin cfg0.N) (a : Fin 1024) (k : Fin 1024) : iblk m c 0 t (ix2 a k) = V m c main_arg1 (ix2 ⟨1024 * (t.val / 2) + a.val, by have := points t; omega⟩ k) := by
  blk_ext [iblk, (idx t).1]
theorem block_1 (t : Fin cfg0.N) (b : Fin 512) (k : Fin 1024) : iblk m c 1 t (ix2 b k) = V m c main_v0 (ix2 ⟨512 * (t.val % 2) + b.val, by have := points t; omega⟩ k) := by
  blk_ext [iblk, (idx t).2.1]

/-- The result array after the run. -/
theorem final : (dats m 0 c).arrAt 2 cfg0.N = product (arg0 m c) (arg1 m c) := by
  refine (dats m 0 c).arrAt_eq_of_covers 2 _ (by decide +kernel) fun t _ y => ?_
  blk_simp
  rw [after0_2, out_eq]
  have hi := (idx t).2.2
  have block : ∀ (y : S1024x512.Idx) (z : S2048x1024.Idx), (z 0).val = 1024 * (t.val / 2) + (y 0).val → (z 1).val = 512 * (t.val % 2) + (y 1).val →
      k0_pay1 (iblk m c 0 t) (iblk m c 1 t) y = product (arg0 m c) (arg1 m c) z := by
    intro y z h0 h1
    obtain ⟨a, b, rfl⟩ : ∃ (a : Fin 1024) (b : Fin 512), y = ix2 a b := ⟨y 0, y 1, (ix2_eta y).symm⟩
    obtain ⟨i, j, rfl⟩ : ∃ (i : Fin 2048) (j : Fin 1024), z = ix2 i j := ⟨z 0, z 1, (ix2_eta z).symm⟩
    replace h0 : i.val = 1024 * (t.val / 2) + a.val := h0
    replace h1 : j.val = 512 * (t.val % 2) + b.val := h1
    refine (block_product _ _ a b).trans ?_
    show _ = (∑ k : Fin 1024, (arg1 m c) (ix2 i k) * (arg0 m c) (ix2 j k) : EReal)
    refine Finset.sum_congr rfl fun k _ => ?_
    rw [block_0, block_1, weight_eq, V_main_arg1]
    simp only [← h0, ← h1]
  refine block y _ ?_ ?_ <;> simp [hi, Nat.mul_comm]

theorem reference_product (w : FVec Ideal S1024x1024 .f32) (dy : FVec Ideal S2048x1024 .f32) :
    (truncf .bf16 (Host.dotGeneral Cert.Reference13Ideal.dot_S2048x1024_S1024x1024_S2048x1024_1_1_0_0_n_n none dy w) Cert.Reference13Ideal.Facts₀.bitsLt_bf16_f32 : FVec Ideal S2048x1024 .bf16) = product w dy := by
  funext y
  obtain ⟨a, b, rfl⟩ : ∃ (a : Fin 2048) (b : Fin 1024), y = ix2 a b := ⟨y 0, y 1, (ix2_eta y).symm⟩
  show _ = (∑ k : Fin 1024, dy (ix2 a k) * w (ix2 b k) : EReal)
  pointwise

/-! # The claims -/

theorem frame_ideal : Cert.quiescent_Kernel13Ideal (hKernel13Ideal := Cert.Kernel13Ideal.Gen.facts) := fun m ρ _ =>
  Cert.Kernel13Ideal.Gen.frame m ρ
theorem frame_kernel : Cert.quiescent_Kernel13 (hKernel13 := Cert.Kernel13.Gen.facts) := fun m ρ _ =>
  Cert.Kernel13.Gen.frame m ρ
theorem frame_reference : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

/-- The kernel's product and the reference's are one array. -/
theorem algebraic : @Cert.algebraic_Kernel13Ideal_Reference13Ideal Cert.Kernel13Ideal.Gen.facts Cert.Reference13Ideal.Gen.facts := by
  intro m g m' g' _ hagree
  refine ⟨fun c => product (arg0 m c) (arg1 m c),
    (θ_run defs _ _).mono (fun r h c => ⟨(h c).1.trans (final m c), (h c).2⟩) (Cert.Kernel13Ideal.Value.run_blocks (F := Ideal) m g),
    (θ_run Cert.Reference13Ideal.defs _ _).mono (fun r h c => ⟨(h c).1.trans ?_, (h c).2⟩) (Cert.Reference13Ideal.Value.run (F := Ideal) m' g')⟩
  obtain ⟨a0, a1⟩ := hagree c
  rw [a0, a1]
  exact reference_product _ _

end Cert.Kernel13Ideal.Product

end
-- ==== Proof.QueryWeight.lean ====
module

public import proofs.«01_k».proof.Defs
public import proofs.«01_k».proof.Proof.Gen.Kernel14Ideal.Value
public import proofs.«01_k».proof.Proof.Gen.Reference14Ideal.Run
public import proofs.«01_k».proof.Proof.Gen.Kernel14.Frame
public import Idealize.ShloMosaic.Lib.Pointwise
public import Idealize.ShloMosaic.Lib.Claim
public import Idealize.ShloMosaic.Lib.Pipeline.ValueKit

@[expose] public section

set_option maxRecDepth 16384

noncomputable section

namespace Cert.Kernel14Ideal.Product

open Cert.Kernel14Ideal Cert.Kernel14Ideal.Gen
open Idealize.ShloMosaic Idealize.ShloMosaic.TcCoe Idealize.SL.Sem
open Idealize.ShloMosaic.Pipeline (Dat)

/-! # The query projection's gradient to its weight: the normed rows transposed times the cotangent -/

/-- The rows normed: each row times the reciprocal root of its mean square, and times the gain. -/
def normed (x : FVec Ideal S2048x1024 .f32) (g : FVec Ideal S1x1024 .f32) : FVec Ideal S2048x1024 .f32 :=
  mulf (mulf x (broadcastInDim S2048x1024 ![0, 1] bcast_S2048x1_S2048x1024_0_1 (Host.rsqrt (addf (Host.divf (broadcastInDim S2048x1 ![0] bcast_S2048_S2048x1_0
      (Host.reduceAdd (mulf x x) (constant S_ .f32 0x00000000#32) reducesTo_S2048x1024_S2048_d1 h_S_)) (broadcastInDim S2048x1 ![] bcast_S_S2048x1 (constant S_ .f32 0x44800000#32)))
      (broadcastInDim S2048x1 ![] bcast_S_S2048x1 (constant S_ .f32 0x3727C5AC#32))))))
    (broadcastInDim S2048x1024 ![0, 1] bcast_S1x1024_S2048x1024_0_1 g)

/-- The product: each of the normed rows' columns against each of the cotangent's, over the tokens. -/
def product (a : FVec Ideal S2048x1024 .f32) (dy : FVec Ideal S2048x1024 .bf16) : FVec Ideal S1024x1024 .bf16 := fun y =>
  (∑ k : Fin 2048, a (ix2 k (y 0)) * dy (ix2 k (y 1)) : EReal)

/-- One block of the product, from the two blocks the body loads. -/
theorem block_product (x : Vec Ideal S2048x1024 .bf16) (w : Vec Ideal S2048x512 .bf16) (a : Fin 1024) (b : Fin 512) :
    k0_pay1 x w (ix2 a b) = (∑ k : Fin 2048, x (ix2 k a) * w (ix2 k b) : EReal) := by
  pointwise [k0_pay1]

/-- The body loads whole blocks and stores one whole block. -/
theorem out_eq (x : Vec Ideal S2048x1024 .bf16) (w : Vec Ideal S2048x512 .bf16) : out0_2 x w = k0_pay1 x w := by
  have hz : (![0, 0] : Fin 2 → Nat) = fun _ => 0 := funext fun a => by fin_cases a <;> rfl
  unfold out0_2
  rw [View.canon_unit_zero (S := S1024x512) hz, View.ld_unit_zero (S := S2048x1024) hz, View.ld_unit_zero (S := S2048x512) hz]

variable (m : (ℓ : Loc nD τ sig) → Buf (Elt Ideal) ℓ) (c : Dev nD)

/-! The arguments, as arrays of reals. -/
abbrev arg0 : FVec Ideal S2048x1024 .f32 := m ((c.tc : Thread nD τ).loc main_arg0)
abbrev arg1 : FVec Ideal S1x1024 .f32 := m ((c.tc : Thread nD τ).loc main_arg1)
abbrev arg2 : FVec Ideal S2048x1024 .bf16 := m ((c.tc : Thread nD τ).loc main_arg2)

theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The host's lines leave the normed rows, whose rounding changes no real number. -/
theorem rows_eq (i : S2048x1024.Idx) : V m c main_v12 i = normed (arg0 m c) (arg1 m c) i := by
  have e : (V m c main_v12 : FVec Ideal S2048x1024 .bf16) = truncf .bf16 (normed (arg0 m c) (arg1 m c)) bitsLt_bf16_f32 := by
    unfold V normed
    after_results <;> rfl
  rw [e]
  rfl

theorem points (t : Fin cfg0.N) : t.val < 2 := lt_of_lt_of_eq t.isLt (show cfg0.N = 2 from N_0)

theorem block_0 (t : Fin cfg0.N) (k : Fin 2048) (a : Fin 1024) : iblk m c 0 t (ix2 k a) = V m c main_v12 (ix2 k ⟨1024 * (t.val / 2) + a.val, by have := points t; omega⟩) := by
  blk_ext [iblk, (idx t).1]
theorem block_1 (t : Fin cfg0.N) (k : Fin 2048) (b : Fin 512) : iblk m c 1 t (ix2 k b) = V m c main_arg2 (ix2 k ⟨512 * (t.val % 2) + b.val, by have := points t; omega⟩) := by
  blk_ext [iblk, (idx t).2.1]

/-- The result array after the run. -/
theorem final : (dats m 0 c).arrAt 2 cfg0.N = product (normed (arg0 m c) (arg1 m c)) (arg2 m c) := by
  refine (dats m 0 c).arrAt_eq_of_covers 2 _ (by decide +kernel) fun t _ y => ?_
  blk_simp
  rw [after0_2, out_eq]
  have hi := (idx t).2.2
  have block : ∀ (y : S1024x512.Idx) (z : S1024x1024.Idx), (z 0).val = 1024 * (t.val / 2) + (y 0).val → (z 1).val = 512 * (t.val % 2) + (y 1).val →
      k0_pay1 (iblk m c 0 t) (iblk m c 1 t) y = product (normed (arg0 m c) (arg1 m c)) (arg2 m c) z := by
    intro y z h0 h1
    obtain ⟨a, b, rfl⟩ : ∃ (a : Fin 1024) (b : Fin 512), y = ix2 a b := ⟨y 0, y 1, (ix2_eta y).symm⟩
    obtain ⟨i, j, rfl⟩ : ∃ (i : Fin 1024) (j : Fin 1024), z = ix2 i j := ⟨z 0, z 1, (ix2_eta z).symm⟩
    replace h0 : i.val = 1024 * (t.val / 2) + a.val := h0
    replace h1 : j.val = 512 * (t.val % 2) + b.val := h1
    refine (block_product _ _ a b).trans ?_
    show _ = (∑ k : Fin 2048, (normed (arg0 m c) (arg1 m c)) (ix2 k i) * (arg2 m c) (ix2 k j) : EReal)
    refine Finset.sum_congr rfl fun k _ => ?_
    rw [block_0, block_1, rows_eq, V_main_arg2]
    simp only [← h0, ← h1]
  refine block y _ ?_ ?_ <;> simp [hi, Nat.mul_comm]

/-- The reference's lines: the product with its factors the other way round, transposed. -/
theorem reference_product (a : FVec Ideal S2048x1024 .f32) (dy : FVec Ideal S2048x1024 .bf16) :
    (truncf .bf16 (transpose Cert.Reference14Ideal.S1024x1024 [1, 0] (Host.dotGeneral Cert.Reference14Ideal.dot_S2048x1024_S2048x1024_S1024x1024_0_0_1_1_n_n none (extf .f32 dy Cert.Reference14Ideal.Facts₀.bitsLt_bf16_f32)
      a) Cert.Reference14Ideal.Facts₀.transposes_S1024x1024_S1024x1024_1_0) Cert.Reference14Ideal.Facts₀.bitsLt_bf16_f32 : FVec Ideal S1024x1024 .bf16) = product a dy := by
  funext y
  obtain ⟨i, j, rfl⟩ : ∃ (i : Fin 1024) (j : Fin 1024), y = ix2 i j := ⟨y 0, y 1, (ix2_eta y).symm⟩
  show _ = (∑ k : Fin 2048, a (ix2 k i) * dy (ix2 k j) : EReal)
  refine Eq.trans (b := (∑ k : Fin 2048, dy (ix2 k j) * a (ix2 k i) : EReal)) (by pointwise) ?_
  exact Finset.sum_congr rfl fun k _ => mul_comm _ _

/-! # The claims -/

theorem frame_ideal : Cert.quiescent_Kernel14Ideal (hKernel14Ideal := Cert.Kernel14Ideal.Gen.facts) := fun m ρ _ =>
  Cert.Kernel14Ideal.Gen.frame m ρ
theorem frame_kernel : Cert.quiescent_Kernel14 (hKernel14 := Cert.Kernel14.Gen.facts) := fun m ρ _ =>
  Cert.Kernel14.Gen.frame m ρ
theorem frame_reference : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

/-- The kernel's product and the reference's are one array. -/
theorem algebraic : @Cert.algebraic_Kernel14Ideal_Reference14Ideal Cert.Kernel14Ideal.Gen.facts Cert.Reference14Ideal.Gen.facts := by
  intro m g m' g' _ hagree
  refine ⟨fun c => product (normed (arg0 m c) (arg1 m c)) (arg2 m c),
    (θ_run defs _ _).mono (fun r h c => ⟨(h c).1.trans (final m c), (h c).2⟩) (Cert.Kernel14Ideal.Value.run_blocks (F := Ideal) m g),
    (θ_run Cert.Reference14Ideal.defs _ _).mono (fun r h c => ⟨(h c).1.trans ?_, (h c).2⟩) (Cert.Reference14Ideal.Value.run (F := Ideal) m' g')⟩
  obtain ⟨a0, a1, a2⟩ := hagree c
  rw [a0, a1, a2]
  exact reference_product _ _

end Cert.Kernel14Ideal.Product

end
-- ==== Proof.KeyWeight.lean ====
module

public import proofs.«01_k».proof.Defs
public import proofs.«01_k».proof.Proof.Gen.Kernel15Ideal.Value
public import proofs.«01_k».proof.Proof.Gen.Reference15Ideal.Run
public import proofs.«01_k».proof.Proof.Gen.Kernel15.Frame
public import Idealize.ShloMosaic.Lib.Pointwise
public import Idealize.ShloMosaic.Lib.Claim
public import Idealize.ShloMosaic.Lib.Pipeline.ValueKit

@[expose] public section

set_option maxRecDepth 16384

noncomputable section

namespace Cert.Kernel15Ideal.Product

open Cert.Kernel15Ideal Cert.Kernel15Ideal.Gen
open Idealize.ShloMosaic Idealize.ShloMosaic.TcCoe Idealize.SL.Sem
open Idealize.ShloMosaic.Pipeline (Dat)

/-! # The key and value projection's gradient to its weight: the normed rows transposed times the cotangent -/

/-- The rows normed: each row times the reciprocal root of its mean square, and times the gain. -/
def normed (x : FVec Ideal S2048x1024 .f32) (g : FVec Ideal S1x1024 .f32) : FVec Ideal S2048x1024 .f32 :=
  mulf (mulf x (broadcastInDim S2048x1024 ![0, 1] bcast_S2048x1_S2048x1024_0_1 (Host.rsqrt (addf (Host.divf (broadcastInDim S2048x1 ![0] bcast_S2048_S2048x1_0
      (Host.reduceAdd (mulf x x) (constant S_ .f32 0x00000000#32) reducesTo_S2048x1024_S2048_d1 h_S_)) (broadcastInDim S2048x1 ![] bcast_S_S2048x1 (constant S_ .f32 0x44800000#32)))
      (broadcastInDim S2048x1 ![] bcast_S_S2048x1 (constant S_ .f32 0x3727C5AC#32))))))
    (broadcastInDim S2048x1024 ![0, 1] bcast_S1x1024_S2048x1024_0_1 g)

/-- The product: each of the normed rows' columns against each of the cotangent's, over the tokens. -/
def product (a : FVec Ideal S2048x1024 .f32) (dy : FVec Ideal S2048x512 .bf16) : FVec Ideal S1024x512 .bf16 := fun y =>
  (∑ k : Fin 2048, a (ix2 k (y 0)) * dy (ix2 k (y 1)) : EReal)

/-- One block of the product, from the two blocks the body loads. -/
theorem block_product (x : Vec Ideal S2048x1024 .bf16) (w : Vec Ideal S2048x512 .bf16) (a : Fin 1024) (b : Fin 512) :
    k0_pay1 x w (ix2 a b) = (∑ k : Fin 2048, x (ix2 k a) * w (ix2 k b) : EReal) := by
  pointwise [k0_pay1]

/-- The body loads whole blocks and stores one whole block. -/
theorem out_eq (x : Vec Ideal S2048x1024 .bf16) (w : Vec Ideal S2048x512 .bf16) : out0_2 x w = k0_pay1 x w := by
  have hz : (![0, 0] : Fin 2 → Nat) = fun _ => 0 := funext fun a => by fin_cases a <;> rfl
  unfold out0_2
  rw [View.canon_unit_zero (S := S1024x512) hz, View.ld_unit_zero (S := S2048x1024) hz, View.ld_unit_zero (S := S2048x512) hz]

variable (m : (ℓ : Loc nD τ sig) → Buf (Elt Ideal) ℓ) (c : Dev nD)

/-! The arguments, as arrays of reals. -/
abbrev arg0 : FVec Ideal S2048x1024 .f32 := m ((c.tc : Thread nD τ).loc main_arg0)
abbrev arg1 : FVec Ideal S1x1024 .f32 := m ((c.tc : Thread nD τ).loc main_arg1)
abbrev arg2 : FVec Ideal S2048x512 .bf16 := m ((c.tc : Thread nD τ).loc main_arg2)

theorem idx : ∀ t : Fin cfg0.N, win0_0.index t = ![0, t.val / 1] ∧ win0_1.index t = ![0, t.val % 1] ∧ win0_2.index t = ![t.val / 1, t.val % 1] :=
  (by decide +kernel : ∀ t : Fin grid0.N, _)

/-- The host's lines leave the normed rows, whose rounding changes no real number. -/
theorem rows_eq (i : S2048x1024.Idx) : V m c main_v12 i = normed (arg0 m c) (arg1 m c) i := by
  have e : (V m c main_v12 : FVec Ideal S2048x1024 .bf16) = truncf .bf16 (normed (arg0 m c) (arg1 m c)) bitsLt_bf16_f32 := by
    unfold V normed
    after_results <;> rfl
  rw [e]
  rfl

theorem points (t : Fin cfg0.N) : t.val < 1 := lt_of_lt_of_eq t.isLt (show cfg0.N = 1 from N_0)

theorem block_0 (t : Fin cfg0.N) (k : Fin 2048) (a : Fin 1024) : iblk m c 0 t (ix2 k a) = V m c main_v12 (ix2 k ⟨1024 * (t.val / 1) + a.val, by have := points t; omega⟩) := by
  blk_ext [iblk, (idx t).1]
theorem block_1 (t : Fin cfg0.N) (k : Fin 2048) (b : Fin 512) : iblk m c 1 t (ix2 k b) = V m c main_arg2 (ix2 k ⟨512 * (t.val % 1) + b.val, by have := points t; omega⟩) := by
  blk_ext [iblk, (idx t).2.1]

/-- The result array after the run. -/
theorem final : (dats m 0 c).arrAt 2 cfg0.N = product (normed (arg0 m c) (arg1 m c)) (arg2 m c) := by
  refine (dats m 0 c).arrAt_eq_of_covers 2 _ (by decide +kernel) fun t _ y => ?_
  blk_simp
  rw [after0_2, out_eq]
  have hi := (idx t).2.2
  have block : ∀ (y : S1024x512.Idx) (z : S1024x512.Idx), (z 0).val = 1024 * (t.val / 1) + (y 0).val → (z 1).val = 512 * (t.val % 1) + (y 1).val →
      k0_pay1 (iblk m c 0 t) (iblk m c 1 t) y = product (normed (arg0 m c) (arg1 m c)) (arg2 m c) z := by
    intro y z h0 h1
    obtain ⟨a, b, rfl⟩ : ∃ (a : Fin 1024) (b : Fin 512), y = ix2 a b := ⟨y 0, y 1, (ix2_eta y).symm⟩
    obtain ⟨i, j, rfl⟩ : ∃ (i : Fin 1024) (j : Fin 512), z = ix2 i j := ⟨z 0, z 1, (ix2_eta z).symm⟩
    replace h0 : i.val = 1024 * (t.val / 1) + a.val := h0
    replace h1 : j.val = 512 * (t.val % 1) + b.val := h1
    refine (block_product _ _ a b).trans ?_
    show _ = (∑ k : Fin 2048, (normed (arg0 m c) (arg1 m c)) (ix2 k i) * (arg2 m c) (ix2 k j) : EReal)
    refine Finset.sum_congr rfl fun k _ => ?_
    rw [block_0, block_1, rows_eq, V_main_arg2]
    simp only [← h0, ← h1]
  refine block y _ ?_ ?_ <;> simp [hi, Nat.mul_comm, Nat.mod_one, Nat.div_one]

/-- The reference's lines: the product with its factors the other way round, transposed. -/
theorem reference_product (a : FVec Ideal S2048x1024 .f32) (dy : FVec Ideal S2048x512 .bf16) :
    (truncf .bf16 (transpose Cert.Reference15Ideal.S1024x512 [1, 0] (Host.dotGeneral Cert.Reference15Ideal.dot_S2048x512_S2048x1024_S512x1024_0_0_1_1_n_n none (extf .f32 dy Cert.Reference15Ideal.Facts₀.bitsLt_bf16_f32)
      a) Cert.Reference15Ideal.Facts₀.transposes_S512x1024_S1024x512_1_0) Cert.Reference15Ideal.Facts₀.bitsLt_bf16_f32 : FVec Ideal S1024x512 .bf16) = product a dy := by
  funext y
  obtain ⟨i, j, rfl⟩ : ∃ (i : Fin 1024) (j : Fin 512), y = ix2 i j := ⟨y 0, y 1, (ix2_eta y).symm⟩
  show _ = (∑ k : Fin 2048, a (ix2 k i) * dy (ix2 k j) : EReal)
  refine Eq.trans (b := (∑ k : Fin 2048, dy (ix2 k j) * a (ix2 k i) : EReal)) (by pointwise) ?_
  exact Finset.sum_congr rfl fun k _ => mul_comm _ _

/-! # The claims -/

theorem frame_ideal : Cert.quiescent_Kernel15Ideal (hKernel15Ideal := Cert.Kernel15Ideal.Gen.facts) := fun m ρ _ =>
  Cert.Kernel15Ideal.Gen.frame m ρ
theorem frame_kernel : Cert.quiescent_Kernel15 (hKernel15 := Cert.Kernel15.Gen.facts) := fun m ρ _ =>
  Cert.Kernel15.Gen.frame m ρ
theorem frame_reference : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

/-- The kernel's product and the reference's are one array. -/
theorem algebraic : @Cert.algebraic_Kernel15Ideal_Reference15Ideal Cert.Kernel15Ideal.Gen.facts Cert.Reference15Ideal.Gen.facts := by
  intro m g m' g' _ hagree
  refine ⟨fun c => product (normed (arg0 m c) (arg1 m c)) (arg2 m c),
    (θ_run defs _ _).mono (fun r h c => ⟨(h c).1.trans (final m c), (h c).2⟩) (Cert.Kernel15Ideal.Value.run_blocks (F := Ideal) m g),
    (θ_run Cert.Reference15Ideal.defs _ _).mono (fun r h c => ⟨(h c).1.trans ?_, (h c).2⟩) (Cert.Reference15Ideal.Value.run (F := Ideal) m' g')⟩
  obtain ⟨a0, a1, a2⟩ := hagree c
  rw [a0, a1, a2]
  exact reference_product _ _

end Cert.Kernel15Ideal.Product

end
-- ==== Proof.InForwardRun.lean ====
module

public import proofs.«01_k».proof.Proof.Gen.Kernel7Ideal.Frame
public import proofs.«01_k».proof.Proof.Gen.Kernel7Ideal.Skeleton
public import Idealize.ShloMosaic.Lib.Pointwise
public import Idealize.ShloMosaic.Lib.Claim
public import Idealize.ShloMosaic.Lib.Pipeline.ValueKit
public import Idealize.ShloMosaic.Lib.Pipeline.TableIdle

@[expose] public section

set_option maxRecDepth 16384

noncomputable section

namespace Cert.Kernel7Ideal.Product

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the feed-forward part's first product

The body divides the rows by their root mean squares at the first point of a row of points, and leaves them in the second
result's buffer, from which every point of the row reads them: the buffer is stored at the row's first point and written
back at its last. -/

/-! ## The body, at a row's first point and at a later one -/

set_option maxHeartbeats 1000000 in
/-- At a row's first point the body stores the normalised rows, and multiplies them. -/
theorem first_point (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1024x1408 .f32) (harg5 : arg5.IsWhole) (arg6 : Memref sig .tc .vmem S1024x1024 .bf16) (harg6 : arg6.IsWhole) (hc : k0_cond1 i = 1#1)
    (x0 : Vec F S1024x1024 .f32) (x1 : Vec F S1x1024 .f32) (x2 : Vec F S1x1024x1408 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_f_in0 i arg2 harg2 arg3 harg3 arg4 harg4 arg5 harg5 arg6 harg6) K := by
  have hz : (![0, 0] : Fin 2 → Nat) = fun _ => 0 := funext fun a => by fin_cases a <;> rfl
  have hz' : (![0, 0, 0] : Fin 3 → Nat) = fun _ => 0 := funext fun a => by fin_cases a <;> rfl
  simp only [cc0_f_in0_eq_skeleton]; unfold cc0_f_in0_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiled _ S1024x1408.size (by rfl)), View.canon_unit_zero (S := S1024x1408) hz]
    simp only [View.readAt_eq_ld, harg4.read_unread]
    unfold first_point.sl.v3 first_point.sl.H4_1
    rw [View.readCov_unit_zero (S := S1024x1024) _ hz]
    simp only [View.readAt_eq_ld, harg2.read_unread, harg3.read_unread]
    rw [View.ld_unit_zero (S := S1024x1024) hz]
    rw [View.ld_unit_zero (S := S1x1024) hz]
    rw [View.ld_unit_zero (S := S1x1024x1408) hz']
  iexists _; isplitr
  swap; · iexact H4
  ipureintro
  unfold first_point.sl.H4_1
  rw [View.read_writes_eq_canon _ _ _ (View.cover_of_tiled _ S1024x1024.size (by rfl)), View.canon_unit_zero (S := S1024x1024) hz]
  simp only [View.readAt_eq_ld, harg2.read_unread, harg3.read_unread]
  rw [View.ld_unit_zero (S := S1024x1024) hz]
  rw [View.ld_unit_zero (S := S1x1024) hz]

set_option maxHeartbeats 1000000 in
/-- At a later point the body multiplies the rows it finds. -/
theorem later_point (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x1408 .bf16) (harg4 : arg4.IsWhole) (arg5 : Memref sig .tc .vmem S1024x1408 .f32) (harg5 : arg5.IsWhole) (arg6 : Memref sig .tc .vmem S1024x1024 .bf16) (harg6 : arg6.IsWhole) (hc : ¬k0_cond1 i = 1#1)
    (x0 : Vec F S1024x1024 .f32) (x1 : Vec F S1x1024 .f32) (x2 : Vec F S1x1024x1408 .bf16) (xh : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xh
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xh x2) ∗ owns (c : Thread nD τ) arg6 fullShare xh) -∗ K ⟨⟩))
      ⊢ wp frame (wpE (defs₀ (F := F)) Variants.none c none) E (cc0_f_in0 i arg2 harg2 arg3 harg3 arg4 harg4 arg5 harg5 arg6 harg6) K := by
  have hz : (![0, 0] : Fin 2 → Nat) = fun _ => 0 := funext fun a => by fin_cases a <;> rfl
  have hz' : (![0, 0, 0] : Fin 3 → Nat) = fun _ => 0 := funext fun a => by fin_cases a <;> rfl
  simp only [cc0_f_in0_eq_skeleton]; unfold cc0_f_in0_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2
  obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiled _ S1024x1408.size (by rfl)), View.canon_unit_zero (S := S1024x1408) hz]
    simp only [View.readAt_eq_ld, harg6.read_unread, harg4.read_unread]
    rw [View.ld_unit_zero (S := S1024x1024) hz]
    rw [View.ld_unit_zero (S := S1x1024x1408) hz']
  iexists _; isplitr
  swap; · iexact H4
  ipureintro
  exact harg6.read_unread _

/-! ## The proof data -/

variable (m : (ℓ : Loc nD τ sig) → Buf (Elt F) ℓ) (ρ : Dev nD → PrngReg)

/-- The normalised rows of point `t`'s row of points. -/
def rowsAt (c : Dev nD) (t : Fin cfg0.N) : Vec F S1024x1024 .bf16 := k0_pay1 (iblk m c 0 t) (iblk m c 1 t)

/-- The proof data: each input's buffer keeps its block, the first result's holds the product, the second's the normalised rows. -/
def data : (p : Fin 1) → (c : Dev nD) → Dat τ (Elt F) Unit ℕ (UR sig nD τ) ℕ (cfgs p) c := fun _ c =>
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => k0_pay2 (rowsAt m c t) (iblk m c 2 t)
      | ⟨4, _⟩ => rowsAt m c t
    Φ := fun _ => Pipeline.ΦA spec0 c
    q := fun _ => fullShare
    owed := fun _ => 0 }

theorem data_A (c : Dev nD) (w : Fin cfg0.W) : (data m 0 c).A w = V m c (Pipeline.arrRef spec0 w) := by dsimp only [data]
theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = k0_pay2 (rowsAt m c t) (iblk m c 2 t) := by dsimp only [data]
theorem after_4 (c : Dev nD) (t : Fin cfg0.N) : (data m 0 c).after 4 t = rowsAt m c t := by dsimp only [data]
theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d

/-! ## The points -/

theorem points (t : Fin cfg0.N) : t.val < 8 := lt_of_lt_of_eq t.isLt (show cfg0.N = 8 from N_0)
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)
theorem idle_iff (t : Fin cfg0.N) : cfg0.idle 4 (cfg0.grid.coords t) = true ↔ ¬t.val % 4 = 0 := by
  rw [← first_iff t]
  show (!(k0_cond1 (grid0.coords t) == 1#1)) = true ↔ _
  simp
theorem index_rows : ∀ t : Fin cfg0.N, win0_0.index t = ![t.val / 4, 0] ∧ win0_1.index t = ![0, 0] :=
  (by decide +kernel : ∀ t : Fin grid0.N, _)

/-- The points of one row of points read the same rows. -/
theorem block_0 (c : Dev nD) (t : Fin cfg0.N) (a : Fin 1024) (k : Fin 1024) :
    iblk m c 0 t (ix2 a k) = V m c main_arg0 (ix2 ⟨1024 * (t.val / 4) + a.val, by have := points t; omega⟩ k) := by
  blk_ext [iblk, (index_rows t).1]
theorem block_1 (c : Dev nD) (t : Fin cfg0.N) (a : Fin 1) (k : Fin 1024) : iblk m c 1 t (ix2 a k) = V m c main_arg1 (ix2 a k) := by
  blk_ext [iblk, (index_rows t).2]
theorem rowsAt_same (c : Dev nD) (s t : Fin cfg0.N) (e : s.val / 4 = t.val / 4) : rowsAt m c s = rowsAt m c t := by
  unfold rowsAt
  refine congrArg₂ (fun p q => k0_pay1 p q) (funext fun y => ?_) (funext fun y => ?_)
  · obtain ⟨a, k, rfl⟩ : ∃ (a : Fin 1024) (k : Fin 1024), y = ix2 a k := ⟨y 0, y 1, (ix2_eta y).symm⟩
    refine (block_0 m c s a k).trans (Eq.trans ?_ (block_0 m c t a k).symm)
    simp only [e]
  · obtain ⟨a, k, rfl⟩ : ∃ (a : Fin 1) (k : Fin 1024), y = ix2 a k := ⟨y 0, y 1, (ix2_eta y).symm⟩
    exact (block_1 m c s a k).trans (block_1 m c t a k).symm

/-- Which points find the second result's buffer not yet stored: the first of each row of points. -/
theorem fresh_iff (n : ℕ) (h : n ≤ 8) : cfg0.fresh 4 n = decide (n % 4 = 0) := by
  refine cfg0.fresh_tab 4 (fun n => decide (n % 4 = 0)) rfl (fun t => ?_) n (le_of_le_of_eq h (show cfg0.N = 8 from N_0).symm)
  have ht := points t
  rw [Bool.eq_iff_iff, Bool.or_eq_true, Bool.and_eq_true, flush0_4 t, idle_iff t, decide_eq_true_eq, decide_eq_true_eq]
  omega

/-- Past a row's first point the buffer holds the row's normalised rows. -/
theorem kept (c : Dev nD) (t : Fin cfg0.N) (h : ¬t.val % 4 = 0) (d) : (data m 0 c).before 4 t d = rowsAt m c t := by
  have ht := points t
  rw [Dat.before_out_traj (data m 0 c) 4 rfl (fun _ _ => rfl) (fun s hs hi hf => ?_) t.val t rfl d, fresh_iff t.val (by omega), if_neg (by simpa using h), after_4]
  · exact rowsAt_same m c _ _ (by show (t.val - 1) / 4 = t.val / 4; omega)
  · have hi' := (idle_iff s).mp hi
    rw [after_4, after_4]
    exact rowsAt_same m c _ _ (by show s.val / 4 = (s.val - 1) / 4; omega)

/-! ## The body at a point -/

/-- What a point starts from. -/
def pre (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d))
    ∗ (∃ d, owns (c : Thread nD τ) (win0_4.stage (cfg0.slots t 4)) fullShare ((data m 0 c).before 4 t d)))

/-- What a point leaves: of the second result's buffer, at a later point that does not write it back, what the point found. -/
def post (c : Dev nD) (t : Fin cfg0.N) : sProp 𝕄 :=
  iprop((data m 0 c).Φ t.succ ∗ (data m 0 c).owesAt () t.succ
    ∗ owns (c : Thread nD τ) (win0_0.stage (cfg0.slots t 0)) fullShare ((data m 0 c).after 0 t)
    ∗ owns (c : Thread nD τ) (win0_1.stage (cfg0.slots t 1)) fullShare ((data m 0 c).after 1 t)
    ∗ owns (c : Thread nD τ) (win0_2.stage (cfg0.slots t 2)) fullShare ((data m 0 c).after 2 t)
    ∗ owns (c : Thread nD τ) (win0_3.stage (cfg0.slots t 3)) fullShare ((data m 0 c).after 3 t)
    ∗ (data m 0 c).leavesExact 4 t)

/-- The normalised rows are what a point is to leave in the second result's buffer. -/
theorem leaves_rows (c : Dev nD) (t : Fin cfg0.N) :
    (owns (c : Thread nD τ) (win0_4.stage (cfg0.slots t 4)) fullShare (rowsAt m c t) : sProp 𝕄) ⊢ (data m 0 c).leavesExact 4 t := by
  by_cases h0 : t.val % 4 = 0
  · have hi : cfg0.idle 4 (cfg0.grid.coords t) = false := Bool.eq_false_iff.mpr fun e => (idle_iff t).mp e h0
    unfold Dat.leavesExact
    rw [show (cfgs 0).idle 4 ((cfgs 0).grid.coords t) = false from hi, after_4]
  · by_cases hf : (cfg0.win 4).flush t = true
    · unfold Dat.leavesExact
      rw [show (cfgs 0).idle 4 ((cfgs 0).grid.coords t) = true from (idle_iff t).mpr h0, show ((cfgs 0).win 4).flush t = true from hf, after_4]
    · rw [Dat.leavesExact_idle _ 4 t ((idle_iff t).mpr h0) (Bool.eq_false_iff.mpr hf)]
      iintro H
      iexists (rowsAt m c t)
      rw [kept m c t h0]
      iexact H

set_option maxHeartbeats 1000000 in
/-- The body at a point. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (data m 0 c).Φ t.succ = (data m 0 c).Φ t.castSucc from rfl, show (data m 0 c).owesAt () t.succ = (data m 0 c).owesAt () t.castSucc from rfl, after_0, after_1, after_2, after_3]
  have leave := leaves_rows m c t
  by_cases h0 : t.val % 4 = 0
  · iintro ⟨HΦ, Ho, ⟨%d0, H0⟩, ⟨%d1, H1⟩, ⟨%d2, H2⟩, ⟨%d3, H3⟩, ⟨%d4, H4⟩⟩
    iapply (first_point c Set.univ (grid0.coords t) _ _ _ _ _ _ _ _ _ _ ((first_iff t).mpr h0) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply leave
    iexact H4
  · simp only [kept m c t h0]
    iintro ⟨HΦ, Ho, ⟨%d0, H0⟩, ⟨%d1, H1⟩, ⟨%d2, H2⟩, ⟨%d3, H3⟩, ⟨%d4, H4⟩⟩
    iapply (later_point c Set.univ (grid0.coords t) _ _ _ _ _ _ _ _ _ _ (fun e => h0 ((first_iff t).mp e)) (iblk m c 0 t) (iblk m c 1 t) (iblk m c 2 t) (rowsAt m c t) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply leave
    iexact H4

theorem body_row (t : Fin cfg0.N) : defs₀ (F := F) .tc cfg0.body (cfg0.bodyArgs t (cfg0.slots t)) = bodyAt0 t := by
  unfold defs₀; rw [Defs.onTc_tc]

theorem body_meets (c : Dev nD) : BodyObligation (data (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
set_option maxHeartbeats 800000 in
/-- Every fair run ends, with the arrays at what the proof data gives and every counter at zero. -/
theorem run_and_counters : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (body_meets m c).loose) (hshare := fun c => (data m 0 c).share_full fun _ => rfl)
    (howed := fun _ _ => rfl) (V := V m) (hmain := hmain m Variants.none) (hA := data_A m) (hΦ := fun _ _ => rfl)

/-- The same without the counters. -/
theorem run_arrays : θ_run defs (onTc (τ := τ) (main (F := F))) (s₀ m ρ) (Pipeline.FramePost cfgs (data m) 0 (V m)) :=
  (θ_run defs _ _).mono (fun _ h => h.1) (run_and_counters m ρ)

/-- The arguments end as they began and every counter at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (data m) (data_A m) (run_arrays m ρ)) ((θ_run defs _ _).mono (fun _ h => h.2) (run_and_counters m ρ))

end Cert.Kernel7Ideal.Product

end
-- ==== Proof.InForward.lean ====
module

public import proofs.«01_k».proof.Defs
public import proofs.«01_k».proof.Proof.InForwardRun
public import proofs.«01_k».proof.Proof.PrintedInForwardRun
public import proofs.«01_k».proof.Proof.Gen.Reference7Ideal.Run

@[expose] public section

set_option maxRecDepth 16384

noncomputable section

namespace Cert.Kernel7Ideal.Product

open Cert.Kernel7Ideal Cert.Kernel7Ideal.Gen
open Idealize.ShloMosaic Idealize.ShloMosaic.TcCoe Idealize.SL.Sem
open Idealize.ShloMosaic.Pipeline (Dat)
open Cert.Reference7Ideal.Facts₀ (bcast_S2048x1_S2048x1024_0_1 bcast_S2048_S2048x1_0 bcast_S_S2048x1 bcast_S1x1024_S2048x1024_0_1 reducesTo_S2048x1024_S2048_d1 h_S_)

/-! # The feed-forward part's first product, and the normed rows -/

abbrev S2048 := Cert.Reference7Ideal.S2048
abbrev S2048x1 := Cert.Reference7Ideal.S2048x1
abbrev S_ := Cert.Reference7Ideal.S_

/-- The rows normed: each row times the reciprocal root of its mean square, and times the gain. -/
def normed (x : FVec Ideal S2048x1024 .f32) (g : FVec Ideal S1x1024 .f32) : FVec Ideal S2048x1024 .f32 :=
  mulf (mulf x (broadcastInDim S2048x1024 ![0, 1] bcast_S2048x1_S2048x1024_0_1 (Host.rsqrt (addf (Host.divf (broadcastInDim S2048x1 ![0] bcast_S2048_S2048x1_0
      (Host.reduceAdd (mulf x x) (constant S_ .f32 0x00000000#32) reducesTo_S2048x1024_S2048_d1 h_S_)) (broadcastInDim S2048x1 ![] bcast_S_S2048x1 (constant S_ .f32 0x44800000#32)))
      (broadcastInDim S2048x1 ![] bcast_S_S2048x1 (constant S_ .f32 0x3727C5AC#32))))))
    (broadcastInDim S2048x1024 ![0, 1] bcast_S1x1024_S2048x1024_0_1 g)

/-- The product: each of the normed rows against each of the weight's columns. -/
def product (x : FVec Ideal S2048x1024 .f32) (g : FVec Ideal S1x1024 .f32) (w : FVec Ideal S1024x5632 .f32) : FVec Ideal S2048x5632 .f32 := fun y =>
  (∑ k : Fin 1024, normed x g (ix2 (y 0) k) * w (ix2 k (y 1)) : EReal)

/-- One row, normed. -/
def normedRow (r : Fin 1024 → EReal) (g : EReal) (k : Fin 1024) : EReal :=
  r k * Ideal.rsqrt (Ideal.div (∑ j, r j * r j) (Ideal.ofBits .f32 0x44800000#32) + Ideal.ofBits .f32 0x3727C5AC#32) * g

theorem normed_at (x : FVec Ideal S2048x1024 .f32) (g : FVec Ideal S1x1024 .f32) (i : Fin 2048) (k : Fin 1024) :
    normed x g (ix2 i k) = normedRow (fun j => x (ix2 i j)) (g (ix2 0 k)) k := by
  unfold normed normedRow
  pointwise
/-- The body's rows are normed alike. -/
theorem block_normed (x : Vec Ideal S1024x1024 .f32) (g : Vec Ideal S1x1024 .f32) (a : Fin 1024) (k : Fin 1024) :
    k0_pay1 x g (ix2 a k) = normedRow (fun j => x (ix2 a j)) (g (ix2 0 k)) k := by
  unfold normedRow
  pointwise [k0_pay1]
/-- One block of the product, from the blocks the body loads. -/
theorem block_product (h : Vec Ideal S1024x1024 .bf16) (w : Vec Ideal S1x1024x1408 .bf16) (a : Fin 1024) (b : Fin 1408) :
    k0_pay2 h w (ix2 a b) = (∑ k : Fin 1024, h (ix2 a k) * w (ix3 0 k b) : EReal) := by
  pointwise [k0_pay2]

variable (m : (ℓ : Loc nD τ sig) → Buf (Elt Ideal) ℓ) (c : Dev nD)

/-! The arguments, as arrays of reals. -/
abbrev arg0 : FVec Ideal S2048x1024 .f32 := m ((c.tc : Thread nD τ).loc main_arg0)
abbrev arg1 : FVec Ideal S1x1024 .f32 := m ((c.tc : Thread nD τ).loc main_arg1)
abbrev arg2 : FVec Ideal S1024x5632 .f32 := m ((c.tc : Thread nD τ).loc main_arg2)

theorem idx : ∀ t : Fin cfg0.N, win0_2.index t = ![t.val % 4, 0, 0] ∧ win0_3.index t = ![t.val / 4, t.val % 4] ∧ win0_4.index t = ![t.val / 4, 0] :=
  (by decide +kernel : ∀ t : Fin grid0.N, _)

/-- The host lays the weight's columns out in four pieces, and rounds it, which changes no real number. -/
theorem weight_eq (p : Fin 4) (k : Fin 1024) (b : Fin 1408) : V m c main_v2 (ix3 p k b) = arg2 m c (ix2 k ⟨1408 * p.val + b.val, by omega⟩) := by
  have e : (V m c main_v2 : FVec Ideal S4x1024x1408 .bf16) = truncf .bf16 (transpose S4x1024x1408 [1, 0, 2] (shapeCast S1024x4x1408 (arg2 m c) shapeCasts_S1024x5632_S1024x4x1408) transposes_S1024x4x1408_S4x1024x1408_1_0_2) bitsLt_bf16_f32 := by
    unfold V
    after_results <;> rfl
  rw [e]
  generalize arg2 m c = w
  pointwise
  try simp only [Nat.mul_comm]

/-- The normalised rows of a point, as the whole array's. -/
theorem rows_at (t : Fin cfg0.N) (a k : Fin 1024) :
    (rowsAt m c t (ix2 a k) : EReal) = normed (arg0 m c) (arg1 m c) (ix2 ⟨1024 * (t.val / 4) + a.val, by have := points t; omega⟩ k) := by
  unfold rowsAt
  refine (block_normed _ _ a k).trans (Eq.trans ?_ (normed_at _ _ _ k).symm)
  rw [block_1, V_main_arg1]
  refine congrArg (fun r => normedRow r _ k) (funext fun j => ?_)
  rw [block_0, V_main_arg0]

/-- The weight's block at a point. -/
theorem block_2 (t : Fin cfg0.N) (k : Fin 1024) (b : Fin 1408) : iblk m c 2 t (ix3 0 k b) = arg2 m c (ix2 k ⟨1408 * (t.val % 4) + b.val, by have := points t; omega⟩) := by
  refine Eq.trans (b := V m c main_v2 (ix3 ⟨t.val % 4, by omega⟩ k b)) (by blk_ext [iblk, (idx t).1]) ?_
  exact weight_eq m c ⟨t.val % 4, by omega⟩ k b

/-- The products' array after the run. -/
theorem final_product : (data m 0 c).arrAt 3 (cfgs 0).N = product (arg0 m c) (arg1 m c) (arg2 m c) := by
  refine (data m 0 c).arrAt_eq_of_covers 3 _ (by decide +kernel) fun t _ y => ?_
  blk_simp
  rw [after_3]
  have hi := (idx t).2.1
  have block : ∀ (y : S1024x1408.Idx) (z : S2048x5632.Idx), (z 0).val = 1024 * (t.val / 4) + (y 0).val → (z 1).val = 1408 * (t.val % 4) + (y 1).val →
      k0_pay2 (rowsAt m c t) (iblk m c 2 t) y = product (arg0 m c) (arg1 m c) (arg2 m c) z := by
    intro y z h0 h1
    obtain ⟨a, b, rfl⟩ : ∃ (a : Fin 1024) (b : Fin 1408), y = ix2 a b := ⟨y 0, y 1, (ix2_eta y).symm⟩
    obtain ⟨i, j, rfl⟩ : ∃ (i : Fin 2048) (j : Fin 5632), z = ix2 i j := ⟨z 0, z 1, (ix2_eta z).symm⟩
    replace h0 : i.val = 1024 * (t.val / 4) + a.val := h0
    replace h1 : j.val = 1408 * (t.val % 4) + b.val := h1
    refine (block_product _ _ a b).trans ?_
    show _ = (∑ k : Fin 1024, normed (arg0 m c) (arg1 m c) (ix2 i k) * (arg2 m c) (ix2 k j) : EReal)
    refine Finset.sum_congr rfl fun k _ => congrArg₂ (fun p q : EReal => p * q) ?_ ?_
    · rw [rows_at]
      simp only [← h0]
    · rw [block_2]
      simp only [← h1]
  refine block y _ ?_ ?_ <;> simp [hi, Nat.mul_comm]

/-- The normed rows' array after the run: written back at the last point of each row of points. -/
theorem final_rows : (data m 0 c).arrAt 4 (cfgs 0).N = (truncf .bf16 (normed (arg0 m c) (arg1 m c)) bitsLt_bf16_f32 : FVec Ideal S2048x1024 .bf16) := by
  refine (data m 0 c).arrAt_eq_of_covers 4 _ (by decide +kernel) fun t _ y => ?_
  blk_simp
  rw [after_4]
  have hi := (idx t).2.2
  have block : ∀ (y : S1024x1024.Idx) (z : S2048x1024.Idx), (z 0).val = 1024 * (t.val / 4) + (y 0).val → (z 1).val = (y 1).val →
      rowsAt m c t y = (truncf .bf16 (normed (arg0 m c) (arg1 m c)) bitsLt_bf16_f32 : FVec Ideal S2048x1024 .bf16) z := by
    intro y z h0 h1
    obtain ⟨a, k, rfl⟩ : ∃ (a : Fin 1024) (b : Fin 1024), y = ix2 a b := ⟨y 0, y 1, (ix2_eta y).symm⟩
    obtain ⟨i, k', rfl⟩ : ∃ (i : Fin 2048) (j : Fin 1024), z = ix2 i j := ⟨z 0, z 1, (ix2_eta z).symm⟩
    replace h0 : i.val = 1024 * (t.val / 4) + a.val := h0
    replace h1 : k'.val = k.val := h1
    obtain rfl := Fin.ext h1
    refine (rows_at m c t a k').trans ?_
    simp only [← h0]
    rfl
  refine block y _ ?_ ?_ <;> simp [hi, Nat.mul_comm]

/-- The reference's lines. -/
theorem reference_product (x : FVec Ideal S2048x1024 .f32) (g : FVec Ideal S1x1024 .f32) (w : FVec Ideal S1024x5632 .f32) :
    (Host.dotGeneral Cert.Reference7Ideal.dot_S2048x1024_S1024x5632_S2048x5632_1_0_0_1_n_n none (normed x g) w : FVec Ideal S2048x5632 .f32) = product x g w := by
  funext y
  obtain ⟨i, j, rfl⟩ : ∃ (i : Fin 2048) (j : Fin 5632), y = ix2 i j := ⟨y 0, y 1, (ix2_eta y).symm⟩
  show _ = (∑ k : Fin 1024, normed x g (ix2 i k) * w (ix2 k j) : EReal)
  generalize normed x g = h
  pointwise

/-! # The claims -/

theorem frame_ideal : Cert.quiescent_Kernel7Ideal (hKernel7Ideal := Cert.Kernel7Ideal.Gen.facts) := fun m ρ _ =>
  args_kept m ρ
theorem frame_kernel : Cert.quiescent_Kernel7 (hKernel7 := Cert.Kernel7.Gen.facts) := fun m ρ _ =>
  Cert.Kernel7.Product.args_kept m ρ
theorem frame_reference : Cert.quiescent_Reference7Ideal (hReference7Ideal := Cert.Reference7Ideal.Gen.facts) := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The kernel's two results and the reference's are the same arrays. -/
theorem algebraic : @Cert.algebraic_Kernel7Ideal_Reference7Ideal Cert.Kernel7Ideal.Gen.facts Cert.Reference7Ideal.Gen.facts := by
  intro m g m' g' _ hagree
  refine ⟨fun c => product (arg0 m c) (arg1 m c) (arg2 m c), fun c => truncf .bf16 (normed (arg0 m c) (arg1 m c)) bitsLt_bf16_f32,
    (θ_run defs _ _).mono (fun r h c => ⟨((h.1 c).1 3).trans (final_product m c), ((h.1 c).1 4).trans (final_rows m c), h.2.1 c⟩) (θ_run_and (run_arrays (F := Ideal) m g) (args_kept (F := Ideal) m g)),
    (θ_run Cert.Reference7Ideal.defs _ _).mono (fun r h c => ⟨(h c).1.trans ?_, (h c).2.1.trans ?_, (h c).2.2⟩) (Cert.Reference7Ideal.Value.run (F := Ideal) m' g')⟩
  · obtain ⟨a0, a1, a2⟩ := hagree c
    rw [a0, a1, a2]
    exact reference_product _ _ _
  · obtain ⟨a0, a1, a2⟩ := hagree c
    rw [a0, a1]
    rfl

end Cert.Kernel7Ideal.Product

end
-- ==== Proof.QueryForwardRun.lean ====
module

public import proofs.«01_k».proof.Proof.Gen.Kernel16Ideal.Frame
public import proofs.«01_k».proof.Proof.Gen.Kernel16Ideal.Skeleton
public import Idealize.ShloMosaic.Lib.Pointwise
public import Idealize.ShloMosaic.Lib.Claim
public import Idealize.ShloMosaic.Lib.Pipeline.ValueKit
public import Idealize.ShloMosaic.Lib.Pipeline.TableIdle

@[expose] public section

set_option maxRecDepth 16384

noncomputable section

namespace Cert.Kernel16Ideal.Product

open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the queries' product

The body divides the rows by their root mean squares at the first point of a row of points, and leaves them in the second
result's buffer, from which every point of the row reads them: the buffer is stored at the row's first point and written
back at its last. -/

/-! ## The body, at a row's first point and at a later one -/

set_option maxHeartbeats 1000000 in
/-- At a row's first point the body stores the normalised rows, and multiplies them. -/
theorem first_point (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1024 .bf16) (harg7 : arg7.IsWhole) (hc : k0_cond1 i = 1#1)
    (x0 : Vec F S1024x1024 .f32) (x1 : Vec F S1x1024 .f32) (x2 : Vec F S1024x512 .bf16) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (k0_pay1 x0 x1) x2 x3) ∗ owns (c : Thread nD τ) arg7 fullShare (k0_pay1 x0 x1)) -∗ K ⟨⟩))
      ⊢ wp frame (wpE (defs₀ (F := F)) Variants.none c none) E (cc0_q_proj i arg2 harg2 arg3 harg3 arg4 harg4 arg5 harg5 arg6 harg6 arg7 harg7) K := by
  have hz : (![0, 0] : Fin 2 → Nat) = fun _ => 0 := funext fun a => by fin_cases a <;> rfl
  have hz' : (![0, 0, 0] : Fin 3 → Nat) = fun _ => 0 := funext fun a => by fin_cases a <;> rfl
  simp only [cc0_q_proj_eq_skeleton]; unfold cc0_q_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (View.cover_of_tiled _ S1024x512.size (by rfl)), View.canon_unit_zero (S := S1024x512) hz]
    simp only [View.readAt_eq_ld, harg4.read_unread, harg5.read_unread]
    unfold first_point.sl.v3 first_point.sl.H5_1
    rw [View.readCov_unit_zero (S := S1024x1024) _ hz]
    simp only [View.readAt_eq_ld, harg2.read_unread, harg3.read_unread]
    rw [View.ld_unit_zero (S := S1024x1024) hz]
    rw [View.ld_unit_zero (S := S1x1024) hz]
    rw [View.ld_unit_zero (S := S1024x512) hz]
    rw [View.ld_unit_zero (S := S1x512) hz]
  iexists _; isplitr
  swap; · iexact H5
  ipureintro
  unfold first_point.sl.H5_1
  rw [View.read_writes_eq_canon _ _ _ (View.cover_of_tiled _ S1024x1024.size (by rfl)), View.canon_unit_zero (S := S1024x1024) hz]
  simp only [View.readAt_eq_ld, harg2.read_unread, harg3.read_unread]
  rw [View.ld_unit_zero (S := S1024x1024) hz]
  rw [View.ld_unit_zero (S := S1x1024) hz]

set_option maxHeartbeats 1000000 in
/-- At a later point the body multiplies the rows it finds. -/
theorem later_point (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x1024 .bf16) (harg7 : arg7.IsWhole) (hc : ¬k0_cond1 i = 1#1)
    (x0 : Vec F S1024x1024 .f32) (x1 : Vec F S1x1024 .f32) (x2 : Vec F S1024x512 .bf16) (x3 : Vec F S1x512 .f32) (xh : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 xh x2 x3) ∗ owns (c : Thread nD τ) arg7 fullShare xh) -∗ K ⟨⟩))
      ⊢ wp frame (wpE (defs₀ (F := F)) Variants.none c none) E (cc0_q_proj i arg2 harg2 arg3 harg3 arg4 harg4 arg5 harg5 arg6 harg6 arg7 harg7) K := by
  have hz : (![0, 0] : Fin 2 → Nat) = fun _ => 0 := funext fun a => by fin_cases a <;> rfl
  have hz' : (![0, 0, 0] : Fin 3 → Nat) = fun _ => 0 := funext fun a => by fin_cases a <;> rfl
  simp only [cc0_q_proj_eq_skeleton]; unfold cc0_q_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := harg2.eq_unread hf0; obtain rfl := harg3.eq_unread hf1; obtain rfl := harg4.eq_unread hf2; obtain rfl := harg5.eq_unread hf3
  obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (View.cover_of_tiled _ S1024x512.size (by rfl)), View.canon_unit_zero (S := S1024x512) hz]
    simp only [View.readAt_eq_ld, harg7.read_unread, harg4.read_unread, harg5.read_unread]
    rw [View.ld_unit_zero (S := S1024x1024) hz]
    rw [View.ld_unit_zero (S := S1024x512) hz]
    rw [View.ld_unit_zero (S := S1x512) hz]
  iexists _; isplitr
  swap; · iexact H5
  ipureintro
  exact harg7.read_unread _

/-! ## The proof data -/

variable (m : (ℓ : Loc nD τ sig) → Buf (Elt F) ℓ) (ρ : Dev nD → PrngReg)

/-- The normalised rows of point `t`'s row of points. -/
def rowsAt (c : Dev nD) (t : Fin cfg0.N) : Vec F S1024x1024 .bf16 := k0_pay1 (iblk m c 0 t) (iblk m c 1 t)

/-- The proof data: each input's buffer keeps its block, the first result's holds the product, the second's the normalised rows. -/
def data : (p : Fin 1) → (c : Dev nD) → Dat τ (Elt F) Unit ℕ (UR sig nD τ) ℕ (cfgs p) c := fun _ c =>
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => iblk m c 3 t
      | ⟨4, _⟩ => k0_pay2 (rowsAt m c t) (iblk m c 2 t) (iblk m c 3 t)
      | ⟨5, _⟩ => rowsAt m c t
    Φ := fun _ => Pipeline.ΦA spec0 c
    q := fun _ => fullShare
    owed := fun _ => 0 }

theorem data_A (c : Dev nD) (w : Fin cfg0.W) : (data m 0 c).A w = V m c (Pipeline.arrRef spec0 w) := by dsimp only [data]
theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = k0_pay2 (rowsAt m c t) (iblk m c 2 t) (iblk m c 3 t) := by dsimp only [data]
theorem after_5 (c : Dev nD) (t : Fin cfg0.N) : (data m 0 c).after 5 t = rowsAt m c t := by dsimp only [data]
theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d

/-! ## The points -/

theorem points (t : Fin cfg0.N) : t.val < 4 := lt_of_lt_of_eq t.isLt (show cfg0.N = 4 from N_0)
theorem first_iff : ∀ t : Fin cfg0.N, k0_cond1 (grid0.coords t) = 1#1 ↔ t.val % 2 = 0 :=
  (by decide +kernel : ∀ t : Fin grid0.N, k0_cond1 (grid0.coords t) = 1#1 ↔ t.val % 2 = 0)
theorem idle_iff (t : Fin cfg0.N) : cfg0.idle 5 (cfg0.grid.coords t) = true ↔ ¬t.val % 2 = 0 := by
  rw [← first_iff t]
  show (!(k0_cond1 (grid0.coords t) == 1#1)) = true ↔ _
  simp
theorem index_rows : ∀ t : Fin cfg0.N, win0_0.index t = ![t.val / 2, 0] ∧ win0_1.index t = ![0, 0] :=
  (by decide +kernel : ∀ t : Fin grid0.N, _)

/-- The points of one row of points read the same rows. -/
theorem block_0 (c : Dev nD) (t : Fin cfg0.N) (a : Fin 1024) (k : Fin 1024) :
    iblk m c 0 t (ix2 a k) = V m c main_arg0 (ix2 ⟨1024 * (t.val / 2) + a.val, by have := points t; omega⟩ k) := by
  blk_ext [iblk, (index_rows t).1]
theorem block_1 (c : Dev nD) (t : Fin cfg0.N) (a : Fin 1) (k : Fin 1024) : iblk m c 1 t (ix2 a k) = V m c main_arg1 (ix2 a k) := by
  blk_ext [iblk, (index_rows t).2]
theorem rowsAt_same (c : Dev nD) (s t : Fin cfg0.N) (e : s.val / 2 = t.val / 2) : rowsAt m c s = rowsAt m c t := by
  unfold rowsAt
  refine congrArg₂ (fun p q => k0_pay1 p q) (funext fun y => ?_) (funext fun y => ?_)
  · obtain ⟨a, k, rfl⟩ : ∃ (a : Fin 1024) (k : Fin 1024), y = ix2 a k := ⟨y 0, y 1, (ix2_eta y).symm⟩
    refine (block_0 m c s a k).trans (Eq.trans ?_ (block_0 m c t a k).symm)
    simp only [e]
  · obtain ⟨a, k, rfl⟩ : ∃ (a : Fin 1) (k : Fin 1024), y = ix2 a k := ⟨y 0, y 1, (ix2_eta y).symm⟩
    exact (block_1 m c s a k).trans (block_1 m c t a k).symm

/-- Which points find the second result's buffer not yet stored: the first of each row of points. -/
theorem fresh_iff (n : ℕ) (h : n ≤ 4) : cfg0.fresh 5 n = decide (n % 2 = 0) := by
  refine cfg0.fresh_tab 5 (fun n => decide (n % 2 = 0)) rfl (fun t => ?_) n (le_of_le_of_eq h (show cfg0.N = 4 from N_0).symm)
  have ht := points t
  rw [Bool.eq_iff_iff, Bool.or_eq_true, Bool.and_eq_true, flush0_5 t, idle_iff t, decide_eq_true_eq, decide_eq_true_eq]
  omega

/-- Past a row's first point the buffer holds the row's normalised rows. -/
theorem kept (c : Dev nD) (t : Fin cfg0.N) (h : ¬t.val % 2 = 0) (d) : (data m 0 c).before 5 t d = rowsAt m c t := by
  have ht := points t
  rw [Dat.before_out_traj (data m 0 c) 5 rfl (fun _ _ => rfl) (fun s hs hi hf => ?_) t.val t rfl d, fresh_iff t.val (by omega), if_neg (by simpa using h), after_5]
  · exact rowsAt_same m c _ _ (by show (t.val - 1) / 2 = t.val / 2; omega)
  · have hi' := (idle_iff s).mp hi
    rw [after_5, after_5]
    exact rowsAt_same m c _ _ (by show s.val / 2 = (s.val - 1) / 2; omega)

/-! ## The body at a point -/

/-- What a point starts from. -/
def pre (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d))
    ∗ (∃ d, owns (c : Thread nD τ) (win0_4.stage (cfg0.slots t 4)) fullShare ((data m 0 c).before 4 t d))
    ∗ (∃ d, owns (c : Thread nD τ) (win0_5.stage (cfg0.slots t 5)) fullShare ((data m 0 c).before 5 t d)))

/-- What a point leaves: of the second result's buffer, at a later point that does not write it back, what the point found. -/
def post (c : Dev nD) (t : Fin cfg0.N) : sProp 𝕄 :=
  iprop((data m 0 c).Φ t.succ ∗ (data m 0 c).owesAt () t.succ
    ∗ owns (c : Thread nD τ) (win0_0.stage (cfg0.slots t 0)) fullShare ((data m 0 c).after 0 t)
    ∗ owns (c : Thread nD τ) (win0_1.stage (cfg0.slots t 1)) fullShare ((data m 0 c).after 1 t)
    ∗ owns (c : Thread nD τ) (win0_2.stage (cfg0.slots t 2)) fullShare ((data m 0 c).after 2 t)
    ∗ owns (c : Thread nD τ) (win0_3.stage (cfg0.slots t 3)) fullShare ((data m 0 c).after 3 t)
    ∗ owns (c : Thread nD τ) (win0_4.stage (cfg0.slots t 4)) fullShare ((data m 0 c).after 4 t)
    ∗ (data m 0 c).leavesExact 5 t)

/-- The normalised rows are what a point is to leave in the second result's buffer. -/
theorem leaves_rows (c : Dev nD) (t : Fin cfg0.N) :
    (owns (c : Thread nD τ) (win0_5.stage (cfg0.slots t 5)) fullShare (rowsAt m c t) : sProp 𝕄) ⊢ (data m 0 c).leavesExact 5 t := by
  by_cases h0 : t.val % 2 = 0
  · have hi : cfg0.idle 5 (cfg0.grid.coords t) = false := Bool.eq_false_iff.mpr fun e => (idle_iff t).mp e h0
    unfold Dat.leavesExact
    rw [show (cfgs 0).idle 5 ((cfgs 0).grid.coords t) = false from hi, after_5]
  · by_cases hf : (cfg0.win 5).flush t = true
    · unfold Dat.leavesExact
      rw [show (cfgs 0).idle 5 ((cfgs 0).grid.coords t) = true from (idle_iff t).mpr h0, show ((cfgs 0).win 5).flush t = true from hf, after_5]
    · rw [Dat.leavesExact_idle _ 5 t ((idle_iff t).mpr h0) (Bool.eq_false_iff.mpr hf)]
      iintro H
      iexists (rowsAt m c t)
      rw [kept m c t h0]
      iexact H

set_option maxHeartbeats 1000000 in
/-- The body at a point. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (data m 0 c).Φ t.succ = (data m 0 c).Φ t.castSucc from rfl, show (data m 0 c).owesAt () t.succ = (data m 0 c).owesAt () t.castSucc from rfl, after_0, after_1, after_2, after_3, after_4]
  have leave := leaves_rows m c t
  by_cases h0 : t.val % 2 = 0
  · iintro ⟨HΦ, Ho, ⟨%d0, H0⟩, ⟨%d1, H1⟩, ⟨%d2, H2⟩, ⟨%d3, H3⟩, ⟨%d4, H4⟩, ⟨%d5, H5⟩⟩
    iapply (first_point c Set.univ (grid0.coords t) _ _ _ _ _ _ _ _ _ _ _ _ ((first_iff t).mpr h0) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply leave
    iexact H5
  · simp only [kept m c t h0]
    iintro ⟨HΦ, Ho, ⟨%d0, H0⟩, ⟨%d1, H1⟩, ⟨%d2, H2⟩, ⟨%d3, H3⟩, ⟨%d4, H4⟩, ⟨%d5, H5⟩⟩
    iapply (later_point c Set.univ (grid0.coords t) _ _ _ _ _ _ _ _ _ _ _ _ (fun e => h0 ((first_iff t).mp e)) (iblk m c 0 t) (iblk m c 1 t) (iblk m c 2 t) (iblk m c 3 t) (rowsAt m c t) _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iapply leave
    iexact H5

theorem body_row (t : Fin cfg0.N) : defs₀ (F := F) .tc cfg0.body (cfg0.bodyArgs t (cfg0.slots t)) = bodyAt0 t := by
  unfold defs₀; rw [Defs.onTc_tc]

theorem body_meets (c : Dev nD) : BodyObligation (data (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
set_option maxHeartbeats 800000 in
/-- Every fair run ends, with the arrays at what the proof data gives and every counter at zero. -/
theorem run_and_counters : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (body_meets m c).loose) (hshare := fun c => (data m 0 c).share_full fun _ => rfl)
    (howed := fun _ _ => rfl) (V := V m) (hmain := hmain m Variants.none) (hA := data_A m) (hΦ := fun _ _ => rfl)

/-- The same without the counters. -/
theorem run_arrays : θ_run defs (onTc (τ := τ) (main (F := F))) (s₀ m ρ) (Pipeline.FramePost cfgs (data m) 0 (V m)) :=
  (θ_run defs _ _).mono (fun _ h => h.1) (run_and_counters m ρ)

/-- The arguments end as they began and every counter at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (data m) (data_A m) (run_arrays m ρ)) ((θ_run defs _ _).mono (fun _ h => h.2) (run_and_counters m ρ))

end Cert.Kernel16Ideal.Product

end
-- ==== Proof.QueryForward.lean ====
module

public import proofs.«01_k».proof.Defs
public import proofs.«01_k».proof.Proof.QueryForwardRun
public import proofs.«01_k».proof.Proof.PrintedQueryForwardRun
public import proofs.«01_k».proof.Proof.Gen.Reference16Ideal.Run

@[expose] public section

set_option maxRecDepth 16384

noncomputable section

namespace Cert.Kernel16Ideal.Product

open Cert.Kernel16Ideal Cert.Kernel16Ideal.Gen
open Idealize.ShloMosaic Idealize.ShloMosaic.TcCoe Idealize.SL.Sem
open Idealize.ShloMosaic.Pipeline (Dat)
open Cert.Reference16Ideal.Facts₀ (bcast_S2048x1_S2048x1024_0_1 bcast_S2048_S2048x1_0 bcast_S_S2048x1 bcast_S1x1024_S2048x1024_0_1 reducesTo_S2048x1024_S2048_d1 h_S_)

/-! # The queries, and the normed rows -/

abbrev S2048 := Cert.Reference16Ideal.S2048
abbrev S2048x1 := Cert.Reference16Ideal.S2048x1
abbrev S_ := Cert.Reference16Ideal.S_

/-- The rows normed: each row times the reciprocal root of its mean square, and times the gain. -/
def normed (x : FVec Ideal S2048x1024 .f32) (g : FVec Ideal S1x1024 .f32) : FVec Ideal S2048x1024 .f32 :=
  mulf (mulf x (broadcastInDim S2048x1024 ![0, 1] bcast_S2048x1_S2048x1024_0_1 (Host.rsqrt (addf (Host.divf (broadcastInDim S2048x1 ![0] bcast_S2048_S2048x1_0
      (Host.reduceAdd (mulf x x) (constant S_ .f32 0x00000000#32) reducesTo_S2048x1024_S2048_d1 h_S_)) (broadcastInDim S2048x1 ![] bcast_S_S2048x1 (constant S_ .f32 0x44800000#32)))
      (broadcastInDim S2048x1 ![] bcast_S_S2048x1 (constant S_ .f32 0x3727C5AC#32))))))
    (broadcastInDim S2048x1024 ![0, 1] bcast_S1x1024_S2048x1024_0_1 g)

/-- The product: each of the normed rows against each of the weight's columns, and the bias. -/
def product (x : FVec Ideal S2048x1024 .f32) (g : FVec Ideal S1x1024 .f32) (w : FVec Ideal S1024x1024 .f32) (b : FVec Ideal S1x1024 .f32) : FVec Ideal S2048x1024 .f32 := fun y =>
  ((∑ k : Fin 1024, normed x g (ix2 (y 0) k) * w (ix2 k (y 1))) + b (ix2 0 (y 1)) : EReal)

/-- One row, normed. -/
def normedRow (r : Fin 1024 → EReal) (g : EReal) (k : Fin 1024) : EReal :=
  r k * Ideal.rsqrt (Ideal.div (∑ j, r j * r j) (Ideal.ofBits .f32 0x44800000#32) + Ideal.ofBits .f32 0x3727C5AC#32) * g

theorem normed_at (x : FVec Ideal S2048x1024 .f32) (g : FVec Ideal S1x1024 .f32) (i : Fin 2048) (k : Fin 1024) :
    normed x g (ix2 i k) = normedRow (fun j => x (ix2 i j)) (g (ix2 0 k)) k := by
  unfold normed normedRow
  pointwise
/-- The body's rows are normed alike. -/
theorem block_normed (x : Vec Ideal S1024x1024 .f32) (g : Vec Ideal S1x1024 .f32) (a : Fin 1024) (k : Fin 1024) :
    k0_pay1 x g (ix2 a k) = normedRow (fun j => x (ix2 a j)) (g (ix2 0 k)) k := by
  unfold normedRow
  pointwise [k0_pay1]
/-- One block of the product, from the blocks the body loads. -/
theorem block_product (h : Vec Ideal S1024x1024 .bf16) (w : Vec Ideal S1024x512 .bf16) (r : Vec Ideal S1x512 .f32) (a : Fin 1024) (b : Fin 512) :
    k0_pay2 h w r (ix2 a b) = ((∑ k : Fin 1024, h (ix2 a k) * w (ix2 k b)) + r (ix2 0 b) : EReal) := by
  pointwise [k0_pay2]

variable (m : (ℓ : Loc nD τ sig) → Buf (Elt Ideal) ℓ) (c : Dev nD)

/-! The arguments, as arrays of reals. -/
abbrev arg0 : FVec Ideal S2048x1024 .f32 := m ((c.tc : Thread nD τ).loc main_arg0)
abbrev arg1 : FVec Ideal S1x1024 .f32 := m ((c.tc : Thread nD τ).loc main_arg1)
abbrev arg2 : FVec Ideal S1024x1024 .f32 := m ((c.tc : Thread nD τ).loc main_arg2)
abbrev arg3 : FVec Ideal S1x1024 .f32 := m ((c.tc : Thread nD τ).loc main_arg3)

theorem idx : ∀ t : Fin cfg0.N, win0_2.index t = ![0, t.val % 2] ∧ win0_4.index t = ![t.val / 2, t.val % 2] ∧ win0_5.index t = ![t.val / 2, 0] ∧ win0_3.index t = ![0, t.val % 2] :=
  (by decide +kernel : ∀ t : Fin grid0.N, _)

/-- The weight is rounded on the host, which changes no real number. -/
theorem weight_eq (k : Fin 1024) (j : Fin 1024) : V m c main_v0 (ix2 k j) = arg2 m c (ix2 k j) := by
  have e : (V m c main_v0 : FVec Ideal S1024x1024 .bf16) = truncf .bf16 (arg2 m c) bitsLt_bf16_f32 := by
    unfold V
    after_results
  rw [e]
  rfl

/-- The normalised rows of a point, as the whole array's. -/
theorem rows_at (t : Fin cfg0.N) (a k : Fin 1024) :
    (rowsAt m c t (ix2 a k) : EReal) = normed (arg0 m c) (arg1 m c) (ix2 ⟨1024 * (t.val / 2) + a.val, by have := points t; omega⟩ k) := by
  unfold rowsAt
  refine (block_normed _ _ a k).trans (Eq.trans ?_ (normed_at _ _ _ k).symm)
  rw [block_1, V_main_arg1]
  refine congrArg (fun r => normedRow r _ k) (funext fun j => ?_)
  rw [block_0, V_main_arg0]

/-- The weight's block at a point. -/
theorem block_2 (t : Fin cfg0.N) (k : Fin 1024) (b : Fin 512) : iblk m c 2 t (ix2 k b) = arg2 m c (ix2 k ⟨512 * (t.val % 2) + b.val, by have := points t; omega⟩) := by
  refine Eq.trans (b := V m c main_v0 (ix2 k ⟨512 * (t.val % 2) + b.val, by have := points t; omega⟩)) (by blk_ext [iblk, (idx t).1]) ?_
  exact weight_eq m c k _
/-- The bias's block at a point. -/
theorem block_3 (t : Fin cfg0.N) (b : Fin 512) : iblk m c 3 t (ix2 0 b) = V m c main_arg3 (ix2 0 ⟨512 * (t.val % 2) + b.val, by have := points t; omega⟩) := by
  blk_ext [iblk, (idx t).2.2.2]

/-- The products' array after the run. -/
theorem final_product : (data m 0 c).arrAt 4 (cfgs 0).N = product (arg0 m c) (arg1 m c) (arg2 m c) (arg3 m c) := by
  refine (data m 0 c).arrAt_eq_of_covers 4 _ (by decide +kernel) fun t _ y => ?_
  blk_simp
  rw [after_4]
  have hi := (idx t).2.1
  have block : ∀ (y : S1024x512.Idx) (z : S2048x1024.Idx), (z 0).val = 1024 * (t.val / 2) + (y 0).val → (z 1).val = 512 * (t.val % 2) + (y 1).val →
      k0_pay2 (rowsAt m c t) (iblk m c 2 t) (iblk m c 3 t) y = product (arg0 m c) (arg1 m c) (arg2 m c) (arg3 m c) z := by
    intro y z h0 h1
    obtain ⟨a, b, rfl⟩ : ∃ (a : Fin 1024) (b : Fin 512), y = ix2 a b := ⟨y 0, y 1, (ix2_eta y).symm⟩
    obtain ⟨i, j, rfl⟩ : ∃ (i : Fin 2048) (j : Fin 1024), z = ix2 i j := ⟨z 0, z 1, (ix2_eta z).symm⟩
    replace h0 : i.val = 1024 * (t.val / 2) + a.val := h0
    replace h1 : j.val = 512 * (t.val % 2) + b.val := h1
    refine (block_product _ _ _ a b).trans ?_
    show _ = ((∑ k : Fin 1024, normed (arg0 m c) (arg1 m c) (ix2 i k) * (arg2 m c) (ix2 k j)) + (arg3 m c) (ix2 0 j) : EReal)
    refine congrArg₂ (fun p q : EReal => p + q) (Finset.sum_congr rfl fun k _ => congrArg₂ (fun p q : EReal => p * q) ?_ ?_) ?_
    · rw [rows_at]
      simp only [← h0]
    · rw [block_2]
      simp only [← h1]
    · rw [block_3, V_main_arg3]
      simp only [← h1]
  refine block y _ ?_ ?_ <;> simp [hi, Nat.mul_comm]

/-- The normed rows' array after the run: written back at the last point of each row of points. -/
theorem final_rows : (data m 0 c).arrAt 5 (cfgs 0).N = (truncf .bf16 (normed (arg0 m c) (arg1 m c)) bitsLt_bf16_f32 : FVec Ideal S2048x1024 .bf16) := by
  refine (data m 0 c).arrAt_eq_of_covers 5 _ (by decide +kernel) fun t _ y => ?_
  blk_simp
  rw [after_5]
  have hi := (idx t).2.2.1
  have block : ∀ (y : S1024x1024.Idx) (z : S2048x1024.Idx), (z 0).val = 1024 * (t.val / 2) + (y 0).val → (z 1).val = (y 1).val →
      rowsAt m c t y = (truncf .bf16 (normed (arg0 m c) (arg1 m c)) bitsLt_bf16_f32 : FVec Ideal S2048x1024 .bf16) z := by
    intro y z h0 h1
    obtain ⟨a, k, rfl⟩ : ∃ (a : Fin 1024) (b : Fin 1024), y = ix2 a b := ⟨y 0, y 1, (ix2_eta y).symm⟩
    obtain ⟨i, k', rfl⟩ : ∃ (i : Fin 2048) (j : Fin 1024), z = ix2 i j := ⟨z 0, z 1, (ix2_eta z).symm⟩
    replace h0 : i.val = 1024 * (t.val / 2) + a.val := h0
    replace h1 : k'.val = k.val := h1
    obtain rfl := Fin.ext h1
    refine (rows_at m c t a k').trans ?_
    simp only [← h0]
    rfl
  refine block y _ ?_ ?_ <;> simp [hi, Nat.mul_comm]

/-- The reference's lines. -/
theorem reference_product (x : FVec Ideal S2048x1024 .f32) (g : FVec Ideal S1x1024 .f32) (w : FVec Ideal S1024x1024 .f32) (b : FVec Ideal S1x1024 .f32) :
    (addf (Host.dotGeneral Cert.Reference16Ideal.dot_S2048x1024_S1024x1024_S2048x1024_1_0_0_1_n_n none (normed x g) w) (broadcastInDim Cert.Reference16Ideal.S2048x1024 ![0, 1] Cert.Reference16Ideal.Facts₀.bcast_S1x1024_S2048x1024_0_1 b) : FVec Ideal S2048x1024 .f32) = product x g w b := by
  funext y
  obtain ⟨i, j, rfl⟩ : ∃ (i : Fin 2048) (j : Fin 1024), y = ix2 i j := ⟨y 0, y 1, (ix2_eta y).symm⟩
  show _ = ((∑ k : Fin 1024, normed x g (ix2 i k) * w (ix2 k j)) + b (ix2 0 j) : EReal)
  generalize normed x g = h
  pointwise

/-! # The claims -/

theorem frame_ideal : Cert.quiescent_Kernel16Ideal (hKernel16Ideal := Cert.Kernel16Ideal.Gen.facts) := fun m ρ _ =>
  args_kept m ρ
theorem frame_kernel : Cert.quiescent_Kernel16 (hKernel16 := Cert.Kernel16.Gen.facts) := fun m ρ _ =>
  Cert.Kernel16.Product.args_kept m ρ
theorem frame_reference : Cert.quiescent_Reference16Ideal (hReference16Ideal := Cert.Reference16Ideal.Gen.facts) := fun m ρ _ =>
  (θ_run Cert.Reference16Ideal.defs _ _).mono (fun r h => ⟨fun c => (h c).2.2, sem_eq_zero_of_no_sems (by decide) r.2⟩)
    (Cert.Reference16Ideal.Value.run (F := Ideal) m ρ)

/-- The kernel's two results and the reference's are the same arrays. -/
theorem algebraic : @Cert.algebraic_Kernel16Ideal_Reference16Ideal Cert.Kernel16Ideal.Gen.facts Cert.Reference16Ideal.Gen.facts := by
  intro m g m' g' _ hagree
  refine ⟨fun c => product (arg0 m c) (arg1 m c) (arg2 m c) (arg3 m c), fun c => truncf .bf16 (normed (arg0 m c) (arg1 m c)) bitsLt_bf16_f32,
    (θ_run defs _ _).mono (fun r h c => ⟨((h.1 c).1 4).trans (final_product m c), ((h.1 c).1 5).trans (final_rows m c), h.2.1 c⟩) (θ_run_and (run_arrays (F := Ideal) m g) (args_kept (F := Ideal) m g)),
    (θ_run Cert.Reference16Ideal.defs _ _).mono (fun r h c => ⟨(h c).1.trans ?_, (h c).2.1.trans ?_, (h c).2.2⟩) (Cert.Reference16Ideal.Value.run (F := Ideal) m' g')⟩
  · obtain ⟨a0, a1, a2, a3⟩ := hagree c
    rw [a0, a1, a2, a3]
    exact reference_product _ _ _ _
  · obtain ⟨a0, a1, a2, a3⟩ := hagree c
    rw [a0, a1]
    rfl

end Cert.Kernel16Ideal.Product

end
-- ==== Proof.KeyForward.lean ====
module

public import proofs.«01_k».proof.Defs
public import Idealize.ShloMosaic.Lib.Pointwise
public import Idealize.ShloMosaic.Lib.Pipeline.ValueKit
public import proofs.«01_k».proof.Proof.Gen.Kernel17Ideal.Value
public import proofs.«01_k».proof.Proof.Gen.Kernel17.Frame
public import proofs.«01_k».proof.Proof.Gen.Reference17Ideal.Run

@[expose] public section

set_option maxRecDepth 16384

noncomputable section

namespace Cert.Kernel17Ideal.Product

open Cert.Kernel17Ideal Cert.Kernel17Ideal.Gen
open Idealize.ShloMosaic Idealize.ShloMosaic.TcCoe Idealize.SL.Sem
open Idealize.ShloMosaic.Pipeline (Dat)
open Cert.Reference17Ideal.Facts₀ (bcast_S2048x1_S2048x1024_0_1 bcast_S2048_S2048x1_0 bcast_S_S2048x1 bcast_S1x1024_S2048x1024_0_1 reducesTo_S2048x1024_S2048_d1 h_S_)

/-! # The keys and values, and the normed rows -/

abbrev S2048 := Cert.Reference17Ideal.S2048
abbrev S2048x1 := Cert.Reference17Ideal.S2048x1
abbrev S_ := Cert.Reference17Ideal.S_

/-- The rows normed: each row times the reciprocal root of its mean square, and times the gain. -/
def normed (x : FVec Ideal S2048x1024 .f32) (g : FVec Ideal S1x1024 .f32) : FVec Ideal S2048x1024 .f32 :=
  mulf (mulf x (broadcastInDim S2048x1024 ![0, 1] bcast_S2048x1_S2048x1024_0_1 (Host.rsqrt (addf (Host.divf (broadcastInDim S2048x1 ![0] bcast_S2048_S2048x1_0
      (Host.reduceAdd (mulf x x) (constant S_ .f32 0x00000000#32) reducesTo_S2048x1024_S2048_d1 h_S_)) (broadcastInDim S2048x1 ![] bcast_S_S2048x1 (constant S_ .f32 0x44800000#32)))
      (broadcastInDim S2048x1 ![] bcast_S_S2048x1 (constant S_ .f32 0x3727C5AC#32))))))
    (broadcastInDim S2048x1024 ![0, 1] bcast_S1x1024_S2048x1024_0_1 g)

/-- The product: each of the normed rows against each of the weight's columns, and the bias. -/
def product (x : FVec Ideal S2048x1024 .f32) (g : FVec Ideal S1x1024 .f32) (w : FVec Ideal S1024x512 .f32) (b : FVec Ideal S1x512 .f32) : FVec Ideal S2048x512 .f32 := fun y =>
  ((∑ k : Fin 1024, normed x g (ix2 (y 0) k) * w (ix2 k (y 1))) + b (ix2 0 (y 1)) : EReal)

/-- One row, normed. -/
def normedRow (r : Fin 1024 → EReal) (g : EReal) (k : Fin 1024) : EReal :=
  r k * Ideal.rsqrt (Ideal.div (∑ j, r j * r j) (Ideal.ofBits .f32 0x44800000#32) + Ideal.ofBits .f32 0x3727C5AC#32) * g

theorem normed_at (x : FVec Ideal S2048x1024 .f32) (g : FVec Ideal S1x1024 .f32) (i : Fin 2048) (k : Fin 1024) :
    normed x g (ix2 i k) = normedRow (fun j => x (ix2 i j)) (g (ix2 0 k)) k := by
  unfold normed normedRow
  pointwise
/-- The body's rows are normed alike. -/
theorem block_normed (x : Vec Ideal S1024x1024 .f32) (g : Vec Ideal S1x1024 .f32) (a : Fin 1024) (k : Fin 1024) :
    k0_pay1 x g (ix2 a k) = normedRow (fun j => x (ix2 a j)) (g (ix2 0 k)) k := by
  unfold normedRow
  pointwise [k0_pay1]
/-- One block of the product, from the blocks the body loads. -/
theorem block_product (h : Vec Ideal S1024x1024 .bf16) (w : Vec Ideal S1024x512 .bf16) (r : Vec Ideal S1x512 .f32) (a : Fin 1024) (b : Fin 512) :
    k0_pay2 h w r (ix2 a b) = ((∑ k : Fin 1024, h (ix2 a k) * w (ix2 k b)) + r (ix2 0 b) : EReal) := by
  pointwise [k0_pay2]

variable (m : (ℓ : Loc nD τ sig) → Buf (Elt Ideal) ℓ) (c : Dev nD)

/-! The arguments, as arrays of reals. -/
abbrev arg0 : FVec Ideal S2048x1024 .f32 := m ((c.tc : Thread nD τ).loc main_arg0)
abbrev arg1 : FVec Ideal S1x1024 .f32 := m ((c.tc : Thread nD τ).loc main_arg1)
abbrev arg2 : FVec Ideal S1024x512 .f32 := m ((c.tc : Thread nD τ).loc main_arg2)
abbrev arg3 : FVec Ideal S1x512 .f32 := m ((c.tc : Thread nD τ).loc main_arg3)

theorem idx : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] :=
  (by decide +kernel : ∀ t : Fin grid0.N, _)
theorem points (t : Fin cfg0.N) : t.val < 2 := lt_of_lt_of_eq t.isLt (show cfg0.N = 2 from N_0)

theorem block_0 (t : Fin cfg0.N) (a k : Fin 1024) : iblk m c 0 t (ix2 a k) = V m c main_arg0 (ix2 ⟨1024 * t.val + a.val, by have := points t; omega⟩ k) := by
  blk_ext [iblk, (idx t).1]
theorem block_1 (t : Fin cfg0.N) (a : Fin 1) (k : Fin 1024) : iblk m c 1 t (ix2 a k) = V m c main_arg1 (ix2 a k) := by
  blk_ext [iblk, (idx t).2.1]

/-- The rows of a point, normed, as the body makes them. -/
def rowsAt (t : Fin cfg0.N) : Vec Ideal S1024x1024 .bf16 := k0_pay1 (iblk m c 0 t) (iblk m c 1 t)

theorem after_rows (t : Fin cfg0.N) : (dats m 0 c).after 5 t = rowsAt m c t := by
  have hz : (![0, 0] : Fin 2 → Nat) = fun _ => 0 := funext fun a => by fin_cases a <;> rfl
  rw [after0_5]
  unfold outsAt0 out0_A_5 kernelRun0_A rowsAt
  unfold kernelRun0_A.sl.H5_1
  dsimp only
  rw [View.read_writes_eq_canon _ _ _ (View.cover_of_tiled _ S1024x1024.size (by rfl)), View.canon_unit_zero (S := S1024x1024) hz]
  simp only [View.readAt_eq_ld, (hs0_0 t).read_unread, (hs0_1 t).read_unread]
  rw [View.ld_unit_zero (S := S1024x1024) hz]
  rw [View.ld_unit_zero (S := S1x1024) hz]
theorem after_product (t : Fin cfg0.N) : (dats m 0 c).after 4 t = k0_pay2 (rowsAt m c t) (iblk m c 2 t) (iblk m c 3 t) := by
  have hz : (![0, 0] : Fin 2 → Nat) = fun _ => 0 := funext fun a => by fin_cases a <;> rfl
  rw [after0_4]
  unfold outsAt0 out0_A_4 kernelRun0_A rowsAt
  unfold kernelRun0_A.sl.v3 kernelRun0_A.sl.H5_1
  dsimp only
  rw [View.read_writes_eq_canon _ _ _ (View.cover_of_tiled _ S1024x512.size (by rfl)), View.canon_unit_zero (S := S1024x512) hz]
  simp only [View.readAt_eq_ld, (hs0_2 t).read_unread, (hs0_3 t).read_unread]
  rw [View.readCov_unit_zero (S := S1024x1024) _ hz]
  simp only [View.readAt_eq_ld, (hs0_0 t).read_unread, (hs0_1 t).read_unread]
  rw [View.ld_unit_zero (S := S1024x1024) hz]
  rw [View.ld_unit_zero (S := S1x1024) hz]
  rw [View.ld_unit_zero (S := S1024x512) hz]
  rw [View.ld_unit_zero (S := S1x512) hz]

/-- The weight is rounded on the host, which changes no real number. -/
theorem weight_eq (k : Fin 1024) (j : Fin 512) : V m c main_v0 (ix2 k j) = arg2 m c (ix2 k j) := by
  have e : (V m c main_v0 : FVec Ideal S1024x512 .bf16) = truncf .bf16 (arg2 m c) bitsLt_bf16_f32 := by
    unfold V
    after_results
  rw [e]
  rfl

/-- The normalised rows of a point, as the whole array's. -/
theorem rows_at (t : Fin cfg0.N) (a k : Fin 1024) :
    (rowsAt m c t (ix2 a k) : EReal) = normed (arg0 m c) (arg1 m c) (ix2 ⟨1024 * t.val + a.val, by have := points t; omega⟩ k) := by
  unfold rowsAt
  refine (block_normed _ _ a k).trans (Eq.trans ?_ (normed_at _ _ _ k).symm)
  rw [block_1, V_main_arg1]
  refine congrArg (fun r => normedRow r _ k) (funext fun j => ?_)
  rw [block_0, V_main_arg0]

/-- The weight's block at a point. -/
theorem block_2 (t : Fin cfg0.N) (k : Fin 1024) (b : Fin 512) : iblk m c 2 t (ix2 k b) = arg2 m c (ix2 k b) := by
  refine Eq.trans (b := V m c main_v0 (ix2 k b)) (by blk_ext [iblk, (idx t).2.2.1]) ?_
  exact weight_eq m c k _
/-- The bias's block at a point. -/
theorem block_3 (t : Fin cfg0.N) (b : Fin 512) : iblk m c 3 t (ix2 0 b) = V m c main_arg3 (ix2 0 b) := by
  blk_ext [iblk, (idx t).2.2.2.1]

/-- The products' array after the run. -/
theorem final_product : (dats m 0 c).arrAt 4 cfg0.N = product (arg0 m c) (arg1 m c) (arg2 m c) (arg3 m c) := by
  refine (dats m 0 c).arrAt_eq_of_covers 4 _ (by decide +kernel) fun t _ y => ?_
  blk_simp
  rw [after_product]
  have hi := (idx t).2.2.2.2.1
  have block : ∀ (y : S1024x512.Idx) (z : S2048x512.Idx), (z 0).val = 1024 * t.val + (y 0).val → (z 1).val = (y 1).val →
      k0_pay2 (rowsAt m c t) (iblk m c 2 t) (iblk m c 3 t) y = product (arg0 m c) (arg1 m c) (arg2 m c) (arg3 m c) z := by
    intro y z h0 h1
    obtain ⟨a, b, rfl⟩ : ∃ (a : Fin 1024) (b : Fin 512), y = ix2 a b := ⟨y 0, y 1, (ix2_eta y).symm⟩
    obtain ⟨i, j, rfl⟩ : ∃ (i : Fin 2048) (j : Fin 512), z = ix2 i j := ⟨z 0, z 1, (ix2_eta z).symm⟩
    replace h0 : i.val = 1024 * t.val + a.val := h0
    replace h1 : j.val = b.val := h1
    obtain rfl := Fin.ext h1
    refine (block_product _ _ _ a j).trans ?_
    show _ = ((∑ k : Fin 1024, normed (arg0 m c) (arg1 m c) (ix2 i k) * (arg2 m c) (ix2 k j)) + (arg3 m c) (ix2 0 j) : EReal)
    refine congrArg₂ (fun p q : EReal => p + q) (Finset.sum_congr rfl fun k _ => congrArg₂ (fun p q : EReal => p * q) ?_ ?_) ?_
    · rw [rows_at]
      simp only [← h0]
    · rw [block_2]
    · rw [block_3, V_main_arg3]
  refine block y _ ?_ ?_ <;> simp [hi, Nat.mul_comm]

/-- The normed rows' array after the run: written back at the last point of each row of points. -/
theorem final_rows : (dats m 0 c).arrAt 5 cfg0.N = (truncf .bf16 (normed (arg0 m c) (arg1 m c)) bitsLt_bf16_f32 : FVec Ideal S2048x1024 .bf16) := by
  refine (dats m 0 c).arrAt_eq_of_covers 5 _ (by decide +kernel) fun t _ y => ?_
  blk_simp
  rw [after_rows]
  have hi := (idx t).2.2.2.2.2
  have block : ∀ (y : S1024x1024.Idx) (z : S2048x1024.Idx), (z 0).val = 1024 * t.val + (y 0).val → (z 1).val = (y 1).val →
      rowsAt m c t y = (truncf .bf16 (normed (arg0 m c) (arg1 m c)) bitsLt_bf16_f32 : FVec Ideal S2048x1024 .bf16) z := by
    intro y z h0 h1
    obtain ⟨a, k, rfl⟩ : ∃ (a : Fin 1024) (b : Fin 1024), y = ix2 a b := ⟨y 0, y 1, (ix2_eta y).symm⟩
    obtain ⟨i, k', rfl⟩ : ∃ (i : Fin 2048) (j : Fin 1024), z = ix2 i j := ⟨z 0, z 1, (ix2_eta z).symm⟩
    replace h0 : i.val = 1024 * t.val + a.val := h0
    replace h1 : k'.val = k.val := h1
    obtain rfl := Fin.ext h1
    refine (rows_at m c t a k').trans ?_
    simp only [← h0]
    rfl
  refine block y _ ?_ ?_ <;> simp [hi, Nat.mul_comm]

/-- The reference's lines. -/
theorem reference_product (x : FVec Ideal S2048x1024 .f32) (g : FVec Ideal S1x1024 .f32) (w : FVec Ideal S1024x512 .f32) (b : FVec Ideal S1x512 .f32) :
    (addf (Host.dotGeneral Cert.Reference17Ideal.dot_S2048x1024_S1024x512_S2048x512_1_0_0_1_n_n none (normed x g) w) (broadcastInDim Cert.Reference17Ideal.S2048x512 ![0, 1] Cert.Reference17Ideal.Facts₀.bcast_S1x512_S2048x512_0_1 b) : FVec Ideal S2048x512 .f32) = product x g w b := by
  funext y
  obtain ⟨i, j, rfl⟩ : ∃ (i : Fin 2048) (j : Fin 512), y = ix2 i j := ⟨y 0, y 1, (ix2_eta y).symm⟩
  show _ = ((∑ k : Fin 1024, normed x g (ix2 i k) * w (ix2 k j)) + b (ix2 0 j) : EReal)
  generalize normed x g = h
  pointwise

/-! # The claims -/

theorem frame_ideal : Cert.quiescent_Kernel17Ideal (hKernel17Ideal := Cert.Kernel17Ideal.Gen.facts) := fun m ρ _ =>
  Cert.Kernel17Ideal.Gen.frame m ρ
theorem frame_kernel : Cert.quiescent_Kernel17 (hKernel17 := Cert.Kernel17.Gen.facts) := fun m ρ _ =>
  Cert.Kernel17.Gen.frame m ρ
theorem frame_reference : Cert.quiescent_Reference17Ideal (hReference17Ideal := Cert.Reference17Ideal.Gen.facts) := fun m ρ _ =>
  (θ_run Cert.Reference17Ideal.defs _ _).mono (fun r h => ⟨fun c => (h c).2.2, sem_eq_zero_of_no_sems (by decide) r.2⟩)
    (Cert.Reference17Ideal.Value.run (F := Ideal) m ρ)

/-- The kernel's two results and the reference's are the same arrays. -/
theorem algebraic : @Cert.algebraic_Kernel17Ideal_Reference17Ideal Cert.Kernel17Ideal.Gen.facts Cert.Reference17Ideal.Gen.facts := by
  intro m g m' g' _ hagree
  refine ⟨fun c => product (arg0 m c) (arg1 m c) (arg2 m c) (arg3 m c), fun c => truncf .bf16 (normed (arg0 m c) (arg1 m c)) bitsLt_bf16_f32,
    (θ_run defs _ _).mono (fun r h c => ⟨(h c).1.trans (final_product m c), (h c).2.1.trans (final_rows m c), (h c).2.2⟩) (Cert.Kernel17Ideal.Value.run_blocks (F := Ideal) m g),
    (θ_run Cert.Reference17Ideal.defs _ _).mono (fun r h c => ⟨(h c).1.trans ?_, (h c).2.1.trans ?_, (h c).2.2⟩) (Cert.Reference17Ideal.Value.run (F := Ideal) m' g')⟩
  · obtain ⟨a0, a1, a2, a3⟩ := hagree c
    rw [a0, a1, a2, a3]
    exact reference_product _ _ _ _
  · obtain ⟨a0, a1, a2, a3⟩ := hagree c
    rw [a0, a1]
    rfl

end Cert.Kernel17Ideal.Product

end
-- ==== Proof.MixerForwardRun.lean ====
module

public import proofs.«01_k».proof.Proof.Gen.Kernel18Ideal.Frame
public import proofs.«01_k».proof.Proof.Gen.Kernel18Ideal.Skeleton
public import Idealize.ShloMosaic.Lib.Pointwise
public import Idealize.ShloMosaic.Lib.Claim
public import Idealize.ShloMosaic.Lib.Pipeline.ValueKit
public import Idealize.ShloMosaic.Lib.Pipeline.TableIdle

@[expose] public section

set_option maxRecDepth 16384

noncomputable section

namespace Cert.Kernel18Ideal.Product

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the mixer's input product

The body divides the rows by their root mean squares at the first point of a row of points, and leaves them in the second
result's buffer, from which every point of the row reads them: the buffer is stored at the row's first point and written
back at its last. -/

/-! ## The body, at a row's first point and at a later one -/

set_option maxHeartbeats 1000000 in
/-- At a row's first point the body stores the normalised rows, and multiplies them. -/
theorem first_point (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x1024 .bf16) (harg6 : arg6.IsWhole) (hc : k0_cond1 i = 1#1)
    (x0 : Vec F S1024x1024 .f32) (x1 : Vec F S1x1024 .f32) (x2 : Vec F S1024x512 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_in_proj_zx i arg2 harg2 arg3 harg3 arg4 harg4 arg5 harg5 arg6 harg6) K := by
  have hz : (![0, 0] : Fin 2 → Nat) = fun _ => 0 := funext fun a => by fin_cases a <;> rfl
  have hz' : (![0, 0, 0] : Fin 3 → Nat) = fun _ => 0 := funext fun a => by fin_cases a <;> rfl
  simp only [cc0_in_proj_zx_eq_skeleton]; unfold cc0_in_proj_zx_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiled _ S1024x512.size (by rfl)), View.canon_unit_zero (S := S1024x512) hz]
    simp only [View.readAt_eq_ld, harg4.read_unread]
    unfold first_point.sl.v3 first_point.sl.H4_1
    rw [View.readCov_unit_zero (S := S1024x1024) _ hz]
    simp only [View.readAt_eq_ld, harg2.read_unread, harg3.read_unread]
    rw [View.ld_unit_zero (S := S1024x1024) hz]
    rw [View.ld_unit_zero (S := S1x1024) hz]
    rw [View.ld_unit_zero (S := S1024x512) hz]
  iexists _; isplitr
  swap; · iexact H4
  ipureintro
  unfold first_point.sl.H4_1
  rw [View.read_writes_eq_canon _ _ _ (View.cover_of_tiled _ S1024x1024.size (by rfl)), View.canon_unit_zero (S := S1024x1024) hz]
  simp only [View.readAt_eq_ld, harg2.read_unread, harg3.read_unread]
  rw [View.ld_unit_zero (S := S1024x1024) hz]
  rw [View.ld_unit_zero (S := S1x1024) hz]

set_option maxHeartbeats 1000000 in
/-- At a later point the body multiplies the rows it finds. -/
theorem later_point (c : Dev nD) (E : Set ℕ) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x1024 .bf16) (harg6 : arg6.IsWhole) (hc : ¬k0_cond1 i = 1#1)
    (x0 : Vec F S1024x1024 .f32) (x1 : Vec F S1x1024 .f32) (x2 : Vec F S1024x512 .bf16) (xh : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xh
        ∗ (iprop(owns (c : Thread nD τ) arg2 fullShare x0 ∗ owns (c : Thread nD τ) arg3 fullShare x1 ∗ owns (c : Thread nD τ) arg4 fullShare x2 ∗ owns (c : Thread nD τ) arg5 fullShare (k0_pay2 xh x2) ∗ owns (c : Thread nD τ) arg6 fullShare xh) -∗ K ⟨⟩))
      ⊢ wp frame (wpE (defs₀ (F := F)) Variants.none c none) E (cc0_in_proj_zx i arg2 harg2 arg3 harg3 arg4 harg4 arg5 harg5 arg6 harg6) K := by
  have hz : (![0, 0] : Fin 2 → Nat) = fun _ => 0 := funext fun a => by fin_cases a <;> rfl
  have hz' : (![0, 0, 0] : Fin 3 → Nat) = fun _ => 0 := funext fun a => by fin_cases a <;> rfl
  simp only [cc0_in_proj_zx_eq_skeleton]; unfold cc0_in_proj_zx_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2
  obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    rw [View.read_writes_eq_canon _ _ _ (View.cover_of_tiled _ S1024x512.size (by rfl)), View.canon_unit_zero (S := S1024x512) hz]
    simp only [View.readAt_eq_ld, harg6.read_unread, harg4.read_unread]
    rw [View.ld_unit_zero (S := S1024x1024) hz]
    rw [View.ld_unit_zero (S := S1024x512) hz]
  iexists _; isplitr
  swap; · iexact H4
  ipureintro
  exact harg6.read_unread _

/-! ## The proof data -/

variable (m : (ℓ : Loc nD τ sig) → Buf (Elt F) ℓ) (ρ : Dev nD → PrngReg)

/-- The normalised rows of point `t`'s row of points. -/
def rowsAt (c : Dev nD) (t : Fin cfg0.N) : Vec F S1024x1024 .bf16 := k0_pay1 (iblk m c 0 t) (iblk m c 1 t)

/-- The proof data: each input's buffer keeps its block, the first result's holds the product, the second's the normalised rows. -/
def data : (p : Fin 1) → (c : Dev nD) → Dat τ (Elt F) Unit ℕ (UR sig nD τ) ℕ (cfgs p) c := fun _ c =>
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => k0_pay2 (rowsAt m c t) (iblk m c 2 t)
      | ⟨4, _⟩ => rowsAt m c t
    Φ := fun _ => Pipeline.ΦA spec0 c
    q := fun _ => fullShare
    owed := fun _ => 0 }

theorem data_A (c : Dev nD) (w : Fin cfg0.W) : (data m 0 c).A w = V m c (Pipeline.arrRef spec0 w) := by dsimp only [data]
theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = k0_pay2 (rowsAt m c t) (iblk m c 2 t) := by dsimp only [data]
theorem after_4 (c : Dev nD) (t : Fin cfg0.N) : (data m 0 c).after 4 t = rowsAt m c t := by dsimp only [data]
theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d

/-! ## The points -/

theorem points (t : Fin cfg0.N) : t.val < 24 := lt_of_lt_of_eq t.isLt (show cfg0.N = 24 from N_0)
theorem first_iff : ∀ t : Fin cfg0.N, k0_cond1 (grid0.coords t) = 1#1 ↔ t.val % 12 = 0 :=
  (by decide +kernel : ∀ t : Fin grid0.N, k0_cond1 (grid0.coords t) = 1#1 ↔ t.val % 12 = 0)
theorem idle_iff (t : Fin cfg0.N) : cfg0.idle 4 (cfg0.grid.coords t) = true ↔ ¬t.val % 12 = 0 := by
  rw [← first_iff t]
  show (!(k0_cond1 (grid0.coords t) == 1#1)) = true ↔ _
  simp
theorem index_rows : ∀ t : Fin cfg0.N, win0_0.index t = ![t.val / 12, 0] ∧ win0_1.index t = ![0, 0] :=
  (by decide +kernel : ∀ t : Fin grid0.N, _)

/-- The points of one row of points read the same rows. -/
theorem block_0 (c : Dev nD) (t : Fin cfg0.N) (a : Fin 1024) (k : Fin 1024) :
    iblk m c 0 t (ix2 a k) = V m c main_arg0 (ix2 ⟨1024 * (t.val / 12) + a.val, by have := points t; omega⟩ k) := by
  blk_ext [iblk, (index_rows t).1]
theorem block_1 (c : Dev nD) (t : Fin cfg0.N) (a : Fin 1) (k : Fin 1024) : iblk m c 1 t (ix2 a k) = V m c main_arg1 (ix2 a k) := by
  blk_ext [iblk, (index_rows t).2]
theorem rowsAt_same (c : Dev nD) (s t : Fin cfg0.N) (e : s.val / 12 = t.val / 12) : rowsAt m c s = rowsAt m c t := by
  unfold rowsAt
  refine congrArg₂ (fun p q => k0_pay1 p q) (funext fun y => ?_) (funext fun y => ?_)
  · obtain ⟨a, k, rfl⟩ : ∃ (a : Fin 1024) (k : Fin 1024), y = ix2 a k := ⟨y 0, y 1, (ix2_eta y).symm⟩
    refine (block_0 m c s a k).trans (Eq.trans ?_ (block_0 m c t a k).symm)
    simp only [e]
  · obtain ⟨a, k, rfl⟩ : ∃ (a : Fin 1) (k : Fin 1024), y = ix2 a k := ⟨y 0, y 1, (ix2_eta y).symm⟩
    exact (block_1 m c s a k).trans (block_1 m c t a k).symm

/-- Which points find the second result's buffer not yet stored: the first of each row of points. -/
theorem fresh_iff (n : ℕ) (h : n ≤ 24) : cfg0.fresh 4 n = decide (n % 12 = 0) := by
  refine cfg0.fresh_tab 4 (fun n => decide (n % 12 = 0)) rfl (fun t => ?_) n (le_of_le_of_eq h (show cfg0.N = 24 from N_0).symm)
  have ht := points t
  rw [Bool.eq_iff_iff, Bool.or_eq_true, Bool.and_eq_true, flush0_4 t, idle_iff t, decide_eq_true_eq, decide_eq_true_eq]
  omega

/-- Past a row's first point the buffer holds the row's normalised rows. -/
theorem kept (c : Dev nD) (t : Fin cfg0.N) (h : ¬t.val % 12 = 0) (d) : (data m 0 c).before 4 t d = rowsAt m c t := by
  have ht := points t
  rw [Dat.before_out_traj (data m 0 c) 4 rfl (fun _ _ => rfl) (fun s hs hi hf => ?_) t.val t rfl d, fresh_iff t.val (by omega), if_neg (by simpa using h), after_4]
  · exact rowsAt_same m c _ _ (by show (t.val - 1) / 12 = t.val / 12; omega)
  · have hi' := (idle_iff s).mp hi
    rw [after_4, after_4]
    exact rowsAt_same m c _ _ (by show s.val / 12 = (s.val - 1) / 12; omega)

/-! ## The body at a point -/

/-- What a point starts from. -/
def pre (c : Dev nD) (t : Fin cfg0.N) : sProp 𝕄 :=
  iprop((data m 0 c).Φ t.castSucc ∗ (data m 0 c).owesAt () t.castSucc
    ∗ (∃ d, owns (c : Thread nD τ) (win0_0.stage (cfg0.slots t 0)) fullShare ((data m 0 c).before 0 t d))
    ∗ (∃ d, owns (c : Thread nD τ) (win0_1.stage (cfg0.slots t 1)) fullShare ((data m 0 c).before 1 t d))
    ∗ (∃ d, owns (c : Thread nD τ) (win0_2.stage (cfg0.slots t 2)) fullShare ((data m 0 c).before 2 t d))
    ∗ (∃ d, owns (c : Thread nD τ) (win0_3.stage (cfg0.slots t 3)) fullShare ((data m 0 c).before 3 t d))
    ∗ (∃ d, owns (c : Thread nD τ) (win0_4.stage (cfg0.slots t 4)) fullShare ((data m 0 c).before 4 t d)))

/-- What a point leaves: of the second result's buffer, at a later point that does not write it back, what the point found. -/
def post (c : Dev nD) (t : Fin cfg0.N) : sProp 𝕄 :=
  iprop((data m 0 c).Φ t.succ ∗ (data m 0 c).owesAt () t.succ
    ∗ owns (c : Thread nD τ) (win0_0.stage (cfg0.slots t 0)) fullShare ((data m 0 c).after 0 t)
    ∗ owns (c : Thread nD τ) (win0_1.stage (cfg0.slots t 1)) fullShare ((data m 0 c).after 1 t)
    ∗ owns (c : Thread nD τ) (win0_2.stage (cfg0.slots t 2)) fullShare ((data m 0 c).after 2 t)
    ∗ owns (c : Thread nD τ) (win0_3.stage (cfg0.slots t 3)) fullShare ((data m 0 c).after 3 t)
    ∗ (data m 0 c).leavesExact 4 t)

/-- The normalised rows are what a point is to leave in the second result's buffer. -/
theorem leaves_rows (c : Dev nD) (t : Fin cfg0.N) :
    (owns (c : Thread nD τ) (win0_4.stage (cfg0.slots t 4)) fullShare (rowsAt m c t) : sProp 𝕄) ⊢ (data m 0 c).leavesExact 4 t := by
  by_cases h0 : t.val % 12 = 0
  · have hi : cfg0.idle 4 (cfg0.grid.coords t) = false := Bool.eq_false_iff.mpr fun e => (idle_iff t).mp e h0
    unfold Dat.leavesExact
    rw [show (cfgs 0).idle 4 ((cfgs 0).grid.coords t) = false from hi, after_4]
  · by_cases hf : (cfg0.win 4).flush t = true
    · unfold Dat.leavesExact
      rw [show (cfgs 0).idle 4 ((cfgs 0).grid.coords t) = true from (idle_iff t).mpr h0, show ((cfgs 0).win 4).flush t = true from hf, after_4]
    · rw [Dat.leavesExact_idle _ 4 t ((idle_iff t).mpr h0) (Bool.eq_false_iff.mpr hf)]
      iintro H
      iexists (rowsAt m c t)
      rw [kept m c t h0]
      iexact H

set_option maxHeartbeats 1000000 in
/-- The body at a point. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (data m 0 c).Φ t.succ = (data m 0 c).Φ t.castSucc from rfl, show (data m 0 c).owesAt () t.succ = (data m 0 c).owesAt () t.castSucc from rfl, after_0, after_1, after_2, after_3]
  have leave := leaves_rows m c t
  by_cases h0 : t.val % 12 = 0
  · iintro ⟨HΦ, Ho, ⟨%d0, H0⟩, ⟨%d1, H1⟩, ⟨%d2, H2⟩, ⟨%d3, H3⟩, ⟨%d4, H4⟩⟩
    iapply (first_point c Set.univ (grid0.coords t) _ _ _ _ _ _ _ _ _ _ ((first_iff t).mpr h0) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply leave
    iexact H4
  · simp only [kept m c t h0]
    iintro ⟨HΦ, Ho, ⟨%d0, H0⟩, ⟨%d1, H1⟩, ⟨%d2, H2⟩, ⟨%d3, H3⟩, ⟨%d4, H4⟩⟩
    iapply (later_point c Set.univ (grid0.coords t) _ _ _ _ _ _ _ _ _ _ (fun e => h0 ((first_iff t).mp e)) (iblk m c 0 t) (iblk m c 1 t) (iblk m c 2 t) (rowsAt m c t) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply leave
    iexact H4

theorem body_row (t : Fin cfg0.N) : defs₀ (F := F) .tc cfg0.body (cfg0.bodyArgs t (cfg0.slots t)) = bodyAt0 t := by
  unfold defs₀; rw [Defs.onTc_tc]

theorem body_meets (c : Dev nD) : BodyObligation (data (F := F) m 0 c) (defs₀ (F := F)) Variants.none () Set.univ := fun t => by
  rw [bigSep_W0, bigSep_W0, body_row]
  exact triple_restated (body_at m c t) rfl .rfl fun _ => .rfl

/-! ## The run -/

set_option backward.isDefEq.respectTransparency.types false in
set_option maxHeartbeats 800000 in
/-- Every fair run ends, with the arrays at what the proof data gives and every counter at zero. -/
theorem run_and_counters : θ_run defs (onTc (τ := τ) (main (F := F))) (s₀ m ρ) (fun r => (Pipeline.FramePost cfgs (data m) 0 (V m)) r ∧ r.2.sem = fun _ => 0) :=
  Pipeline.θ_run_frame (Q' := _) cfgs (data m) (0 : Fin 1) launch0 defs₀ Variants.none m ρ main
    (hbody := fun c => (body_meets m c).loose) (hshare := fun c => (data m 0 c).share_full fun _ => rfl)
    (howed := fun _ _ => rfl) (V := V m) (hmain := hmain m Variants.none) (hA := data_A m) (hΦ := fun _ _ => rfl)

/-- The same without the counters. -/
theorem run_arrays : θ_run defs (onTc (τ := τ) (main (F := F))) (s₀ m ρ) (Pipeline.FramePost cfgs (data m) 0 (V m)) :=
  (θ_run defs _ _).mono (fun _ h => h.1) (run_and_counters m ρ)

/-- The arguments end as they began and every counter at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (data m) (data_A m) (run_arrays m ρ)) ((θ_run defs _ _).mono (fun _ h => h.2) (run_and_counters m ρ))

end Cert.Kernel18Ideal.Product

end
-- ==== Proof.MixerForward.lean ====
module

public import proofs.«01_k».proof.Defs
public import proofs.«01_k».proof.Proof.MixerForwardRun
public import proofs.«01_k».proof.Proof.PrintedMixerForwardRun
public import proofs.«01_k».proof.Proof.Gen.Reference18Ideal.Run

@[expose] public section

set_option maxRecDepth 16384

noncomputable section

namespace Cert.Kernel18Ideal.Product

open Cert.Kernel18Ideal Cert.Kernel18Ideal.Gen
open Idealize.ShloMosaic Idealize.ShloMosaic.TcCoe Idealize.SL.Sem
open Idealize.ShloMosaic.Pipeline (Dat)
open Cert.Reference18Ideal.Facts₀ (bcast_S2048x1_S2048x1024_0_1 bcast_S2048_S2048x1_0 bcast_S_S2048x1 bcast_S1x1024_S2048x1024_0_1 reducesTo_S2048x1024_S2048_d1 h_S_)

/-! # The mixer's input product, and the normed rows -/

abbrev S2048 := Cert.Reference18Ideal.S2048
abbrev S2048x1 := Cert.Reference18Ideal.S2048x1
abbrev S_ := Cert.Reference18Ideal.S_

/-- The rows normed: each row times the reciprocal root of its mean square, and times the gain. -/
def normed (x : FVec Ideal S2048x1024 .f32) (g : FVec Ideal S1x1024 .f32) : FVec Ideal S2048x1024 .f32 :=
  mulf (mulf x (broadcastInDim S2048x1024 ![0, 1] bcast_S2048x1_S2048x1024_0_1 (Host.rsqrt (addf (Host.divf (broadcastInDim S2048x1 ![0] bcast_S2048_S2048x1_0
      (Host.reduceAdd (mulf x x) (constant S_ .f32 0x00000000#32) reducesTo_S2048x1024_S2048_d1 h_S_)) (broadcastInDim S2048x1 ![] bcast_S_S2048x1 (constant S_ .f32 0x44800000#32)))
      (broadcastInDim S2048x1 ![] bcast_S_S2048x1 (constant S_ .f32 0x3727C5AC#32))))))
    (broadcastInDim S2048x1024 ![0, 1] bcast_S1x1024_S2048x1024_0_1 g)

/-- The product: each of the normed rows against each of the weight's columns. -/
def product (x : FVec Ideal S2048x1024 .f32) (g : FVec Ideal S1x1024 .f32) (w : FVec Ideal S1024x6176 .f32) : FVec Ideal S2048x6144 .f32 := fun y =>
  (∑ k : Fin 1024, normed x g (ix2 (y 0) k) * w (ix2 k ⟨(y 1).val, lt_trans (y 1).isLt (by decide : 6144 < 6176)⟩) : EReal)

/-- One row, normed. -/
def normedRow (r : Fin 1024 → EReal) (g : EReal) (k : Fin 1024) : EReal :=
  r k * Ideal.rsqrt (Ideal.div (∑ j, r j * r j) (Ideal.ofBits .f32 0x44800000#32) + Ideal.ofBits .f32 0x3727C5AC#32) * g

theorem normed_at (x : FVec Ideal S2048x1024 .f32) (g : FVec Ideal S1x1024 .f32) (i : Fin 2048) (k : Fin 1024) :
    normed x g (ix2 i k) = normedRow (fun j => x (ix2 i j)) (g (ix2 0 k)) k := by
  unfold normed normedRow
  pointwise
/-- The body's rows are normed alike. -/
theorem block_normed (x : Vec Ideal S1024x1024 .f32) (g : Vec Ideal S1x1024 .f32) (a : Fin 1024) (k : Fin 1024) :
    k0_pay1 x g (ix2 a k) = normedRow (fun j => x (ix2 a j)) (g (ix2 0 k)) k := by
  unfold normedRow
  pointwise [k0_pay1]
/-- One block of the product, from the blocks the body loads. -/
theorem block_product (h : Vec Ideal S1024x1024 .bf16) (w : Vec Ideal S1024x512 .bf16) (a : Fin 1024) (b : Fin 512) :
    k0_pay2 h w (ix2 a b) = (∑ k : Fin 1024, h (ix2 a k) * w (ix2 k b) : EReal) := by
  pointwise [k0_pay2]

variable (m : (ℓ : Loc nD τ sig) → Buf (Elt Ideal) ℓ) (c : Dev nD)

/-! The arguments, as arrays of reals. -/
abbrev arg0 : FVec Ideal S2048x1024 .f32 := m ((c.tc : Thread nD τ).loc main_arg0)
abbrev arg1 : FVec Ideal S1x1024 .f32 := m ((c.tc : Thread nD τ).loc main_arg1)
abbrev arg2 : FVec Ideal S1024x6176 .f32 := m ((c.tc : Thread nD τ).loc main_arg2)

theorem idx : ∀ t : Fin cfg0.N, win0_2.index t = ![0, t.val % 12] ∧ win0_3.index t = ![t.val / 12, t.val % 12] ∧ win0_4.index t = ![t.val / 12, 0] :=
  (by decide +kernel : ∀ t : Fin grid0.N, _)

/-- The host takes the weight's first 6144 columns, and rounds them, which changes no real number. -/
theorem weight_eq (k : Fin 1024) (j : Fin 6144) : V m c main_v1 (ix2 k j) = arg2 m c (ix2 k ⟨j.val, by omega⟩) := by
  have e : (V m c main_v1 : FVec Ideal S1024x6144 .bf16) = truncf .bf16 (extractStridedSlice S1024x6144 ![0, 0] (arg2 m c) slices_S1024x6176_S1024x6144_0_0) bitsLt_bf16_f32 := by
    unfold V
    after_results
  rw [e]
  generalize arg2 m c = w
  pointwise

/-- The normalised rows of a point, as the whole array's. -/
theorem rows_at (t : Fin cfg0.N) (a k : Fin 1024) :
    (rowsAt m c t (ix2 a k) : EReal) = normed (arg0 m c) (arg1 m c) (ix2 ⟨1024 * (t.val / 12) + a.val, by have := points t; omega⟩ k) := by
  unfold rowsAt
  refine (block_normed _ _ a k).trans (Eq.trans ?_ (normed_at _ _ _ k).symm)
  rw [block_1, V_main_arg1]
  refine congrArg (fun r => normedRow r _ k) (funext fun j => ?_)
  rw [block_0, V_main_arg0]

/-- The weight's block at a point. -/
theorem block_2 (t : Fin cfg0.N) (k : Fin 1024) (b : Fin 512) : iblk m c 2 t (ix2 k b) = arg2 m c (ix2 k ⟨512 * (t.val % 12) + b.val, by have := points t; omega⟩) := by
  refine Eq.trans (b := V m c main_v1 (ix2 k ⟨512 * (t.val % 12) + b.val, by have := points t; omega⟩)) (by blk_ext [iblk, (idx t).1]) ?_
  exact weight_eq m c k _

/-- The products' array after the run. -/
theorem final_product : (data m 0 c).arrAt 3 (cfgs 0).N = product (arg0 m c) (arg1 m c) (arg2 m c) := by
  refine (data m 0 c).arrAt_eq_of_covers 3 _ (by decide +kernel) fun t _ y => ?_
  blk_simp
  rw [after_3]
  have hi := (idx t).2.1
  have block : ∀ (y : S1024x512.Idx) (z : S2048x6144.Idx), (z 0).val = 1024 * (t.val / 12) + (y 0).val → (z 1).val = 512 * (t.val % 12) + (y 1).val →
      k0_pay2 (rowsAt m c t) (iblk m c 2 t) y = product (arg0 m c) (arg1 m c) (arg2 m c) z := by
    intro y z h0 h1
    obtain ⟨a, b, rfl⟩ : ∃ (a : Fin 1024) (b : Fin 512), y = ix2 a b := ⟨y 0, y 1, (ix2_eta y).symm⟩
    obtain ⟨i, j, rfl⟩ : ∃ (i : Fin 2048) (j : Fin 6144), z = ix2 i j := ⟨z 0, z 1, (ix2_eta z).symm⟩
    replace h0 : i.val = 1024 * (t.val / 12) + a.val := h0
    replace h1 : j.val = 512 * (t.val % 12) + b.val := h1
    refine (block_product _ _ a b).trans ?_
    show _ = (∑ k : Fin 1024, normed (arg0 m c) (arg1 m c) (ix2 i k) * (arg2 m c) (ix2 k ⟨j.val, lt_trans j.isLt (by decide : 6144 < 6176)⟩) : EReal)
    refine Finset.sum_congr rfl fun k _ => congrArg₂ (fun p q : EReal => p * q) ?_ ?_
    · rw [rows_at]
      simp only [← h0]
    · rw [block_2]
      simp only [← h1]
  refine block y _ ?_ ?_ <;> simp [hi, Nat.mul_comm]

/-- The normed rows' array after the run: written back at the last point of each row of points. -/
theorem final_rows : (data m 0 c).arrAt 4 (cfgs 0).N = (truncf .bf16 (normed (arg0 m c) (arg1 m c)) bitsLt_bf16_f32 : FVec Ideal S2048x1024 .bf16) := by
  refine (data m 0 c).arrAt_eq_of_covers 4 _ (by decide +kernel) fun t _ y => ?_
  blk_simp
  rw [after_4]
  have hi := (idx t).2.2
  have block : ∀ (y : S1024x1024.Idx) (z : S2048x1024.Idx), (z 0).val = 1024 * (t.val / 12) + (y 0).val → (z 1).val = (y 1).val →
      rowsAt m c t y = (truncf .bf16 (normed (arg0 m c) (arg1 m c)) bitsLt_bf16_f32 : FVec Ideal S2048x1024 .bf16) z := by
    intro y z h0 h1
    obtain ⟨a, k, rfl⟩ : ∃ (a : Fin 1024) (b : Fin 1024), y = ix2 a b := ⟨y 0, y 1, (ix2_eta y).symm⟩
    obtain ⟨i, k', rfl⟩ : ∃ (i : Fin 2048) (j : Fin 1024), z = ix2 i j := ⟨z 0, z 1, (ix2_eta z).symm⟩
    replace h0 : i.val = 1024 * (t.val / 12) + a.val := h0
    replace h1 : k'.val = k.val := h1
    obtain rfl := Fin.ext h1
    refine (rows_at m c t a k').trans ?_
    simp only [← h0]
    rfl
  refine block y _ ?_ ?_ <;> simp [hi, Nat.mul_comm]

/-- The reference's lines. -/
theorem reference_product (x : FVec Ideal S2048x1024 .f32) (g : FVec Ideal S1x1024 .f32) (w : FVec Ideal S1024x6176 .f32) :
    (extractStridedSlice Cert.Reference18Ideal.S2048x6144 ![0, 0] (Host.dotGeneral Cert.Reference18Ideal.dot_S2048x1024_S1024x6176_S2048x6176_1_0_0_1_n_n none (normed x g) w) Cert.Reference18Ideal.Facts₀.slices_S2048x6176_S2048x6144_0_0 : FVec Ideal S2048x6144 .f32) = product x g w := by
  funext y
  obtain ⟨i, j, rfl⟩ : ∃ (i : Fin 2048) (j : Fin 6144), y = ix2 i j := ⟨y 0, y 1, (ix2_eta y).symm⟩
  show _ = (∑ k : Fin 1024, normed x g (ix2 i k) * w (ix2 k ⟨j.val, lt_trans j.isLt (by decide : 6144 < 6176)⟩) : EReal)
  generalize normed x g = h
  pointwise

/-! # The claims -/

theorem frame_ideal : Cert.quiescent_Kernel18Ideal (hKernel18Ideal := Cert.Kernel18Ideal.Gen.facts) := fun m ρ _ =>
  args_kept m ρ
theorem frame_kernel : Cert.quiescent_Kernel18 (hKernel18 := Cert.Kernel18.Gen.facts) := fun m ρ _ =>
  Cert.Kernel18.Product.args_kept m ρ
theorem frame_reference : Cert.quiescent_Reference18Ideal (hReference18Ideal := Cert.Reference18Ideal.Gen.facts) := fun m ρ _ =>
  (θ_run Cert.Reference18Ideal.defs _ _).mono (fun r h => ⟨fun c => (h c).2.2, sem_eq_zero_of_no_sems (by decide) r.2⟩)
    (Cert.Reference18Ideal.Value.run (F := Ideal) m ρ)

/-- The kernel's two results and the reference's are the same arrays. -/
theorem algebraic : @Cert.algebraic_Kernel18Ideal_Reference18Ideal Cert.Kernel18Ideal.Gen.facts Cert.Reference18Ideal.Gen.facts := by
  intro m g m' g' _ hagree
  refine ⟨fun c => product (arg0 m c) (arg1 m c) (arg2 m c), fun c => truncf .bf16 (normed (arg0 m c) (arg1 m c)) bitsLt_bf16_f32,
    (θ_run defs _ _).mono (fun r h c => ⟨((h.1 c).1 3).trans (final_product m c), ((h.1 c).1 4).trans (final_rows m c), h.2.1 c⟩) (θ_run_and (run_arrays (F := Ideal) m g) (args_kept (F := Ideal) m g)),
    (θ_run Cert.Reference18Ideal.defs _ _).mono (fun r h c => ⟨(h c).1.trans ?_, (h c).2.1.trans ?_, (h c).2.2⟩) (Cert.Reference18Ideal.Value.run (F := Ideal) m' g')⟩
  · obtain ⟨a0, a1, a2⟩ := hagree c
    rw [a0, a1, a2]
    exact reference_product _ _ _
  · obtain ⟨a0, a1, a2⟩ := hagree c
    rw [a0, a1]
    rfl

end Cert.Kernel18Ideal.Product

end
-- ==== Proof.Softmax.lean ====
module

public import Idealize.ShloMosaic.Lib.IdealHost

/-! # One row of a softmax with an extra column

A row has 256 scores `s` and one more score `σ`, the sink's, which takes part in the
normalisation and has no value of its own.  The kernel multiplies the weights by the
reciprocal of their sum; the reference divides them, and its gradient is the quotient rule
over all 257 columns.  Both are written here over the extended reals and shown equal when
`σ` is finite and no score is `⊤`. -/

@[expose] public section

noncomputable section

namespace Cert.Softmax

open Idealize.ShloMosaic

/-- The bits of minus infinity. -/
theorem negInf : Ideal.ofBits .f32 0xFF800000#32 = (⊥ : EReal) := by
  simp [Ideal.ofBits, Ideal.ieee]

/-- The bits of infinity. -/
theorem posInf : Ideal.ofBits .f32 0x7F800000#32 = (⊤ : EReal) := by
  simp [Ideal.ofBits, Ideal.ieee]

/-- The scale: one over the root of the head's width. -/
theorem eighth : Ideal.ofBits .f32 0x3E000000#32 = ((1 / 8 : ℝ) : EReal) := by
  simp [Ideal.ofBits, Ideal.ieee, -EReal.coe_mul]; norm_num

/-- The bits of a row's width. -/
theorem width : Ideal.ofBits .f32 0x44800000#32 = ((1024 : ℝ) : EReal) := by
  simp [Ideal.ofBits, Ideal.ieee, -EReal.coe_mul]; norm_num

/-- The bits of minus a half. -/
theorem minusHalf : Ideal.ofBits .f32 0xBF000000#32 = ((-(1 / 2) : ℝ) : EReal) := by
  simp [Ideal.ofBits, Ideal.ieee, -EReal.coe_mul]; norm_num

/-- The bits of the small number that a norm adds. -/
theorem small : ∃ e : ℝ, 0 < e ∧ Ideal.ofBits .f32 0x3727C5AC#32 = (e : EReal) := by
  refine ⟨_, ?_, by simp only [Ideal.ofBits, Ideal.ieee]; simp [-EReal.coe_mul]; rfl⟩
  positivity

/-- The greatest score of the row, the sink's included. -/
def top (s : Fin 256 → EReal) (σ : EReal) : EReal := max (Finset.univ.fold max ⊥ s) σ

/-- The weight of a column. -/
def weight (s : Fin 256 → EReal) (σ : EReal) (j : Fin 256) : EReal := Ideal.exp (s j - top s σ)

/-- The weight of the sink. -/
def sinkWeight (s : Fin 256 → EReal) (σ : EReal) : EReal := Ideal.exp (σ - top s σ)

/-- The sum of all weights. -/
def total (s : Fin 256 → EReal) (σ : EReal) : EReal := ∑ j, weight s σ j + sinkWeight s σ

/-- The probability of a column. -/
def prob (s : Fin 256 → EReal) (σ : EReal) (j : Fin 256) : EReal :=
  weight s σ j * Ideal.div 1 (total s σ)

/-- The mean of the columns' gradients `g`. -/
def mean (s : Fin 256 → EReal) (σ : EReal) (g : Fin 256 → EReal) : EReal := ∑ j, prob s σ j * g j

/-- The gradient at a score. -/
def grad (s : Fin 256 → EReal) (σ : EReal) (g : Fin 256 → EReal) (j : Fin 256) : EReal :=
  prob s σ j * (g j - mean s σ g)

/-- The gradient at the sink. -/
def sinkGrad (s : Fin 256 → EReal) (σ : EReal) (g : Fin 256 → EReal) : EReal :=
  (0 - sinkWeight s σ * Ideal.div 1 (total s σ)) * mean s σ g

/-- The row with the further column written last. -/
def wide (s : Fin 256 → EReal) (σ : EReal) (j : Fin 257) : EReal :=
  if h : j.val < 256 then s ⟨j.val, h⟩ else σ

theorem wide_left (s : Fin 256 → EReal) (σ : EReal) (j : Fin 256) :
    wide s σ j.castSucc = s j := by
  simp [wide]

theorem wide_last (s : Fin 256 → EReal) (σ : EReal) : wide s σ (Fin.last 256) = σ := by
  simp [wide]

theorem sum_wide (f : Fin 257 → EReal) :
    ∑ j, f j = ∑ j : Fin 256, f j.castSucc + f (Fin.last 256) :=
  Fin.sum_univ_castSucc f

theorem fold_wide (s : Fin 256 → EReal) (σ : EReal) :
    Finset.univ.fold max ⊥ (wide s σ) = top s σ := by
  apply le_antisymm
  · rw [Finset.fold_max_le]
    refine ⟨bot_le, fun j _ => ?_⟩
    unfold wide
    split
    · next h =>
      exact le_max_of_le_left (Finset.le_fold_max (s ⟨j.val, h⟩) |>.mpr
        (Or.inr ⟨⟨j.val, h⟩, Finset.mem_univ _, le_rfl⟩))
    · exact le_max_right _ _
  · refine max_le ?_ ?_
    · rw [Finset.fold_max_le]
      refine ⟨bot_le, fun j _ => ?_⟩
      exact (Finset.le_fold_max _).mpr
        (Or.inr ⟨j.castSucc, Finset.mem_univ _, (wide_left s σ j).ge⟩)
    · exact (Finset.le_fold_max _).mpr
        (Or.inr ⟨Fin.last 256, Finset.mem_univ _, (wide_last s σ).ge⟩)

/-! ## Multiplying a sum by a real number that is not negative -/

theorem coe_mul_add {c : ℝ} (hc : 0 ≤ c) (x y : EReal) :
    (c : EReal) * (x + y) = c * x + c * y :=
  EReal.left_distrib_of_nonneg_of_ne_top (by exact_mod_cast hc) (EReal.coe_ne_top c) x y

theorem coe_mul_sum {ι : Type*} {c : ℝ} (hc : 0 ≤ c) (A : Finset ι) (f : ι → EReal) :
    (c : EReal) * ∑ i ∈ A, f i = ∑ i ∈ A, (c : EReal) * f i := by
  classical
  induction A using Finset.induction_on with
  | empty => simp
  | insert a A ha ih => rw [Finset.sum_insert ha, Finset.sum_insert ha, coe_mul_add hc, ih]

/-! ## The numbers of a row -/

section
variable {s : Fin 256 → EReal} {σ : EReal}

/-- The greatest score is a real number. -/
theorem top_real (hs : ∀ j, s j ≠ ⊤) (hσ : ∃ x : ℝ, σ = x) : ∃ t : ℝ, top s σ = t := by
  obtain ⟨x, rfl⟩ := hσ
  have h1 : top s x ≠ ⊥ := fun h => by
    have : (x : EReal) ≤ ⊥ := h ▸ le_max_right _ _
    exact EReal.coe_ne_bot x (le_bot_iff.mp this)
  have h2 : top s x ≠ ⊤ := by
    refine ne_of_lt (max_lt ?_ (EReal.coe_lt_top x))
    rw [Finset.fold_max_lt]
    exact ⟨bot_lt_top, fun j _ => lt_top_iff_ne_top.mpr (hs j)⟩
  exact ⟨(top s x).toReal, (EReal.coe_toReal h2 h1).symm⟩

/-- The exponential of a score less a real number is a real number that is not negative. -/
theorem exp_real {x : EReal} (hx : x ≠ ⊤) (t : ℝ) :
    ∃ w : ℝ, 0 ≤ w ∧ Ideal.exp (x - t) = w := by
  induction x with
  | bot => exact ⟨0, le_rfl, by simp⟩
  | top => exact absurd rfl hx
  | coe r =>
    exact ⟨Real.exp (r - t), (Real.exp_pos _).le, by rw [← EReal.coe_sub, Ideal.exp_coe]⟩

theorem numbers (hs : ∀ j, s j ≠ ⊤) (hσ : ∃ x : ℝ, σ = x) :
    ∃ (w : Fin 256 → ℝ) (v : ℝ) (T : ℝ), (∀ j, 0 ≤ w j) ∧ 0 ≤ v ∧ 0 < T ∧
      (∀ j, weight s σ j = w j) ∧ sinkWeight s σ = v ∧ total s σ = T := by
  obtain ⟨t, ht⟩ := top_real hs hσ
  obtain ⟨x, rfl⟩ := hσ
  choose w hw hw' using fun j => exp_real (hs j) t
  have hv : sinkWeight s x = (Real.exp (x - t) : ℝ) := by
    rw [sinkWeight, ht, ← EReal.coe_sub, Ideal.exp_coe]
  have hwt : ∀ j, weight s x j = w j := fun j => by rw [weight, ht, hw']
  refine ⟨w, Real.exp (x - t), ∑ j, w j + Real.exp (x - t), hw, (Real.exp_pos _).le, ?_, hwt, hv, ?_⟩
  · exact add_pos_of_nonneg_of_pos (Finset.sum_nonneg fun j _ => hw j) (Real.exp_pos _)
  · rw [total, hv, EReal.coe_add, Finset.sum_congr rfl fun j _ => hwt j]
    congr 1

theorem div_total {T : ℝ} (hT : 0 < T) (x : EReal) : Ideal.div x (T : EReal) = ((1 / T : ℝ) : EReal) * x := by
  rw [Ideal.div_coe hT.ne', mul_comm]

/-- A quotient by the total is a probability. -/
theorem div_weight (hs : ∀ j, s j ≠ ⊤) (hσ : ∃ x : ℝ, σ = x) (j : Fin 256) :
    Ideal.div (weight s σ j) (total s σ) = prob s σ j := by
  obtain ⟨w, v, T, hw, hv, hT, ew, ev, eT⟩ := numbers hs hσ
  rw [prob, eT, div_total hT, div_total hT, mul_one, mul_comm]

/-- A probability is a real number that is not negative. -/
theorem prob_real (hs : ∀ j, s j ≠ ⊤) (hσ : ∃ x : ℝ, σ = x) (j : Fin 256) :
    ∃ p : ℝ, 0 ≤ p ∧ prob s σ j = p := by
  obtain ⟨w, v, T, hw, hv, hT, ew, ev, eT⟩ := numbers hs hσ
  refine ⟨w j * (1 / T), mul_nonneg (hw j) (by positivity), ?_⟩
  rw [prob, ew, eT, div_total hT, mul_one, EReal.coe_mul]

/-- The second part of the quotient rule, as the reference sums it over all 257 columns. -/
def spread (s : Fin 256 → EReal) (σ : EReal) (g : Fin 256 → EReal) : EReal :=
  -∑ j, wide g 0 j * Ideal.div 1 (total s σ * total s σ) * wide (weight s σ) (sinkWeight s σ) j

/-- It is the mean over the total, taken with a minus. -/
theorem spread_eq (hs : ∀ j, s j ≠ ⊤) (hσ : ∃ x : ℝ, σ = x) (g : Fin 256 → EReal) {T : ℝ}
    (hT : 0 < T) (eT : total s σ = T) :
    spread s σ g = -(((1 / T : ℝ) : EReal) * mean s σ g) := by
  have hT' : (0 : ℝ) ≤ 1 / T := by positivity
  rw [spread, sum_wide, wide_last, zero_mul, zero_mul, add_zero, mean, coe_mul_sum hT']
  congr 1
  refine Finset.sum_congr rfl fun j _ => ?_
  rw [wide_left, wide_left, prob, eT, ← EReal.coe_mul, div_total (mul_pos hT hT), div_total hT, mul_one,
    mul_one, one_div_mul_one_div_rev T T |>.symm, EReal.coe_mul]
  ac_rfl

/-- The quotient rule at a column is the kernel's gradient there. -/
theorem quotient_left (hs : ∀ j, s j ≠ ⊤) (hσ : ∃ x : ℝ, σ = x) (g : Fin 256 → EReal)
    (j : Fin 256) :
    (Ideal.div (g j) (total s σ) + spread s σ g) * weight s σ j = grad s σ g j := by
  obtain ⟨w, v, T, hw, hv, hT, ew, ev, eT⟩ := numbers hs hσ
  have hT' : (0 : ℝ) ≤ 1 / T := by positivity
  rw [spread_eq hs hσ g hT eT, grad, prob, eT, div_total hT, div_total hT, mul_one, sub_eq_add_neg,
    ← mul_neg, ← coe_mul_add hT']
  ac_rfl

/-- The quotient rule at the sink is the kernel's gradient there. -/
theorem quotient_last (hs : ∀ j, s j ≠ ⊤) (hσ : ∃ x : ℝ, σ = x) (g : Fin 256 → EReal) :
    (Ideal.div 0 (total s σ) + spread s σ g) * sinkWeight s σ = sinkGrad s σ g := by
  obtain ⟨w, v, T, hw, hv, hT, ew, ev, eT⟩ := numbers hs hσ
  rw [spread_eq hs hσ g hT eT, sinkGrad, eT, div_total hT, div_total hT, mul_one, mul_zero,
    zero_add, zero_sub, EReal.neg_mul, EReal.neg_mul]
  congr 1
  ac_rfl

/-- Where the score is `⊥` the gradient is zero. -/
theorem grad_bot (hs : ∀ j, s j ≠ ⊤) (hσ : ∃ x : ℝ, σ = x) (g : Fin 256 → EReal) {j : Fin 256}
    (hj : s j = ⊥) : grad s σ g j = 0 := by
  obtain ⟨t, ht⟩ := top_real hs hσ
  rw [grad, prob, weight, hj, ht, EReal.bot_sub, Ideal.exp_bot, zero_mul, zero_mul]

/-- Where the score is `⊥` the probability is zero. -/
theorem prob_bot (hs : ∀ j, s j ≠ ⊤) (hσ : ∃ x : ℝ, σ = x) {j : Fin 256} (hj : s j = ⊥) :
    prob s σ j = 0 := by
  obtain ⟨t, ht⟩ := top_real hs hσ
  rw [prob, weight, hj, ht, EReal.bot_sub, Ideal.exp_bot, zero_mul]

end

end Cert.Softmax

end
-- ==== Proof.NormGrad.lean ====
module

public import Idealize.ShloMosaic.Lib.IdealHost
public import proofs.«01_k».proof.Proof.Softmax

/-! # The gradient through one row's norm

A row `x` is multiplied by the reciprocal root of its mean square and by the gain `g`.  From the
gradient `h` at the normed row, and a further gradient `d` at the row itself, the kernel takes the
gradient at `x` in closed form; the reference differentiates the norm's lines one by one.  Both are
written here over the extended reals, and shown equal, for rows with infinite entries too. -/

@[expose] public section

noncomputable section

namespace Cert.NormGrad

open Idealize.ShloMosaic

/-- The mean square, and the small number. -/
def meanSquare (x : Fin 1024 → EReal) : EReal :=
  Ideal.div (∑ j, x j * x j) (Ideal.ofBits .f32 0x44800000#32) + Ideal.ofBits .f32 0x3727C5AC#32

/-- The reciprocal root. -/
def rate (x : Fin 1024 → EReal) : EReal := Ideal.rsqrt (meanSquare x)

/-- The kernel's gradient at the row. -/
def grad (x g h d : Fin 1024 → EReal) (k : Fin 1024) : EReal :=
  d k + rate x * (h k * g k - x k * rate x * Ideal.div (∑ j, h j * g j * (x j * rate x)) (Ideal.ofBits .f32 0x44800000#32))

/-- What each entry gets through the mean square: half of the reference's, since the square is a product of two. -/
def through (x g h : Fin 1024 → EReal) : EReal :=
  Ideal.div ((∑ j, x j * (h j * g j)) * (Ideal.ofBits .f32 0xBF000000#32 * Ideal.div (rate x) (meanSquare x))) (Ideal.ofBits .f32 0x44800000#32)

/-- The reference's gradient at the row. -/
def lines (x g h d : Fin 1024 → EReal) (k : Fin 1024) : EReal :=
  d k + h k * g k * rate x + x k * through x g h + through x g h * x k

theorem coe_sum {ι : Type*} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- A real factor that isn't negative is taken out of a sum, whatever the terms. -/
theorem sum_mul_real {ι : Type*} (A : Finset ι) (f : ι → EReal) {r : ℝ} (hr : 0 ≤ r) : (∑ i ∈ A, f i) * (r : EReal) = ∑ i ∈ A, f i * (r : EReal) := by
  classical
  induction A using Finset.induction_on with
  | empty => simp
  | insert a A ha ih =>
    rw [Finset.sum_insert ha, Finset.sum_insert ha, ← ih]
    exact EReal.right_distrib_of_nonneg_of_ne_top (EReal.coe_nonneg.mpr hr) (EReal.coe_ne_top r) _ _

theorem twice (E : EReal) : E + E = E * ((2 : ℝ) : EReal) := by
  induction E using EReal.rec with
  | bot => rw [EReal.bot_mul_coe_of_pos (by norm_num)]; rfl
  | top => rw [EReal.top_mul_coe_of_pos (by norm_num)]; rfl
  | coe e => rw [← EReal.coe_add, ← EReal.coe_mul]; congr 1; ring

theorem square_nonneg (x : EReal) : 0 ≤ x * x := by
  induction x using EReal.rec with
  | bot => simp
  | top => simp
  | coe e => rw [← EReal.coe_mul]; exact EReal.coe_nonneg.mpr (mul_self_nonneg e)

/-- The two forms of an entry agree when the rate is a positive real, whatever the other numbers are. -/
theorem entry (D A X T : EReal) (r y n a : ℝ) (hr : 0 ≤ r) (h : 2 * (a * (r * (1 / y)) * n) = -(r * r * (r * n))) :
    D + (r : EReal) * (A - X * r * (T * r * (n : EReal)))
      = D + A * r + X * (T * ((a : EReal) * (r * ((1 / y : ℝ) : EReal))) * (n : EReal)) + T * ((a : EReal) * (r * ((1 / y : ℝ) : EReal))) * (n : EReal) * X := by
  have e1 : (r : EReal) * -(X * r * (T * r * (n : EReal))) = X * T * ((-(r * r * (r * n)) : ℝ) : EReal) := by
    rw [EReal.coe_neg, mul_neg, mul_neg, EReal.coe_mul, EReal.coe_mul, EReal.coe_mul]
    congr 1
    ac_rfl
  have e2 : X * (T * ((a : EReal) * (r * ((1 / y : ℝ) : EReal))) * (n : EReal)) = X * T * ((a * (r * (1 / y)) * n : ℝ) : EReal) := by
    rw [EReal.coe_mul, EReal.coe_mul, EReal.coe_mul]
    ac_rfl
  have e3 : T * ((a : EReal) * (r * ((1 / y : ℝ) : EReal))) * (n : EReal) * X = X * T * ((a * (r * (1 / y)) * n : ℝ) : EReal) := by
    rw [EReal.coe_mul, EReal.coe_mul, EReal.coe_mul]
    ac_rfl
  rw [sub_eq_add_neg, EReal.left_distrib_of_nonneg_of_ne_top (EReal.coe_nonneg.mpr hr) (EReal.coe_ne_top r), e1, e2, e3, add_assoc (D + A * r), twice,
    mul_assoc (X * T), ← EReal.coe_mul, mul_comm (a * (r * (1 / y)) * n) 2, h, mul_comm A, add_assoc]

/-- A row with an infinite entry: its mean square is infinite, its rate is zero. -/
theorem meanSquare_top {x : Fin 1024 → EReal} (j : Fin 1024) (hj : x j * x j = ⊤) : meanSquare x = ⊤ := by
  obtain ⟨e, he, hE⟩ := Softmax.small
  have hs : ∑ i, x i * x i = ⊤ := by
    refine top_le_iff.mp (hj ▸ Finset.single_le_sum (f := fun i => x i * x i) (fun i _ => square_nonneg (x i)) (Finset.mem_univ j))
  unfold meanSquare
  rw [hE, Softmax.width, Ideal.div_coe (by norm_num), hs, EReal.top_mul_coe_of_pos (by norm_num), EReal.top_add_coe]

theorem grad_eq_lines (x g h d : Fin 1024 → EReal) (k : Fin 1024) : grad x g h d k = lines x g h d k := by
  by_cases hf : ∃ j, x j * x j = ⊤
  · obtain ⟨j, hj⟩ := hf
    have hm := meanSquare_top j hj
    have hr : rate x = 0 := by
      unfold rate
      rw [hm]
      rfl
    have ht : through x g h = 0 := by
      unfold through
      have h0 : Ideal.div 0 ⊤ = 0 := by rw [Ideal.div, if_neg (by simp), zero_mul]
      rw [hr, hm, h0, mul_zero, mul_zero, Softmax.width, Ideal.div_coe (by norm_num), zero_mul]
    unfold grad lines
    rw [ht, hr, zero_mul, mul_zero, mul_zero, zero_mul, add_zero, add_zero, add_zero]
  · have hx' : ∀ j, ∃ r : ℝ, x j = r := fun j => by
      have hj : ¬x j * x j = ⊤ := fun h => hf ⟨j, h⟩
      generalize x j = v at hj
      induction v using EReal.rec with
      | bot => exact absurd rfl hj
      | top => exact absurd rfl hj
      | coe r => exact ⟨r, rfl⟩
    choose x' hx using hx'
    obtain ⟨e, he, hE⟩ := Softmax.small
    have hy0 : (0 : ℝ) < (∑ j, x' j * x' j) * (1 / 1024) + e :=
      add_pos_of_nonneg_of_pos (mul_nonneg (Finset.sum_nonneg fun j _ => mul_self_nonneg _) (by norm_num)) he
    have hms : meanSquare x = (((∑ j, x' j * x' j) * (1 / 1024) + e : ℝ) : EReal) := by
      unfold meanSquare
      rw [hE, Softmax.width, Ideal.div_coe (by norm_num)]
      simp only [hx, ← EReal.coe_mul, ← coe_sum, ← EReal.coe_add]
    generalize (∑ j, x' j * x' j) * (1 / 1024) + e = y at hy0 hms
    have hr : rate x = ((1 / Real.sqrt y : ℝ) : EReal) := by
      unfold rate
      rw [hms, Ideal.rsqrt_coe, if_neg hy0.le.not_gt, if_neg hy0.ne', one_div]
    have hs : Real.sqrt y * Real.sqrt y = y := Real.mul_self_sqrt hy0.le
    have hs0 : Real.sqrt y ≠ 0 := (Real.sqrt_pos.mpr hy0).ne'
    have hr0 : 0 ≤ 1 / Real.sqrt y := one_div_nonneg.mpr (Real.sqrt_nonneg y)
    unfold grad lines through
    rw [hr, hms, Softmax.width, Softmax.minusHalf, Ideal.div_coe (by norm_num), Ideal.div_coe (by norm_num), Ideal.div_coe hy0.ne']
    have e1 : ∑ j, h j * g j * (x j * ((1 / Real.sqrt y : ℝ) : EReal)) = (∑ j, x j * (h j * g j)) * ((1 / Real.sqrt y : ℝ) : EReal) := by
      rw [sum_mul_real _ _ hr0]
      exact Finset.sum_congr rfl fun j _ => by ac_rfl
    rw [e1]
    refine entry _ _ _ _ _ y _ _ hr0 ?_
    generalize Real.sqrt y = s at hs hs0
    rw [← hs]
    field_simp

/-- A sum over four pieces laid one after another. -/
theorem sum_pieces (n : ℕ) (f : Fin (4 * n) → EReal) :
    ∑ i, f i = (∑ a : Fin n, f ⟨n * 0 + a.val, by omega⟩) + (∑ a : Fin n, f ⟨n * 1 + a.val, by omega⟩)
      + (∑ a : Fin n, f ⟨n * 2 + a.val, by omega⟩) + (∑ a : Fin n, f ⟨n * 3 + a.val, by omega⟩) := by
  rw [← finProdFinEquiv.sum_comp, Fintype.sum_prod_type, Fin.sum_univ_four]
  refine congrArg₂ (fun p q : EReal => p + q) (congrArg₂ (fun p q : EReal => p + q) (congrArg₂ (fun p q : EReal => p + q) ?_ ?_) ?_) ?_ <;>
    refine Finset.sum_congr rfl fun a _ => congrArg f (Fin.ext ?_) <;>
    simp [finProdFinEquiv, add_comm]

end Cert.NormGrad

end

end
-- ==== Proof.InInputUpper.lean ====
module

public import Idealize.ShloMosaic.Lib.Pointwise
public import Idealize.ShloMosaic.Lib.Pipeline.ValueKit
public import proofs.«01_k».proof.Defs
public import proofs.«01_k».proof.Proof.NormGrad
public import proofs.«01_k».proof.Proof.Gen.Kernel2Ideal.Value
public import proofs.«01_k».proof.Proof.Gen.Reference2Ideal.Run
public import proofs.«01_k».proof.Proof.Gen.Kernel2.Frame

@[expose] public section

set_option maxRecDepth 16384

noncomputable section

namespace Cert.Kernel2Ideal.Product

open Cert.Kernel2Ideal Cert.Kernel2Ideal.Gen
open Idealize.ShloMosaic Idealize.ShloMosaic.TcCoe Idealize.SL.Sem
open Idealize.ShloMosaic.Pipeline (Dat)

/-! # The upper feed-forward part's gradient to its input: the input projection's, and through the norm; and its columns' sums -/

/-- A row of a block's products, in the four pieces that the body adds. -/
theorem block_products (u0 : Vec Ideal S1x512x1408 .bf16) (w0 : Vec Ideal S1x1024x1408 .bf16) (u1 : Vec Ideal S1x512x1408 .bf16) (w1 : Vec Ideal S1x1024x1408 .bf16)
    (u2 : Vec Ideal S1x512x1408 .bf16) (w2 : Vec Ideal S1x1024x1408 .bf16) (u3 : Vec Ideal S1x512x1408 .bf16) (w3 : Vec Ideal S1x1024x1408 .bf16) (a : Fin 512) (k : Fin 1024) :
    k0_pay8 u0 w0 u1 w1 u2 w2 u3 w3 (ix2 a k) = ((∑ f : Fin 1408, u0 (ix3 0 a f) * w0 (ix3 0 k f)) + (∑ f : Fin 1408, u1 (ix3 0 a f) * w1 (ix3 0 k f))
      + (∑ f : Fin 1408, u2 (ix3 0 a f) * w2 (ix3 0 k f)) + (∑ f : Fin 1408, u3 (ix3 0 a f) * w3 (ix3 0 k f)) : EReal) := by
  pointwise [k0_pay8]

/-- A block's gradient, row by row. -/
theorem block_grad (h x : Vec Ideal S512x1024 .f32) (g : Vec Ideal S1x1024 .f32) (d : Vec Ideal S512x1024 .f32) (a : Fin 512) (k : Fin 1024) :
    k0_pay4 h x (k0_pay9 x) g d (ix2 a k) = NormGrad.grad (fun j => x (ix2 a j)) (fun j => g (ix2 0 j)) (fun j => h (ix2 a j)) (fun j => d (ix2 a j)) k := by
  unfold NormGrad.grad NormGrad.rate NormGrad.meanSquare
  pointwise [k0_pay4, k0_pay2, k0_pay1, k0_pay9]

/-- A block's part of the gain's gradient. -/
theorem block_gain (h x : Vec Ideal S512x1024 .f32) (z : Fin 1) (k : Fin 1024) :
    k0_pay3 h x (k0_pay9 x) (ix2 z k) = (∑ a : Fin 512, h (ix2 a k) * (x (ix2 a k) * NormGrad.rate (fun j => x (ix2 a j))) : EReal) := by
  unfold NormGrad.rate NormGrad.meanSquare
  pointwise [k0_pay3, k0_pay2, k0_pay1, k0_pay9]

/-- A block's part of the columns' sums. -/
theorem block_sum (h x : Vec Ideal S512x1024 .f32) (g : Vec Ideal S1x1024 .f32) (d : Vec Ideal S512x1024 .f32) (z : Fin 1) (k : Fin 1024) :
    k0_pay5 h x (k0_pay9 x) g d (ix2 z k) = (∑ a : Fin 512, k0_pay4 h x (k0_pay9 x) g d (ix2 a k) : EReal) := by
  unfold k0_pay5
  generalize k0_pay4 h x (k0_pay9 x) g d = v
  pointwise

/-- Later blocks' parts are added. -/
theorem block_gain_added (h x : Vec Ideal S512x1024 .f32) (o : Vec Ideal S1x1024 .f32) (z : Fin 1) (k : Fin 1024) :
    k0_pay6 h x (k0_pay9 x) o (ix2 z k) = (o (ix2 z k) + k0_pay3 h x (k0_pay9 x) (ix2 z k) : EReal) := by
  unfold k0_pay6
  generalize k0_pay3 h x (k0_pay9 x) = v
  pointwise
theorem block_sum_added (h x : Vec Ideal S512x1024 .f32) (g : Vec Ideal S1x1024 .f32) (d : Vec Ideal S512x1024 .f32) (o : Vec Ideal S1x1024 .f32) (z : Fin 1) (k : Fin 1024) :
    k0_pay7 h x (k0_pay9 x) g d o (ix2 z k) = (o (ix2 z k) + k0_pay5 h x (k0_pay9 x) g d (ix2 z k) : EReal) := by
  unfold k0_pay7
  generalize k0_pay5 h x (k0_pay9 x) g d = v
  pointwise

variable (m : (ℓ : Loc nD τ sig) → Buf (Elt Ideal) ℓ) (c : Dev nD)

/-! ## What the buffers hold after a point -/

/-- The products' block of a point. -/
def productsAt (t : Fin cfg0.N) : FVec Ideal S512x1024 .f32 :=
  k0_pay8 (iblk m c 0 t) (iblk m c 1 t) (iblk m c 2 t) (iblk m c 3 t) (iblk m c 4 t) (iblk m c 5 t) (iblk m c 6 t) (iblk m c 7 t)
/-- The gradient's block of a point. -/
def gradAt (t : Fin cfg0.N) : FVec Ideal S512x1024 .f32 :=
  k0_pay4 (productsAt m c t) (iblk m c 8 t) (k0_pay9 (iblk m c 8 t)) (iblk m c 9 t) (iblk m c 10 t)

theorem first (t : Fin cfg0.N) (h0 : t.val % 4 = 0) (h1 : ¬1 ≤ t.val) :
    outsAt0 m c t.val t.isLt = (gradAt m c t, k0_pay3 (productsAt m c t) (iblk m c 8 t) (k0_pay9 (iblk m c 8 t)),
      k0_pay5 (productsAt m c t) (iblk m c 8 t) (k0_pay9 (iblk m c 8 t)) (iblk m c 9 t) (iblk m c 10 t)) := by
  rw [outsAt0_A m c t h0 h1]
  unfold out0_A_11 out0_A_12 out0_A_13 kernelRun0_A
  dsimp only
  have hz : (![0, 0] : Fin 2 → ℕ) = 0 := by funext i; fin_cases i <;> rfl
  have hz' : (![0, 0, 0] : Fin 3 → ℕ) = 0 := by funext i; fin_cases i <;> rfl
  unfold kernelRun0_A.sl.r kernelRun0_A.sl.r_1 kernelRun0_A.sl.r_2 gradAt productsAt
  refine Prod.ext ?_ (Prod.ext ?_ ?_) <;> dsimp only
  · rw [View.read_writes_eq_canon _ _ _ (View.cover_of_tiled _ S512x1024.size (by rfl)), View.canon_unit_zero (S := S512x1024) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
    simp only [View.ld_unit_zero (S := S1x512x1408) hz', View.ld_unit_zero (S := S1x1024x1408) hz', View.ld_unit_zero (S := S512x1024) hz, View.ld_unit_zero (S := S1x1024) hz]
  · rw [View.read_writes_eq_canon _ _ _ (View.cover_of_tiled _ S1x1024.size (by rfl)), View.canon_unit_zero (S := S1x1024) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
    simp only [View.ld_unit_zero (S := S1x512x1408) hz', View.ld_unit_zero (S := S1x1024x1408) hz', View.ld_unit_zero (S := S512x1024) hz, View.ld_unit_zero (S := S1x1024) hz]
  · rw [View.read_writes_eq_canon _ _ _ (View.cover_of_tiled _ S1x1024.size (by rfl)), View.canon_unit_zero (S := S1x1024) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
    simp only [View.ld_unit_zero (S := S1x512x1408) hz', View.ld_unit_zero (S := S1x1024x1408) hz', View.ld_unit_zero (S := S512x1024) hz, View.ld_unit_zero (S := S1x1024) hz]

theorem later (t : Fin cfg0.N) (h0 : ¬t.val % 4 = 0) (h1 : 1 ≤ t.val) :
    outsAt0 m c t.val t.isLt = (gradAt m c t, k0_pay6 (productsAt m c t) (iblk m c 8 t) (k0_pay9 (iblk m c 8 t)) (outsAt0 m c (t.val - 1) (Nat.lt_of_le_of_lt (Nat.sub_le _ _) t.isLt)).2.1,
      k0_pay7 (productsAt m c t) (iblk m c 8 t) (k0_pay9 (iblk m c 8 t)) (iblk m c 9 t) (iblk m c 10 t) (outsAt0 m c (t.val - 1) (Nat.lt_of_le_of_lt (Nat.sub_le _ _) t.isLt)).2.2) := by
  rw [outsAt0_B m c t h0 h1]
  unfold out0_B_11 out0_B_12 out0_B_13 kernelRun0_B
  dsimp only
  have hz : (![0, 0] : Fin 2 → ℕ) = 0 := by funext i; fin_cases i <;> rfl
  have hz' : (![0, 0, 0] : Fin 3 → ℕ) = 0 := by funext i; fin_cases i <;> rfl
  unfold kernelRun0_B.sl.r kernelRun0_B.sl.r_1 kernelRun0_B.sl.r_2 gradAt productsAt
  refine Prod.ext ?_ (Prod.ext ?_ ?_) <;> dsimp only
  · rw [View.read_writes_eq_canon _ _ _ (View.cover_of_tiled _ S512x1024.size (by rfl)), View.canon_unit_zero (S := S512x1024) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
    simp only [View.ld_unit_zero (S := S1x512x1408) hz', View.ld_unit_zero (S := S1x1024x1408) hz', View.ld_unit_zero (S := S512x1024) hz, View.ld_unit_zero (S := S1x1024) hz]
  · rw [View.read_writes_eq_canon _ _ _ (View.cover_of_tiled _ S1x1024.size (by rfl)), View.canon_unit_zero (S := S1x1024) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
    simp only [View.ld_unit_zero (S := S1x512x1408) hz', View.ld_unit_zero (S := S1x1024x1408) hz', View.ld_unit_zero (S := S512x1024) hz, View.ld_unit_zero (S := S1x1024) hz]
  · rw [View.read_writes_eq_canon _ _ _ (View.cover_of_tiled _ S1x1024.size (by rfl)), View.canon_unit_zero (S := S1x1024) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread]
    simp only [View.ld_unit_zero (S := S1x512x1408) hz', View.ld_unit_zero (S := S1x1024x1408) hz', View.ld_unit_zero (S := S512x1024) hz, View.ld_unit_zero (S := S1x1024) hz]

/-! # The whole arrays -/

/-- The input projection's gradient to the normalised rows, without the gain. -/
def products (du : FVec Ideal S2x2048x2816 .bf16) (w : FVec Ideal S1024x5632 .f32) : FVec Ideal S2048x1024 .f32 := fun y =>
  (∑ n : Fin 5632, du (ix3 ⟨n.val / 2816, by omega⟩ (y 0) ⟨n.val % 2816, by omega⟩) * w (ix2 (y 1) n) : EReal)

/-- The gradient to the rows, as the kernel has it. -/
def gradient (x : FVec Ideal S2048x1024 .f32) (g : FVec Ideal S1x1024 .f32) (h d : FVec Ideal S2048x1024 .f32) : FVec Ideal S2048x1024 .f32 := fun y =>
  NormGrad.grad (fun j => x (ix2 (y 0) j)) (fun j => g (ix2 0 j)) (fun j => h (ix2 (y 0) j)) (fun j => d (ix2 (y 0) j)) (y 1)

/-- A row's part of the gain's gradient. -/
def gainTerm (x h : FVec Ideal S2048x1024 .f32) (k : Fin 1024) (i : Fin 2048) : EReal :=
  h (ix2 i k) * (x (ix2 i k) * NormGrad.rate (fun j => x (ix2 i j)))

/-- The gain's gradient. -/
def gain (x h : FVec Ideal S2048x1024 .f32) : FVec Ideal S1x1024 .f32 := fun y => ∑ i : Fin 2048, gainTerm x h (y 1) i
/-- The columns' sums. -/
def columns (v : FVec Ideal S2048x1024 .f32) : FVec Ideal S1x1024 .f32 := fun y => (∑ i : Fin 2048, v (ix2 i (y 1)) : EReal)

/-! # The kernel -/

theorem points (t : Fin cfg0.N) : t.val < 4 := t.isLt

abbrev arg0 : FVec Ideal S2048x1024 .f32 := m ((c.tc : Thread nD τ).loc main_arg0)
abbrev arg1 : FVec Ideal S1x1024 .f32 := m ((c.tc : Thread nD τ).loc main_arg1)
abbrev arg2 : FVec Ideal S1024x5632 .f32 := m ((c.tc : Thread nD τ).loc main_arg2)
abbrev arg3 : FVec Ideal S2x2048x2816 .bf16 := m ((c.tc : Thread nD τ).loc main_arg3)
abbrev arg4 : FVec Ideal S2048x1024 .f32 := m ((c.tc : Thread nD τ).loc main_arg4)
/-- The products of the arguments. -/
abbrev prods : FVec Ideal S2048x1024 .f32 := products (arg3 m c) (arg2 m c)

theorem idxU : ∀ t : Fin cfg0.N, win0_0.index t = ![0, t.val, 0] ∧ win0_2.index t = ![0, t.val, 1] ∧ win0_4.index t = ![1, t.val, 0] ∧ win0_6.index t = ![1, t.val, 1] :=
  (by decide +kernel : ∀ t : Fin grid0.N, _)
theorem idxW : ∀ t : Fin cfg0.N, win0_1.index t = ![0, 0, 0] ∧ win0_3.index t = ![1, 0, 0] ∧ win0_5.index t = ![2, 0, 0] ∧ win0_7.index t = ![3, 0, 0] :=
  (by decide +kernel : ∀ t : Fin grid0.N, _)
theorem idxR : ∀ t : Fin cfg0.N, win0_8.index t = ![t.val, 0] ∧ win0_9.index t = ![0, 0] ∧ win0_10.index t = ![t.val, 0] ∧ win0_11.index t = ![t.val, 0] ∧ win0_12.index t = ![0, 0] :=
  (by decide +kernel : ∀ t : Fin grid0.N, _)
theorem idxS : ∀ t : Fin cfg0.N, win0_13.index t = ![0, 0] := (by decide +kernel : ∀ t : Fin grid0.N, _)

/-- The host lays the weight's columns out in four pieces, and rounds it, which changes no real number. -/
theorem weight_eq (p : Fin 4) (k : Fin 1024) (b : Fin 1408) : V m c main_v2 (ix3 p k b) = arg2 m c (ix2 k ⟨1408 * p.val + b.val, by omega⟩) := by
  have e : (V m c main_v2 : FVec Ideal S4x1024x1408 .bf16) = truncf .bf16 (transpose S4x1024x1408 [1, 0, 2] (shapeCast S1024x4x1408 (arg2 m c) shapeCasts_S1024x5632_S1024x4x1408) transposes_S1024x4x1408_S4x1024x1408_1_0_2) bitsLt_bf16_f32 := by
    unfold V
    after_results <;> rfl
  rw [e]
  generalize arg2 m c = w
  pointwise
  try simp only [Nat.mul_comm]

theorem u_0 (t : Fin cfg0.N) (a : Fin 512) (f : Fin 1408) : iblk m c 0 t (ix3 0 a f) = V m c main_arg3 (ix3 0 ⟨512 * t.val + a.val, by have := points t; omega⟩ ⟨f.val, by omega⟩) := by
  blk_ext [iblk, (idxU t).1]
theorem u_1 (t : Fin cfg0.N) (a : Fin 512) (f : Fin 1408) : iblk m c 2 t (ix3 0 a f) = V m c main_arg3 (ix3 0 ⟨512 * t.val + a.val, by have := points t; omega⟩ ⟨1408 + f.val, by omega⟩) := by
  blk_ext [iblk, (idxU t).2.1]
theorem u_2 (t : Fin cfg0.N) (a : Fin 512) (f : Fin 1408) : iblk m c 4 t (ix3 0 a f) = V m c main_arg3 (ix3 1 ⟨512 * t.val + a.val, by have := points t; omega⟩ ⟨f.val, by omega⟩) := by
  blk_ext [iblk, (idxU t).2.2.1]
theorem u_3 (t : Fin cfg0.N) (a : Fin 512) (f : Fin 1408) : iblk m c 6 t (ix3 0 a f) = V m c main_arg3 (ix3 1 ⟨512 * t.val + a.val, by have := points t; omega⟩ ⟨1408 + f.val, by omega⟩) := by
  blk_ext [iblk, (idxU t).2.2.2]
theorem w_0 (t : Fin cfg0.N) (k : Fin 1024) (f : Fin 1408) : iblk m c 1 t (ix3 0 k f) = arg2 m c (ix2 k ⟨1408 * 0 + f.val, by omega⟩) := by
  refine Eq.trans (b := V m c main_v2 (ix3 0 k f)) (by blk_ext [iblk, (idxW t).1]) ?_
  exact weight_eq m c 0 k f
theorem w_1 (t : Fin cfg0.N) (k : Fin 1024) (f : Fin 1408) : iblk m c 3 t (ix3 0 k f) = arg2 m c (ix2 k ⟨1408 * 1 + f.val, by omega⟩) := by
  refine Eq.trans (b := V m c main_v2 (ix3 1 k f)) (by blk_ext [iblk, (idxW t).2.1]) ?_
  exact weight_eq m c 1 k f
theorem w_2 (t : Fin cfg0.N) (k : Fin 1024) (f : Fin 1408) : iblk m c 5 t (ix3 0 k f) = arg2 m c (ix2 k ⟨1408 * 2 + f.val, by omega⟩) := by
  refine Eq.trans (b := V m c main_v2 (ix3 2 k f)) (by blk_ext [iblk, (idxW t).2.2.1]) ?_
  exact weight_eq m c 2 k f
theorem w_3 (t : Fin cfg0.N) (k : Fin 1024) (f : Fin 1408) : iblk m c 7 t (ix3 0 k f) = arg2 m c (ix2 k ⟨1408 * 3 + f.val, by omega⟩) := by
  refine Eq.trans (b := V m c main_v2 (ix3 3 k f)) (by blk_ext [iblk, (idxW t).2.2.2]) ?_
  exact weight_eq m c 3 k f
theorem x_at (t : Fin cfg0.N) (a : Fin 512) (k : Fin 1024) : iblk m c 8 t (ix2 a k) = V m c main_arg0 (ix2 ⟨512 * t.val + a.val, by have := points t; omega⟩ k) := by
  blk_ext [iblk, (idxR t).1]
theorem g_at (t : Fin cfg0.N) (k : Fin 1024) : iblk m c 9 t (ix2 0 k) = V m c main_arg1 (ix2 0 k) := by
  blk_ext [iblk, (idxR t).2.1]
theorem d_at (t : Fin cfg0.N) (a : Fin 512) (k : Fin 1024) : iblk m c 10 t (ix2 a k) = V m c main_arg4 (ix2 ⟨512 * t.val + a.val, by have := points t; omega⟩ k) := by
  blk_ext [iblk, (idxR t).2.2.1]

/-- A point's products are the whole array's. -/
theorem products_at (t : Fin cfg0.N) (a : Fin 512) (k : Fin 1024) :
    (productsAt m c t (ix2 a k) : EReal) = prods m c (ix2 ⟨512 * t.val + a.val, by have := points t; omega⟩ k) := by
  unfold productsAt
  refine (block_products _ _ _ _ _ _ _ _ a k).trans (Eq.trans ?_ (NormGrad.sum_pieces 1408 (fun n : Fin 5632 =>
    (arg3 m c (ix3 ⟨n.val / 2816, by omega⟩ ⟨512 * t.val + a.val, by have := points t; omega⟩ ⟨n.val % 2816, by omega⟩) * arg2 m c (ix2 k n) : EReal))).symm)
  refine congrArg₂ (fun p q : EReal => p + q) (congrArg₂ (fun p q : EReal => p + q) (congrArg₂ (fun p q : EReal => p + q) ?_ ?_) ?_) ?_ <;>
    refine Finset.sum_congr rfl fun f _ => congrArg₂ (fun p q : EReal => p * q) ?_ ?_
  · rw [u_0, V_main_arg3]
    refine congrArg (arg3 m c) (congrArg₂ (fun p q => ix3 p _ q) (Fin.ext ?_) (Fin.ext ?_)) <;> simp <;> omega
  · exact w_0 m c t k f
  · rw [u_1, V_main_arg3]
    refine congrArg (arg3 m c) (congrArg₂ (fun p q => ix3 p _ q) (Fin.ext ?_) (Fin.ext ?_)) <;> simp <;> omega
  · exact w_1 m c t k f
  · rw [u_2, V_main_arg3]
    refine congrArg (arg3 m c) (congrArg₂ (fun p q => ix3 p _ q) (Fin.ext ?_) (Fin.ext ?_)) <;> simp <;> omega
  · exact w_2 m c t k f
  · rw [u_3, V_main_arg3]
    refine congrArg (arg3 m c) (congrArg₂ (fun p q => ix3 p _ q) (Fin.ext ?_) (Fin.ext ?_)) <;> simp <;> omega
  · exact w_3 m c t k f

/-- A point's gradient is the whole array's. -/
theorem grad_at (t : Fin cfg0.N) (a : Fin 512) (k : Fin 1024) :
    (gradAt m c t (ix2 a k) : EReal) = gradient (arg0 m c) (arg1 m c) (prods m c) (arg4 m c) (ix2 ⟨512 * t.val + a.val, by have := points t; omega⟩ k) := by
  unfold gradAt
  refine (block_grad _ _ _ _ a k).trans ?_
  have ex : (fun j => iblk m c 8 t (ix2 a j) : Fin 1024 → EReal) = fun j => arg0 m c (ix2 ⟨512 * t.val + a.val, by have := points t; omega⟩ j) := funext fun j => by
    rw [x_at, V_main_arg0]
  have eg : (fun j => iblk m c 9 t (ix2 0 j) : Fin 1024 → EReal) = fun j => arg1 m c (ix2 0 j) := funext fun j => by
    rw [g_at, V_main_arg1]
  have eh : (fun j => productsAt m c t (ix2 a j) : Fin 1024 → EReal) = fun j => prods m c (ix2 ⟨512 * t.val + a.val, by have := points t; omega⟩ j) := funext fun j =>
    products_at m c t a j
  have ed : (fun j => iblk m c 10 t (ix2 a j) : Fin 1024 → EReal) = fun j => arg4 m c (ix2 ⟨512 * t.val + a.val, by have := points t; omega⟩ j) := funext fun j => by
    rw [d_at, V_main_arg4]
  exact (congrArg₂ (fun x h => NormGrad.grad x (fun j => iblk m c 9 t (ix2 0 j)) h (fun j => iblk m c 10 t (ix2 a j)) k) ex eh).trans
    (congrArg₂ (fun g d => NormGrad.grad _ g _ d k) eg ed)

/-- A point's part of the gain's gradient. -/
theorem gain_at (t : Fin cfg0.N) (z : Fin 1) (k : Fin 1024) :
    (k0_pay3 (productsAt m c t) (iblk m c 8 t) (k0_pay9 (iblk m c 8 t)) (ix2 z k) : EReal)
      = ∑ a : Fin 512, gainTerm (arg0 m c) (prods m c) k ⟨512 * (t.val % 4) + a.val, by omega⟩ := by
  refine (block_gain _ _ z k).trans (Finset.sum_congr rfl fun a _ => ?_)
  have e4 : t.val % 4 = t.val := Nat.mod_eq_of_lt (points t)
  have ex : (fun j => iblk m c 8 t (ix2 a j) : Fin 1024 → EReal) = fun j => arg0 m c (ix2 ⟨512 * t.val + a.val, by have := points t; omega⟩ j) := funext fun j => by
    rw [x_at, V_main_arg0]
  simp only [e4]
  exact congrArg₂ (fun p q : EReal => p * q) (products_at m c t a k) (congrArg₂ (fun p q : EReal => p * q) (congrFun ex k) (congrArg NormGrad.rate ex))

/-- The gain's gradient after a point: the parts of the points so far. -/
theorem gain_after (z : Fin 1) (k : Fin 1024) : ∀ (n : ℕ) (hn : n < cfg0.N), ((outsAt0 m c n hn).2.1 (ix2 z k) : EReal)
    = ∑ s ∈ Finset.range (n + 1), ∑ a : Fin 512, gainTerm (arg0 m c) (prods m c) k ⟨512 * (s % 4) + a.val, by omega⟩
  | 0, hn => by
    rw [first m c ⟨0, hn⟩ rfl (Nat.not_succ_le_zero 0)]
    rw [Finset.sum_range_succ, Finset.sum_range_zero, zero_add]
    exact gain_at m c ⟨0, hn⟩ z k
  | n + 1, hn => by
    have h4 : n + 1 < 4 := hn
    rw [later m c ⟨n + 1, hn⟩ (by show ¬(n + 1) % 4 = 0; omega) (by show 1 ≤ n + 1; omega)]
    rw [Finset.sum_range_succ]
    exact (block_gain_added _ _ _ z k).trans (congrArg₂ (fun p q : EReal => p + q) (gain_after z k n (Nat.lt_of_succ_lt hn)) (gain_at m c ⟨n + 1, hn⟩ z k))

/-- A point's part of the columns' sums. -/
theorem sum_at (t : Fin cfg0.N) (z : Fin 1) (k : Fin 1024) :
    (k0_pay5 (productsAt m c t) (iblk m c 8 t) (k0_pay9 (iblk m c 8 t)) (iblk m c 9 t) (iblk m c 10 t) (ix2 z k) : EReal)
      = ∑ a : Fin 512, gradient (arg0 m c) (arg1 m c) (prods m c) (arg4 m c) (ix2 ⟨512 * (t.val % 4) + a.val, by omega⟩ k) := by
  refine (block_sum _ _ _ _ z k).trans (Finset.sum_congr rfl fun a _ => ?_)
  have e4 : t.val % 4 = t.val := Nat.mod_eq_of_lt (points t)
  simp only [e4]
  exact grad_at m c t a k

/-- The columns' sums after a point: the parts of the points so far. -/
theorem sum_after (z : Fin 1) (k : Fin 1024) : ∀ (n : ℕ) (hn : n < cfg0.N), ((outsAt0 m c n hn).2.2 (ix2 z k) : EReal)
    = ∑ s ∈ Finset.range (n + 1), ∑ a : Fin 512, gradient (arg0 m c) (arg1 m c) (prods m c) (arg4 m c) (ix2 ⟨512 * (s % 4) + a.val, by omega⟩ k)
  | 0, hn => by
    rw [first m c ⟨0, hn⟩ rfl (Nat.not_succ_le_zero 0)]
    rw [Finset.sum_range_succ, Finset.sum_range_zero, zero_add]
    exact sum_at m c ⟨0, hn⟩ z k
  | n + 1, hn => by
    have h4 : n + 1 < 4 := hn
    rw [later m c ⟨n + 1, hn⟩ (by show ¬(n + 1) % 4 = 0; omega) (by show 1 ≤ n + 1; omega)]
    rw [Finset.sum_range_succ]
    exact (block_sum_added _ _ _ _ _ z k).trans (congrArg₂ (fun p q : EReal => p + q) (sum_after z k n (Nat.lt_of_succ_lt hn)) (sum_at m c ⟨n + 1, hn⟩ z k))

/-- Every point stores its block of the gradient. -/
theorem grad_stored (t : Fin cfg0.N) : (outsAt0 m c t.val t.isLt).1 = gradAt m c t := by
  have := points t
  by_cases h : t.val = 0
  · rw [first m c t (by omega) (by omega)]
  · rw [later m c t (by omega) (by omega)]

/-- The gradient's array after the run. -/
theorem final_grad : (dats m 0 c).arrAt 11 cfg0.N = gradient (arg0 m c) (arg1 m c) (prods m c) (arg4 m c) := by
  refine (dats m 0 c).arrAt_eq_of_covers 11 _ (by decide +kernel) fun t _ y => ?_
  blk_simp
  rw [after0_11, grad_stored]
  have hi := (idxR t).2.2.2.1
  have block : ∀ (y : S512x1024.Idx) (z : S2048x1024.Idx), (z 0).val = 512 * t.val + (y 0).val → (z 1).val = (y 1).val →
      gradAt m c t y = gradient (arg0 m c) (arg1 m c) (prods m c) (arg4 m c) z := by
    intro y z h0 h1
    obtain ⟨a, b, rfl⟩ : ∃ (a : Fin 512) (b : Fin 1024), y = ix2 a b := ⟨y 0, y 1, (ix2_eta y).symm⟩
    obtain ⟨i, j, rfl⟩ : ∃ (i : Fin 2048) (j : Fin 1024), z = ix2 i j := ⟨z 0, z 1, (ix2_eta z).symm⟩
    replace h0 : i.val = 512 * t.val + a.val := h0
    replace h1 : j.val = b.val := h1
    obtain rfl := Fin.ext h1
    refine (grad_at m c t a j).trans ?_
    simp only [← h0]
  refine block y _ ?_ ?_ <;> simp [hi, Nat.mul_comm]

/-- The gain's gradient after the run: written back at the last point. -/
theorem final_gain : (dats m 0 c).arrAt 12 cfg0.N = gain (arg0 m c) (prods m c) := by
  refine (dats m 0 c).arrAt_eq_of_covers 12 _ (by decide +kernel) fun t hf y => ?_
  have h3 : t.val = 3 := (by decide +kernel : ∀ t : Fin grid0.N, win0_12.flush t = true → t.val = 3) t hf
  blk_simp
  rw [after0_12]
  have hi := (idxR t).2.2.2.2
  have block : ∀ (y z : S1x1024.Idx), (z 1).val = (y 1).val → (outsAt0 m c t.val t.isLt).2.1 y = gain (arg0 m c) (prods m c) z := by
    intro y z h1
    obtain ⟨a, b, rfl⟩ : ∃ (a : Fin 1) (b : Fin 1024), y = ix2 a b := ⟨y 0, y 1, (ix2_eta y).symm⟩
    obtain ⟨i, j, rfl⟩ : ∃ (i : Fin 1) (j : Fin 1024), z = ix2 i j := ⟨z 0, z 1, (ix2_eta z).symm⟩
    replace h1 : j.val = b.val := h1
    obtain rfl := Fin.ext h1
    refine (gain_after m c a j t.val t.isLt).trans ?_
    rw [h3]
    simp only [Finset.sum_range_succ, Finset.sum_range_zero, zero_add]
    exact (NormGrad.sum_pieces 512 (gainTerm (arg0 m c) (prods m c) j)).symm
  refine block y _ ?_ <;> simp [hi, Nat.mul_comm]

/-- The columns' sums after the run: written back at the last point. -/
theorem final_sum : (dats m 0 c).arrAt 13 cfg0.N = columns (gradient (arg0 m c) (arg1 m c) (prods m c) (arg4 m c)) := by
  refine (dats m 0 c).arrAt_eq_of_covers 13 _ (by decide +kernel) fun t hf y => ?_
  have h3 : t.val = 3 := (by decide +kernel : ∀ t : Fin grid0.N, win0_13.flush t = true → t.val = 3) t hf
  blk_simp
  rw [after0_13]
  have hi := idxS t
  have block : ∀ (y z : S1x1024.Idx), (z 1).val = (y 1).val → (outsAt0 m c t.val t.isLt).2.2 y = columns (gradient (arg0 m c) (arg1 m c) (prods m c) (arg4 m c)) z := by
    intro y z h1
    obtain ⟨a, b, rfl⟩ : ∃ (a : Fin 1) (b : Fin 1024), y = ix2 a b := ⟨y 0, y 1, (ix2_eta y).symm⟩
    obtain ⟨i, j, rfl⟩ : ∃ (i : Fin 1) (j : Fin 1024), z = ix2 i j := ⟨z 0, z 1, (ix2_eta z).symm⟩
    replace h1 : j.val = b.val := h1
    obtain rfl := Fin.ext h1
    refine (sum_after m c a j t.val t.isLt).trans ?_
    rw [h3]
    simp only [Finset.sum_range_succ, Finset.sum_range_zero, zero_add]
    exact (NormGrad.sum_pieces 512 (fun i : Fin 2048 => (gradient (arg0 m c) (arg1 m c) (prods m c) (arg4 m c) (ix2 i j) : EReal))).symm
  refine block y _ ?_ <;> simp [hi, Nat.mul_comm]

/-! # The reference -/

/-- The rows' mean squares. -/
def meanSquares (x : FVec Ideal S2048x1024 .f32) : FVec Ideal Cert.Reference2Ideal.S2048x1 .f32 :=
  addf (Host.divf (broadcastInDim Cert.Reference2Ideal.S2048x1 ![0] Cert.Reference2Ideal.Facts₀.bcast_S2048_S2048x1_0 (Host.reduceAdd (mulf x x) (constant Cert.Reference2Ideal.S_ .f32 0x00000000#32) Cert.Reference2Ideal.Facts₀.reducesTo_S2048x1024_S2048_d1 Cert.Reference2Ideal.Facts₀.h_S_))
    (broadcastInDim Cert.Reference2Ideal.S2048x1 ![] Cert.Reference2Ideal.Facts₀.bcast_S_S2048x1 (constant Cert.Reference2Ideal.S_ .f32 0x44800000#32))) (broadcastInDim Cert.Reference2Ideal.S2048x1 ![] Cert.Reference2Ideal.Facts₀.bcast_S_S2048x1 (constant Cert.Reference2Ideal.S_ .f32 0x3727C5AC#32))
/-- Their reciprocal roots. -/
def rates (x : FVec Ideal S2048x1024 .f32) : FVec Ideal Cert.Reference2Ideal.S2048x1 .f32 := Host.rsqrt (meanSquares x)
/-- The gradient to the normalised rows, times the gain. -/
def scaled (g : FVec Ideal S1x1024 .f32) (h : FVec Ideal S2048x1024 .f32) : FVec Ideal S2048x1024 .f32 :=
  mulf h (broadcastInDim Cert.Reference2Ideal.S2048x1024 ![0, 1] Cert.Reference2Ideal.Facts₀.bcast_S1x1024_S2048x1024_0_1 g)
/-- What goes through the mean squares. -/
def throughs (x s : FVec Ideal S2048x1024 .f32) (r y : FVec Ideal Cert.Reference2Ideal.S2048x1 .f32) : FVec Ideal Cert.Reference2Ideal.S2048 .f32 :=
  Host.reduceAdd (Host.divf (mulf (shapeCast Cert.Reference2Ideal.S2048x1 (Host.reduceAdd (mulf x s) (constant Cert.Reference2Ideal.S_ .f32 0x00000000#32) Cert.Reference2Ideal.Facts₀.reducesTo_S2048x1024_S2048_d1 Cert.Reference2Ideal.Facts₀.h_S_) Cert.Reference2Ideal.Facts₀.shapeCasts_S2048_S2048x1)
    (mulf (broadcastInDim Cert.Reference2Ideal.S2048x1 ![] Cert.Reference2Ideal.Facts₀.bcast_S_S2048x1 (constant Cert.Reference2Ideal.S_ .f32 0xBF000000#32)) (Host.divf r y)))
    (broadcastInDim Cert.Reference2Ideal.S2048x1 ![] Cert.Reference2Ideal.Facts₀.bcast_S_S2048x1 (constant Cert.Reference2Ideal.S_ .f32 0x44800000#32))) (constant Cert.Reference2Ideal.S_ .f32 0x00000000#32) Cert.Reference2Ideal.Facts₀.reducesTo_S2048x1_S2048_d1 Cert.Reference2Ideal.Facts₀.h_S_
/-- The reference's gradient. -/
def linesOf (x s d : FVec Ideal S2048x1024 .f32) (r : FVec Ideal Cert.Reference2Ideal.S2048x1 .f32) (z : FVec Ideal Cert.Reference2Ideal.S2048 .f32) : FVec Ideal S2048x1024 .f32 :=
  addf (addf (addf d (mulf s (broadcastInDim Cert.Reference2Ideal.S2048x1024 ![0, 1] Cert.Reference2Ideal.Facts₀.bcast_S2048x1_S2048x1024_0_1 r)))
    (mulf x (broadcastInDim Cert.Reference2Ideal.S2048x1024 ![0] Cert.Reference2Ideal.Facts₀.bcast_S2048_S2048x1024_0 z))) (mulf (broadcastInDim Cert.Reference2Ideal.S2048x1024 ![0] Cert.Reference2Ideal.Facts₀.bcast_S2048_S2048x1024_0 z) x)

theorem meanSquares_at (x : FVec Ideal S2048x1024 .f32) (i : Fin 2048) (z : Fin 1) : (meanSquares x (ix2 i z) : EReal) = NormGrad.meanSquare (fun j => x (ix2 i j)) := by
  unfold NormGrad.meanSquare
  pointwise [meanSquares]
theorem rates_at (x : FVec Ideal S2048x1024 .f32) (i : Fin 2048) (z : Fin 1) : (rates x (ix2 i z) : EReal) = NormGrad.rate (fun j => x (ix2 i j)) :=
  congrArg Ideal.rsqrt (meanSquares_at x i z)
theorem scaled_at (g : FVec Ideal S1x1024 .f32) (h : FVec Ideal S2048x1024 .f32) (i : Fin 2048) (k : Fin 1024) : (scaled g h (ix2 i k) : EReal) = h (ix2 i k) * g (ix2 0 k) := by
  pointwise [scaled]
theorem throughs_at (x s : FVec Ideal S2048x1024 .f32) (r y : FVec Ideal Cert.Reference2Ideal.S2048x1 .f32) (i : Fin 2048) :
    (throughs x s r y (ix1 i) : EReal) = Ideal.div ((∑ j : Fin 1024, x (ix2 i j) * s (ix2 i j)) * (Ideal.ofBits .f32 0xBF000000#32 * Ideal.div (r (ix2 i 0)) (y (ix2 i 0)))) (Ideal.ofBits .f32 0x44800000#32) := by
  pointwise [throughs]
  exact Fin.sum_univ_one _
theorem linesOf_at (x s d : FVec Ideal S2048x1024 .f32) (r : FVec Ideal Cert.Reference2Ideal.S2048x1 .f32) (z : FVec Ideal Cert.Reference2Ideal.S2048 .f32) (i : Fin 2048) (k : Fin 1024) :
    (linesOf x s d r z (ix2 i k) : EReal) = d (ix2 i k) + s (ix2 i k) * r (ix2 i 0) + x (ix2 i k) * z (ix1 i) + z (ix1 i) * x (ix2 i k) := by
  pointwise [linesOf]

/-- The reference's gradient, row by row. -/
theorem lines_at (x : FVec Ideal S2048x1024 .f32) (g : FVec Ideal S1x1024 .f32) (h d : FVec Ideal S2048x1024 .f32) (i : Fin 2048) (k : Fin 1024) :
    (linesOf x (scaled g h) d (rates x) (throughs x (scaled g h) (rates x) (meanSquares x)) (ix2 i k) : EReal)
      = NormGrad.lines (fun j => x (ix2 i j)) (fun j => g (ix2 0 j)) (fun j => h (ix2 i j)) (fun j => d (ix2 i j)) k := by
  refine (linesOf_at _ _ _ _ _ i k).trans ?_
  rw [throughs_at, rates_at, meanSquares_at, scaled_at]
  simp only [scaled_at]
  rfl

/-- The cotangent's two halves side by side, times the weight. -/
def dots (D : FVec Ideal Cert.Reference2Ideal.S2048x5632 .bf16) (w : FVec Ideal S1024x5632 .f32) : FVec Ideal S2048x1024 .f32 :=
  Host.dotGeneral Cert.Reference2Ideal.dot_S2048x5632_S1024x5632_S2048x1024_1_1_0_0_n_n none (extf .f32 D Cert.Reference2Ideal.Facts₀.bitsLt_bf16_f32) w
def halves (du : FVec Ideal S2x2048x2816 .bf16) : FVec Ideal Cert.Reference2Ideal.S2048x5632 .bf16 :=
  concatenate Cert.Reference2Ideal.S2048x5632 1 [⟨Cert.Reference2Ideal.S2048x2816, (shapeCast Cert.Reference2Ideal.S2048x2816 (extractStridedSlice Cert.Reference2Ideal.S1x2048x2816 ![0, 0, 0] du Cert.Reference2Ideal.Facts₀.slices_S2x2048x2816_S1x2048x2816_0_0_0) Cert.Reference2Ideal.Facts₀.shapeCasts_S1x2048x2816_S2048x2816)⟩,
      ⟨Cert.Reference2Ideal.S2048x2816, (shapeCast Cert.Reference2Ideal.S2048x2816 (extractStridedSlice Cert.Reference2Ideal.S1x2048x2816 ![1, 0, 0] du Cert.Reference2Ideal.Facts₀.slices_S2x2048x2816_S1x2048x2816_1_0_0) Cert.Reference2Ideal.Facts₀.shapeCasts_S1x2048x2816_S2048x2816)⟩]
      Cert.Reference2Ideal.Facts₀.concatenates_S2048x2816_S2048x2816_S2048x5632_d1
theorem dots_at (D : FVec Ideal Cert.Reference2Ideal.S2048x5632 .bf16) (w : FVec Ideal S1024x5632 .f32) (i : Fin 2048) (k : Fin 1024) :
    (dots D w (ix2 i k) : EReal) = ∑ n : Fin 5632, D (ix2 i n) * w (ix2 k n) := by
  pointwise [dots]
theorem halves_at (du : FVec Ideal S2x2048x2816 .bf16) (k : Fin 2048) (n : Fin 5632) :
    halves du (ix2 k n) = du (ix3 ⟨n.val / 2816, by omega⟩ k ⟨n.val % 2816, by omega⟩) := by
  pointwise [halves]
  by_cases hn : n.val < 2816
  · simp [hn, Nat.div_eq_of_lt hn, Nat.mod_eq_of_lt hn]
  · have e1 : n.val / 2816 = 1 := by omega
    have e2 : n.val % 2816 = n.val - 2816 := by omega
    simp [hn, e1, e2]
theorem dots_eq (du : FVec Ideal S2x2048x2816 .bf16) (w : FVec Ideal S1024x5632 .f32) : dots (halves du) w = products du w := by
  funext y
  obtain ⟨i, k, rfl⟩ : ∃ (i : Fin 2048) (j : Fin 1024), y = ix2 i j := ⟨y 0, y 1, (ix2_eta y).symm⟩
  exact (dots_at _ w i k).trans (Finset.sum_congr rfl fun n _ => congrArg (fun p : EReal => p * w (ix2 k n)) (halves_at du i n))

/-- The reference's gradient to the gain. -/
def gains (x : FVec Ideal S2048x1024 .f32) (r : FVec Ideal Cert.Reference2Ideal.S2048x1 .f32) (h : FVec Ideal S2048x1024 .f32) : FVec Ideal S1x1024 .f32 :=
  shapeCast Cert.Reference2Ideal.S1x1024 (Host.reduceAdd (mulf (mulf x (broadcastInDim Cert.Reference2Ideal.S2048x1024 ![0, 1] Cert.Reference2Ideal.Facts₀.bcast_S2048x1_S2048x1024_0_1 r)) h) (constant Cert.Reference2Ideal.S_ .f32 0x00000000#32) Cert.Reference2Ideal.Facts₀.reducesTo_S2048x1024_S1024_d0 Cert.Reference2Ideal.Facts₀.h_S_) Cert.Reference2Ideal.Facts₀.shapeCasts_S1024_S1x1024
theorem gains_at (x : FVec Ideal S2048x1024 .f32) (r : FVec Ideal Cert.Reference2Ideal.S2048x1 .f32) (h : FVec Ideal S2048x1024 .f32) (z : Fin 1) (k : Fin 1024) :
    (gains x r h (ix2 z k) : EReal) = ∑ i : Fin 2048, x (ix2 i k) * r (ix2 i 0) * h (ix2 i k) := by
  pointwise [gains]
theorem gains_eq (x h : FVec Ideal S2048x1024 .f32) : gains x (rates x) h = gain x h := by
  funext y
  obtain ⟨z, k, rfl⟩ : ∃ (i : Fin 1) (j : Fin 1024), y = ix2 i j := ⟨y 0, y 1, (ix2_eta y).symm⟩
  refine (gains_at x _ h z k).trans (Finset.sum_congr rfl fun i _ => ?_)
  rw [rates_at]
  exact mul_comm _ _

/-- The reference's columns' sums. -/
def sums (v : FVec Ideal S2048x1024 .f32) : FVec Ideal S1x1024 .f32 :=
  broadcastInDim Cert.Reference2Ideal.S1x1024 ![1] Cert.Reference2Ideal.Facts₀.bcast_S1024_S1x1024_1 (Host.reduceAdd v (constant Cert.Reference2Ideal.S_ .f32 0x00000000#32) Cert.Reference2Ideal.Facts₀.reducesTo_S2048x1024_S1024_d0 Cert.Reference2Ideal.Facts₀.h_S_)
theorem sums_at (v : FVec Ideal S2048x1024 .f32) (z : Fin 1) (k : Fin 1024) : (sums v (ix2 z k) : EReal) = ∑ i : Fin 2048, v (ix2 i k) := by
  pointwise [sums]
theorem sums_eq (v : FVec Ideal S2048x1024 .f32) : sums v = columns v := by
  funext y
  obtain ⟨z, k, rfl⟩ : ∃ (i : Fin 1) (j : Fin 1024), y = ix2 i j := ⟨y 0, y 1, (ix2_eta y).symm⟩
  exact sums_at v z k

/-- The reference's gradient is the kernel's. -/
theorem lines_eq (x : FVec Ideal S2048x1024 .f32) (g : FVec Ideal S1x1024 .f32) (h d : FVec Ideal S2048x1024 .f32) :
    linesOf x (scaled g h) d (rates x) (throughs x (scaled g h) (rates x) (meanSquares x)) = gradient x g h d := by
  funext y
  obtain ⟨i, k, rfl⟩ : ∃ (i : Fin 2048) (j : Fin 1024), y = ix2 i j := ⟨y 0, y 1, (ix2_eta y).symm⟩
  exact (lines_at x g h d i k).trans (NormGrad.grad_eq_lines _ _ _ _ k).symm

/-! # The claims -/

theorem frame_ideal : Cert.quiescent_Kernel2Ideal (hKernel2Ideal := Cert.Kernel2Ideal.Gen.facts) := fun m ρ _ =>
  Cert.Kernel2Ideal.Gen.frame m ρ
theorem frame_kernel : Cert.quiescent_Kernel2 (hKernel2 := Cert.Kernel2.Gen.facts) := fun m ρ _ =>
  Cert.Kernel2.Gen.frame m ρ
theorem frame_reference : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The reference's gradient of the arguments is the kernel's. -/
theorem gradient_of :
    linesOf (arg0 m c) (scaled (arg1 m c) (dots (halves (arg3 m c)) (arg2 m c))) (arg4 m c) (rates (arg0 m c))
      (throughs (arg0 m c) (scaled (arg1 m c) (dots (halves (arg3 m c)) (arg2 m c))) (rates (arg0 m c)) (meanSquares (arg0 m c)))
      = gradient (arg0 m c) (arg1 m c) (prods m c) (arg4 m c) := by
  rw [dots_eq]
  exact lines_eq _ _ _ _

/-- The kernel's three results and the reference's are the same arrays. -/
theorem algebraic : @Cert.algebraic_Kernel2Ideal_Reference2Ideal Cert.Kernel2Ideal.Gen.facts Cert.Reference2Ideal.Gen.facts := by
  intro m g m' g' _ hagree
  refine ⟨fun c => gradient (arg0 m c) (arg1 m c) (prods m c) (arg4 m c), fun c => gain (arg0 m c) (prods m c), fun c => columns (gradient (arg0 m c) (arg1 m c) (prods m c) (arg4 m c)),
    (θ_run defs _ _).mono (fun r h c => ⟨(h c).1.trans (final_grad m c), (h c).2.1.trans (final_gain m c), (h c).2.2.1.trans (final_sum m c), (h c).2.2.2⟩) (Cert.Kernel2Ideal.Value.run_blocks (F := Ideal) m g),
    (θ_run Cert.Reference2Ideal.defs _ _).mono (fun r h c => ⟨(h c).1.trans ?_, (h c).2.1.trans ?_, (h c).2.2.1.trans ?_, (h c).2.2.2⟩) (Cert.Reference2Ideal.Value.run (F := Ideal) m' g')⟩
  · obtain ⟨a0, a1, a2, a3, a4⟩ := hagree c
    unfold Cert.Reference2Ideal.Value.res_main_v42
    rw [a0, a1, a2, a3, a4]
    exact gradient_of m c
  · obtain ⟨a0, a1, a2, a3, a4⟩ := hagree c
    rw [a0, a2, a3]
    refine Eq.trans (b := gains (arg0 m c) (rates (arg0 m c)) (dots (halves (arg3 m c)) (arg2 m c))) rfl ?_
    rw [dots_eq]
    exact gains_eq _ _
  · obtain ⟨a0, a1, a2, a3, a4⟩ := hagree c
    unfold Cert.Reference2Ideal.Value.res_main_v44
    rw [a0, a1, a2, a3, a4]
    refine Eq.trans (b := sums (linesOf (arg0 m c) (scaled (arg1 m c) (dots (halves (arg3 m c)) (arg2 m c))) (arg4 m c) (rates (arg0 m c))
      (throughs (arg0 m c) (scaled (arg1 m c) (dots (halves (arg3 m c)) (arg2 m c))) (rates (arg0 m c)) (meanSquares (arg0 m c))))) rfl ?_
    rw [gradient_of m c]
    exact sums_eq _

end Cert.Kernel2Ideal.Product

end
-- ==== Proof.InInputLower.lean ====
module

public import Idealize.ShloMosaic.Lib.Pointwise
public import Idealize.ShloMosaic.Lib.Pipeline.ValueKit
public import proofs.«01_k».proof.Defs
public import proofs.«01_k».proof.Proof.NormGrad
public import proofs.«01_k».proof.Proof.InInputUpper
public import proofs.«01_k».proof.Proof.Gen.Kernel19Ideal.Value
public import proofs.«01_k».proof.Proof.Gen.Reference19Ideal.Run
public import proofs.«01_k».proof.Proof.Gen.Kernel19.Frame

@[expose] public section

set_option maxRecDepth 16384

noncomputable section

namespace Cert.Kernel19Ideal.Product

open Cert.Kernel19Ideal Cert.Kernel19Ideal.Gen
open Idealize.ShloMosaic Idealize.ShloMosaic.TcCoe Idealize.SL.Sem
open Idealize.ShloMosaic.Pipeline (Dat)
open Cert.Kernel2Ideal.Product (products gradient gainTerm gain meanSquares rates scaled throughs linesOf dots halves dots_eq gains gains_eq lines_eq)

/-! # The upper feed-forward part's gradient to its input: the input projection's, and through the norm; and its columns' sums -/

/-- A row of a block's products, in the four pieces that the body adds. -/
theorem block_products (u0 : Vec Ideal S1x512x1408 .bf16) (w0 : Vec Ideal S1x1024x1408 .bf16) (u1 : Vec Ideal S1x512x1408 .bf16) (w1 : Vec Ideal S1x1024x1408 .bf16)
    (u2 : Vec Ideal S1x512x1408 .bf16) (w2 : Vec Ideal S1x1024x1408 .bf16) (u3 : Vec Ideal S1x512x1408 .bf16) (w3 : Vec Ideal S1x1024x1408 .bf16) (a : Fin 512) (k : Fin 1024) :
    k0_pay6 u0 w0 u1 w1 u2 w2 u3 w3 (ix2 a k) = ((∑ f : Fin 1408, u0 (ix3 0 a f) * w0 (ix3 0 k f)) + (∑ f : Fin 1408, u1 (ix3 0 a f) * w1 (ix3 0 k f))
      + (∑ f : Fin 1408, u2 (ix3 0 a f) * w2 (ix3 0 k f)) + (∑ f : Fin 1408, u3 (ix3 0 a f) * w3 (ix3 0 k f)) : EReal) := by
  pointwise [k0_pay6]

/-- A block's gradient, row by row. -/
theorem block_grad (h x : Vec Ideal S512x1024 .f32) (g : Vec Ideal S1x1024 .f32) (d : Vec Ideal S512x1024 .f32) (a : Fin 512) (k : Fin 1024) :
    k0_pay4 h x (k0_pay7 x) g d (ix2 a k) = NormGrad.grad (fun j => x (ix2 a j)) (fun j => g (ix2 0 j)) (fun j => h (ix2 a j)) (fun j => d (ix2 a j)) k := by
  unfold NormGrad.grad NormGrad.rate NormGrad.meanSquare
  pointwise [k0_pay4, k0_pay2, k0_pay1, k0_pay7]

/-- A block's part of the gain's gradient. -/
theorem block_gain (h x : Vec Ideal S512x1024 .f32) (z : Fin 1) (k : Fin 1024) :
    k0_pay3 h x (k0_pay7 x) (ix2 z k) = (∑ a : Fin 512, h (ix2 a k) * (x (ix2 a k) * NormGrad.rate (fun j => x (ix2 a j))) : EReal) := by
  unfold NormGrad.rate NormGrad.meanSquare
  pointwise [k0_pay3, k0_pay2, k0_pay1, k0_pay7]

/-- Later blocks' parts are added. -/
theorem block_gain_added (h x : Vec Ideal S512x1024 .f32) (o : Vec Ideal S1x1024 .f32) (z : Fin 1) (k : Fin 1024) :
    k0_pay5 h x (k0_pay7 x) o (ix2 z k) = (o (ix2 z k) + k0_pay3 h x (k0_pay7 x) (ix2 z k) : EReal) := by
  unfold k0_pay5
  generalize k0_pay3 h x (k0_pay7 x) = v
  pointwise

variable (m : (ℓ : Loc nD τ sig) → Buf (Elt Ideal) ℓ) (c : Dev nD)

/-! ## What the buffers hold after a point -/

/-- The products' block of a point. -/
def productsAt (t : Fin cfg0.N) : FVec Ideal S512x1024 .f32 :=
  k0_pay6 (iblk m c 0 t) (iblk m c 1 t) (iblk m c 2 t) (iblk m c 3 t) (iblk m c 4 t) (iblk m c 5 t) (iblk m c 6 t) (iblk m c 7 t)
/-- The gradient's block of a point. -/
def gradAt (t : Fin cfg0.N) : FVec Ideal S512x1024 .f32 :=
  k0_pay4 (productsAt m c t) (iblk m c 8 t) (k0_pay7 (iblk m c 8 t)) (iblk m c 9 t) (iblk m c 10 t)

theorem first (t : Fin cfg0.N) (h0 : t.val % 4 = 0) (h1 : ¬1 ≤ t.val) :
    outsAt0 m c t.val t.isLt = (gradAt m c t, k0_pay3 (productsAt m c t) (iblk m c 8 t) (k0_pay7 (iblk m c 8 t))) := by
  rw [outsAt0_A m c t h0 h1]
  unfold out0_A_11 out0_A_12 kernelRun0_A
  dsimp only
  have hz : (![0, 0] : Fin 2 → ℕ) = 0 := by funext i; fin_cases i <;> rfl
  have hz' : (![0, 0, 0] : Fin 3 → ℕ) = 0 := by funext i; fin_cases i <;> rfl
  unfold kernelRun0_A.sl.r kernelRun0_A.sl.r_1 kernelRun0_A.sl.r_2 gradAt productsAt
  refine Prod.ext ?_ ?_ <;> dsimp only
  · rw [View.read_writes_eq_canon _ _ _ (View.cover_of_tiled _ S512x1024.size (by rfl)), View.canon_unit_zero (S := S512x1024) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
    simp only [View.ld_unit_zero (S := S1x512x1408) hz', View.ld_unit_zero (S := S1x1024x1408) hz', View.ld_unit_zero (S := S512x1024) hz, View.ld_unit_zero (S := S1x1024) hz]
  · rw [View.read_writes_eq_canon _ _ _ (View.cover_of_tiled _ S1x1024.size (by rfl)), View.canon_unit_zero (S := S1x1024) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
    simp only [View.ld_unit_zero (S := S1x512x1408) hz', View.ld_unit_zero (S := S1x1024x1408) hz', View.ld_unit_zero (S := S512x1024) hz, View.ld_unit_zero (S := S1x1024) hz]

theorem later (t : Fin cfg0.N) (h0 : ¬t.val % 4 = 0) (h1 : 1 ≤ t.val) :
    outsAt0 m c t.val t.isLt = (gradAt m c t, k0_pay5 (productsAt m c t) (iblk m c 8 t) (k0_pay7 (iblk m c 8 t)) (outsAt0 m c (t.val - 1) (Nat.lt_of_le_of_lt (Nat.sub_le _ _) t.isLt)).2) := by
  rw [outsAt0_B m c t h0 h1]
  unfold out0_B_11 out0_B_12 kernelRun0_B
  dsimp only
  have hz : (![0, 0] : Fin 2 → ℕ) = 0 := by funext i; fin_cases i <;> rfl
  have hz' : (![0, 0, 0] : Fin 3 → ℕ) = 0 := by funext i; fin_cases i <;> rfl
  unfold kernelRun0_B.sl.r kernelRun0_B.sl.r_1 kernelRun0_B.sl.r_2 gradAt productsAt
  refine Prod.ext ?_ ?_ <;> dsimp only
  · rw [View.read_writes_eq_canon _ _ _ (View.cover_of_tiled _ S512x1024.size (by rfl)), View.canon_unit_zero (S := S512x1024) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
    simp only [View.ld_unit_zero (S := S1x512x1408) hz', View.ld_unit_zero (S := S1x1024x1408) hz', View.ld_unit_zero (S := S512x1024) hz, View.ld_unit_zero (S := S1x1024) hz]
  · rw [View.read_writes_eq_canon _ _ _ (View.cover_of_tiled _ S1x1024.size (by rfl)), View.canon_unit_zero (S := S1x1024) hz]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread]
    simp only [View.ld_unit_zero (S := S1x512x1408) hz', View.ld_unit_zero (S := S1x1024x1408) hz', View.ld_unit_zero (S := S512x1024) hz, View.ld_unit_zero (S := S1x1024) hz]

/-! # The kernel -/

theorem points (t : Fin cfg0.N) : t.val < 4 := t.isLt

abbrev arg0 : FVec Ideal S2048x1024 .f32 := m ((c.tc : Thread nD τ).loc main_arg0)
abbrev arg1 : FVec Ideal S1x1024 .f32 := m ((c.tc : Thread nD τ).loc main_arg1)
abbrev arg2 : FVec Ideal S1024x5632 .f32 := m ((c.tc : Thread nD τ).loc main_arg2)
abbrev arg3 : FVec Ideal S2x2048x2816 .bf16 := m ((c.tc : Thread nD τ).loc main_arg3)
abbrev arg4 : FVec Ideal S2048x1024 .f32 := m ((c.tc : Thread nD τ).loc main_arg4)
/-- The products of the arguments. -/
abbrev prods : FVec Ideal S2048x1024 .f32 := products (arg3 m c) (arg2 m c)

theorem idxU : ∀ t : Fin cfg0.N, win0_0.index t = ![0, t.val, 0] ∧ win0_2.index t = ![0, t.val, 1] ∧ win0_4.index t = ![1, t.val, 0] ∧ win0_6.index t = ![1, t.val, 1] :=
  (by decide +kernel : ∀ t : Fin grid0.N, _)
theorem idxW : ∀ t : Fin cfg0.N, win0_1.index t = ![0, 0, 0] ∧ win0_3.index t = ![1, 0, 0] ∧ win0_5.index t = ![2, 0, 0] ∧ win0_7.index t = ![3, 0, 0] :=
  (by decide +kernel : ∀ t : Fin grid0.N, _)
theorem idxR : ∀ t : Fin cfg0.N, win0_8.index t = ![t.val, 0] ∧ win0_9.index t = ![0, 0] ∧ win0_10.index t = ![t.val, 0] ∧ win0_11.index t = ![t.val, 0] ∧ win0_12.index t = ![0, 0] :=
  (by decide +kernel : ∀ t : Fin grid0.N, _)

/-- The host lays the weight's columns out in four pieces, and rounds it, which changes no real number. -/
theorem weight_eq (p : Fin 4) (k : Fin 1024) (b : Fin 1408) : V m c main_v2 (ix3 p k b) = arg2 m c (ix2 k ⟨1408 * p.val + b.val, by omega⟩) := by
  have e : (V m c main_v2 : FVec Ideal S4x1024x1408 .bf16) = truncf .bf16 (transpose S4x1024x1408 [1, 0, 2] (shapeCast S1024x4x1408 (arg2 m c) shapeCasts_S1024x5632_S1024x4x1408) transposes_S1024x4x1408_S4x1024x1408_1_0_2) bitsLt_bf16_f32 := by
    unfold V
    after_results <;> rfl
  rw [e]
  generalize arg2 m c = w
  pointwise
  try simp only [Nat.mul_comm]

theorem u_0 (t : Fin cfg0.N) (a : Fin 512) (f : Fin 1408) : iblk m c 0 t (ix3 0 a f) = V m c main_arg3 (ix3 0 ⟨512 * t.val + a.val, by have := points t; omega⟩ ⟨f.val, by omega⟩) := by
  blk_ext [iblk, (idxU t).1]
theorem u_1 (t : Fin cfg0.N) (a : Fin 512) (f : Fin 1408) : iblk m c 2 t (ix3 0 a f) = V m c main_arg3 (ix3 0 ⟨512 * t.val + a.val, by have := points t; omega⟩ ⟨1408 + f.val, by omega⟩) := by
  blk_ext [iblk, (idxU t).2.1]
theorem u_2 (t : Fin cfg0.N) (a : Fin 512) (f : Fin 1408) : iblk m c 4 t (ix3 0 a f) = V m c main_arg3 (ix3 1 ⟨512 * t.val + a.val, by have := points t; omega⟩ ⟨f.val, by omega⟩) := by
  blk_ext [iblk, (idxU t).2.2.1]
theorem u_3 (t : Fin cfg0.N) (a : Fin 512) (f : Fin 1408) : iblk m c 6 t (ix3 0 a f) = V m c main_arg3 (ix3 1 ⟨512 * t.val + a.val, by have := points t; omega⟩ ⟨1408 + f.val, by omega⟩) := by
  blk_ext [iblk, (idxU t).2.2.2]
theorem w_0 (t : Fin cfg0.N) (k : Fin 1024) (f : Fin 1408) : iblk m c 1 t (ix3 0 k f) = arg2 m c (ix2 k ⟨1408 * 0 + f.val, by omega⟩) := by
  refine Eq.trans (b := V m c main_v2 (ix3 0 k f)) (by blk_ext [iblk, (idxW t).1]) ?_
  exact weight_eq m c 0 k f
theorem w_1 (t : Fin cfg0.N) (k : Fin 1024) (f : Fin 1408) : iblk m c 3 t (ix3 0 k f) = arg2 m c (ix2 k ⟨1408 * 1 + f.val, by omega⟩) := by
  refine Eq.trans (b := V m c main_v2 (ix3 1 k f)) (by blk_ext [iblk, (idxW t).2.1]) ?_
  exact weight_eq m c 1 k f
theorem w_2 (t : Fin cfg0.N) (k : Fin 1024) (f : Fin 1408) : iblk m c 5 t (ix3 0 k f) = arg2 m c (ix2 k ⟨1408 * 2 + f.val, by omega⟩) := by
  refine Eq.trans (b := V m c main_v2 (ix3 2 k f)) (by blk_ext [iblk, (idxW t).2.2.1]) ?_
  exact weight_eq m c 2 k f
theorem w_3 (t : Fin cfg0.N) (k : Fin 1024) (f : Fin 1408) : iblk m c 7 t (ix3 0 k f) = arg2 m c (ix2 k ⟨1408 * 3 + f.val, by omega⟩) := by
  refine Eq.trans (b := V m c main_v2 (ix3 3 k f)) (by blk_ext [iblk, (idxW t).2.2.2]) ?_
  exact weight_eq m c 3 k f
theorem x_at (t : Fin cfg0.N) (a : Fin 512) (k : Fin 1024) : iblk m c 8 t (ix2 a k) = V m c main_arg0 (ix2 ⟨512 * t.val + a.val, by have := points t; omega⟩ k) := by
  blk_ext [iblk, (idxR t).1]
theorem g_at (t : Fin cfg0.N) (k : Fin 1024) : iblk m c 9 t (ix2 0 k) = V m c main_arg1 (ix2 0 k) := by
  blk_ext [iblk, (idxR t).2.1]
theorem d_at (t : Fin cfg0.N) (a : Fin 512) (k : Fin 1024) : iblk m c 10 t (ix2 a k) = V m c main_arg4 (ix2 ⟨512 * t.val + a.val, by have := points t; omega⟩ k) := by
  blk_ext [iblk, (idxR t).2.2.1]

/-- A point's products are the whole array's. -/
theorem products_at (t : Fin cfg0.N) (a : Fin 512) (k : Fin 1024) :
    (productsAt m c t (ix2 a k) : EReal) = prods m c (ix2 ⟨512 * t.val + a.val, by have := points t; omega⟩ k) := by
  unfold productsAt
  refine (block_products _ _ _ _ _ _ _ _ a k).trans (Eq.trans ?_ (NormGrad.sum_pieces 1408 (fun n : Fin 5632 =>
    (arg3 m c (ix3 ⟨n.val / 2816, by omega⟩ ⟨512 * t.val + a.val, by have := points t; omega⟩ ⟨n.val % 2816, by omega⟩) * arg2 m c (ix2 k n) : EReal))).symm)
  refine congrArg₂ (fun p q : EReal => p + q) (congrArg₂ (fun p q : EReal => p + q) (congrArg₂ (fun p q : EReal => p + q) ?_ ?_) ?_) ?_ <;>
    refine Finset.sum_congr rfl fun f _ => congrArg₂ (fun p q : EReal => p * q) ?_ ?_
  · rw [u_0, V_main_arg3]
    refine congrArg (arg3 m c) (congrArg₂ (fun p q => ix3 p _ q) (Fin.ext ?_) (Fin.ext ?_)) <;> simp <;> omega
  · exact w_0 m c t k f
  · rw [u_1, V_main_arg3]
    refine congrArg (arg3 m c) (congrArg₂ (fun p q => ix3 p _ q) (Fin.ext ?_) (Fin.ext ?_)) <;> simp <;> omega
  · exact w_1 m c t k f
  · rw [u_2, V_main_arg3]
    refine congrArg (arg3 m c) (congrArg₂ (fun p q => ix3 p _ q) (Fin.ext ?_) (Fin.ext ?_)) <;> simp <;> omega
  · exact w_2 m c t k f
  · rw [u_3, V_main_arg3]
    refine congrArg (arg3 m c) (congrArg₂ (fun p q => ix3 p _ q) (Fin.ext ?_) (Fin.ext ?_)) <;> simp <;> omega
  · exact w_3 m c t k f

/-- A point's gradient is the whole array's. -/
theorem grad_at (t : Fin cfg0.N) (a : Fin 512) (k : Fin 1024) :
    (gradAt m c t (ix2 a k) : EReal) = gradient (arg0 m c) (arg1 m c) (prods m c) (arg4 m c) (ix2 ⟨512 * t.val + a.val, by have := points t; omega⟩ k) := by
  unfold gradAt
  refine (block_grad _ _ _ _ a k).trans ?_
  have ex : (fun j => iblk m c 8 t (ix2 a j) : Fin 1024 → EReal) = fun j => arg0 m c (ix2 ⟨512 * t.val + a.val, by have := points t; omega⟩ j) := funext fun j => by
    rw [x_at, V_main_arg0]
  have eg : (fun j => iblk m c 9 t (ix2 0 j) : Fin 1024 → EReal) = fun j => arg1 m c (ix2 0 j) := funext fun j => by
    rw [g_at, V_main_arg1]
  have eh : (fun j => productsAt m c t (ix2 a j) : Fin 1024 → EReal) = fun j => prods m c (ix2 ⟨512 * t.val + a.val, by have := points t; omega⟩ j) := funext fun j =>
    products_at m c t a j
  have ed : (fun j => iblk m c 10 t (ix2 a j) : Fin 1024 → EReal) = fun j => arg4 m c (ix2 ⟨512 * t.val + a.val, by have := points t; omega⟩ j) := funext fun j => by
    rw [d_at, V_main_arg4]
  exact (congrArg₂ (fun x h => NormGrad.grad x (fun j => iblk m c 9 t (ix2 0 j)) h (fun j => iblk m c 10 t (ix2 a j)) k) ex eh).trans
    (congrArg₂ (fun g d => NormGrad.grad _ g _ d k) eg ed)

/-- A point's part of the gain's gradient. -/
theorem gain_at (t : Fin cfg0.N) (z : Fin 1) (k : Fin 1024) :
    (k0_pay3 (productsAt m c t) (iblk m c 8 t) (k0_pay7 (iblk m c 8 t)) (ix2 z k) : EReal)
      = ∑ a : Fin 512, gainTerm (arg0 m c) (prods m c) k ⟨512 * (t.val % 4) + a.val, by omega⟩ := by
  refine (block_gain _ _ z k).trans (Finset.sum_congr rfl fun a _ => ?_)
  have e4 : t.val % 4 = t.val := Nat.mod_eq_of_lt (points t)
  have ex : (fun j => iblk m c 8 t (ix2 a j) : Fin 1024 → EReal) = fun j => arg0 m c (ix2 ⟨512 * t.val + a.val, by have := points t; omega⟩ j) := funext fun j => by
    rw [x_at, V_main_arg0]
  simp only [e4]
  exact congrArg₂ (fun p q : EReal => p * q) (products_at m c t a k) (congrArg₂ (fun p q : EReal => p * q) (congrFun ex k) (congrArg NormGrad.rate ex))

/-- The gain's gradient after a point: the parts of the points so far. -/
theorem gain_after (z : Fin 1) (k : Fin 1024) : ∀ (n : ℕ) (hn : n < cfg0.N), ((outsAt0 m c n hn).2 (ix2 z k) : EReal)
    = ∑ s ∈ Finset.range (n + 1), ∑ a : Fin 512, gainTerm (arg0 m c) (prods m c) k ⟨512 * (s % 4) + a.val, by omega⟩
  | 0, hn => by
    rw [first m c ⟨0, hn⟩ rfl (Nat.not_succ_le_zero 0)]
    rw [Finset.sum_range_succ, Finset.sum_range_zero, zero_add]
    exact gain_at m c ⟨0, hn⟩ z k
  | n + 1, hn => by
    have h4 : n + 1 < 4 := hn
    rw [later m c ⟨n + 1, hn⟩ (by show ¬(n + 1) % 4 = 0; omega) (by show 1 ≤ n + 1; omega)]
    rw [Finset.sum_range_succ]
    exact (block_gain_added _ _ _ z k).trans (congrArg₂ (fun p q : EReal => p + q) (gain_after z k n (Nat.lt_of_succ_lt hn)) (gain_at m c ⟨n + 1, hn⟩ z k))

/-- Every point stores its block of the gradient. -/
theorem grad_stored (t : Fin cfg0.N) : (outsAt0 m c t.val t.isLt).1 = gradAt m c t := by
  have := points t
  by_cases h : t.val = 0
  · rw [first m c t (by omega) (by omega)]
  · rw [later m c t (by omega) (by omega)]

/-- The gradient's array after the run. -/
theorem final_grad : (dats m 0 c).arrAt 11 cfg0.N = gradient (arg0 m c) (arg1 m c) (prods m c) (arg4 m c) := by
  refine (dats m 0 c).arrAt_eq_of_covers 11 _ (by decide +kernel) fun t _ y => ?_
  blk_simp
  rw [after0_11, grad_stored]
  have hi := (idxR t).2.2.2.1
  have block : ∀ (y : S512x1024.Idx) (z : S2048x1024.Idx), (z 0).val = 512 * t.val + (y 0).val → (z 1).val = (y 1).val →
      gradAt m c t y = gradient (arg0 m c) (arg1 m c) (prods m c) (arg4 m c) z := by
    intro y z h0 h1
    obtain ⟨a, b, rfl⟩ : ∃ (a : Fin 512) (b : Fin 1024), y = ix2 a b := ⟨y 0, y 1, (ix2_eta y).symm⟩
    obtain ⟨i, j, rfl⟩ : ∃ (i : Fin 2048) (j : Fin 1024), z = ix2 i j := ⟨z 0, z 1, (ix2_eta z).symm⟩
    replace h0 : i.val = 512 * t.val + a.val := h0
    replace h1 : j.val = b.val := h1
    obtain rfl := Fin.ext h1
    refine (grad_at m c t a j).trans ?_
    simp only [← h0]
  refine block y _ ?_ ?_ <;> simp [hi, Nat.mul_comm]

/-- The gain's gradient after the run: written back at the last point. -/
theorem final_gain : (dats m 0 c).arrAt 12 cfg0.N = gain (arg0 m c) (prods m c) := by
  refine (dats m 0 c).arrAt_eq_of_covers 12 _ (by decide +kernel) fun t hf y => ?_
  have h3 : t.val = 3 := (by decide +kernel : ∀ t : Fin grid0.N, win0_12.flush t = true → t.val = 3) t hf
  blk_simp
  rw [after0_12]
  have hi := (idxR t).2.2.2.2
  have block : ∀ (y z : S1x1024.Idx), (z 1).val = (y 1).val → (outsAt0 m c t.val t.isLt).2 y = gain (arg0 m c) (prods m c) z := by
    intro y z h1
    obtain ⟨a, b, rfl⟩ : ∃ (a : Fin 1) (b : Fin 1024), y = ix2 a b := ⟨y 0, y 1, (ix2_eta y).symm⟩
    obtain ⟨i, j, rfl⟩ : ∃ (i : Fin 1) (j : Fin 1024), z = ix2 i j := ⟨z 0, z 1, (ix2_eta z).symm⟩
    replace h1 : j.val = b.val := h1
    obtain rfl := Fin.ext h1
    refine (gain_after m c a j t.val t.isLt).trans ?_
    rw [h3]
    simp only [Finset.sum_range_succ, Finset.sum_range_zero, zero_add]
    exact (NormGrad.sum_pieces 512 (gainTerm (arg0 m c) (prods m c) j)).symm
  refine block y _ ?_ <;> simp [hi, Nat.mul_comm]

/-! # The claims -/

theorem frame_ideal : Cert.quiescent_Kernel19Ideal (hKernel19Ideal := Cert.Kernel19Ideal.Gen.facts) := fun m ρ _ =>
  Cert.Kernel19Ideal.Gen.frame m ρ
theorem frame_kernel : Cert.quiescent_Kernel19 (hKernel19 := Cert.Kernel19.Gen.facts) := fun m ρ _ =>
  Cert.Kernel19.Gen.frame m ρ
theorem frame_reference : Cert.quiescent_Reference19Ideal (hReference19Ideal := Cert.Reference19Ideal.Gen.facts) := fun m ρ _ =>
  (θ_run Cert.Reference19Ideal.defs _ _).mono (fun r h => ⟨fun c => (h c).2.2, sem_eq_zero_of_no_sems (by decide) r.2⟩)
    (Cert.Reference19Ideal.Value.run (F := Ideal) m ρ)

/-- The reference's gradient of the arguments is the kernel's. -/
theorem gradient_of :
    linesOf (arg0 m c) (scaled (arg1 m c) (dots (halves (arg3 m c)) (arg2 m c))) (arg4 m c) (rates (arg0 m c))
      (throughs (arg0 m c) (scaled (arg1 m c) (dots (halves (arg3 m c)) (arg2 m c))) (rates (arg0 m c)) (meanSquares (arg0 m c)))
      = gradient (arg0 m c) (arg1 m c) (prods m c) (arg4 m c) := by
  rw [dots_eq]
  exact lines_eq _ _ _ _

/-- The kernel's two results and the reference's are the same arrays. -/
theorem algebraic : @Cert.algebraic_Kernel19Ideal_Reference19Ideal Cert.Kernel19Ideal.Gen.facts Cert.Reference19Ideal.Gen.facts := by
  intro m g m' g' _ hagree
  refine ⟨fun c => gradient (arg0 m c) (arg1 m c) (prods m c) (arg4 m c), fun c => gain (arg0 m c) (prods m c),
    (θ_run defs _ _).mono (fun r h c => ⟨(h c).1.trans (final_grad m c), (h c).2.1.trans (final_gain m c), (h c).2.2⟩) (Cert.Kernel19Ideal.Value.run_blocks (F := Ideal) m g),
    (θ_run Cert.Reference19Ideal.defs _ _).mono (fun r h c => ⟨(h c).1.trans ?_, (h c).2.1.trans ?_, (h c).2.2⟩) (Cert.Reference19Ideal.Value.run (F := Ideal) m' g')⟩
  · obtain ⟨a0, a1, a2, a3, a4⟩ := hagree c
    unfold Cert.Reference19Ideal.Value.res_main_v42
    rw [a0, a1, a2, a3, a4]
    exact gradient_of m c
  · obtain ⟨a0, a1, a2, a3, a4⟩ := hagree c
    rw [a0, a2, a3]
    refine Eq.trans (b := gains (arg0 m c) (rates (arg0 m c)) (dots (halves (arg3 m c)) (arg2 m c))) rfl ?_
    rw [dots_eq]
    exact gains_eq _ _

end Cert.Kernel19Ideal.Product

end
-- ==== Proof.HeadValue.lean ====
module

public import proofs.«01_k».proof.Proof.Head
public import proofs.«01_k».proof.Proof.Softmax
public import Idealize.ShloMosaic.Lib.Pointwise
public import Idealize.ShloMosaic.Lib.WordCmp

@[expose] public section

noncomputable section

namespace Cert.KernelIdeal.Grad

open Cert.KernelIdeal Cert.KernelIdeal.Gen
open Idealize.ShloMosaic Idealize.ShloMosaic.TcCoe

/-! # One head's work over the extended reals

Every array of a head, read at a row and a column. -/

theorem score_at (Q : FVec Ideal S512x64 .bf16) (K : FVec Ideal S256x64 .bf16) (B : FVec Ideal S512x256 .f32) (r : Fin 512) (j : Fin 256) :
    score Q K B (ix2 r j) = (∑ d : Fin 64, Q (ix2 r d) * K (ix2 j d)) * Ideal.ofBits .f32 0x3E000000#32 + B (ix2 r j) := by
  pointwise [score]

theorem probGrad_at (D : FVec Ideal S512x64 .bf16) (V : FVec Ideal S256x64 .bf16) (r : Fin 512) (j : Fin 256) :
    probGrad D V (ix2 r j) = ∑ d : Fin 64, D (ix2 r d) * V (ix2 j d) := by
  pointwise [probGrad]

theorem top_at (S : FVec Ideal S512x256 .f32) (s : FVec Ideal S512x1 .f32) (r : Fin 512) (l : Fin 1) :
    top S s (ix2 r l) = Cert.Softmax.top (fun j => S (ix2 r j)) (s (ix2 r 0)) := by
  obtain rfl : l = 0 := Subsingleton.elim _ _
  rw [Cert.Softmax.top, ← Cert.Softmax.negInf]
  pointwise [top]

theorem weight_at (S : FVec Ideal S512x256 .f32) (s : FVec Ideal S512x1 .f32) (r : Fin 512) (j : Fin 256) :
    weight S s (ix2 r j) = Cert.Softmax.weight (fun j => S (ix2 r j)) (s (ix2 r 0)) j := by
  rw [Cert.Softmax.weight, ← top_at S s r 0]
  pointwise [weight]

theorem sinkWeight_at (S : FVec Ideal S512x256 .f32) (s : FVec Ideal S512x1 .f32) (r : Fin 512) (l : Fin 1) :
    sinkWeight S s (ix2 r l) = Cert.Softmax.sinkWeight (fun j => S (ix2 r j)) (s (ix2 r 0)) := by
  obtain rfl : l = 0 := Subsingleton.elim _ _
  rw [Cert.Softmax.sinkWeight, ← top_at S s r 0]
  pointwise [sinkWeight]

theorem recip_at (S : FVec Ideal S512x256 .f32) (s : FVec Ideal S512x1 .f32) (r : Fin 512) (l : Fin 1) :
    recip S s (ix2 r l) = Ideal.div 1 (Cert.Softmax.total (fun j => S (ix2 r j)) (s (ix2 r 0))) := by
  obtain rfl : l = 0 := Subsingleton.elim _ _
  rw [Cert.Softmax.total, ← sinkWeight_at S s r 0]
  simp only [← weight_at S s r]
  pointwise [recip]

theorem prob_at (S : FVec Ideal S512x256 .f32) (s : FVec Ideal S512x1 .f32) (r : Fin 512) (j : Fin 256) :
    prob S s (ix2 r j) = Cert.Softmax.prob (fun j => S (ix2 r j)) (s (ix2 r 0)) j := by
  rw [Cert.Softmax.prob, ← weight_at S s r, ← recip_at S s r 0]
  pointwise [prob]

theorem sinkProb_at (S : FVec Ideal S512x256 .f32) (s : FVec Ideal S512x1 .f32) (r : Fin 512) (l : Fin 1) :
    sinkProb S s (ix2 r l) = Cert.Softmax.sinkWeight (fun j => S (ix2 r j)) (s (ix2 r 0)) * Ideal.div 1 (Cert.Softmax.total (fun j => S (ix2 r j)) (s (ix2 r 0))) := by
  rw [← sinkWeight_at S s r l, ← recip_at S s r l]
  pointwise [sinkProb]

theorem delta_at (p g : FVec Ideal S512x256 .f32) (r : Fin 512) (l : Fin 1) :
    delta p g (ix2 r l) = ∑ j : Fin 256, p (ix2 r j) * g (ix2 r j) := by
  obtain rfl : l = 0 := Subsingleton.elim _ _
  pointwise [delta]

theorem mean_at (S : FVec Ideal S512x256 .f32) (s : FVec Ideal S512x1 .f32) (g : FVec Ideal S512x256 .f32) (r : Fin 512) (l : Fin 1) :
    delta (prob S s) g (ix2 r l) = Cert.Softmax.mean (fun j => S (ix2 r j)) (s (ix2 r 0)) (fun j => g (ix2 r j)) := by
  rw [delta_at, Cert.Softmax.mean]
  simp only [prob_at]

theorem scoreGrad_at (S : FVec Ideal S512x256 .f32) (s : FVec Ideal S512x1 .f32) (g : FVec Ideal S512x256 .f32) (r : Fin 512) (j : Fin 256) :
    scoreGrad (prob S s) g (ix2 r j) = Cert.Softmax.grad (fun j => S (ix2 r j)) (s (ix2 r 0)) (fun j => g (ix2 r j)) j := by
  rw [Cert.Softmax.grad, ← mean_at S s g r 0, ← prob_at S s r]
  generalize prob S s = p
  rw [delta_at]
  pointwise [scoreGrad, delta]

theorem queryGrad_at (G : FVec Ideal S512x256 .bf16) (K : FVec Ideal S256x64 .bf16) (r : Fin 512) (d : Fin 64) :
    queryGrad G K (ix2 r d) = (∑ j : Fin 256, G (ix2 r j) * K (ix2 j d)) * Ideal.ofBits .f32 0x3E000000#32 := by
  pointwise [queryGrad]

theorem keyGrad_at (G : FVec Ideal S512x256 .bf16) (Q : FVec Ideal S512x64 .bf16) (j : Fin 256) (d : Fin 64) :
    keyGrad G Q (ix2 j d) = (∑ r : Fin 512, G (ix2 r j) * Q (ix2 r d)) * Ideal.ofBits .f32 0x3E000000#32 := by
  pointwise [keyGrad]

theorem valueGrad_at (p : FVec Ideal S512x256 .f32) (D : FVec Ideal S512x64 .bf16) (j : Fin 256) (d : Fin 64) :
    valueGrad p D (ix2 j d) = ∑ r : Fin 512, p (ix2 r j) * D (ix2 r d) := by
  pointwise [valueGrad]

theorem sinkPart_at (S : FVec Ideal S512x256 .f32) (s : FVec Ideal S512x1 .f32) (g : FVec Ideal S512x256 .f32) (r : Fin 512) (l : Fin 1) :
    sinkPart (sinkProb S s) (delta (prob S s) g) (ix2 r l) = Cert.Softmax.sinkGrad (fun j => S (ix2 r j)) (s (ix2 r 0)) (fun j => g (ix2 r j)) := by
  rw [Cert.Softmax.sinkGrad, ← mean_at S s g r l, ← sinkProb_at S s r l]
  generalize sinkProb S s = p
  generalize delta (prob S s) g = q
  pointwise [sinkPart]

/-- The tile of the four sinks' gradients: lane `g` of row 0 sums query head `g`'s rows. -/
theorem sinkTile_at (x : FVec Ideal S512x1 .f32) (u : Fin 8) (l : Fin 128) :
    sinkTile x (ix2 u l) = if h : u.val = 0 ∧ l.val < 4 then ∑ a : Fin 128, x (ix2 (row ⟨l.val, h.2⟩ a) 0) else 0 := by
  pointwise [sinkTile, sinkSum, lane0]
  have hl := l.isLt
  have hu := u.isLt
  simp (disch := word_cmp_side) only [hlo_ix]
  by_cases h : u.val = 0 ∧ l.val < 4
  · obtain ⟨h0, h4⟩ := h
    obtain h | h | h | h : l.val = 0 ∨ l.val = 1 ∨ l.val = 2 ∨ l.val = 3 := by omega
    all_goals
      simp only [h, h0, row]
      simp
  · rw [dif_neg h, if_neg, if_neg, if_neg, if_neg]
    all_goals omega

end Cert.KernelIdeal.Grad

end
-- ==== Proof.Attn.lean ====
module

public import proofs.«01_k».proof.Proof.Softmax

@[expose] public section

noncomputable section

namespace Cert.Attn

open Idealize.ShloMosaic

/-! # The gradients of the windowed attention, over the extended reals

16 blocks of 128 positions; a block's rows see the block before and their own, 256 columns, of
which a row's last 128 positions count.  Four key heads, each shared by four query heads; one sink
to a query head. -/

/-- The arrays: queries, keys, values, sinks and the output's gradient. -/
structure Arrays where
  /-- Queries. -/
  q : Fin 4 → Fin 4 → Fin 2048 → Fin 64 → EReal
  /-- Keys. -/
  k : Fin 4 → Fin 2048 → Fin 64 → EReal
  /-- Values. -/
  v : Fin 4 → Fin 2048 → Fin 64 → EReal
  /-- Sinks. -/
  z : Fin 4 → Fin 4 → EReal
  /-- The output's gradient. -/
  o : Fin 2048 → Fin 4 → Fin 4 → Fin 64 → EReal

/-- Position `a` of block `n`. -/
abbrev tok (n : Fin 16) (a : Fin 128) : Fin 2048 := ⟨n.val * 128 + a.val, by omega⟩

/-- The block before, or the first block's own number. -/
abbrev prev (n : Fin 16) : Fin 16 := ⟨n.val - 1, by omega⟩

/-- The band of block `n`: `f` at the position of each of its 256 columns, `z` at the columns that lie before the first position. -/
def band (z : EReal) (f : Fin 2048 → EReal) (n : Fin 16) (j : Fin 256) : EReal :=
  if h : j.val < 128 then if n.val = 0 then z else f (tok (prev n) ⟨j.val, h⟩)
  else f (tok n ⟨j.val - 128, by omega⟩)

/-- Whether row `a` of block `n` sees column `j` of its band. -/
def Seen (n : Fin 16) (a : Fin 128) (j : Fin 256) : Prop :=
  a.val < j.val ∧ j.val ≤ a.val + 128 ∧ (n.val = 0 → 128 ≤ j.val)

instance (n : Fin 16) (a : Fin 128) (j : Fin 256) : Decidable (Seen n a j) := by
  unfold Seen; infer_instance

/-- The scale of the scores. -/
abbrev c : EReal := Ideal.ofBits .f32 0x3E000000#32

namespace Arrays

variable (A : Arrays)

/-- The masked scores. -/
def score (h g : Fin 4) (n : Fin 16) (a : Fin 128) (j : Fin 256) : EReal :=
  if Seen n a j then (∑ d, A.q h g (tok n a) d * band 0 (fun t => A.k h t d) n j) * c else ⊥

/-- The probabilities' gradient. -/
def probGrad (h g : Fin 4) (n : Fin 16) (a : Fin 128) (j : Fin 256) : EReal :=
  ∑ d, A.o (tok n a) h g d * band 0 (fun t => A.v h t d) n j

/-- The probabilities. -/
def prob (h g : Fin 4) (n : Fin 16) (a : Fin 128) (j : Fin 256) : EReal :=
  Softmax.prob (A.score h g n a) (A.z h g) j

/-- The scores' gradient. -/
def grad (h g : Fin 4) (n : Fin 16) (a : Fin 128) (j : Fin 256) : EReal :=
  Softmax.grad (A.score h g n a) (A.z h g) (A.probGrad h g n a) j

/-- The queries' gradient. -/
def dq (h g : Fin 4) (n : Fin 16) (a : Fin 128) (d : Fin 64) : EReal :=
  (∑ j, A.grad h g n a j * band 0 (fun t => A.k h t d) n j) * c

/-- The part of the keys' gradient that block `n` gives to column `j` of its band. -/
def dkBand (h : Fin 4) (n : Fin 16) (j : Fin 256) (d : Fin 64) : EReal :=
  (∑ g, ∑ a, A.grad h g n a j * A.q h g (tok n a) d) * c

/-- The part of the values' gradient that block `n` gives to column `j` of its band. -/
def dvBand (h : Fin 4) (n : Fin 16) (j : Fin 256) (d : Fin 64) : EReal :=
  ∑ g, ∑ a, A.prob h g n a j * A.o (tok n a) h g d

/-- The gradient of a sink. -/
def dz (h g : Fin 4) : EReal :=
  ∑ n, ∑ a, Softmax.sinkGrad (A.score h g n a) (A.z h g) (A.probGrad h g n a)

end Arrays

/-- A position's gradient from the bands' parts: its own block's, and the next block's where there is one. -/
def fold (f : Fin 16 → Fin 256 → EReal) (n : Fin 16) (b : Fin 128) : EReal :=
  f n ⟨128 + b.val, by omega⟩ + if h : n.val + 1 < 16 then f ⟨n.val + 1, h⟩ ⟨b.val, by omega⟩ else 0

namespace Arrays

/-- The keys' gradient. -/
def dk (A : Arrays) (h : Fin 4) (n : Fin 16) (b : Fin 128) (d : Fin 64) : EReal :=
  fold (fun n j => A.dkBand h n j d) n b

/-- The values' gradient. -/
def dv (A : Arrays) (h : Fin 4) (n : Fin 16) (b : Fin 128) (d : Fin 64) : EReal :=
  fold (fun n j => A.dvBand h n j d) n b

/-- Queries, keys and sinks are real numbers. -/
structure Finite (A : Arrays) : Prop where
  q : ∀ h g t d, ∃ x : ℝ, A.q h g t d = x
  k : ∀ h t d, ∃ x : ℝ, A.k h t d = x
  z : ∀ h g, ∃ x : ℝ, A.z h g = x

end Arrays

theorem sum_real {ι : Type*} (S : Finset ι) (f : ι → EReal) (hf : ∀ i, ∃ x : ℝ, f i = x) :
    ∃ x : ℝ, ∑ i ∈ S, f i = x := by
  classical
  choose r hr using hf
  refine ⟨∑ i ∈ S, r i, ?_⟩
  rw [Finset.sum_congr rfl fun i _ => hr i]
  exact (map_sum (⟨⟨(fun r : ℝ => (r : EReal)), rfl⟩, EReal.coe_add⟩ : ℝ →+ EReal) r S).symm

theorem mul_real {x y : EReal} (hx : ∃ r : ℝ, x = r) (hy : ∃ r : ℝ, y = r) : ∃ r : ℝ, x * y = r := by
  obtain ⟨r, rfl⟩ := hx
  obtain ⟨s, rfl⟩ := hy
  exact ⟨r * s, (EReal.coe_mul r s).symm⟩

theorem band_real {z : EReal} {f : Fin 2048 → EReal} (hz : ∃ x : ℝ, z = x) (hf : ∀ t, ∃ x : ℝ, f t = x) (n : Fin 16) (j : Fin 256) :
    ∃ x : ℝ, band z f n j = x := by
  unfold band
  split
  · split
    · exact hz
    · exact hf _
  · exact hf _

variable {A : Arrays}

theorem score_ne_top (hA : A.Finite) (h g : Fin 4) (n : Fin 16) (a : Fin 128) (j : Fin 256) :
    A.score h g n a j ≠ ⊤ := by
  unfold Arrays.score
  split
  · obtain ⟨x, hx⟩ := mul_real (sum_real Finset.univ
      (fun d => A.q h g (tok n a) d * band 0 (fun t => A.k h t d) n j)
      fun d => mul_real (hA.q h g _ d) (band_real ⟨0, rfl⟩ (fun t => hA.k h t d) n j)) ⟨1 / 8, Softmax.eighth⟩
    rw [hx]
    exact EReal.coe_ne_top x
  · exact bot_ne_top

theorem score_unseen {h g : Fin 4} {n : Fin 16} {a : Fin 128} {j : Fin 256} (hj : ¬ Seen n a j) : A.score h g n a j = ⊥ :=
  if_neg hj

theorem grad_unseen (hA : A.Finite) {h g : Fin 4} {n : Fin 16} {a : Fin 128} {j : Fin 256} (hj : ¬ Seen n a j) : A.grad h g n a j = 0 :=
  Softmax.grad_bot (score_ne_top hA h g n a) (hA.z h g) _ (score_unseen hj)

theorem prob_unseen (hA : A.Finite) {h g : Fin 4} {n : Fin 16} {a : Fin 128} {j : Fin 256} (hj : ¬ Seen n a j) : A.prob h g n a j = 0 :=
  Softmax.prob_bot (score_ne_top hA h g n a) (hA.z h g) (score_unseen hj)

/-- The first block gives nothing to the columns before the first position. -/
theorem dkBand_first (hA : A.Finite) (h : Fin 4) {n : Fin 16} (hn : n.val = 0) {j : Fin 256} (hj : j.val < 128) (d : Fin 64) :
    A.dkBand h n j d = 0 := by
  unfold Arrays.dkBand
  rw [Finset.sum_eq_zero, zero_mul]
  intro g _
  refine Finset.sum_eq_zero fun a _ => ?_
  rw [grad_unseen hA fun hs => by have := hs.2.2 hn; omega, zero_mul]

theorem dvBand_first (hA : A.Finite) (h : Fin 4) {n : Fin 16} (hn : n.val = 0) {j : Fin 256} (hj : j.val < 128) (d : Fin 64) :
    A.dvBand h n j d = 0 := by
  unfold Arrays.dvBand
  refine Finset.sum_eq_zero fun g _ => Finset.sum_eq_zero fun a _ => ?_
  rw [prob_unseen hA fun hs => by have := hs.2.2 hn; omega, zero_mul]

/-! ## Columns that are not seen may hold anything -/

theorem band_seen (z z' : EReal) (f : Fin 2048 → EReal) {n : Fin 16} {a : Fin 128} {j : Fin 256} (hj : Seen n a j) :
    band z f n j = band z' f n j := by
  unfold band
  split
  · rw [if_neg, if_neg]
    all_goals intro hn; have := hj.2.2 hn; omega
  · rfl

/-- The scores, from a band with any finite numbers before the first position and the mask added. -/
theorem score_added (h g : Fin 4) (n : Fin 16) (a : Fin 128) (j : Fin 256) (K : Fin 64 → EReal)
    (hK : Seen n a j → ∀ d, K d = band 0 (fun t => A.k h t d) n j) :
    (∑ d, A.q h g (tok n a) d * K d) * c + (if Seen n a j then 0 else ⊥) = A.score h g n a j := by
  unfold Arrays.score
  split
  · next hs =>
    rw [add_zero]
    simp only [hK hs]
  · exact EReal.add_bot _

theorem mean_congr {s : Fin 256 → EReal} {σ : EReal} (hs : ∀ j, s j ≠ ⊤) (hσ : ∃ x : ℝ, σ = x) {g g' : Fin 256 → EReal}
    (e : ∀ j, s j ≠ ⊥ → g j = g' j) : Softmax.mean s σ g = Softmax.mean s σ g' := by
  unfold Softmax.mean
  refine Finset.sum_congr rfl fun j _ => ?_
  by_cases hj : s j = ⊥
  · rw [Softmax.prob_bot hs hσ hj, zero_mul, zero_mul]
  · rw [e j hj]

theorem grad_congr {s : Fin 256 → EReal} {σ : EReal} (hs : ∀ j, s j ≠ ⊤) (hσ : ∃ x : ℝ, σ = x) {g g' : Fin 256 → EReal}
    (e : ∀ j, s j ≠ ⊥ → g j = g' j) (j : Fin 256) : Softmax.grad s σ g j = Softmax.grad s σ g' j := by
  by_cases hj : s j = ⊥
  · rw [Softmax.grad_bot hs hσ g hj, Softmax.grad_bot hs hσ g' hj]
  · rw [Softmax.grad, Softmax.grad, mean_congr hs hσ e, e j hj]

/-- The sum over 512 rows is the sum over four query heads of 128 rows each. -/
theorem sum_rows (f : Fin 512 → EReal) :
    ∑ r, f r = ∑ g : Fin 4, ∑ a : Fin 128, f ⟨g.val * 128 + a.val, by omega⟩ := by
  rw [← Fintype.sum_prod_type' (f := fun (g : Fin 4) (a : Fin 128) => f ⟨g.val * 128 + a.val, by omega⟩)]
  refine (Fintype.sum_equiv ((finProdFinEquiv (m := 4) (n := 128)).trans (finCongr (by norm_num))) _ _ fun x => ?_).symm
  congr 1
  apply Fin.ext
  simp [finProdFinEquiv]
  omega

end Cert.Attn

end
-- ==== Proof.HeadsValue.lean ====
module

public import proofs.«01_k».proof.Proof.Rows
public import proofs.«01_k».proof.Proof.HeadValue
public import proofs.«01_k».proof.Proof.Attn

@[expose] public section

noncomputable section

namespace Cert.KernelIdeal.Grad

open Cert.KernelIdeal Cert.KernelIdeal.Gen
open Idealize.ShloMosaic Idealize.ShloMosaic.TcCoe
open Cert.Attn (Arrays Seen tok prev band)

/-! # The four heads' work at a block, as the attention's gradients -/

/-- The band of a block as the kernel reads it: at the first block the columns before it hold the block's own rows. -/
def near (f : Fin 2048 → EReal) (n : Fin 16) (j : Fin 256) : EReal :=
  if h : j.val < 128 then f (tok (prev n) ⟨j.val, h⟩) else f (tok n ⟨j.val - 128, by omega⟩)

theorem near_seen (f : Fin 2048 → EReal) {n : Fin 16} {a : Fin 128} {j : Fin 256} (hj : Seen n a j) : near f n j = band 0 f n j := by
  unfold near band
  split
  · rw [if_neg]
    intro hn
    have := hj.2.2 hn
    omega
  · rfl

/-- The heads' operands are block `n`'s parts of the arrays. -/
structure ReadsOf (H : Heads Ideal) (A : Arrays) (n : Fin 16) : Prop where
  q : ∀ h g a d, H.q h (ix2 (row g a) d) = A.q h g (tok n a) d
  k : ∀ h j d, H.k h (ix2 j d) = near (fun t => A.k h t d) n j
  v : ∀ h j d, H.v h (ix2 j d) = near (fun t => A.v h t d) n j
  d : ∀ h g a d, H.d h (ix2 (row g a) d) = A.o (tok n a) h g d
  mask : ∀ g a j, H.mask (ix2 (row g a) j) = if Seen n a j then 0 else ⊥
  sink : ∀ h g a, H.sink h (ix2 (row g a) 0) = A.z h g

namespace ReadsOf

variable {H : Heads Ideal} {A : Arrays} {n : Fin 16} (R : ReadsOf H A n)
include R

theorem s_at (h g : Fin 4) (a : Fin 128) (j : Fin 256) : H.s h (ix2 (row g a) j) = A.score h g n a j := by
  rw [Heads.s, score_at, R.mask]
  simp only [R.q, R.k]
  exact Cert.Attn.score_added h g n a j (fun d => near (fun t => A.k h t d) n j) fun hs d => near_seen _ hs

theorem s_row (h g : Fin 4) (a : Fin 128) : (fun j => H.s h (ix2 (row g a) j)) = A.score h g n a :=
  funext fun j => R.s_at h g a j

theorem p_at (h g : Fin 4) (a : Fin 128) (j : Fin 256) : H.p h (ix2 (row g a) j) = A.prob h g n a j := by
  rw [Heads.p, prob_at, R.s_row, R.sink]
  rfl

theorem dp_at (h g : Fin 4) (a : Fin 128) {j : Fin 256} (hj : Seen n a j) : H.dp h (ix2 (row g a) j) = A.probGrad h g n a j := by
  rw [Heads.dp, probGrad_at]
  simp only [R.d, R.v, near_seen _ hj]
  rfl

variable (hA : A.Finite)
include hA

theorem dp_score (h g : Fin 4) (a : Fin 128) (j : Fin 256) (hj : A.score h g n a j ≠ ⊥) :
    H.dp h (ix2 (row g a) j) = A.probGrad h g n a j :=
  R.dp_at h g a (Decidable.byContradiction fun hs => hj (Cert.Attn.score_unseen hs))

theorem ds_at (h g : Fin 4) (a : Fin 128) (j : Fin 256) : H.ds h (ix2 (row g a) j) = A.grad h g n a j := by
  rw [Heads.ds, Heads.p, scoreGrad_at, R.s_row, R.sink]
  exact Cert.Attn.grad_congr (Cert.Attn.score_ne_top hA h g n a) (hA.z h g) (R.dp_score hA h g a) j

theorem dsink_at (h g : Fin 4) (a : Fin 128) :
    H.dsink h (ix2 (row g a) 0) = Cert.Softmax.sinkGrad (A.score h g n a) (A.z h g) (A.probGrad h g n a) := by
  rw [Heads.dsink, Heads.p, sinkPart_at, R.s_row, R.sink, Cert.Softmax.sinkGrad, Cert.Softmax.sinkGrad,
    Cert.Attn.mean_congr (Cert.Attn.score_ne_top hA h g n a) (hA.z h g) (R.dp_score hA h g a)]

theorem dq_at (h g : Fin 4) (a : Fin 128) (d : Fin 64) : H.dq h (ix2 (row g a) d) = A.dq h g n a d := by
  rw [Heads.dq, queryGrad_at, Arrays.dq]
  congr 1
  refine Finset.sum_congr rfl fun j _ => ?_
  rw [R.ds_at hA, R.k]
  by_cases hs : Seen n a j
  · rw [near_seen _ hs]
  · rw [Cert.Attn.grad_unseen hA hs, zero_mul, zero_mul]

theorem dk_at (h : Fin 4) (j : Fin 256) (d : Fin 64) : H.dk h (ix2 j d) = A.dkBand h n j d := by
  rw [Heads.dk, keyGrad_at, Arrays.dkBand, Cert.Attn.sum_rows]
  congr 1
  refine Finset.sum_congr rfl fun g _ => Finset.sum_congr rfl fun a _ => ?_
  exact congrArg₂ _ (R.ds_at hA h g a j) (R.q h g a d)

omit hA in
theorem dv_at (h : Fin 4) (j : Fin 256) (d : Fin 64) : H.dv h (ix2 j d) = A.dvBand h n j d := by
  rw [Heads.dv, valueGrad_at, Arrays.dvBand, Cert.Attn.sum_rows]
  refine Finset.sum_congr rfl fun g _ => Finset.sum_congr rfl fun a _ => ?_
  exact congrArg₂ _ (R.p_at h g a j) (R.d h g a d)

/-- The tile of head `h` holds the sums of its four sinks. -/
theorem tile_at (h : Fin 4) (u : Fin 8) (l : Fin 128) :
    sinkTile (H.dsink h) (ix2 u l) = if e : u.val = 0 ∧ l.val < 4 then
      ∑ a, Cert.Softmax.sinkGrad (A.score h ⟨l.val, e.2⟩ n a) (A.z h ⟨l.val, e.2⟩) (A.probGrad h ⟨l.val, e.2⟩ n a) else 0 := by
  rw [sinkTile_at]
  split
  · exact Finset.sum_congr rfl fun a _ => R.dsink_at hA h _ a
  · rfl

end ReadsOf

end Cert.KernelIdeal.Grad

end
-- ==== Proof.Blocks.lean ====
module

public import proofs.«01_k».proof.Proof.Carried
public import proofs.«01_k».proof.Proof.HeadsValue
public import Idealize.ShloMosaic.Lib.Pointwise
public import Idealize.ShloMosaic.Lib.Claim
public import Idealize.ShloMosaic.Lib.Pipeline.ValueKit

@[expose] public section

noncomputable section

namespace Cert.KernelIdeal.Grad

open Cert.KernelIdeal Cert.KernelIdeal.Gen
open Idealize.ShloMosaic Idealize.ShloMosaic.TcCoe
open Cert.Attn (Arrays Seen tok prev band)

/-! # The blocks of a point, as parts of the arrays -/

variable (m : (ℓ : Loc nD τ sig) → Buf (Elt Ideal) ℓ) (c : Dev nD)

/-- The arguments as the attention's arrays. -/
def arrays : Arrays where
  q h g t d := (m ((c.tc : Thread nD τ).loc main_arg0) : FVec Ideal S4x4x2048x64 .bf16) (ix4 h g t d)
  k h t d := (m ((c.tc : Thread nD τ).loc main_arg1) : FVec Ideal S4x2048x64 .bf16) (ix3 h t d)
  v h t d := (m ((c.tc : Thread nD τ).loc main_arg2) : FVec Ideal S4x2048x64 .bf16) (ix3 h t d)
  z h g := (m ((c.tc : Thread nD τ).loc main_arg3) : FVec Ideal S16 .f32) (ix1 ⟨h.val * 4 + g.val, by omega⟩)
  o t h g d := (m ((c.tc : Thread nD τ).loc main_arg4) : FVec Ideal S2048x1024 .bf16) (ix2 t ⟨h.val * 256 + g.val * 64 + d.val, by omega⟩)

theorem idx_in : ∀ t : Fin cfg0.N, win0_0.index t = ![0] ∧ win0_1.index t = ![0, 0, 0] ∧ win0_2.index t = ![0, 0, t.val, 0]
    ∧ win0_3.index t = ![0, t.val, 0] ∧ win0_4.index t = ![0, t.val - 1, 0] ∧ win0_5.index t = ![0, t.val, 0] ∧ win0_6.index t = ![0, t.val - 1, 0]
    ∧ win0_7.index t = ![t.val, 0] :=
  (by decide +kernel : ∀ t : Fin grid0.N, _)

/-- The number of point `t`'s block. -/
abbrev blockAt (t : Fin cfg0.N) : Fin 16 := ⟨t.val, lt_of_lt_of_eq t.isLt (show cfg0.N = 16 from N_0)⟩

theorem block_0 (t : Fin cfg0.N) (x : Fin 16) : iblk m c 0 t (ix1 x) = m ((c.tc : Thread nD τ).loc main_arg3) (ix1 x) := by
  blk_ext [iblk, V, (idx_in t).1]
theorem block_2 (t : Fin cfg0.N) (h g : Fin 4) (a : Fin 128) (d : Fin 64) : iblk m c 2 t (ix4 h g a d) = m ((c.tc : Thread nD τ).loc main_arg0) (ix4 h g (tok (blockAt t) a) d) := by
  blk_ext [iblk, V, (idx_in t).2.2.1]
theorem block_3 (t : Fin cfg0.N) (h : Fin 4) (a : Fin 128) (d : Fin 64) : iblk m c 3 t (ix3 h a d) = m ((c.tc : Thread nD τ).loc main_arg1) (ix3 h (tok (blockAt t) a) d) := by
  blk_ext [iblk, V, (idx_in t).2.2.2.1]
theorem block_4 (t : Fin cfg0.N) (h : Fin 4) (a : Fin 128) (d : Fin 64) : iblk m c 4 t (ix3 h a d) = m ((c.tc : Thread nD τ).loc main_arg1) (ix3 h (tok (prev (blockAt t)) a) d) := by
  blk_ext [iblk, V, (idx_in t).2.2.2.2.1]
theorem block_5 (t : Fin cfg0.N) (h : Fin 4) (a : Fin 128) (d : Fin 64) : iblk m c 5 t (ix3 h a d) = m ((c.tc : Thread nD τ).loc main_arg2) (ix3 h (tok (blockAt t) a) d) := by
  blk_ext [iblk, V, (idx_in t).2.2.2.2.2.1]
theorem block_6 (t : Fin cfg0.N) (h : Fin 4) (a : Fin 128) (d : Fin 64) : iblk m c 6 t (ix3 h a d) = m ((c.tc : Thread nD τ).loc main_arg2) (ix3 h (tok (prev (blockAt t)) a) d) := by
  blk_ext [iblk, V, (idx_in t).2.2.2.2.2.2.1]
theorem block_7 (t : Fin cfg0.N) (a : Fin 128) (x : Fin 1024) : iblk m c 7 t (ix2 a x) = m ((c.tc : Thread nD τ).loc main_arg4) (ix2 (tok (blockAt t) a) x) := by
  blk_ext [iblk, V, (idx_in t).2.2.2.2.2.2.2]

theorem block_1 (t : Fin cfg0.N) (b : Fin 2) (r : Fin 512) (j : Fin 256) : iblk m c 1 t (ix3 b r j) = V m c main_v24 (ix3 b r j) := by
  blk_ext [iblk, (idx_in t).2.1]

/-- The modulus the rows' numbers are taken by, with the guard against zero. -/
def modulus : IVec S_ 32 :=
  select (cmpi .eq (id (constantI S_ 32 128#32)) (constantI S_ 32 0#32)) (constantI S_ 32 1#32) (id (constantI S_ 32 128#32))
/-- The remainder of each row's number, before its sign is set right. -/
def remainder : IVec S512x1 32 :=
  Host.remsi (broadcastInDim S512x1 ![0] bcast_S512_S512x1_0 (iotaInDim S512 32 0)) (broadcastInDim S512x1 ![] bcast_S_S512x1 modulus)
/-- Each row's position among its query head's 128. -/
def position : IVec S512x1 32 :=
  select (andi (cmpi .ne (cmpi .slt remainder (broadcastInDim S512x1 ![] bcast_S_S512x1 (constantI S_ 32 0#32))) (broadcastInDim S512x1 ![] bcast_S_S512x1 (cmpi .slt modulus (constantI S_ 32 0#32))))
      (cmpi .ne remainder (broadcastInDim S512x1 ![] bcast_S_S512x1 (constantI S_ 32 0#32))))
    (addi remainder (broadcastInDim S512x1 ![] bcast_S_S512x1 modulus)) remainder
/-- How far before its row each column lies. -/
def distance : IVec S512x256 32 :=
  subi (broadcastInDim S512x256 ![0, 1] bcast_S512x1_S512x256_0_1 (addi position (broadcastInDim S512x1 ![] bcast_S_S512x1 (constantI S_ 32 128#32))))
    (broadcastInDim S512x256 ![0, 1] bcast_S1x256_S512x256_0_1 (broadcastInDim S1x256 ![1] bcast_S256_S1x256_1 (iotaInDim S256 32 0)))
/-- Whether a column lies in the row's window. -/
def inWindow : IVec S512x256 1 :=
  andi (cmpi .sge distance (broadcastInDim S512x256 ![] bcast_S_S512x256 (constantI S_ 32 0#32))) (cmpi .slt distance (broadcastInDim S512x256 ![] bcast_S_S512x256 (constantI S_ 32 128#32)))
/-- Whether a column belongs to the block itself. -/
def ownColumn : IVec S512x256 1 :=
  broadcastInDim S512x256 ![0, 1] bcast_S1x256_S512x256_0_1 (cmpi .sge (broadcastInDim S1x256 ![1] bcast_S256_S1x256_1 (iotaInDim S256 32 0)) (broadcastInDim S1x256 ![] bcast_S_S1x256 (constantI S_ 32 128#32)))
/-- A mask's additive table. -/
def additive (x : IVec S512x256 1) : FVec Ideal S512x256 .f32 :=
  select x (broadcastInDim S512x256 ![] bcast_S_S512x256 (constant S_ .f32 0x00000000#32)) (broadcastInDim S512x256 ![] bcast_S_S512x256 (constant S_ .f32 0xFF800000#32))
/-- The two tables, the first block's and every later one's. -/
def tables : FVec Ideal S2x512x256 .f32 :=
  concatenate S2x512x256 0 [⟨S1x512x256, broadcastInDim S1x512x256 ![1, 2] bcast_S512x256_S1x512x256_1_2 (additive (andi inWindow ownColumn))⟩,
    ⟨S1x512x256, broadcastInDim S1x512x256 ![1, 2] bcast_S512x256_S1x512x256_1_2 (additive inWindow)⟩] concatenates_S1x512x256_S1x512x256_S2x512x256_d0

/-- The host's lines leave the tables. -/
theorem tables_eq : V m c main_v24 = tables := by
  unfold V
  simp only [List.flatten_cons, List.flatten_nil, List.append_nil, hostOps0, hostOps0_1, hostOps0_2, hostOps0_3, hostOps0_4, hostOps0_5, hostOps0_6, List.cons_append, List.nil_append, StableHlo.TRef.unary, StableHlo.TRef.binary, StableHlo.TRef.ternary, StableHlo.TRef.nullary, StableHlo.TRef.toBuf, StableHlo.TRef.ofBuf, cast_eq]
  after_results_simp
  after_results_loop
  rfl

/-- The words of a row's position. -/
theorem position_word : ∀ r : Fin 512, Scalar.select (IntOp.andi (IntOp.cmpi .ne (IntOp.cmpi .slt (IntOp.remsi .host (BitVec.ofNat 32 r.val) 128#32) 0#32) (IntOp.cmpi .slt 128#32 0#32)) (IntOp.cmpi .ne (IntOp.remsi .host (BitVec.ofNat 32 r.val) 128#32) 0#32))
    (IntOp.addi (IntOp.remsi .host (BitVec.ofNat 32 r.val) 128#32) 128#32) (IntOp.remsi .host (BitVec.ofNat 32 r.val) 128#32) = BitVec.ofNat 32 (r.val % 128) := by
  decide +kernel

theorem modulus_at : modulus ix0 = 128#32 := rfl

theorem position_at (r : Fin 512) : position (ix2 r 0) = BitVec.ofNat 32 (r.val % 128) := by
  have e := modulus_at
  rw [← position_word r]
  pointwise [position, remainder]
  simp only [e]

/-- The words of a row's window. -/
theorem window_word : ∀ (a : Fin 128) (j : Fin 256), IntOp.andi
      (IntOp.cmpi .sge (IntOp.subi (IntOp.addi (BitVec.ofNat 32 a.val) 128#32) (BitVec.ofNat 32 j.val)) 0#32)
      (IntOp.cmpi .slt (IntOp.subi (IntOp.addi (BitVec.ofNat 32 a.val) 128#32) (BitVec.ofNat 32 j.val)) 128#32) =
    BitVec.ofBool (decide (a.val < j.val ∧ j.val ≤ a.val + 128)) := by
  decide +kernel

theorem inWindow_at (r : Fin 512) (j : Fin 256) : inWindow (ix2 r j) = BitVec.ofBool (decide (r.val % 128 < j.val ∧ j.val ≤ r.val % 128 + 128)) := by
  have e := position_at r
  pointwise [inWindow, distance]
  rw [e]
  exact window_word ⟨r.val % 128, by omega⟩ j

theorem ownColumn_at (r : Fin 512) (j : Fin 256) : ownColumn (ix2 r j) = BitVec.ofBool (decide (128 ≤ j.val)) := by
  pointwise [ownColumn]
  have := j.isLt
  simp (disch := word_cmp_side) only [hlo_ix]

theorem table_at (b : Fin 2) (r : Fin 512) (j : Fin 256) :
    tables (ix3 b r j) = if (r.val % 128 < j.val ∧ j.val ≤ r.val % 128 + 128 ∧ (b.val = 0 → 128 ≤ j.val)) then (0 : EReal) else ⊥ := by
  have e := inWindow_at r j
  have e' := ownColumn_at r j
  pointwise [tables, additive]
  rw [e, e', Cert.Softmax.negInf]
  have hb := b.isLt
  simp (disch := word_cmp_side) only [hlo_ix]
  split_ifs <;> first | rfl | omega

end Cert.KernelIdeal.Grad

end
-- ==== Proof.HeadsAt.lean ====
module

public import proofs.«01_k».proof.Proof.Blocks
public import Idealize.ShloMosaic.Lib.Pointwise
public import Idealize.ShloMosaic.Lib.Claim
public import Idealize.ShloMosaic.Lib.Pipeline.ValueKit

@[expose] public section

noncomputable section

namespace Cert.KernelIdeal.Grad

open Cert.KernelIdeal Cert.KernelIdeal.Gen
open Idealize.ShloMosaic Idealize.ShloMosaic.TcCoe
open Cert.Attn (Arrays Seen tok prev band)

variable (m : (ℓ : Loc nD τ sig) → Buf (Elt Ideal) ℓ) (c : Dev nD)

/-- The heads' operands at point `t` are block `t`'s parts of the arrays. -/
theorem headsAt_reads (t : Fin cfg0.N) : ReadsOf (headsAt m c t) (arrays m c) (blockAt t) where
  q h g a d := by
    have e1 : grp (row g a) = g := Fin.ext (by have := a.isLt; simp only; omega)
    have e2 : pos (row g a) = a := Fin.ext (by have := a.isLt; simp only; omega)
    show iblk m c 2 t (ix4 h (grp (row g a)) (pos (row g a)) d) = _
    rw [e1, e2]
    exact block_2 m c t h g a d
  k h j d := by
    unfold near
    by_cases hj : j.val < 128
    · rw [dif_pos hj]
      exact (dif_pos hj).trans (block_4 m c t h ⟨j.val, hj⟩ d)
    · rw [dif_neg hj]
      exact (dif_neg hj).trans (block_3 m c t h _ d)
  v h j d := by
    unfold near
    by_cases hj : j.val < 128
    · rw [dif_pos hj]
      exact (dif_pos hj).trans (block_6 m c t h ⟨j.val, hj⟩ d)
    · rw [dif_neg hj]
      exact (dif_neg hj).trans (block_5 m c t h _ d)
  d h g a d := by
    have e1 : grp (row g a) = g := Fin.ext (by have := a.isLt; simp only; omega)
    have e2 : pos (row g a) = a := Fin.ext (by have := a.isLt; simp only; omega)
    refine (block_7 m c t (pos (row g a)) ⟨h.val * 256 + (grp (row g a)).val * 64 + d.val, by omega⟩).trans ?_
    rw [e2]
    refine congrArg (m ((c.tc : Thread nD τ).loc main_arg4) : FVec Ideal S2048x1024 .bf16) ?_
    exact congrArg (ix2 _) (Fin.ext (by show h.val * 256 + (grp (row g a)).val * 64 + d.val = _; rw [e1]))
  mask g a j := by
    have e2 : (row g a).val % 128 = a.val := by have := a.isLt; simp only; omega
    have e3 : (tableOf (grid0.coords t)).val = 0 ↔ t.val = 0 := by
      have e := block_of t
      show min ((grid0.coords t) 1).val 1 = 0 ↔ _
      omega
    refine (block_1 m c t (tableOf (grid0.coords t)) (row g a) j).trans ?_
    rw [tables_eq]
    refine (table_at _ _ _).trans ?_
    unfold Seen
    rw [e2]
    simp only [e3]
  sink h g a := by
    have e1 : grp (row g a) = g := Fin.ext (by have := a.isLt; simp only; omega)
    refine (block_0 m c t ⟨h.val * 4 + (grp (row g a)).val, by omega⟩).trans ?_
    refine congrArg (m ((c.tc : Thread nD τ).loc main_arg3) : FVec Ideal S16 .f32) ?_
    exact congrArg ix1 (Fin.ext (by show h.val * 4 + (grp (row g a)).val = _; rw [e1]))

end Cert.KernelIdeal.Grad

end
-- ==== Proof.KernelValue.lean ====
module

public import proofs.«01_k».proof.Proof.HeadsAt
public import Idealize.ShloMosaic.Lib.Pipeline.ValueKit

@[expose] public section

set_option maxRecDepth 16384

noncomputable section

namespace Cert.KernelIdeal.Grad

open Cert.KernelIdeal Cert.KernelIdeal.Gen
open Idealize.ShloMosaic Idealize.ShloMosaic.TcCoe
open Idealize.ShloMosaic.Pipeline (Dat)
open Cert.Attn (Arrays)

/-! # The kernel's results, as the attention's gradients -/

/-- The queries' gradient as an array. -/
def arrayQ (A : Arrays) : FVec Ideal S4x4x2048x64 .f32 := fun y =>
  A.dq (y 0) (y 1) ⟨(y 2).val / 128, by have : (y 2).val < 2048 := (y 2).isLt; omega⟩ ⟨(y 2).val % 128, by omega⟩ (y 3)
/-- The keys' gradient as an array. -/
def arrayK (A : Arrays) : FVec Ideal S4x2048x64 .f32 := fun y =>
  A.dk (y 0) ⟨(y 1).val / 128, by have : (y 1).val < 2048 := (y 1).isLt; omega⟩ ⟨(y 1).val % 128, by omega⟩ (y 2)
/-- The values' gradient as an array. -/
def arrayV (A : Arrays) : FVec Ideal S4x2048x64 .f32 := fun y =>
  A.dv (y 0) ⟨(y 1).val / 128, by have : (y 1).val < 2048 := (y 1).isLt; omega⟩ ⟨(y 1).val % 128, by omega⟩ (y 2)
/-- The sinks' gradient as an array: lanes 0 to 3 of row 0 of each tile. -/
def arrayZ (A : Arrays) : FVec Ideal S4x8x128 .f32 := fun y =>
  if e : (y 1).val = 0 ∧ (y 2).val < 4 then A.dz (y 0) ⟨(y 2).val, e.2⟩ else 0

theorem zero_at (s : Shape) (y : s.Idx) : (broadcast s (Scalar.ofBits (F := Ideal) .f32 0x00000000#32) : FVec Ideal s .f32) y = (0 : EReal) :=
  Ideal.ofBits_zero_f32

theorem addBand_at (n : ℕ) (C : Fin 4 → FVec Ideal S256x64 .f32) (A : Vec Ideal S4x2048x64 .f32) (h : Fin 4) (y : Fin 2048) (d : Fin 64) :
    addBand n C A (ix3 h y d) =
      (let a : EReal := if y.val / 128 = n then A (ix3 h y d) + C h (ix2 ⟨128 + y.val % 128, by omega⟩ d) else A (ix3 h y d)
       if y.val / 128 = n - 1 then a + C h (ix2 ⟨y.val % 128, by omega⟩ d) else a) := rfl

/-- What is carried of a band's gradient: each block's own part once its point has run, and the next block's once that one has. -/
theorem carried_band (C : Fin cfg0.N → Fin 4 → FVec Ideal S256x64 .f32) (f : Fin 16 → Fin 4 → Fin 256 → Fin 64 → EReal)
    (hC : ∀ t h j d, C t h (ix2 j d) = f (blockAt t) h j d) (h0 : ∀ n h j d, n.val = 0 → j.val < 128 → f n h j d = 0)
    (h : Fin 4) (y : Fin 2048) (d : Fin 64) (n : ℕ) (hn : n < cfg0.N) :
    carried (broadcast S4x2048x64 (Scalar.ofBits .f32 0x00000000#32)) (fun t A => addBand ((grid0.coords t) 1).val (C t) A) n hn (ix3 h y d)
      = (if y.val / 128 ≤ n then f ⟨y.val / 128, by omega⟩ h ⟨128 + y.val % 128, by omega⟩ d else 0)
        + (if e : y.val / 128 + 1 ≤ n then f ⟨y.val / 128 + 1, lt_of_le_of_lt e (lt_of_lt_of_eq hn (show cfg0.N = 16 from N_0))⟩ h ⟨y.val % 128, by omega⟩ d else 0) := by
  have hN : cfg0.N = 16 := N_0
  induction n with
  | zero =>
    refine (addBand_at _ (C ⟨0, hn⟩) _ h y d).trans ?_
    rw [block_of, zero_at]
    dsimp only
    by_cases hb : y.val / 128 = 0
    · rw [if_pos hb, if_pos (by omega), if_pos (by omega), dif_neg (by omega), hC, hC, h0 (blockAt ⟨0, hn⟩) h ⟨y.val % 128, by omega⟩ d rfl (by simp only; omega), zero_add]
      simp only [blockAt, hb]
    · rw [if_neg hb, if_neg (by omega), if_neg (by omega), dif_neg (by omega), add_zero]
  | succ n ih =>
    refine (addBand_at _ (C ⟨n + 1, hn⟩) _ h y d).trans ?_
    rw [block_of, ih (Nat.lt_of_succ_lt hn), hC, hC]
    dsimp only [blockAt]
    rcases lt_trichotomy (y.val / 128) n with hb | hb | hb
    · rw [if_neg (by omega), if_neg (by omega), if_pos (by omega), if_pos (by omega), dif_pos (by omega), dif_pos (by omega)]
    · rw [if_pos (by omega), if_neg (by omega), if_pos (by omega), if_pos (by omega), dif_neg (by omega), dif_pos (by omega), add_zero]
      simp only [hb]
    · rw [if_neg (show ¬ y.val / 128 = n + 1 - 1 by omega), dif_neg (by omega), dif_neg (by omega), add_zero, add_zero, if_neg (show ¬ y.val / 128 ≤ n by omega), zero_add]
      by_cases hc : y.val / 128 = n + 1
      · rw [if_pos hc, if_pos (by omega)]
        simp only [hc]
      · rw [if_neg hc, if_neg (by omega)]

/-- What is carried of the tiles is the sum over the points that have run. -/
theorem carried_tiles (C : Fin cfg0.N → Fin 4 → FVec Ideal S512x1 .f32) (h : Fin 4) (u : Fin 8) (l : Fin 128) (n : ℕ) (hn : n < cfg0.N) :
    carried (broadcast S4x8x128 (Scalar.ofBits .f32 0x00000000#32)) (fun t A => addTiles (C t) A) n hn (ix3 h u l)
      = ∑ k : Fin (n + 1), (sinkTile (C ⟨k.val, lt_of_le_of_lt (Nat.le_of_lt_succ k.isLt) hn⟩ h) (ix2 u l) : EReal) := by
  induction n with
  | zero =>
    refine (congrArg (fun x : EReal => x + sinkTile (C ⟨0, hn⟩ h) (ix2 u l)) (zero_at _ _)).trans ?_
    simp
  | succ n ih =>
    rw [Fin.sum_univ_castSucc]
    exact congrArg (fun x : EReal => x + sinkTile (C ⟨n + 1, hn⟩ h) (ix2 u l)) (ih (Nat.lt_of_succ_lt hn))

variable (m : (ℓ : Loc nD τ sig) → Buf (Elt Ideal) ℓ) (c : Dev nD) (hA : (arrays m c).Finite)
include hA

theorem fold_all (f : Fin 16 → Fin 256 → EReal) (n : Fin 16) (b : Fin 128) :
    (if n.val ≤ 15 then f n ⟨128 + b.val, by omega⟩ else 0) + (if e : n.val + 1 ≤ 15 then f ⟨n.val + 1, by omega⟩ ⟨b.val, by omega⟩ else 0) = Cert.Attn.fold f n b := by
  unfold Cert.Attn.fold
  rw [if_pos (by omega)]
  by_cases e : n.val + 1 ≤ 15
  · rw [dif_pos e, dif_pos (by omega)]
  · rw [dif_neg e, dif_neg (by omega)]

theorem keys_last (hn : 15 < cfg0.N) : keysAt m c 15 hn = arrayK (arrays m c) := by
  funext y
  obtain ⟨h, t, d, rfl⟩ : ∃ (h : Fin 4) (t : Fin 2048) (d : Fin 64), y = ix3 h t d := ⟨y 0, y 1, y 2, (ix3_eta y).symm⟩
  refine (carried_band (fun t => (headsAt m c t).dk) (fun n h j d => (arrays m c).dkBand h n j d) (fun t h j d => (headsAt_reads m c t).dk_at hA h j d)
    (fun n h j d e e' => Cert.Attn.dkBand_first hA h e e' d) h t d 15 hn).trans ?_
  exact fold_all m c hA (fun n j => (arrays m c).dkBand h n j d) ⟨t.val / 128, by omega⟩ ⟨t.val % 128, by omega⟩

theorem values_last (hn : 15 < cfg0.N) : valuesAt m c 15 hn = arrayV (arrays m c) := by
  funext y
  obtain ⟨h, t, d, rfl⟩ : ∃ (h : Fin 4) (t : Fin 2048) (d : Fin 64), y = ix3 h t d := ⟨y 0, y 1, y 2, (ix3_eta y).symm⟩
  refine (carried_band (fun t => (headsAt m c t).dv) (fun n h j d => (arrays m c).dvBand h n j d) (fun t h j d => (headsAt_reads m c t).dv_at h j d)
    (fun n h j d e e' => Cert.Attn.dvBand_first hA h e e' d) h t d 15 hn).trans ?_
  exact fold_all m c hA (fun n j => (arrays m c).dvBand h n j d) ⟨t.val / 128, by omega⟩ ⟨t.val % 128, by omega⟩

theorem tiles_last (hn : 15 < cfg0.N) : tilesAt m c 15 hn = arrayZ (arrays m c) := by
  funext y
  obtain ⟨h, u, l, rfl⟩ : ∃ (h : Fin 4) (u : Fin 8) (l : Fin 128), y = ix3 h u l := ⟨y 0, y 1, y 2, (ix3_eta y).symm⟩
  refine (carried_tiles (fun t => (headsAt m c t).dsink) h u l 15 hn).trans ?_
  refine (Finset.sum_congr rfl fun k _ => (headsAt_reads m c _).tile_at hA h u l).trans ?_
  show _ = if e : u.val = 0 ∧ l.val < 4 then (arrays m c).dz h ⟨l.val, e.2⟩ else 0
  by_cases e : u.val = 0 ∧ l.val < 4
  · simp only [dif_pos e]
    rfl
  · simp only [dif_neg e]
    exact Finset.sum_const_zero

omit hA in
theorem idx_out : ∀ t : Fin cfg0.N, win0_8.index t = ![0, 0, t.val, 0] ∧ win0_9.index t = ![0, 0, 0] ∧ win0_10.index t = ![0, 0, 0] ∧ win0_11.index t = ![0, 0, 0] :=
  (by decide +kernel : ∀ t : Fin grid0.N, _)

theorem queries_block (t : Fin cfg0.N) (y : S4x4x128x64.Idx) (z : S4x4x2048x64.Idx)
    (h0 : (z 0).val = (y 0).val) (h1 : (z 1).val = (y 1).val) (h2 : (z 2).val = 128 * t.val + (y 2).val) (h3 : (z 3).val = (y 3).val) :
    qBlock (headsAt m c t).dq y = arrayQ (arrays m c) z := by
  obtain ⟨h, g, a, d, rfl⟩ : ∃ (h : Fin 4) (g : Fin 4) (a : Fin 128) (d : Fin 64), y = ix4 h g a d := ⟨y 0, y 1, y 2, y 3, (ix4_eta y).symm⟩
  obtain ⟨h', g', x, d', rfl⟩ : ∃ (h : Fin 4) (g : Fin 4) (a : Fin 2048) (d : Fin 64), z = ix4 h g a d := ⟨z 0, z 1, z 2, z 3, (ix4_eta z).symm⟩
  replace h0 : h'.val = h.val := h0
  replace h1 : g'.val = g.val := h1
  replace h2 : x.val = 128 * t.val + a.val := h2
  replace h3 : d'.val = d.val := h3
  obtain rfl := Fin.ext h0
  obtain rfl := Fin.ext h1
  obtain rfl := Fin.ext h3
  refine ((headsAt_reads m c t).dq_at hA h' g' a d').trans ?_
  show (arrays m c).dq h' g' (blockAt t) a d' = (arrays m c).dq h' g' ⟨x.val / 128, _⟩ ⟨x.val % 128, _⟩ d'
  have e1 : blockAt t = ⟨x.val / 128, by omega⟩ := Fin.ext (by show t.val = x.val / 128; omega)
  have e2 : a = ⟨x.val % 128, by omega⟩ := Fin.ext (by show a.val = x.val % 128; omega)
  rw [← e1, ← e2]

theorem final_8 : (data m 0 c).arrAt 8 (cfgs 0).N = arrayQ (arrays m c) := by
  refine (data m 0 c).arrAt_eq_of_covers 8 _ (by decide +kernel) fun t _ y => ?_
  blk_simp
  rw [after_8]
  have hi := (idx_out t).1
  refine queries_block m c hA t y _ ?_ ?_ ?_ ?_ <;> simp [hi, Nat.mul_comm]

/-- The last point. -/
abbrev lastPoint : Fin cfg0.N := ⟨15, by decide +kernel⟩

theorem final_9 : (data m 0 c).arrAt 9 (cfgs 0).N = arrayK (arrays m c) := by
  refine (data m 0 c).arrAt_eq_of_after_last 9 lastPoint (by decide +kernel) _ fun j => ?_
  blk_simp
  rw [after_9]
  exact congrFun (keys_last m c hA _) j

theorem final_10 : (data m 0 c).arrAt 10 (cfgs 0).N = arrayV (arrays m c) := by
  refine (data m 0 c).arrAt_eq_of_after_last 10 lastPoint (by decide +kernel) _ fun j => ?_
  blk_simp
  rw [after_10]
  exact congrFun (values_last m c hA _) j

theorem final_11 : (data m 0 c).arrAt 11 (cfgs 0).N = arrayZ (arrays m c) := by
  refine (data m 0 c).arrAt_eq_of_after_last 11 lastPoint (by decide +kernel) _ fun j => ?_
  blk_simp
  rw [after_11]
  exact congrFun (tiles_last m c hA _) j

end Cert.KernelIdeal.Grad

end
-- ==== Proof.ReferenceReads.lean ====
module

public import proofs.«01_k».proof.Proof.Gen.ReferenceIdeal.Run
public import proofs.«01_k».proof.Proof.Attn
public import Idealize.ShloMosaic.Lib.Pointwise
public import Idealize.ShloMosaic.Lib.WordCmp

@[expose] public section

set_option maxRecDepth 16384

noncomputable section

namespace Cert.ReferenceIdeal.Grad

open Cert.ReferenceIdeal Cert.ReferenceIdeal.Gen Cert.ReferenceIdeal.Value
open Idealize.ShloMosaic Idealize.ShloMosaic.TcCoe Idealize.ShloMosaic.StableHlo
open Cert.Attn (Arrays Seen tok prev band)

variable (V0 : Valuation τ sig (Elt Ideal))

/-- The arguments as the attention's arrays. -/
def arrays : Arrays where
  q h g t d := (V0 (Proc.devRef .tc main_arg0) : FVec Ideal S4x4x2048x64 .bf16) (ix4 h g t d)
  k h t d := (V0 (Proc.devRef .tc main_arg1) : FVec Ideal S4x2048x64 .bf16) (ix3 h t d)
  v h t d := (V0 (Proc.devRef .tc main_arg2) : FVec Ideal S4x2048x64 .bf16) (ix3 h t d)
  z h g := (V0 (Proc.devRef .tc main_arg3) : FVec Ideal S16 .f32) (ix1 ⟨h.val * 4 + g.val, by omega⟩)
  o t h g d := (V0 (Proc.devRef .tc main_arg4) : FVec Ideal S2048x1024 .bf16) (ix2 t ⟨h.val * 256 + g.val * 64 + d.val, by omega⟩)

theorem keys_at (t : Fin 2048) (h : Fin 4) (d : Fin 64) :
    (res_main_v6 V0 : FVec Ideal S1x2048x4x64 .f32) (ix4 0 t h d) = (arrays V0).k h t d := by
  unfold res_main_v6 arrays
  generalize V0 (Proc.devRef .tc main_arg1) = x
  pointwise

theorem values_at (t : Fin 2048) (h : Fin 4) (d : Fin 64) :
    (res_main_v8 V0 : FVec Ideal S1x2048x4x64 .f32) (ix4 0 t h d) = (arrays V0).v h t d := by
  unfold res_main_v8 arrays
  generalize V0 (Proc.devRef .tc main_arg2) = x
  pointwise

theorem queries_at (n : Fin 16) (a : Fin 128) (h g : Fin 4) (d : Fin 64) :
    (res_main_v9 V0 : FVec Ideal S1x16x128x4x4x64 .f32) (ix6 0 n a h g d) = (arrays V0).q h g (tok n a) d := by
  unfold res_main_v9 arrays
  generalize V0 (Proc.devRef .tc main_arg0) = x
  pointwise

theorem out_at (n : Fin 16) (h : Fin 4) (d : Fin 64) (g : Fin 4) (a : Fin 128)  :
    (res_main_v100 V0 : FVec Ideal S1x16x4x64x4x128 .f32) (ix6 0 n h d g a) = (arrays V0).o (tok n a) h g d := by
  unfold res_main_v100 arrays
  generalize V0 (Proc.devRef .tc main_arg4) = x
  pointwise

theorem band_eq (x : FVec Ideal S1x2048x4x64 .f32) (n : Fin 16) (j : Fin 256) (h : Fin 4) (d : Fin 64) :
    (if e : j.val < 128 then if e' : n.val * 128 + j.val < 128 then (0 : EReal) else x (ix4 0 ⟨n.val * 128 + j.val - 128, by omega⟩ h d)
      else x (ix4 0 ⟨n.val * 128 + (j.val - 128), by omega⟩ h d)) = band 0 (fun t => x (ix4 0 t h d)) n j := by
  unfold band
  by_cases e : j.val < 128
  · rw [dif_pos e, dif_pos e]
    by_cases hn : n.val = 0
    · rw [if_pos hn, dif_pos (by omega)]
    · rw [if_neg hn, dif_neg (by omega)]
      exact congrArg x (congrArg (fun t => ix4 0 t h d) (Fin.ext (by show n.val * 128 + j.val - 128 = (n.val - 1) * 128 + j.val; omega)))
  · rw [dif_neg e, dif_neg e]

theorem keyBand_at (n : Fin 16) (j : Fin 256) (h : Fin 4) (d : Fin 64) :
    (res_main_v21 V0 : FVec Ideal S1x16x256x4x64 .f32) (ix5 0 n j h d) = band 0 (fun t => (arrays V0).k h t d) n j := by
  simp only [← keys_at]
  refine Eq.trans ?_ (band_eq (res_main_v6 V0) n j h d)
  unfold res_main_v21 res_main_v12
  generalize res_main_v6 V0 = x
  pointwise

theorem valueBand_at (n : Fin 16) (j : Fin 256) (h : Fin 4) (d : Fin 64) :
    (res_main_v22 V0 : FVec Ideal S1x16x256x4x64 .f32) (ix5 0 n j h d) = band 0 (fun t => (arrays V0).v h t d) n j := by
  simp only [← values_at]
  refine Eq.trans ?_ (band_eq (res_main_v8 V0) n j h d)
  unfold res_main_v22 res_main_v12
  generalize res_main_v8 V0 = x
  pointwise

/-- The three comparisons of the mask. -/
theorem mask_words (n : Fin 16) (a : Fin 128) (j : Fin 256) :
    IntOp.andi
      (IntOp.andi
        (IntOp.cmpi CmpIPredicate.sge (IntOp.subi (IntOp.addi (BitVec.ofNat 32 a.val) 128#32) (BitVec.ofNat 32 j.val)) 0#32)
        (IntOp.cmpi CmpIPredicate.slt (IntOp.subi (IntOp.addi (BitVec.ofNat 32 a.val) 128#32) (BitVec.ofNat 32 j.val)) 128#32))
      (IntOp.cmpi CmpIPredicate.sge (IntOp.subi (IntOp.addi (IntOp.muli (BitVec.ofNat 32 n.val) 128#32) (BitVec.ofNat 32 j.val)) 128#32) 0#32)
    = if Seen n a j then 1#1 else 0#1 := by
  have h1 : ∀ (a : Fin 128) (j : Fin 256), IntOp.andi
        (IntOp.cmpi CmpIPredicate.sge (IntOp.subi (IntOp.addi (BitVec.ofNat 32 a.val) 128#32) (BitVec.ofNat 32 j.val)) 0#32)
        (IntOp.cmpi CmpIPredicate.slt (IntOp.subi (IntOp.addi (BitVec.ofNat 32 a.val) 128#32) (BitVec.ofNat 32 j.val)) 128#32)
      = if a.val < j.val ∧ j.val ≤ a.val + 128 then 1#1 else 0#1 := by decide +kernel
  have h2 : ∀ (n : Fin 16) (j : Fin 256), IntOp.cmpi CmpIPredicate.sge (IntOp.subi (IntOp.addi (IntOp.muli (BitVec.ofNat 32 n.val) 128#32) (BitVec.ofNat 32 j.val)) 128#32) 0#32
      = if n.val = 0 → 128 ≤ j.val then 1#1 else 0#1 := by decide +kernel
  rw [h1, h2]
  by_cases e : a.val < j.val ∧ j.val ≤ a.val + 128 <;> by_cases e' : n.val = 0 → 128 ≤ j.val
  · rw [if_pos e, if_pos e', if_pos (show Seen n a j from ⟨e.1, e.2, e'⟩)]; rfl
  · rw [if_pos e, if_neg e', if_neg (fun s : Seen n a j => e' s.2.2)]; rfl
  · rw [if_neg e, if_pos e', if_neg (fun s : Seen n a j => e ⟨s.1, s.2.1⟩)]; rfl
  · rw [if_neg e, if_neg e', if_neg (fun s : Seen n a j => e ⟨s.1, s.2.1⟩)]; rfl

theorem seen_at (n : Fin 16) (h g : Fin 4) (a : Fin 128) (j : Fin 256) :
    (res_main_v59_1 V0 : IVec S1x16x4x4x128x256 1) (ix6 0 n h g a j) = if Seen n a j then 1#1 else 0#1 := by
  refine Eq.trans ?_ (mask_words n a j)
  unfold res_main_v59_1 res_main_v35 res_main_v30
  pointwise

end Cert.ReferenceIdeal.Grad

end
-- ==== Proof.ReferenceSums.lean ====
module

public import proofs.«01_k».proof.Proof.Gen.ReferenceIdeal.Run
public import Idealize.ShloMosaic.Lib.Pointwise

@[expose] public section

set_option maxRecDepth 16384

noncomputable section

namespace Cert.ReferenceIdeal.Grad

open Cert.ReferenceIdeal Cert.ReferenceIdeal.Gen
open Idealize.ShloMosaic Idealize.ShloMosaic.TcCoe

/-! # The reference's reductions of six-axis arrays, read at an index -/

/-- The indices that a row's reduction gathers. -/
theorem row_fiber (n : Fin 16) (h g : Fin 4) (a : Fin 128) (i : S1x16x4x4x128x257.Idx) :
    reducesTo_S1x16x4x4x128x257_S1x16x4x4x128_d5.drop i = ix5 0 n h g a ↔ ∃ k : Fin 257, (ix6 0 n h g a k : S1x16x4x4x128x257.Idx) = i := by
  constructor
  · intro e
    refine ⟨i 5, ?_⟩
    funext b
    apply Fin.ext
    match b with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem row_max (x : FVec Ideal S1x16x4x4x128x257 .f32) (b : EReal) (n : Fin 16) (h g : Fin 4) (a : Fin 128) :
    (Finset.univ.filter fun i => reducesTo_S1x16x4x4x128x257_S1x16x4x4x128_d5.drop i = ix5 0 n h g a).fold max b x
      = (Finset.univ : Finset (Fin 257)).fold max b fun k => x (ix6 0 n h g a k) :=
  Finset.fold_filter_eq_fold_of_fiber max _ (fun k : Fin 257 => (ix6 0 n h g a k : S1x16x4x4x128x257.Idx)) (fun _ _ e => congrFun e 5) (row_fiber n h g a) b x

theorem row_sum (x : FVec Ideal S1x16x4x4x128x257 .f32) (b : EReal) (n : Fin 16) (h g : Fin 4) (a : Fin 128) :
    Ideal.hostReduceAdd reducesTo_S1x16x4x4x128x257_S1x16x4x4x128_d5 x b (ix5 0 n h g a) = b + ∑ k : Fin 257, x (ix6 0 n h g a k) :=
  congrArg (b + ·) (Finset.sum_filter_eq_sum_of_fiber _ (fun k : Fin 257 => (ix6 0 n h g a k : S1x16x4x4x128x257.Idx)) (fun _ _ e => congrFun e 5) (row_fiber n h g a) x)

/-- The one index that a reduction along the two unit axes gathers. -/
theorem unit_fiber (n : Fin 16) (h g : Fin 4) (a : Fin 128) (i : S1x16x4x4x128x1.Idx) :
    reducesTo_S1x16x4x4x128x1_S16x4x4x128_d0_5.drop i = ix4 n h g a ↔ ∃ k : Unit, (ix6 0 n h g a 0 : S1x16x4x4x128x1.Idx) = i := by
  constructor
  · intro e
    refine ⟨(), ?_⟩
    funext b
    apply Fin.ext
    match b with
    | ⟨0, _⟩ => exact (show 0 = (i 0).val by have : (i 0).val < 1 := (i 0).isLt; omega)
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => exact (show 0 = (i 5).val by have : (i 5).val < 1 := (i 5).isLt; omega)
  · rintro ⟨k, rfl⟩
    funext b
    apply Fin.ext
    match b with
    | ⟨0, _⟩ => rfl
    | ⟨1, _⟩ => rfl
    | ⟨2, _⟩ => rfl
    | ⟨3, _⟩ => rfl

theorem unit_sum (x : FVec Ideal S1x16x4x4x128x1 .f32) (b : EReal) (n : Fin 16) (h g : Fin 4) (a : Fin 128) :
    Ideal.hostReduceAdd reducesTo_S1x16x4x4x128x1_S16x4x4x128_d0_5 x b (ix4 n h g a) = b + x (ix6 0 n h g a 0) :=
  congrArg (b + ·) ((Finset.sum_filter_eq_sum_of_fiber _ (fun k : Unit => (ix6 0 n h g a 0 : S1x16x4x4x128x1.Idx)) (fun _ _ _ => rfl) (unit_fiber n h g a) x).trans
    (Fintype.sum_unique _))

/-- The indices that a sink's reduction gathers: every block and row. -/
theorem sink_fiber (h g : Fin 4) (i : S1x16x4x4x128x1.Idx) :
    reducesTo_S1x16x4x4x128x1_S4x4_d0_1_4_5.drop i = ix2 h g ↔ ∃ k : Fin 16 × Fin 128, (ix6 0 k.1 h g k.2 0 : S1x16x4x4x128x1.Idx) = i := by
  constructor
  · intro e
    refine ⟨(i 1, i 4), ?_⟩
    funext b
    apply Fin.ext
    match b with
    | ⟨0, _⟩ => exact (show 0 = (i 0).val by have : (i 0).val < 1 := (i 0).isLt; omega)
    | ⟨1, _⟩ => rfl
    | ⟨2, _⟩ => exact (congrArg Fin.val (congrFun e 0)).symm
    | ⟨3, _⟩ => exact (congrArg Fin.val (congrFun e 1)).symm
    | ⟨4, _⟩ => rfl
    | ⟨5, _⟩ => exact (show 0 = (i 5).val by have : (i 5).val < 1 := (i 5).isLt; omega)
  · rintro ⟨k, rfl⟩
    funext b
    apply Fin.ext
    match b with
    | ⟨0, _⟩ => rfl
    | ⟨1, _⟩ => rfl

theorem sink_sum (x : FVec Ideal S1x16x4x4x128x1 .f32) (b : EReal) (h g : Fin 4) :
    Ideal.hostReduceAdd reducesTo_S1x16x4x4x128x1_S4x4_d0_1_4_5 x b (ix2 h g) = b + ∑ n : Fin 16, ∑ a : Fin 128, x (ix6 0 n h g a 0) :=
  congrArg (b + ·) ((Finset.sum_filter_eq_sum_of_fiber _ (fun k : Fin 16 × Fin 128 => (ix6 0 k.1 h g k.2 0 : S1x16x4x4x128x1.Idx))
    (fun _ _ e => Prod.ext (congrFun e 1) (congrFun e 4)) (sink_fiber h g) x).trans (Fintype.sum_prod_type _))

/-- The one index that the last reduction gathers. -/
theorem last_fiber (h g : Fin 4) (i : S1x1x4x4x1x1.Idx) :
    reducesTo_S1x1x4x4x1x1_S4x4_d0_1_4_5.drop i = ix2 h g ↔ ∃ k : Unit, (ix6 0 0 h g 0 0 : S1x1x4x4x1x1.Idx) = i := by
  constructor
  · intro e
    refine ⟨(), ?_⟩
    funext b
    apply Fin.ext
    match b with
    | ⟨0, _⟩ => exact (show 0 = (i 0).val by have : (i 0).val < 1 := (i 0).isLt; omega)
    | ⟨1, _⟩ => exact (show 0 = (i 1).val by have : (i 1).val < 1 := (i 1).isLt; omega)
    | ⟨2, _⟩ => exact (congrArg Fin.val (congrFun e 0)).symm
    | ⟨3, _⟩ => exact (congrArg Fin.val (congrFun e 1)).symm
    | ⟨4, _⟩ => exact (show 0 = (i 4).val by have : (i 4).val < 1 := (i 4).isLt; omega)
    | ⟨5, _⟩ => exact (show 0 = (i 5).val by have : (i 5).val < 1 := (i 5).isLt; omega)
  · rintro ⟨k, rfl⟩
    funext b
    apply Fin.ext
    match b with
    | ⟨0, _⟩ => rfl
    | ⟨1, _⟩ => rfl

theorem last_sum (x : FVec Ideal S1x1x4x4x1x1 .f32) (b : EReal) (h g : Fin 4) :
    Ideal.hostReduceAdd reducesTo_S1x1x4x4x1x1_S4x4_d0_1_4_5 x b (ix2 h g) = b + x (ix6 0 0 h g 0 0) :=
  congrArg (b + ·) ((Finset.sum_filter_eq_sum_of_fiber _ (fun k : Unit => (ix6 0 0 h g 0 0 : S1x1x4x4x1x1.Idx)) (fun _ _ _ => rfl) (last_fiber h g) x).trans
    (Fintype.sum_unique _))

end Cert.ReferenceIdeal.Grad

end
-- ==== Proof.ReferenceRows.lean ====
module

public import proofs.«01_k».proof.Proof.ReferenceReads
public import proofs.«01_k».proof.Proof.ReferenceSums

@[expose] public section

set_option maxRecDepth 16384

noncomputable section

namespace Cert.ReferenceIdeal.Grad

open Cert.ReferenceIdeal Cert.ReferenceIdeal.Gen Cert.ReferenceIdeal.Value
open Idealize.ShloMosaic Idealize.ShloMosaic.TcCoe Idealize.ShloMosaic.StableHlo
open Cert.Attn (Arrays Seen tok prev band)

/-! # The reference's rows -/

theorem row_read (u : IVec S1x16x4x4x128x256 1) (x : FVec Ideal S1x16x256x4x64 .f32) (y : FVec Ideal S1x16x128x4x4x64 .f32) (w : FVec Ideal S16 .f32)
    (n : Fin 16) (h g : Fin 4) (a : Fin 128) (j : Fin 257) :
    concatenate S1x16x4x4x128x257 5 [⟨S1x16x4x4x128x256, (select u (mulf (transpose S1x16x4x4x128x256 [0, 1, 2, 5, 4, 3] (Host.dotGeneral dot_S1x16x256x4x64_S1x16x128x4x4x64_S1x16x4x256x128x4_4_5_2_24_013_013 none x y) transposes_S1x16x4x256x128x4_S1x16x4x4x128x256_0_1_2_5_4_3) (broadcastInDim S1x16x4x4x128x256 ![] bcast_S_S1x16x4x4x128x256 (constant S_ .f32 0x3E000000#32))) (broadcastInDim S1x16x4x4x128x256 ![] bcast_S_S1x16x4x4x128x256 (id (constant S_ .f32 0xFF800000#32))))⟩, ⟨S1x16x4x4x128x1, (broadcastInDim S1x16x4x4x128x1 ![0, 1, 2, 3, 4, 5] bcast_S1x1x4x4x1x1_S1x16x4x4x128x1_0_1_2_3_4_5 (broadcastInDim S1x1x4x4x1x1 ![2, 3] bcast_S4x4_S1x1x4x4x1x1_2_3 (shapeCast _ w shapeCasts_S16_S4x4)))⟩] concatenates_S1x16x4x4x128x256_S1x16x4x4x128x1_S1x16x4x4x128x257_d5 (ix6 0 n h g a j)
      = if e : j.val < 256 then Scalar.select (u (ix6 0 n h g a ⟨j.val, e⟩))
          ((∑ d, x (ix5 0 n ⟨j.val, e⟩ h d) * y (ix6 0 n a h g d)) * Ideal.ofBits .f32 0x3E000000#32) (Ideal.ofBits .f32 0xFF800000#32)
        else w (ix1 ⟨h.val * 4 + g.val, by omega⟩) := by
  simp only [id]
  pointwise

variable (V0 : Valuation τ sig (Elt Ideal))

theorem row_at (n : Fin 16) (h g : Fin 4) (a : Fin 128) (j : Fin 257) :
    (res_main_v63 V0 : FVec Ideal S1x16x4x4x128x257 .f32) (ix6 0 n h g a j) = Softmax.wide ((arrays V0).score h g n a) ((arrays V0).z h g) j := by
  refine (row_read (res_main_v59_1 V0) (res_main_v21 V0) (res_main_v9 V0) (V0 (Proc.devRef .tc main_arg3)) n h g a j).trans ?_
  unfold Softmax.wide Arrays.score
  by_cases e : j.val < 256
  · rw [dif_pos e, dif_pos e, seen_at, Softmax.negInf]
    by_cases hs : Seen n a ⟨j.val, e⟩
    · rw [if_pos hs, if_pos hs]
      refine congrArg (· * Cert.Attn.c) (Finset.sum_congr rfl fun d _ => ?_)
      rw [keyBand_at, queries_at, mul_comm]
    · rw [if_neg hs, if_neg hs]
      rfl
  · rw [dif_neg e, dif_neg e]
    rfl

theorem top_at (n : Fin 16) (h g : Fin 4) (a : Fin 128) :
    (res_main_v64 V0 : FVec Ideal S1x16x4x4x128 .f32) (ix5 0 n h g a) = Softmax.top ((arrays V0).score h g n a) ((arrays V0).z h g) := by
  refine Eq.trans ?_ (Softmax.fold_wide _ _)
  rw [← funext fun j => row_at V0 n h g a j]
  refine Eq.trans ?_ (row_max (res_main_v63 V0) ⊥ n h g a)
  unfold res_main_v64
  generalize res_main_v63 V0 = x
  rw [← Softmax.negInf]
  pointwise
  congr

theorem probGrad_read (x : FVec Ideal S1x16x256x4x64 .f32) (y : FVec Ideal S1x16x4x64x4x128 .f32) (n : Fin 16) (h g : Fin 4) (a : Fin 128) (j : Fin 257) :
    pad S1x16x4x4x128x257 ![0, 0, 0, 0, 0, 0] ![0, 0, 0, 0, 0, 1] ![0, 0, 0, 0, 0, 0] (Host.dotGeneral dot_S1x16x4x64x4x128_S1x16x256x4x64_S1x16x4x4x128x256_3_4_45_2_012_013 none y x) (constant S_ .f32 0x00000000#32) pads_S1x16x4x4x128x256_S1x16x4x4x128x257_000_000_000_000_000_010 h_S_ (ix6 0 n h g a j)
      = if e : j.val < 256 then ∑ d, y (ix6 0 n h d g a) * x (ix5 0 n ⟨j.val, e⟩ h d) else (0 : EReal) := by
  pointwise

theorem probGrad_at (n : Fin 16) (h g : Fin 4) (a : Fin 128) (j : Fin 257) :
    (res_main_v104 V0 : FVec Ideal S1x16x4x4x128x257 .f32) (ix6 0 n h g a j) = Softmax.wide ((arrays V0).probGrad h g n a) 0 j := by
  refine (probGrad_read (res_main_v22 V0) (res_main_v100 V0) n h g a j).trans ?_
  unfold Softmax.wide Arrays.probGrad
  simp only [valueBand_at, out_at]

theorem weight_read (x : FVec Ideal S1x16x4x4x128x257 .f32) (y : FVec Ideal S1x16x4x4x128 .f32) (n : Fin 16) (h g : Fin 4) (a : Fin 128) (j : Fin 257) :
    Host.exp (subf x (broadcastInDim S1x16x4x4x128x257 ![0, 1, 2, 3, 4, 5] bcast_S1x16x4x4x128x1_S1x16x4x4x128x257_0_1_2_3_4_5 (broadcastInDim S1x16x4x4x128x1 ![0, 1, 2, 3, 4] bcast_S1x16x4x4x128_S1x16x4x4x128x1_0_1_2_3_4 (maximumf (broadcastInDim S1x16x4x4x128 ![] bcast_S_S1x16x4x4x128 (constant S_ .f32 0xFF800000#32)) y)))) (ix6 0 n h g a j)
      = Ideal.exp (x (ix6 0 n h g a j) - max (Ideal.ofBits .f32 0xFF800000#32) (y (ix5 0 n h g a))) := by
  pointwise

theorem weight_at (n : Fin 16) (h g : Fin 4) (a : Fin 128) (j : Fin 257) :
    (res_main_v84 V0 : FVec Ideal S1x16x4x4x128x257 .f32) (ix6 0 n h g a j)
      = Softmax.wide (Softmax.weight ((arrays V0).score h g n a) ((arrays V0).z h g)) (Softmax.sinkWeight ((arrays V0).score h g n a) ((arrays V0).z h g)) j := by
  refine (weight_read (res_main_v63 V0) (res_main_v64 V0) n h g a j).trans ?_
  rw [row_at, top_at, Softmax.negInf, max_eq_right bot_le]
  unfold Softmax.wide
  split <;> rfl

theorem total_read (x : FVec Ideal S1x16x4x4x128x257 .f32) (n : Fin 16) (h g : Fin 4) (a : Fin 128) :
    broadcastInDim S1x16x4x4x128x1 ![0, 1, 2, 3, 4] bcast_S1x16x4x4x128_S1x16x4x4x128x1_0_1_2_3_4 (Host.reduceAdd x (constant S_ .f32 0x00000000#32) reducesTo_S1x16x4x4x128x257_S1x16x4x4x128_d5 h_S_) (ix6 0 n h g a 0)
      = ∑ j : Fin 257, x (ix6 0 n h g a j) := by
  refine Eq.trans ?_ ((row_sum x 0 n h g a).trans (zero_add _))
  pointwise

theorem total_at (n : Fin 16) (h g : Fin 4) (a : Fin 128) :
    (res_main_v86 V0 : FVec Ideal S1x16x4x4x128x1 .f32) (ix6 0 n h g a 0) = Softmax.total ((arrays V0).score h g n a) ((arrays V0).z h g) := by
  refine (total_read (res_main_v84 V0) n h g a).trans ?_
  simp only [weight_at]
  rw [Softmax.sum_wide, Softmax.wide_last]
  simp only [Softmax.wide_left]
  rfl

variable (hA : (arrays V0).Finite)
include hA

omit hA in
theorem prob_read (x : FVec Ideal S1x16x4x4x128x257 .f32) (y : FVec Ideal S1x16x4x4x128x1 .f32) (n : Fin 16) (h g : Fin 4) (a : Fin 128) (j : Fin 256) :
    extractStridedSlice S1x16x4x4x128x256 ![0, 0, 0, 0, 0, 0] (Host.divf x (broadcastInDim S1x16x4x4x128x257 ![0, 1, 2, 3, 4, 5] bcast_S1x16x4x4x128x1_S1x16x4x4x128x257_0_1_2_3_4_5 y)) slices_S1x16x4x4x128x257_S1x16x4x4x128x256_0_0_0_0_0_0 (ix6 0 n h g a j)
      = Ideal.div (x (ix6 0 n h g a j.castSucc)) (y (ix6 0 n h g a 0)) := by
  pointwise
  rfl

theorem prob_at (n : Fin 16) (h g : Fin 4) (a : Fin 128) (j : Fin 256) :
    (res_main_v92 V0 : FVec Ideal S1x16x4x4x128x256 .f32) (ix6 0 n h g a j) = (arrays V0).prob h g n a j := by
  refine (prob_read (res_main_v84 V0) (res_main_v86 V0) n h g a j).trans ?_
  rw [weight_at, total_at, Softmax.wide_left]
  exact Softmax.div_weight (Cert.Attn.score_ne_top hA h g n a) (hA.z h g) j

omit hA in
theorem spread_read (z x : FVec Ideal S1x16x4x4x128x257 .f32) (y : FVec Ideal S1x16x4x4x128x1 .f32) (n : Fin 16) (h g : Fin 4) (a : Fin 128) (j : Fin 257) :
    broadcastInDim S1x16x4x4x128x257 ![0, 1, 2, 3, 4] bcast_S1x16x4x4x128_S1x16x4x4x128x257_0_1_2_3_4 (broadcastInDim S1x16x4x4x128 ![1, 2, 3, 4] bcast_S16x4x4x128_S1x16x4x4x128_1_2_3_4 (Host.reduceAdd (Host.negf (shapeCast _ (Host.reduceAdd (mulf (mulf z (broadcastInDim S1x16x4x4x128x257 ![0, 1, 2, 3, 4, 5] bcast_S1x16x4x4x128x1_S1x16x4x4x128x257_0_1_2_3_4_5 (Host.divf (broadcastInDim S1x16x4x4x128x1 ![] bcast_S_S1x16x4x4x128x1 (constant S_ .f32 0x3F800000#32)) (mulf y y)))) x) (constant S_ .f32 0x00000000#32) reducesTo_S1x16x4x4x128x257_S1x16x4x4x128_d5 h_S_) shapeCasts_S1x16x4x4x128_S1x16x4x4x128x1)) (constant S_ .f32 0x00000000#32) reducesTo_S1x16x4x4x128x1_S16x4x4x128_d0_5 h_S_)) (ix6 0 n h g a j)
      = -∑ j : Fin 257, z (ix6 0 n h g a j) * Ideal.div 1 (y (ix6 0 n h g a 0) * y (ix6 0 n h g a 0)) * x (ix6 0 n h g a j) := by
  pointwise [unit_sum, row_sum]

theorem grad_at (n : Fin 16) (h g : Fin 4) (a : Fin 128) (j : Fin 257) :
    (res_main_v117 V0 : FVec Ideal S1x16x4x4x128x257 .f32) (ix6 0 n h g a j) = Softmax.wide ((arrays V0).grad h g n a)
      (Softmax.sinkGrad ((arrays V0).score h g n a) ((arrays V0).z h g) ((arrays V0).probGrad h g n a)) j := by
  have e := spread_read (res_main_v104 V0) (res_main_v84 V0) (res_main_v86 V0) n h g a j
  simp only [weight_at, total_at, probGrad_at] at e
  have hd : ∀ (z : FVec Ideal S1x16x4x4x128x257 .f32) (y : FVec Ideal S1x16x4x4x128x1 .f32) (p x : FVec Ideal S1x16x4x4x128x257 .f32),
      mulf (addf (Host.divf z (broadcastInDim S1x16x4x4x128x257 ![0, 1, 2, 3, 4, 5] bcast_S1x16x4x4x128x1_S1x16x4x4x128x257_0_1_2_3_4_5 y)) p) x (ix6 0 n h g a j)
        = (Ideal.div (z (ix6 0 n h g a j)) (y (ix6 0 n h g a 0)) + p (ix6 0 n h g a j)) * x (ix6 0 n h g a j) := by
    intro z y p x
    pointwise
  refine (hd (res_main_v104 V0) (res_main_v86 V0) _ (res_main_v84 V0)).trans ?_
  rw [e, weight_at, total_at, probGrad_at]
  refine Fin.lastCases ?_ (fun j => ?_) j
  · simp only [Softmax.wide_last]
    exact Softmax.quotient_last (Cert.Attn.score_ne_top hA h g n a) (hA.z h g) _
  · simp only [Softmax.wide_left]
    exact Softmax.quotient_left (Cert.Attn.score_ne_top hA h g n a) (hA.z h g) _ j

end Cert.ReferenceIdeal.Grad

end
-- ==== Proof.ReferenceValue.lean ====
module

public import proofs.«01_k».proof.Proof.ReferenceRows

@[expose] public section

set_option maxRecDepth 16384

noncomputable section

namespace Cert.ReferenceIdeal.Grad

open Cert.ReferenceIdeal Cert.ReferenceIdeal.Gen Cert.ReferenceIdeal.Value
open Idealize.ShloMosaic Idealize.ShloMosaic.TcCoe Idealize.ShloMosaic.StableHlo
open Cert.Attn (Arrays Seen tok prev band)

/-! # The reference's results, as the attention's gradients -/

/-- The queries' gradient as an array. -/
def arrayQ (A : Arrays) : FVec Ideal S4x4x2048x64 .f32 := fun y =>
  A.dq (y 0) (y 1) ⟨(y 2).val / 128, by have : (y 2).val < 2048 := (y 2).isLt; omega⟩ ⟨(y 2).val % 128, by omega⟩ (y 3)
/-- The keys' gradient as an array. -/
def arrayK (A : Arrays) : FVec Ideal S4x2048x64 .f32 := fun y =>
  A.dk (y 0) ⟨(y 1).val / 128, by have : (y 1).val < 2048 := (y 1).isLt; omega⟩ ⟨(y 1).val % 128, by omega⟩ (y 2)
/-- The values' gradient as an array. -/
def arrayV (A : Arrays) : FVec Ideal S4x2048x64 .f32 := fun y =>
  A.dv (y 0) ⟨(y 1).val / 128, by have : (y 1).val < 2048 := (y 1).isLt; omega⟩ ⟨(y 1).val % 128, by omega⟩ (y 2)
/-- The sinks' gradient as an array: lanes 0 to 3 of row 0 of each tile. -/
def arrayZ (A : Arrays) : FVec Ideal S4x8x128 .f32 := fun y =>
  if e : (y 1).val = 0 ∧ (y 2).val < 4 then A.dz (y 0) ⟨(y 2).val, e.2⟩ else 0

variable (V0 : Valuation τ sig (Elt Ideal)) (hA : (arrays V0).Finite)

theorem scaled_sum {ι : Type*} (S : Finset ι) (f : ι → EReal) : ∑ i ∈ S, f i * Cert.Attn.c = (∑ i ∈ S, f i) * Cert.Attn.c := by
  rw [mul_comm, show Cert.Attn.c = ((1 / 8 : ℝ) : EReal) from Softmax.eighth, Softmax.coe_mul_sum (by norm_num)]
  exact Finset.sum_congr rfl fun i _ => mul_comm _ _

theorem valueBand_read (y : FVec Ideal S1x16x4x64x4x128 .f32) (p : FVec Ideal S1x16x4x4x128x256 .f32) (n : Fin 16) (j : Fin 256) (h : Fin 4) (d : Fin 64) :
    transpose S1x16x256x4x64 [0, 1, 4, 2, 3] (Host.dotGeneral dot_S1x16x4x64x4x128_S1x16x4x4x128x256_S1x16x4x64x256_45_34_3_5_012_012 none y p) transposes_S1x16x4x64x256_S1x16x256x4x64_0_1_4_2_3 (ix5 0 n j h d)
      = ∑ g : Fin 4, ∑ a : Fin 128, y (ix6 0 n h d g a) * p (ix6 0 n h g a j) := by
  pointwise

theorem scores_read (u : IVec S1x16x4x4x128x256 1) (x : FVec Ideal S1x16x4x4x128x257 .f32) (n : Fin 16) (h : Fin 4) (j : Fin 256) (a : Fin 128) (g : Fin 4) :
    transpose S1x16x4x256x128x4 [0, 1, 2, 5, 4, 3] (mulf (select u (extractStridedSlice S1x16x4x4x128x256 ![0, 0, 0, 0, 0, 0] x slices_S1x16x4x4x128x257_S1x16x4x4x128x256_0_0_0_0_0_0) (broadcastInDim S1x16x4x4x128x256 ![] bcast_S_S1x16x4x4x128x256 (constant S_ .f32 0x00000000#32))) (broadcastInDim S1x16x4x4x128x256 ![] bcast_S_S1x16x4x4x128x256 (constant S_ .f32 0x3E000000#32))) transposes_S1x16x4x4x128x256_S1x16x4x256x128x4_0_1_2_5_4_3 (ix6 0 n h j a g)
      = Scalar.select (u (ix6 0 n h g a j)) (x (ix6 0 n h g a j.castSucc)) 0 * Ideal.ofBits .f32 0x3E000000#32 := by
  pointwise
  try rfl

theorem keyBand_read (y : FVec Ideal S1x16x4x256x128x4 .f32) (q : FVec Ideal S1x16x128x4x4x64 .f32) (n : Fin 16) (j : Fin 256) (h : Fin 4) (d : Fin 64) :
    transpose S1x16x256x4x64 [0, 1, 3, 2, 4] (Host.dotGeneral dot_S1x16x4x256x128x4_S1x16x128x4x4x64_S1x16x4x256x64_45_24_3_5_012_013 none y q) transposes_S1x16x4x256x64_S1x16x256x4x64_0_1_3_2_4 (ix5 0 n j h d)
      = ∑ a : Fin 128, ∑ g : Fin 4, y (ix6 0 n h j a g) * q (ix6 0 n a h g d) := by
  pointwise

/-- The last lines that make a gradient of tokens from the bands' two halves. -/
def foldTokens (x : FVec Ideal S1x2048x4x64 .f32) (y : FVec Ideal S1x16x256x4x64 .f32) : FVec Ideal S4x2048x64 .f32 :=
  transpose S4x2048x64 [1, 0, 2] (Host.reduceAdd (addf (pad S1x2048x4x64 ![0, 0, 0, 0] ![0, 128, 0, 0] ![0, 0, 0, 0] (extractStridedSlice S1x1920x4x64 ![0, 128, 0, 0] x slices_S1x2048x4x64_S1x1920x4x64_0_128_0_0) (constant S_ .f32 0x00000000#32) pads_S1x1920x4x64_S1x2048x4x64_000_01280_000_000 h_S_) (shapeCast _ (extractStridedSlice S1x16x128x4x64 ![0, 0, 128, 0, 0] y slices_S1x16x256x4x64_S1x16x128x4x64_0_0_128_0_0) shapeCasts_S1x16x128x4x64_S1x2048x4x64)) (constant S_ .f32 0x00000000#32) reducesTo_S1x2048x4x64_S2048x4x64_d0 h_S_) transposes_S2048x4x64_S4x2048x64_1_0_2
/-- The last lines that make the sinks' gradient. -/
def sumSinks (x : FVec Ideal S1x16x4x4x128x257 .f32) : FVec Ideal S4x8x128 .f32 :=
  pad S4x8x128 ![0, 0, 0] ![0, 7, 124] ![0, 0, 0] (shapeCast _ (shapeCast _ (Host.reduceAdd (broadcastInDim S1x1x4x4x1x1 ![2, 3] bcast_S4x4_S1x1x4x4x1x1_2_3 (Host.reduceAdd (extractStridedSlice S1x16x4x4x128x1 ![0, 0, 0, 0, 0, 256] x slices_S1x16x4x4x128x257_S1x16x4x4x128x1_0_0_0_0_0_256) (constant S_ .f32 0x00000000#32) reducesTo_S1x16x4x4x128x1_S4x4_d0_1_4_5 h_S_)) (constant S_ .f32 0x00000000#32) reducesTo_S1x1x4x4x1x1_S4x4_d0_1_4_5 h_S_) shapeCasts_S4x4_S16) shapeCasts_S16_S4x1x4) (sitofp .f32 (constantI S_ 32 0#32)) pads_S4x1x4_S4x8x128_000_070_01240 h_S_
/-- The last lines that make the queries' gradient. -/
def queriesOf (y : FVec Ideal S1x16x4x256x128x4 .f32) (k : FVec Ideal S1x16x256x4x64 .f32) : FVec Ideal S4x4x2048x64 .f32 :=
  transpose S4x4x2048x64 [1, 2, 0, 3] (shapeCast _ (shapeCast _ (transpose S1x16x128x4x4x64 [0, 1, 3, 2, 4, 5] (Host.dotGeneral dot_S1x16x4x256x128x4_S1x16x256x4x64_S1x16x4x128x4x64_3_2_45_4_012_013 none y k) transposes_S1x16x4x128x4x64_S1x16x128x4x4x64_0_1_3_2_4_5) shapeCasts_S1x16x128x4x4x64_S1x2048x16x64) shapeCasts_S1x2048x16x64_S2048x4x4x64) transposes_S2048x4x4x64_S4x4x2048x64_1_2_0_3

theorem tokens_read (x : FVec Ideal S1x16x256x4x64 .f32) (n : Fin 16) (a : Fin 128) (h : Fin 4) (d : Fin 64) :
    (shapeCast S1x2048x4x64 (extractStridedSlice S1x16x128x4x64 ![0, 0, 0, 0, 0] x slices_S1x16x256x4x64_S1x16x128x4x64_0_0_0_0_0) shapeCasts_S1x16x128x4x64_S1x2048x4x64) (ix4 0 (tok n a) h d)
      = x (ix5 0 n ⟨a.val, by omega⟩ h d) := by
  pointwise
  exact congrArg x (congrArg₂ (fun n a => ix5 0 n a h d) (Fin.ext (by simp only; omega)) (Fin.ext (by simp only; omega)))

theorem fold_read (x : FVec Ideal S1x2048x4x64 .f32) (y : FVec Ideal S1x16x256x4x64 .f32) (h : Fin 4) (t : Fin 2048) (d : Fin 64) :
    foldTokens x y (ix3 h t d)
      = (if e : t.val < 1920 then x (ix4 0 ⟨128 + t.val, by omega⟩ h d) else 0) + y (ix5 0 ⟨t.val / 128, by omega⟩ ⟨128 + t.val % 128, by omega⟩ h d) := by
  unfold foldTokens
  pointwise
  exact Fintype.sum_unique _

theorem sinks_read (x : FVec Ideal S1x16x4x4x128x257 .f32) (h : Fin 4) (u : Fin 8) (l : Fin 128) :
    sumSinks x (ix3 h u l)
      = if e : u.val = 0 ∧ l.val < 4 then ∑ n : Fin 16, ∑ a : Fin 128, x (ix6 0 n h ⟨l.val, e.2⟩ a (Fin.last 256)) else (0 : EReal) := by
  unfold sumSinks
  pointwise [last_sum, sink_sum]
  by_cases e : u.val = 0 ∧ l.val < 4
  · rw [dif_pos e, dif_pos (show u.val < 1 ∧ l.val < 4 by omega)]
    rfl
  · rw [dif_neg e, dif_neg (show ¬ (u.val < 1 ∧ l.val < 4) by omega)]
    show (((0#32 : BitVec 32).toInt : ℝ) : EReal) = 0
    simp

theorem queries_read (y : FVec Ideal S1x16x4x256x128x4 .f32) (k : FVec Ideal S1x16x256x4x64 .f32) (h g : Fin 4) (t : Fin 2048) (d : Fin 64) :
    queriesOf y k (ix4 h g t d)
      = ∑ j : Fin 256, y (ix6 0 ⟨t.val / 128, by omega⟩ h j ⟨t.val % 128, by omega⟩ g) * k (ix5 0 ⟨t.val / 128, by omega⟩ j h d) := by
  unfold queriesOf
  pointwise

include hA

theorem dvBand_at (n : Fin 16) (j : Fin 256) (h : Fin 4) (d : Fin 64) :
    (res_main_v103 V0 : FVec Ideal S1x16x256x4x64 .f32) (ix5 0 n j h d) = (arrays V0).dvBand h n j d := by
  refine (valueBand_read (res_main_v100 V0) (res_main_v92 V0) n j h d).trans ?_
  refine Finset.sum_congr rfl fun g _ => Finset.sum_congr rfl fun a _ => ?_
  rw [out_at, prob_at V0 hA, mul_comm]

theorem scores_at (n : Fin 16) (h : Fin 4) (j : Fin 256) (a : Fin 128) (g : Fin 4) :
    (res_main_v127 V0 : FVec Ideal S1x16x4x256x128x4 .f32) (ix6 0 n h j a g) = (arrays V0).grad h g n a j * Cert.Attn.c := by
  refine (scores_read (res_main_v59_1 V0) (res_main_v117 V0) n h j a g).trans ?_
  rw [grad_at V0 hA, Softmax.wide_left, seen_at]
  by_cases hs : Seen n a j
  · rw [if_pos hs]; rfl
  · rw [if_neg hs, Cert.Attn.grad_unseen hA hs]; rfl

theorem dkBand_at (n : Fin 16) (j : Fin 256) (h : Fin 4) (d : Fin 64) :
    (res_main_v131 V0 : FVec Ideal S1x16x256x4x64 .f32) (ix5 0 n j h d) = (arrays V0).dkBand h n j d := by
  refine (keyBand_read (res_main_v127 V0) (res_main_v9 V0) n j h d).trans ?_
  rw [Finset.sum_comm]
  unfold Arrays.dkBand
  rw [← scaled_sum]
  refine Finset.sum_congr rfl fun g _ => ?_
  rw [← scaled_sum]
  refine Finset.sum_congr rfl fun a _ => ?_
  rw [scores_at V0 hA, queries_at]
  ac_rfl

theorem result_q : queriesOf (res_main_v127 V0) (res_main_v21 V0) = arrayQ (arrays V0) := by
  funext y
  obtain ⟨h, g, t, d, rfl⟩ : ∃ (h : Fin 4) (g : Fin 4) (t : Fin 2048) (d : Fin 64), y = ix4 h g t d := ⟨y 0, y 1, y 2, y 3, (ix4_eta y).symm⟩
  refine (queries_read (res_main_v127 V0) (res_main_v21 V0) h g t d).trans ?_
  show _ = (∑ j, (arrays V0).grad h g ⟨t.val / 128, _⟩ ⟨t.val % 128, _⟩ j * band 0 (fun t => (arrays V0).k h t d) ⟨t.val / 128, _⟩ j) * Cert.Attn.c
  rw [← scaled_sum]
  refine Finset.sum_congr rfl fun j _ => ?_
  rw [scores_at V0 hA, keyBand_at]
  ac_rfl

omit hA in
/-- The two halves of the bands, folded onto the tokens. -/
theorem fold_at (f : Fin 16 → Fin 256 → EReal) (x : FVec Ideal S1x2048x4x64 .f32) (y : FVec Ideal S1x16x256x4x64 .f32) (h : Fin 4) (t : Fin 2048) (d : Fin 64)
    (hx : ∀ (n : Fin 16) (a : Fin 128), x (ix4 0 (tok n a) h d) = f n ⟨a.val, by omega⟩) (hy : ∀ (n : Fin 16) (j : Fin 256), y (ix5 0 n j h d) = f n j) :
    foldTokens x y (ix3 h t d) = Cert.Attn.fold f ⟨t.val / 128, by omega⟩ ⟨t.val % 128, by omega⟩ := by
  refine (fold_read x y h t d).trans ?_
  rw [hy, add_comm]
  unfold Cert.Attn.fold
  refine congrArg (f ⟨t.val / 128, _⟩ ⟨128 + t.val % 128, _⟩ + ·) ?_
  by_cases e : t.val < 1920
  · rw [dif_pos e, dif_pos (show t.val / 128 + 1 < 16 by omega), ← hx ⟨t.val / 128 + 1, by omega⟩ ⟨t.val % 128, by omega⟩]
    exact congrArg x (congrArg (fun t => ix4 0 t h d) (Fin.ext (by simp only; omega)))
  · rw [dif_neg e, dif_neg (show ¬ t.val / 128 + 1 < 16 by omega)]

theorem result_k : foldTokens (res_main_v140 V0) (res_main_v131 V0) = arrayK (arrays V0) := by
  funext y
  obtain ⟨h, t, d, rfl⟩ : ∃ (h : Fin 4) (t : Fin 2048) (d : Fin 64), y = ix3 h t d := ⟨y 0, y 1, y 2, (ix3_eta y).symm⟩
  exact fold_at (fun n j => (arrays V0).dkBand h n j d) (res_main_v140 V0) (res_main_v131 V0) h t d
    (fun n a => (tokens_read (res_main_v131 V0) n a h d).trans (dkBand_at V0 hA n _ h d)) (fun n j => dkBand_at V0 hA n j h d)

theorem result_v : foldTokens (res_main_v136 V0) (res_main_v103 V0) = arrayV (arrays V0) := by
  funext y
  obtain ⟨h, t, d, rfl⟩ : ∃ (h : Fin 4) (t : Fin 2048) (d : Fin 64), y = ix3 h t d := ⟨y 0, y 1, y 2, (ix3_eta y).symm⟩
  exact fold_at (fun n j => (arrays V0).dvBand h n j d) (res_main_v136 V0) (res_main_v103 V0) h t d
    (fun n a => (tokens_read (res_main_v103 V0) n a h d).trans (dvBand_at V0 hA n _ h d)) (fun n j => dvBand_at V0 hA n j h d)

theorem result_z : sumSinks (res_main_v117 V0) = arrayZ (arrays V0) := by
  funext y
  obtain ⟨h, u, l, rfl⟩ : ∃ (h : Fin 4) (u : Fin 8) (l : Fin 128), y = ix3 h u l := ⟨y 0, y 1, y 2, (ix3_eta y).symm⟩
  refine (sinks_read (res_main_v117 V0) h u l).trans ?_
  show _ = if e : u.val = 0 ∧ l.val < 4 then (arrays V0).dz h ⟨l.val, e.2⟩ else 0
  by_cases e : u.val = 0 ∧ l.val < 4
  · rw [dif_pos e, dif_pos e]
    refine Finset.sum_congr rfl fun n _ => Finset.sum_congr rfl fun a _ => ?_
    rw [grad_at V0 hA, Softmax.wide_last]
  · rw [dif_neg e, dif_neg e]

end Cert.ReferenceIdeal.Grad

end
-- ==== Proof.Algebraic.lean ====
module

public import proofs.«01_k».proof.Defs
public import proofs.«01_k».proof.Proof.KernelValue
public import proofs.«01_k».proof.Proof.ReferenceValue
public import proofs.«01_k».proof.Proof.Frames

@[expose] public section

set_option maxRecDepth 16384

noncomputable section

namespace Cert.Proof

open Idealize.ShloMosaic Idealize.SL.Sem Idealize.ShloMosaic.TcCoe
open Cert.Attn (Arrays)

/-! # The kernel's results are the reference's -/

theorem preFacts : Cert.Pre_finite_queries_keys_sinks.Facts :=
  ⟨by decide, by decide, by decide, by decide⟩

/-- A number whose absolute value compares below infinity is real. -/
theorem real_of_word {x : EReal} (h : FloatOps.cmpf (F := Ideal) (φ := .f32) .olt (max x (-x) : EReal) (Ideal.ofBits .f32 0x7F800000#32) = 1#1) : ∃ r : ℝ, x = r := by
  rw [Softmax.posInf] at h
  induction x using EReal.rec with
  | bot => exact absurd h (by simp [FloatOps.cmpf, Ideal.cmp])
  | top => exact absurd h (by simp [FloatOps.cmpf, Ideal.cmp])
  | coe r => exact ⟨r, rfl⟩

section
open Cert.KernelIdeal

theorem finite (m : (ℓ : Loc nD τ sig) → Buf (Elt Ideal) ℓ) (c : Dev nD)
    (hp : @Cert.Pre_KernelIdeal_finite_queries_keys_sinks preFacts m) : (Grad.arrays m c).Finite where
  q h g t d := real_of_word (congrFun (hp c).1 (ix4 h g t d))
  k h t d := real_of_word (congrFun (hp c).2.1 (ix3 h t d))
  z h g := real_of_word (congrFun (hp c).2.2 (ix1 ⟨h.val * 4 + g.val, by omega⟩))

theorem kernel_run (m : (ℓ : Loc nD τ sig) → Buf (Elt Ideal) ℓ) (ρ : Dev nD → PrngReg) (hA : ∀ c, (Grad.arrays m c).Finite) :
    θ_run (defs (F := Ideal)) (onTc (τ := τ) (main (F := Ideal))) ⟨m, fun _ => 0, ρ⟩ (fun r => ∀ c : Dev nD,
      r.2.mem ((c.tc : Thread nD τ).loc main_v25_0) = Grad.arrayQ (Grad.arrays m c)
      ∧ r.2.mem ((c.tc : Thread nD τ).loc main_v25_1) = Grad.arrayK (Grad.arrays m c)
      ∧ r.2.mem ((c.tc : Thread nD τ).loc main_v25_2) = Grad.arrayV (Grad.arrays m c)
      ∧ r.2.mem ((c.tc : Thread nD τ).loc main_v25_3) = Grad.arrayZ (Grad.arrays m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have ha := Gen.frame_of m ρ (Grad.data m) (Grad.data_A m) (Grad.run_arrays m ρ)
  have hr := Grad.run_arrays m ρ
  refine (θ_run defs _ _).mono (fun r h c => ?_) (θ_run_and hr ha)
  exact ⟨((h.1 c).1 8).trans (Grad.final_8 m c (hA c)), ((h.1 c).1 9).trans (Grad.final_9 m c (hA c)),
    ((h.1 c).1 10).trans (Grad.final_10 m c (hA c)), ((h.1 c).1 11).trans (Grad.final_11 m c (hA c)), h.2 c⟩
end

section
open Cert.ReferenceIdeal

theorem reference_run (m : (ℓ : Loc nD τ sig) → Buf (Elt Ideal) ℓ) (ρ : Dev nD → PrngReg)
    (A : Dev nD → Arrays) (e : ∀ c, Grad.arrays (StableHlo.launchContents m c) = A c) (hA : ∀ c, (A c).Finite) :
    θ_run (defs (F := Ideal)) (onTc (τ := τ) (main (F := Ideal))) ⟨m, fun _ => 0, ρ⟩ (fun r => ∀ c : Dev nD,
      r.2.mem ((c.tc : Thread nD τ).loc main_v154) = Grad.arrayQ (A c)
      ∧ r.2.mem ((c.tc : Thread nD τ).loc main_v152) = Grad.arrayK (A c)
      ∧ r.2.mem ((c.tc : Thread nD τ).loc main_v150) = Grad.arrayV (A c)
      ∧ r.2.mem ((c.tc : Thread nD τ).loc main_v156) = Grad.arrayZ (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (Value.run (F := Ideal) m ρ)
  have hA' : (Grad.arrays (StableHlo.launchContents m c)).Finite := by rw [e c]; exact hA c
  obtain ⟨h0, h1, h2, h3, h4⟩ := h c
  rw [← e c]
  exact ⟨h0.trans (Grad.result_q _ hA'), h1.trans (Grad.result_k _ hA'), h2.trans (Grad.result_v _ hA'), h3.trans (Grad.result_z _ hA'), h4⟩
end

theorem algebraic : @Cert.algebraic_KernelIdeal_ReferenceIdeal_pre_finite_queries_keys_sinks Cert.KernelIdeal.Gen.facts Cert.ReferenceIdeal.Gen.facts preFacts := by
  intro m g m' g' hp hagree
  have hA : ∀ c, (Cert.KernelIdeal.Grad.arrays m c).Finite := fun c => finite m c hp
  refine ⟨_, _, _, _, kernel_run m g hA, reference_run m' g' (fun c => Cert.KernelIdeal.Grad.arrays m c) (fun c => ?_) hA⟩
  obtain ⟨a0, a1, a2, a3, a4⟩ := hagree c
  unfold Cert.ReferenceIdeal.Grad.arrays Cert.KernelIdeal.Grad.arrays
  rw [← a0, ← a1, ← a2, ← a3, ← a4]

end Cert.Proof

end
-- ==== Proof.lean ====
module

public import proofs.«01_k».proof.Defs
public import proofs.«01_k».proof.Proof.Gen.ReferenceIdeal.Run
public import proofs.«01_k».proof.Proof.Frames
public import proofs.«01_k».proof.Proof.InWeight
public import proofs.«01_k».proof.Proof.DownInput
public import proofs.«01_k».proof.Proof.DownWeight
public import proofs.«01_k».proof.Proof.DownForward
public import proofs.«01_k».proof.Proof.OutForward
public import proofs.«01_k».proof.Proof.OutWeight
public import proofs.«01_k».proof.Proof.OutInput
public import proofs.«01_k».proof.Proof.HeadsForward
public import proofs.«01_k».proof.Proof.HeadsWeight
public import proofs.«01_k».proof.Proof.HeadsInput
public import proofs.«01_k».proof.Proof.QueryWeight
public import proofs.«01_k».proof.Proof.KeyWeight
public import proofs.«01_k».proof.Proof.InForward
public import proofs.«01_k».proof.Proof.QueryForward
public import proofs.«01_k».proof.Proof.KeyForward
public import proofs.«01_k».proof.Proof.MixerForward
public import proofs.«01_k».proof.Proof.InInputUpper
public import proofs.«01_k».proof.Proof.InInputLower
public import proofs.«01_k».proof.Proof.Algebraic

@[expose] public section

noncomputable section

namespace Cert.Proof

/-- The frames, the idealisation and the equality with the reference, together. -/
theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel7.Gen.facts, Cert.Kernel7Ideal.Gen.facts, Cert.Reference7Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel2.Gen.facts, Cert.Kernel2Ideal.Gen.facts, Cert.Reference2Ideal.Gen.facts,
    Cert.Kernel19.Gen.facts, Cert.Kernel19Ideal.Gen.facts, Cert.Reference19Ideal.Gen.facts,
    preFacts,
    frame_kernel, frame_ideal, fun m ρ _ => frame_ideal m ρ trivial, frame_reference, fun m ρ _ => frame_reference m ρ trivial,
    Cert.Kernel3Ideal.Product.frame_kernel, Cert.Kernel3Ideal.Product.frame_ideal, Cert.Kernel3Ideal.Product.frame_reference,
    Cert.Kernel4Ideal.Product.frame_kernel, Cert.Kernel4Ideal.Product.frame_ideal, Cert.Kernel4Ideal.Product.frame_reference,
    Cert.Kernel5Ideal.Product.frame_kernel, Cert.Kernel5Ideal.Product.frame_ideal, Cert.Kernel5Ideal.Product.frame_reference,
    Cert.Kernel6Ideal.Product.frame_kernel, Cert.Kernel6Ideal.Product.frame_ideal, Cert.Kernel6Ideal.Product.frame_reference,
    Cert.Kernel8Ideal.Product.frame_kernel, Cert.Kernel8Ideal.Product.frame_ideal, Cert.Kernel8Ideal.Product.frame_reference,
    Cert.Kernel9Ideal.Product.frame_kernel, Cert.Kernel9Ideal.Product.frame_ideal, Cert.Kernel9Ideal.Product.frame_reference,
    Cert.Kernel10Ideal.Product.frame_kernel, Cert.Kernel10Ideal.Product.frame_ideal, Cert.Kernel10Ideal.Product.frame_reference,
    Cert.Kernel11Ideal.Product.frame_kernel, Cert.Kernel11Ideal.Product.frame_ideal, Cert.Kernel11Ideal.Product.frame_reference,
    Cert.Kernel12Ideal.Product.frame_kernel, Cert.Kernel12Ideal.Product.frame_ideal, Cert.Kernel12Ideal.Product.frame_reference,
    Cert.Kernel13Ideal.Product.frame_kernel, Cert.Kernel13Ideal.Product.frame_ideal, Cert.Kernel13Ideal.Product.frame_reference,
    Cert.Kernel14Ideal.Product.frame_kernel, Cert.Kernel14Ideal.Product.frame_ideal, Cert.Kernel14Ideal.Product.frame_reference,
    Cert.Kernel15Ideal.Product.frame_kernel, Cert.Kernel15Ideal.Product.frame_ideal, Cert.Kernel15Ideal.Product.frame_reference,
    Cert.Kernel7Ideal.Product.frame_kernel, Cert.Kernel7Ideal.Product.frame_ideal, Cert.Kernel7Ideal.Product.frame_reference,
    Cert.Kernel16Ideal.Product.frame_kernel, Cert.Kernel16Ideal.Product.frame_ideal, Cert.Kernel16Ideal.Product.frame_reference,
    Cert.Kernel17Ideal.Product.frame_kernel, Cert.Kernel17Ideal.Product.frame_ideal, Cert.Kernel17Ideal.Product.frame_reference,
    Cert.Kernel18Ideal.Product.frame_kernel, Cert.Kernel18Ideal.Product.frame_ideal, Cert.Kernel18Ideal.Product.frame_reference,
    Cert.Kernel2Ideal.Product.frame_kernel, Cert.Kernel2Ideal.Product.frame_ideal, Cert.Kernel2Ideal.Product.frame_reference,
    Cert.Kernel19Ideal.Product.frame_kernel, Cert.Kernel19Ideal.Product.frame_ideal, Cert.Kernel19Ideal.Product.frame_reference,
    preserved, algebraic,
    trivial, Cert.Kernel3Ideal.Product.algebraic,
    trivial, Cert.Kernel4Ideal.Product.algebraic,
    trivial, Cert.Kernel5Ideal.Product.algebraic,
    trivial, Cert.Kernel6Ideal.Product.algebraic,
    trivial, Cert.Kernel8Ideal.Product.algebraic,
    trivial, Cert.Kernel9Ideal.Product.algebraic,
    trivial, Cert.Kernel10Ideal.Product.algebraic,
    trivial, Cert.Kernel11Ideal.Product.algebraic,
    trivial, Cert.Kernel12Ideal.Product.algebraic,
    trivial, Cert.Kernel13Ideal.Product.algebraic,
    trivial, Cert.Kernel14Ideal.Product.algebraic,
    trivial, Cert.Kernel15Ideal.Product.algebraic,
    trivial, Cert.Kernel7Ideal.Product.algebraic,
    trivial, Cert.Kernel16Ideal.Product.algebraic,
    trivial, Cert.Kernel17Ideal.Product.algebraic,
    trivial, Cert.Kernel18Ideal.Product.algebraic,
    trivial, Cert.Kernel2Ideal.Product.algebraic,
    trivial, Cert.Kernel19Ideal.Product.algebraic⟩

end Cert.Proof

end
